-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1))).2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_HaloBwd (m : (ℓ : Loc Cert.HaloBwd.nD Cert.HaloBwd.τ Cert.HaloBwd.sig) → Buf (Elt Bits) ℓ) : Prop :=
  True

def Pre_HaloBwdIdeal (m : (ℓ : Loc Cert.HaloBwdIdeal.nD Cert.HaloBwdIdeal.τ Cert.HaloBwdIdeal.sig) → Buf (Elt Ideal) ℓ) : Prop :=
  True

def Pre_HaloBwdRefIdeal (m : (ℓ : Loc Cert.HaloBwdRefIdeal.nD Cert.HaloBwdRefIdeal.τ Cert.HaloBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_SumCores (m : (ℓ : Loc Cert.SumCores.nD Cert.SumCores.τ Cert.SumCores.sig) → Buf (Elt Bits) ℓ) : Prop :=
  True

def Pre_SumCoresIdeal (m : (ℓ : Loc Cert.SumCoresIdeal.nD Cert.SumCoresIdeal.τ Cert.SumCoresIdeal.sig) → Buf (Elt Ideal) ℓ) : Prop :=
  True

def Pre_SumCoresIdeal_known_layer [hPre_known_layer : Cert.Pre_known_layer.Facts] (m : (ℓ : Loc Cert.SumCoresIdeal.nD Cert.SumCoresIdeal.τ Cert.SumCoresIdeal.sig) → Buf (Elt Ideal) ℓ) : Prop :=
  ∀ c : Dev Cert.SumCoresIdeal.nD,
    (Cert.Pre_known_layer.fn (F := Ideal) (m ((c.tc : Thread Cert.SumCoresIdeal.nD Cert.SumCoresIdeal.τ).loc Cert.SumCoresIdeal.main_arg0)) (m ((c.tc : Thread Cert.SumCoresIdeal.nD Cert.SumCoresIdeal.τ).loc Cert.SumCoresIdeal.main_arg1)) (m ((c.tc : Thread Cert.SumCoresIdeal.nD Cert.SumCoresIdeal.τ).loc Cert.SumCoresIdeal.main_arg2)) (m ((c.tc : Thread Cert.SumCoresIdeal.nD Cert.SumCoresIdeal.τ).loc Cert.SumCoresIdeal.main_arg3))) = (fun _ => 1#1)

def Pre_SumCoresRefIdeal (m : (ℓ : Loc Cert.SumCoresRefIdeal.nD Cert.SumCoresRefIdeal.τ Cert.SumCoresRefIdeal.sig) → Buf (Elt Ideal) ℓ) : Prop :=
  True

def Pre_SumCoresRefIdeal_known_layer [hPre_known_layer : Cert.Pre_known_layer.Facts] (m : (ℓ : Loc Cert.SumCoresRefIdeal.nD Cert.SumCoresRefIdeal.τ Cert.SumCoresRefIdeal.sig) → Buf (Elt Ideal) ℓ) : Prop :=
  ∀ c : Dev Cert.SumCoresRefIdeal.nD,
    (Cert.Pre_known_layer.fn (F := Ideal) (m ((c.tc : Thread Cert.SumCoresRefIdeal.nD Cert.SumCoresRefIdeal.τ).loc Cert.SumCoresRefIdeal.main_arg0)) (m ((c.tc : Thread Cert.SumCoresRefIdeal.nD Cert.SumCoresRefIdeal.τ).loc Cert.SumCoresRefIdeal.main_arg1)) (m ((c.tc : Thread Cert.SumCoresRefIdeal.nD Cert.SumCoresRefIdeal.τ).loc Cert.SumCoresRefIdeal.main_arg2)) (m ((c.tc : Thread Cert.SumCoresRefIdeal.nD Cert.SumCoresRefIdeal.τ).loc Cert.SumCoresRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_HaloBwd [hHaloBwd : Cert.HaloBwd.Facts] : Prop :=
  ∀ (m : (ℓ : Loc Cert.HaloBwd.nD Cert.HaloBwd.τ Cert.HaloBwd.sig) → Buf (Elt Bits) ℓ) (g : Dev Cert.HaloBwd.nD → PrngReg), Pre_HaloBwd m →
    θ_run (Cert.HaloBwd.defs (F := Bits)) (onTc (τ := Cert.HaloBwd.τ) (Cert.HaloBwd.main (F := Bits))) ⟨m, fun _ => 0, g⟩ (fun r => (∀ c : Dev Cert.HaloBwd.nD,
      r.2.mem ((c.tc : Thread Cert.HaloBwd.nD Cert.HaloBwd.τ).loc Cert.HaloBwd.main_arg0) = m ((c.tc : Thread Cert.HaloBwd.nD Cert.HaloBwd.τ).loc Cert.HaloBwd.main_arg0)
      ∧ r.2.mem ((c.tc : Thread Cert.HaloBwd.nD Cert.HaloBwd.τ).loc Cert.HaloBwd.main_arg1) = m ((c.tc : Thread Cert.HaloBwd.nD Cert.HaloBwd.τ).loc Cert.HaloBwd.main_arg1)
      ∧ r.2.mem ((c.tc : Thread Cert.HaloBwd.nD Cert.HaloBwd.τ).loc Cert.HaloBwd.main_arg2) = m ((c.tc : Thread Cert.HaloBwd.nD Cert.HaloBwd.τ).loc Cert.HaloBwd.main_arg2)
      ∧ r.2.mem ((c.tc : Thread Cert.HaloBwd.nD Cert.HaloBwd.τ).loc Cert.HaloBwd.main_arg3) = m ((c.tc : Thread Cert.HaloBwd.nD Cert.HaloBwd.τ).loc Cert.HaloBwd.main_arg3)
      ∧ r.2.mem ((c.tc : Thread Cert.HaloBwd.nD Cert.HaloBwd.τ).loc Cert.HaloBwd.main_arg4) = m ((c.tc : Thread Cert.HaloBwd.nD Cert.HaloBwd.τ).loc Cert.HaloBwd.main_arg4))
      ∧ r.2.sem = fun _ => 0)

def quiescent_HaloBwdIdeal [hHaloBwdIdeal : Cert.HaloBwdIdeal.Facts] : Prop :=
  ∀ (m : (ℓ : Loc Cert.HaloBwdIdeal.nD Cert.HaloBwdIdeal.τ Cert.HaloBwdIdeal.sig) → Buf (Elt Ideal) ℓ) (g : Dev Cert.HaloBwdIdeal.nD → PrngReg), Pre_HaloBwdIdeal m →
    θ_run (Cert.HaloBwdIdeal.defs (F := Ideal)) (onTc (τ := Cert.HaloBwdIdeal.τ) (Cert.HaloBwdIdeal.main (F := Ideal))) ⟨m, fun _ => 0, g⟩ (fun r => (∀ c : Dev Cert.HaloBwdIdeal.nD,
      r.2.mem ((c.tc : Thread Cert.HaloBwdIdeal.nD Cert.HaloBwdIdeal.τ).loc Cert.HaloBwdIdeal.main_arg0) = m ((c.tc : Thread Cert.HaloBwdIdeal.nD Cert.HaloBwdIdeal.τ).loc Cert.HaloBwdIdeal.main_arg0)
      ∧ r.2.mem ((c.tc : Thread Cert.HaloBwdIdeal.nD Cert.HaloBwdIdeal.τ).loc Cert.HaloBwdIdeal.main_arg1) = m ((c.tc : Thread Cert.HaloBwdIdeal.nD Cert.HaloBwdIdeal.τ).loc Cert.HaloBwdIdeal.main_arg1)
      ∧ r.2.mem ((c.tc : Thread Cert.HaloBwdIdeal.nD Cert.HaloBwdIdeal.τ).loc Cert.HaloBwdIdeal.main_arg2) = m ((c.tc : Thread Cert.HaloBwdIdeal.nD Cert.HaloBwdIdeal.τ).loc Cert.HaloBwdIdeal.main_arg2)
      ∧ r.2.mem ((c.tc : Thread Cert.HaloBwdIdeal.nD Cert.HaloBwdIdeal.τ).loc Cert.HaloBwdIdeal.main_arg3) = m ((c.tc : Thread Cert.HaloBwdIdeal.nD Cert.HaloBwdIdeal.τ).loc Cert.HaloBwdIdeal.main_arg3)
      ∧ r.2.mem ((c.tc : Thread Cert.HaloBwdIdeal.nD Cert.HaloBwdIdeal.τ).loc Cert.HaloBwdIdeal.main_arg4) = m ((c.tc : Thread Cert.HaloBwdIdeal.nD Cert.HaloBwdIdeal.τ).loc Cert.HaloBwdIdeal.main_arg4))
      ∧ r.2.sem = fun _ => 0)

def quiescent_HaloBwdRefIdeal [hHaloBwdRefIdeal : Cert.HaloBwdRefIdeal.Facts] : Prop :=
  ∀ (m : (ℓ : Loc Cert.HaloBwdRefIdeal.nD Cert.HaloBwdRefIdeal.τ Cert.HaloBwdRefIdeal.sig) → Buf (Elt Ideal) ℓ) (g : Dev Cert.HaloBwdRefIdeal.nD → PrngReg), Pre_HaloBwdRefIdeal m →
    θ_run (Cert.HaloBwdRefIdeal.defs (F := Ideal)) (onTc (τ := Cert.HaloBwdRefIdeal.τ) (Cert.HaloBwdRefIdeal.main (F := Ideal))) ⟨m, fun _ => 0, g⟩ (fun r => (∀ c : Dev Cert.HaloBwdRefIdeal.nD,
      r.2.mem ((c.tc : Thread Cert.HaloBwdRefIdeal.nD Cert.HaloBwdRefIdeal.τ).loc Cert.HaloBwdRefIdeal.main_arg0) = m ((c.tc : Thread Cert.HaloBwdRefIdeal.nD Cert.HaloBwdRefIdeal.τ).loc Cert.HaloBwdRefIdeal.main_arg0)
      ∧ r.2.mem ((c.tc : Thread Cert.HaloBwdRefIdeal.nD Cert.HaloBwdRefIdeal.τ).loc Cert.HaloBwdRefIdeal.main_arg1) = m ((c.tc : Thread Cert.HaloBwdRefIdeal.nD Cert.HaloBwdRefIdeal.τ).loc Cert.HaloBwdRefIdeal.main_arg1)
      ∧ r.2.mem ((c.tc : Thread Cert.HaloBwdRefIdeal.nD Cert.HaloBwdRefIdeal.τ).loc Cert.HaloBwdRefIdeal.main_arg2) = m ((c.tc : Thread Cert.HaloBwdRefIdeal.nD Cert.HaloBwdRefIdeal.τ).loc Cert.HaloBwdRefIdeal.main_arg2)
      ∧ r.2.mem ((c.tc : Thread Cert.HaloBwdRefIdeal.nD Cert.HaloBwdRefIdeal.τ).loc Cert.HaloBwdRefIdeal.main_arg3) = m ((c.tc : Thread Cert.HaloBwdRefIdeal.nD Cert.HaloBwdRefIdeal.τ).loc Cert.HaloBwdRefIdeal.main_arg3)
      ∧ r.2.mem ((c.tc : Thread Cert.HaloBwdRefIdeal.nD Cert.HaloBwdRefIdeal.τ).loc Cert.HaloBwdRefIdeal.main_arg4) = m ((c.tc : Thread Cert.HaloBwdRefIdeal.nD Cert.HaloBwdRefIdeal.τ).loc Cert.HaloBwdRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0))
      ∧ r.2.sem = fun _ => 0)

def quiescent_SumCores [hSumCores : Cert.SumCores.Facts] : Prop :=
  ∀ (m : (ℓ : Loc Cert.SumCores.nD Cert.SumCores.τ Cert.SumCores.sig) → Buf (Elt Bits) ℓ) (g : Dev Cert.SumCores.nD → PrngReg), Pre_SumCores m →
    θ_run (Cert.SumCores.defs (F := Bits)) (onTc (τ := Cert.SumCores.τ) (Cert.SumCores.main (F := Bits))) ⟨m, fun _ => 0, g⟩ (fun r => (∀ c : Dev Cert.SumCores.nD,
      r.2.mem ((c.tc : Thread Cert.SumCores.nD Cert.SumCores.τ).loc Cert.SumCores.main_arg0) = m ((c.tc : Thread Cert.SumCores.nD Cert.SumCores.τ).loc Cert.SumCores.main_arg0)
      ∧ r.2.mem ((c.tc : Thread Cert.SumCores.nD Cert.SumCores.τ).loc Cert.SumCores.main_arg1) = m ((c.tc : Thread Cert.SumCores.nD Cert.SumCores.τ).loc Cert.SumCores.main_arg1)
      ∧ r.2.mem ((c.tc : Thread Cert.SumCores.nD Cert.SumCores.τ).loc Cert.SumCores.main_arg2) = m ((c.tc : Thread Cert.SumCores.nD Cert.SumCores.τ).loc Cert.SumCores.main_arg2)
      ∧ r.2.mem ((c.tc : Thread Cert.SumCores.nD Cert.SumCores.τ).loc Cert.SumCores.main_arg3) = m ((c.tc : Thread Cert.SumCores.nD Cert.SumCores.τ).loc Cert.SumCores.main_arg3))
      ∧ r.2.sem = fun _ => 0)

def quiescent_SumCoresIdeal [hSumCoresIdeal : Cert.SumCoresIdeal.Facts] : Prop :=
  ∀ (m : (ℓ : Loc Cert.SumCoresIdeal.nD Cert.SumCoresIdeal.τ Cert.SumCoresIdeal.sig) → Buf (Elt Ideal) ℓ) (g : Dev Cert.SumCoresIdeal.nD → PrngReg), Pre_SumCoresIdeal m →
    θ_run (Cert.SumCoresIdeal.defs (F := Ideal)) (onTc (τ := Cert.SumCoresIdeal.τ) (Cert.SumCoresIdeal.main (F := Ideal))) ⟨m, fun _ => 0, g⟩ (fun r => (∀ c : Dev Cert.SumCoresIdeal.nD,
      r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0)
      ∧ r.2.mem ((c.tc : Thread Cert.SumCoresIdeal.nD Cert.SumCoresIdeal.τ).loc Cert.SumCoresIdeal.main_arg1) = m ((c.tc : Thread Cert.SumCoresIdeal.nD Cert.SumCoresIdeal.τ).loc Cert.SumCoresIdeal.main_arg1)
      ∧ r.2.mem ((c.tc : Thread Cert.SumCoresIdeal.nD Cert.SumCoresIdeal.τ).loc Cert.SumCoresIdeal.main_arg2) = m ((c.tc : Thread Cert.SumCoresIdeal.nD Cert.SumCoresIdeal.τ).loc Cert.SumCoresIdeal.main_arg2)
      ∧ r.2.mem ((c.tc : Thread Cert.SumCoresIdeal.nD Cert.SumCoresIdeal.τ).loc Cert.SumCoresIdeal.main_arg3) = m ((c.tc : Thread Cert.SumCoresIdeal.nD Cert.SumCoresIdeal.τ).loc Cert.SumCoresIdeal.main_arg3))
      ∧ r.2.sem = fun _ => 0)

def quiescent_SumCoresIdeal_pre_known_layer [hSumCoresIdeal : Cert.SumCoresIdeal.Facts] [hPre_known_layer : Cert.Pre_known_layer.Facts] : Prop :=
  ∀ (m : (ℓ : Loc Cert.SumCoresIdeal.nD Cert.SumCoresIdeal.τ Cert.SumCoresIdeal.sig) → Buf (Elt Ideal) ℓ) (g : Dev Cert.SumCoresIdeal.nD → PrngReg), Pre_SumCoresIdeal_known_layer m →
    θ_run (Cert.SumCoresIdeal.defs (F := Ideal)) (onTc (τ := Cert.SumCoresIdeal.τ) (Cert.SumCoresIdeal.main (F := Ideal))) ⟨m, fun _ => 0, g⟩ (fun r => (∀ c : Dev Cert.SumCoresIdeal.nD,
      r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0)
      ∧ r.2.mem ((c.tc : Thread Cert.SumCoresIdeal.nD Cert.SumCoresIdeal.τ).loc Cert.SumCoresIdeal.main_arg1) = m ((c.tc : Thread Cert.SumCoresIdeal.nD Cert.SumCoresIdeal.τ).loc Cert.SumCoresIdeal.main_arg1)
      ∧ r.2.mem ((c.tc : Thread Cert.SumCoresIdeal.nD Cert.SumCoresIdeal.τ).loc Cert.SumCoresIdeal.main_arg2) = m ((c.tc : Thread Cert.SumCoresIdeal.nD Cert.SumCoresIdeal.τ).loc Cert.SumCoresIdeal.main_arg2)
      ∧ r.2.mem ((c.tc : Thread Cert.SumCoresIdeal.nD Cert.SumCoresIdeal.τ).loc Cert.SumCoresIdeal.main_arg3) = m ((c.tc : Thread Cert.SumCoresIdeal.nD Cert.SumCoresIdeal.τ).loc Cert.SumCoresIdeal.main_arg3))
      ∧ r.2.sem = fun _ => 0)

def quiescent_SumCoresRefIdeal [hSumCoresRefIdeal : Cert.SumCoresRefIdeal.Facts] : Prop :=
  ∀ (m : (ℓ : Loc Cert.SumCoresRefIdeal.nD Cert.SumCoresRefIdeal.τ Cert.SumCoresRefIdeal.sig) → Buf (Elt Ideal) ℓ) (g : Dev Cert.SumCoresRefIdeal.nD → PrngReg), Pre_SumCoresRefIdeal m →
    θ_run (Cert.SumCoresRefIdeal.defs (F := Ideal)) (onTc (τ := Cert.SumCoresRefIdeal.τ) (Cert.SumCoresRefIdeal.main (F := Ideal))) ⟨m, fun _ => 0, g⟩ (fun r => (∀ c : Dev Cert.SumCoresRefIdeal.nD,
      r.2.mem ((c.tc : Thread Cert.SumCoresRefIdeal.nD Cert.SumCoresRefIdeal.τ).loc Cert.SumCoresRefIdeal.main_arg0) = m ((c.tc : Thread Cert.SumCoresRefIdeal.nD Cert.SumCoresRefIdeal.τ).loc Cert.SumCoresRefIdeal.main_arg0)
      ∧ r.2.mem ((c.tc : Thread Cert.SumCoresRefIdeal.nD Cert.SumCoresRefIdeal.τ).loc Cert.SumCoresRefIdeal.main_arg1) = m ((c.tc : Thread Cert.SumCoresRefIdeal.nD Cert.SumCoresRefIdeal.τ).loc Cert.SumCoresRefIdeal.main_arg1)
      ∧ r.2.mem ((c.tc : Thread Cert.SumCoresRefIdeal.nD Cert.SumCoresRefIdeal.τ).loc Cert.SumCoresRefIdeal.main_arg2) = m ((c.tc : Thread Cert.SumCoresRefIdeal.nD Cert.SumCoresRefIdeal.τ).loc Cert.SumCoresRefIdeal.main_arg2)
      ∧ r.2.mem ((c.tc : Thread Cert.SumCoresRefIdeal.nD Cert.SumCoresRefIdeal.τ).loc Cert.SumCoresRefIdeal.main_arg3) = m ((c.tc : Thread Cert.SumCoresRefIdeal.nD Cert.SumCoresRefIdeal.τ).loc Cert.SumCoresRefIdeal.main_arg3))
      ∧ r.2.sem = fun _ => 0)

def quiescent_SumCoresRefIdeal_pre_known_layer [hSumCoresRefIdeal : Cert.SumCoresRefIdeal.Facts] [hPre_known_layer : Cert.Pre_known_layer.Facts] : Prop :=
  ∀ (m : (ℓ : Loc Cert.SumCoresRefIdeal.nD Cert.SumCoresRefIdeal.τ Cert.SumCoresRefIdeal.sig) → Buf (Elt Ideal) ℓ) (g : Dev Cert.SumCoresRefIdeal.nD → PrngReg), Pre_SumCoresRefIdeal_known_layer m →
    θ_run (Cert.SumCoresRefIdeal.defs (F := Ideal)) (onTc (τ := Cert.SumCoresRefIdeal.τ) (Cert.SumCoresRefIdeal.main (F := Ideal))) ⟨m, fun _ => 0, g⟩ (fun r => (∀ c : Dev Cert.SumCoresRefIdeal.nD,
      r.2.mem ((c.tc : Thread Cert.SumCoresRefIdeal.nD Cert.SumCoresRefIdeal.τ).loc Cert.SumCoresRefIdeal.main_arg0) = m ((c.tc : Thread Cert.SumCoresRefIdeal.nD Cert.SumCoresRefIdeal.τ).loc Cert.SumCoresRefIdeal.main_arg0)
      ∧ r.2.mem ((c.tc : Thread Cert.SumCoresRefIdeal.nD Cert.SumCoresRefIdeal.τ).loc Cert.SumCoresRefIdeal.main_arg1) = m ((c.tc : Thread Cert.SumCoresRefIdeal.nD Cert.SumCoresRefIdeal.τ).loc Cert.SumCoresRefIdeal.main_arg1)
      ∧ r.2.mem ((c.tc : Thread Cert.SumCoresRefIdeal.nD Cert.SumCoresRefIdeal.τ).loc Cert.SumCoresRefIdeal.main_arg2) = m ((c.tc : Thread Cert.SumCoresRefIdeal.nD Cert.SumCoresRefIdeal.τ).loc Cert.SumCoresRefIdeal.main_arg2)
      ∧ r.2.mem ((c.tc : Thread Cert.SumCoresRefIdeal.nD Cert.SumCoresRefIdeal.τ).loc Cert.SumCoresRefIdeal.main_arg3) = m ((c.tc : Thread Cert.SumCoresRefIdeal.nD Cert.SumCoresRefIdeal.τ).loc Cert.SumCoresRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)) →
    ∃ (v0 : (c : Dev Cert.AttnBwdIdeal.nD) → Buf (Elt Ideal) ((c.tc : Thread Cert.AttnBwdIdeal.nD Cert.AttnBwdIdeal.τ).loc Cert.AttnBwdIdeal.main_v34_0)) (v1 : (c : Dev Cert.AttnBwdIdeal.nD) → Buf (Elt Ideal) ((c.tc : Thread Cert.AttnBwdIdeal.nD Cert.AttnBwdIdeal.τ).loc Cert.AttnBwdIdeal.main_v34_1)) (v2 : (c : Dev Cert.AttnBwdIdeal.nD) → Buf (Elt Ideal) ((c.tc : Thread Cert.AttnBwdIdeal.nD Cert.AttnBwdIdeal.τ).loc Cert.AttnBwdIdeal.main_v34_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v34_0) = v0 c
          ∧ r.2.mem ((c.tc : Thread Cert.AttnBwdIdeal.nD Cert.AttnBwdIdeal.τ).loc Cert.AttnBwdIdeal.main_v34_1) = v1 c
          ∧ r.2.mem ((c.tc : Thread Cert.AttnBwdIdeal.nD Cert.AttnBwdIdeal.τ).loc Cert.AttnBwdIdeal.main_v34_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v56) = v0 c
          ∧ r.2.mem ((c.tc : Thread Cert.AttnBwdRefIdeal.nD Cert.AttnBwdRefIdeal.τ).loc Cert.AttnBwdRefIdeal.main_v58) = v1 c
          ∧ r.2.mem ((c.tc : Thread Cert.AttnBwdRefIdeal.nD Cert.AttnBwdRefIdeal.τ).loc Cert.AttnBwdRefIdeal.main_v60) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1))

def preserves_AttnFwd_AttnFwdIdeal : Prop :=
  IdealRules.named_const.Statement Cert.AttnFwdIdeal.κ "exit_below" .f32 0xC2D00000#32 ⊥

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)) →
    ∃ (v0 : (c : Dev Cert.AttnFwdIdeal.nD) → Buf (Elt Ideal) ((c.tc : Thread Cert.AttnFwdIdeal.nD Cert.AttnFwdIdeal.τ).loc Cert.AttnFwdIdeal.main_v8_0)) (v1 : (c : Dev Cert.AttnFwdIdeal.nD) → Buf (Elt Ideal) ((c.tc : Thread Cert.AttnFwdIdeal.nD Cert.AttnFwdIdeal.τ).loc Cert.AttnFwdIdeal.main_v8_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8_0) = v0 c
          ∧ r.2.mem ((c.tc : Thread Cert.AttnFwdIdeal.nD Cert.AttnFwdIdeal.τ).loc Cert.AttnFwdIdeal.main_v8_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v34) = v0 c
          ∧ r.2.mem ((c.tc : Thread Cert.AttnFwdRefIdeal.nD Cert.AttnFwdRefIdeal.τ).loc Cert.AttnFwdRefIdeal.main_v32) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0))

def preserves_HaloBwd_HaloBwdIdeal : Prop :=
  True

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v47_0)) (v1 : (c : Dev Cert.InBwdIdeal.nD) → Buf (Elt Ideal) ((c.tc : Thread Cert.InBwdIdeal.nD Cert.InBwdIdeal.τ).loc Cert.InBwdIdeal.main_v47_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v47_0) = v0 c
          ∧ r.2.mem ((c.tc : Thread Cert.InBwdIdeal.nD Cert.InBwdIdeal.τ).loc Cert.InBwdIdeal.main_v47_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v38) = v0 c
          ∧ r.2.mem ((c.tc : Thread Cert.InBwdRefIdeal.nD Cert.InBwdRefIdeal.τ).loc Cert.InBwdRefIdeal.main_v39) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)) →
    ∃ (v0 : (c : Dev Cert.InWIdeal.nD) → Buf (Elt Ideal) ((c.tc : Thread Cert.InWIdeal.nD Cert.InWIdeal.τ).loc Cert.InWIdeal.main_v45)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v45) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v15) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v19) = v0 c
          ∧ r.2.mem ((c.tc : Thread Cert.InFwdRefIdeal.nD Cert.InFwdRefIdeal.τ).loc Cert.InFwdRefIdeal.main_v21) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg0) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v1) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0))

def preserves_SumCores_SumCoresIdeal : Prop :=
  True

def algebraic_SumCoresIdeal_SumCoresRefIdeal_pre_known_layer [hSumCoresIdeal : Cert.SumCoresIdeal.Facts] [hSumCoresRefIdeal : Cert.SumCoresRefIdeal.Facts] [hPre_known_layer : Cert.Pre_known_layer.Facts] : Prop :=
  ∀ (m : (ℓ : Loc Cert.SumCoresIdeal.nD Cert.SumCoresIdeal.τ Cert.SumCoresIdeal.sig) → Buf (Elt Ideal) ℓ) (g : Dev Cert.SumCoresIdeal.nD → PrngReg)
    (m' : (ℓ : Loc Cert.SumCoresRefIdeal.nD Cert.SumCoresRefIdeal.τ Cert.SumCoresRefIdeal.sig) → Buf (Elt Ideal) ℓ) (g' : Dev Cert.SumCoresRefIdeal.nD → PrngReg), Pre_SumCoresIdeal_known_layer m →
    (∀ c : Dev Cert.SumCoresIdeal.nD,
      m' ((c.tc : Thread Cert.SumCoresRefIdeal.nD Cert.SumCoresRefIdeal.τ).loc Cert.SumCoresRefIdeal.main_arg0) = m ((c.tc : Thread Cert.SumCoresIdeal.nD Cert.SumCoresIdeal.τ).loc Cert.SumCoresIdeal.main_arg0)
      ∧ m' ((c.tc : Thread Cert.SumCoresRefIdeal.nD Cert.SumCoresRefIdeal.τ).loc Cert.SumCoresRefIdeal.main_arg1) = m ((c.tc : Thread Cert.SumCoresIdeal.nD Cert.SumCoresIdeal.τ).loc Cert.SumCoresIdeal.main_arg1)
      ∧ m' ((c.tc : Thread Cert.SumCoresRefIdeal.nD Cert.SumCoresRefIdeal.τ).loc Cert.SumCoresRefIdeal.main_arg2) = m ((c.tc : Thread Cert.SumCoresIdeal.nD Cert.SumCoresIdeal.τ).loc Cert.SumCoresIdeal.main_arg2)
      ∧ m' ((c.tc : Thread Cert.SumCoresRefIdeal.nD Cert.SumCoresRefIdeal.τ).loc Cert.SumCoresRefIdeal.main_arg3) = m ((c.tc : Thread Cert.SumCoresIdeal.nD Cert.SumCoresIdeal.τ).loc Cert.SumCoresIdeal.main_arg3)) →
    ∃ (v0 : (c : Dev Cert.SumCoresIdeal.nD) → Buf (Elt Ideal) ((c.tc : Thread Cert.SumCoresIdeal.nD Cert.SumCoresIdeal.τ).loc Cert.SumCoresIdeal.main_v0)),
      θ_run (Cert.SumCoresIdeal.defs (F := Ideal)) (onTc (τ := Cert.SumCoresIdeal.τ) (Cert.SumCoresIdeal.main (F := Ideal))) ⟨m, fun _ => 0, g⟩ (fun r => ∀ c : Dev Cert.SumCoresIdeal.nD,
          r.2.mem ((c.tc : Thread Cert.SumCoresIdeal.nD Cert.SumCoresIdeal.τ).loc Cert.SumCoresIdeal.main_v0) = v0 c
          ∧ r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0)
          ∧ r.2.mem ((c.tc : Thread Cert.SumCoresIdeal.nD Cert.SumCoresIdeal.τ).loc Cert.SumCoresIdeal.main_arg1) = m ((c.tc : Thread Cert.SumCoresIdeal.nD Cert.SumCoresIdeal.τ).loc Cert.SumCoresIdeal.main_arg1)
          ∧ r.2.mem ((c.tc : Thread Cert.SumCoresIdeal.nD Cert.SumCoresIdeal.τ).loc Cert.SumCoresIdeal.main_arg2) = m ((c.tc : Thread Cert.SumCoresIdeal.nD Cert.SumCoresIdeal.τ).loc Cert.SumCoresIdeal.main_arg2)
          ∧ r.2.mem ((c.tc : Thread Cert.SumCoresIdeal.nD Cert.SumCoresIdeal.τ).loc Cert.SumCoresIdeal.main_arg3) = m ((c.tc : Thread Cert.SumCoresIdeal.nD Cert.SumCoresIdeal.τ).loc Cert.SumCoresIdeal.main_arg3))
      ∧ θ_run (Cert.SumCoresRefIdeal.defs (F := Ideal)) (onTc (τ := Cert.SumCoresRefIdeal.τ) (Cert.SumCoresRefIdeal.main (F := Ideal))) ⟨m', fun _ => 0, g'⟩ (fun r => ∀ c : Dev Cert.SumCoresRefIdeal.nD,
          r.2.mem ((c.tc : Thread Cert.SumCoresRefIdeal.nD Cert.SumCoresRefIdeal.τ).loc Cert.SumCoresRefIdeal.main_v5) = v0 c
          ∧ r.2.mem ((c.tc : Thread Cert.SumCoresRefIdeal.nD Cert.SumCoresRefIdeal.τ).loc Cert.SumCoresRefIdeal.main_arg0) = m' ((c.tc : Thread Cert.SumCoresRefIdeal.nD Cert.SumCoresRefIdeal.τ).loc Cert.SumCoresRefIdeal.main_arg0)
          ∧ r.2.mem ((c.tc : Thread Cert.SumCoresRefIdeal.nD Cert.SumCoresRefIdeal.τ).loc Cert.SumCoresRefIdeal.main_arg1) = m' ((c.tc : Thread Cert.SumCoresRefIdeal.nD Cert.SumCoresRefIdeal.τ).loc Cert.SumCoresRefIdeal.main_arg1)
          ∧ r.2.mem ((c.tc : Thread Cert.SumCoresRefIdeal.nD Cert.SumCoresRefIdeal.τ).loc Cert.SumCoresRefIdeal.main_arg2) = m' ((c.tc : Thread Cert.SumCoresRefIdeal.nD Cert.SumCoresRefIdeal.τ).loc Cert.SumCoresRefIdeal.main_arg2)
          ∧ r.2.mem ((c.tc : Thread Cert.SumCoresRefIdeal.nD Cert.SumCoresRefIdeal.τ).loc Cert.SumCoresRefIdeal.main_arg3) = m' ((c.tc : Thread Cert.SumCoresRefIdeal.nD Cert.SumCoresRefIdeal.τ).loc Cert.SumCoresRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v31) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hHaloBwd : Cert.HaloBwd.Facts) (hHaloBwdIdeal : Cert.HaloBwdIdeal.Facts) (hHaloBwdRefIdeal : Cert.HaloBwdRefIdeal.Facts) (hInBwd : Cert.InBwd.Facts) (hInBwdIdeal : Cert.InBwdIdeal.Facts) (hInBwdRefIdeal : Cert.InBwdRefIdeal.Facts) (hInW : Cert.InW.Facts) (hInWIdeal : Cert.InWIdeal.Facts) (hInWRefIdeal : Cert.InWRefIdeal.Facts) (hInFwd : Cert.InFwd.Facts) (hInFwdIdeal : Cert.InFwdIdeal.Facts) (hInFwdRefIdeal : Cert.InFwdRefIdeal.Facts) (hAdam : Cert.Adam.Facts) (hAdamIdeal : Cert.AdamIdeal.Facts) (hAdamRefIdeal : Cert.AdamRefIdeal.Facts) (hAdamSmall : Cert.AdamSmall.Facts) (hAdamSmallIdeal : Cert.AdamSmallIdeal.Facts) (hAdamSmallRefIdeal : Cert.AdamSmallRefIdeal.Facts) (hSumChips : Cert.SumChips.Facts) (hSumChipsIdeal : Cert.SumChipsIdeal.Facts) (hSumChipsRefIdeal : Cert.SumChipsRefIdeal.Facts) (hSumCores : Cert.SumCores.Facts) (hSumCoresIdeal : Cert.SumCoresIdeal.Facts) (hSumCoresRefIdeal : Cert.SumCoresRefIdeal.Facts) (hLoss : Cert.Loss.Facts) (hLossIdeal : Cert.LossIdeal.Facts) (hLossRefIdeal : Cert.LossRefIdeal.Facts) (hPre_attn_finite : Cert.Pre_attn_finite.Facts) (hPre_known_layer : Cert.Pre_known_layer.Facts),
    quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_HaloBwd (hHaloBwd := hHaloBwd)
    ∧ quiescent_HaloBwdIdeal (hHaloBwdIdeal := hHaloBwdIdeal)
    ∧ quiescent_HaloBwdRefIdeal (hHaloBwdRefIdeal := hHaloBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InW (hInW := hInW)
    ∧ quiescent_InWIdeal (hInWIdeal := hInWIdeal)
    ∧ quiescent_InWRefIdeal (hInWRefIdeal := hInWRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ quiescent_SumCores (hSumCores := hSumCores)
    ∧ quiescent_SumCoresIdeal (hSumCoresIdeal := hSumCoresIdeal)
    ∧ quiescent_SumCoresIdeal_pre_known_layer (hSumCoresIdeal := hSumCoresIdeal) (hPre_known_layer := hPre_known_layer)
    ∧ quiescent_SumCoresRefIdeal (hSumCoresRefIdeal := hSumCoresRefIdeal)
    ∧ quiescent_SumCoresRefIdeal_pre_known_layer (hSumCoresRefIdeal := hSumCoresRefIdeal) (hPre_known_layer := hPre_known_layer)
    ∧ quiescent_Loss (hLoss := hLoss)
    ∧ quiescent_LossIdeal (hLossIdeal := hLossIdeal)
    ∧ quiescent_LossRefIdeal (hLossRefIdeal := hLossRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_HaloBwd_HaloBwdIdeal
    ∧ preserves_InBwd_InBwdIdeal
    ∧ algebraic_InBwdIdeal_InBwdRefIdeal (hInBwdIdeal := hInBwdIdeal) (hInBwdRefIdeal := hInBwdRefIdeal)
    ∧ preserves_InW_InWIdeal
    ∧ algebraic_InWIdeal_InWRefIdeal (hInWIdeal := hInWIdeal) (hInWRefIdeal := hInWRefIdeal)
    ∧ preserves_InFwd_InFwdIdeal
    ∧ algebraic_InFwdIdeal_InFwdRefIdeal (hInFwdIdeal := hInFwdIdeal) (hInFwdRefIdeal := hInFwdRefIdeal)
    ∧ preserves_Adam_AdamIdeal
    ∧ algebraic_AdamIdeal_AdamRefIdeal (hAdamIdeal := hAdamIdeal) (hAdamRefIdeal := hAdamRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumChips_SumChipsIdeal
    ∧ algebraic_SumChipsIdeal_SumChipsRefIdeal (hSumChipsIdeal := hSumChipsIdeal) (hSumChipsRefIdeal := hSumChipsRefIdeal)
    ∧ preserves_SumCores_SumCoresIdeal
    ∧ algebraic_SumCoresIdeal_SumCoresRefIdeal_pre_known_layer (hSumCoresIdeal := hSumCoresIdeal) (hSumCoresRefIdeal := hSumCoresRefIdeal) (hPre_known_layer := hPre_known_layer)
    ∧ preserves_Loss_LossIdeal
    ∧ algebraic_LossIdeal_LossRefIdeal (hLossIdeal := hLossIdeal) (hLossRefIdeal := hLossRefIdeal)
-- ==== Pre_attn_finite.lean ====
abbrev S8192x1536 : Shape := ⟨2, ![8192, 1536]⟩
abbrev S8192x512 : Shape := ⟨2, ![8192, 512]⟩
abbrev S_ : Shape := ⟨0, ![]⟩

class Facts : Prop where
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x1536 .f32) (main_arg1 : FVec F S8192x512 .f32) : IVec S8192x1536 1 × IVec S8192x512 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Pre_known_layer.lean ====
abbrev S1 : Shape := ⟨1, ![1]⟩
abbrev S1024x7680 : Shape := ⟨2, ![1024, 7680]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1024x7680 .f32) (main_arg2 : FVec F S1024x7680 .f32) (main_arg3 : FVec F S1024x7680 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== AttnBwd.lean ====
abbrev S8192x1536 : Shape := ⟨2, ![8192, 1536]⟩
abbrev S8192x512 : Shape := ⟨2, ![8192, 512]⟩
abbrev S1x8192x512 : Shape := ⟨3, ![1, 8192, 512]⟩
abbrev S3x8192x512 : Shape := ⟨3, ![3, 8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S4x2x8192 : Shape := ⟨3, ![4, 2, 8192]⟩
abbrev S4x8192x2 : Shape := ⟨3, ![4, 8192, 2]⟩
abbrev S4x8192x2x64 : Shape := ⟨4, ![4, 8192, 2, 64]⟩
abbrev S4x8192x128 : Shape := ⟨3, ![4, 8192, 128]⟩
abbrev S4x32x8x128 : Shape := ⟨4, ![4, 32, 8, 128]⟩
abbrev S1x256x128 : Shape := ⟨3, ![1, 256, 128]⟩
abbrev S1x8192x128 : Shape := ⟨3, ![1, 8192, 128]⟩
abbrev S256x128 : Shape := ⟨2, ![256, 128]⟩
abbrev S1x1x8x128 : Shape := ⟨4, ![1, 1, 8, 128]⟩
abbrev S8192x128 : Shape := ⟨2, ![8192, 128]⟩
abbrev S32x128x256 : Shape := ⟨3, ![32, 128, 256]⟩
abbrev S256x256 : Shape := ⟨2, ![256, 256]⟩
abbrev S512x256 : Shape := ⟨2, ![512, 256]⟩
abbrev S1x128 : Shape := ⟨2, ![1, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S512x128 : Shape := ⟨2, ![512, 128]⟩
abbrev S128x512 : Shape := ⟨2, ![128, 512]⟩
abbrev S256 : Shape := ⟨1, ![256]⟩
abbrev S256x1 : Shape := ⟨2, ![256, 1]⟩
abbrev S512x1 : Shape := ⟨2, ![512, 1]⟩
abbrev S512x512 : Shape := ⟨2, ![512, 512]⟩
abbrev S1x128x256 : Shape := ⟨3, ![1, 128, 256]⟩
abbrev S128x256 : Shape := ⟨2, ![128, 256]⟩
abbrev S512 : Shape := ⟨1, ![512]⟩

abbrev nBuf : Space → Nat
  | .hbm => 61
  | .vmem => 20
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S3x8192x512, .f32⟩
  | .hbm, ⟨9, _⟩ => ⟨S3x8192x512, .bf16⟩
  | .hbm, ⟨10, _⟩ => ⟨S8192x512, .f32⟩
  | .hbm, ⟨11, _⟩ => ⟨S8192x8x64, .f32⟩
  | .hbm, ⟨12, _⟩ => ⟨S8x8192x64, .f32⟩
  | .hbm, ⟨13, _⟩ => ⟨S8192x512, .f32⟩
  | .hbm, ⟨14, _⟩ => ⟨S8192x8x64, .f32⟩
  | .hbm, ⟨15, _⟩ => ⟨S8x8192x64, .f32⟩
  | .hbm, ⟨16, _⟩ => ⟨S8x8192x8192, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x8192, .i32⟩
  | .hbm, ⟨22, _⟩ => ⟨S8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .i1⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S4x2x8192, .f32⟩
  | .hbm, ⟨52, _⟩ => ⟨S4x8192x2, .f32⟩
  | .hbm, ⟨53, _⟩ => ⟨S4x8192x2x64, .f32⟩
  | .hbm, ⟨54, _⟩ => ⟨S4x8192x128, .f32⟩
  | .hbm, ⟨55, _⟩ => ⟨S_, .f32⟩
  | .hbm, ⟨56, _⟩ => ⟨S4x32x8x128, .f32⟩
  | .hbm, ⟨57, _⟩ => ⟨S8192x512, .bf16⟩
  | .hbm, ⟨58, _⟩ => ⟨S8192x512, .bf16⟩
  | .hbm, ⟨59, _⟩ => ⟨S8192x512, .bf16⟩
  | .hbm, ⟨60, _⟩ => ⟨S8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x128, .bf16⟩
  | .local _ .vmem, ⟨7, _⟩ => ⟨S256x128, .bf16⟩
  | .local _ .vmem, ⟨8, _⟩ => ⟨S1x256x128, .f32⟩
  | .local _ .vmem, ⟨9, _⟩ => ⟨S1x256x128, .f32⟩
  | .local _ .vmem, ⟨10, _⟩ => ⟨S1x1x8x128, .f32⟩
  | .local _ .vmem, ⟨11, _⟩ => ⟨S1x1x8x128, .f32⟩
  | .local _ .vmem, ⟨12, _⟩ => ⟨S256x128, .bf16⟩
  | .local _ .vmem, ⟨13, _⟩ => ⟨S256x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S32x128x256, .f32⟩
  | .local _ .vmem, ⟨19, _⟩ => ⟨S32x128x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v25 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v34 : BitVec 32) : Scf.Loop 32 :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let v87 : BitVec 32 := Scalar.subi arg1 v36
  let c1_i32 : BitVec 32 := 1#32
  let v89 : BitVec 32 := Scalar.divsi v87 c1_i32
  let v90 : BitVec 32 := Scalar.muli v89 c1_i32
  let v91 : BitVec 32 := Scalar.addi v36 v90
  let c1_i32_27 : BitVec 32 := 1#32
  ⟨v36, v91, c1_i32_27⟩

def k0_mult1 (i : grid0.Coords) (v34 : BitVec 32) (k0_t1 : Fin (k0_t1_loop i v34).trips) : BitVec 32 :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let c1_i32_27 : BitVec 32 := 1#32
  let arg13 : BitVec 32 := Scf.iv v36 c1_i32_27 k0_t1
  let c256_i32_60 : BitVec 32 := 256#32
  let v184 : BitVec 32 := Scalar.muli arg13 c256_i32_60
  v184
def k0_off1 (i : grid0.Coords) (v34 : BitVec 32) (k0_t1 : Fin (k0_t1_loop i v34).trips) : Fin 3 → Nat :=
  let c0_61 : Index := 0#32
  let arg1 : BitVec 32 := BitVec.ofNat 32 (i 1).val
  let c0_i32_13 : BitVec 32 := 0#32
  let v35 : BitVec 32 := Scalar.maxsi c0_i32_13 v34
  let v36 : BitVec 32 := Scalar.minsi arg1 v35
  let c1_i32_27 : BitVec 32 := 1#32
  let arg13 : BitVec 32 := Scf.iv v36 c1_i32_27 k0_t1
  let c256_i32_60 : BitVec 32 := 256#32
  let v184 : BitVec 32 := Scalar.muli arg13 c256_i32_60
  let v185 : BitVec 32 := v184
  let v186 : Index := Scalar.indexCast v185
  let c0_62 : Index := 0#32
  ![0, v186.toNat, 0]
def k0_off2 (i : grid0.Coords) (v34 : BitVec 32) (k0_t1 : Fin (k0_t1_loop i v34).trips) : Fin 3 → Nat :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let c1_i32_27 : BitVec 32 := 1#32
  let arg13 : BitVec 32 := Scf.iv v36 c1_i32_27 k0_t1
  let v235 : Index := Scalar.indexCast arg13
  let c0_74 : Index := 0#32
  let c0_75 : Index := 0#32
  ![v235.toNat, 0, 0]
@[reducible] def k0_t2_loop (i : grid0.Coords) (v34 : BitVec 32) : Scf.Loop 32 :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let v87 : BitVec 32 := Scalar.subi arg1 v36
  let c1_i32 : BitVec 32 := 1#32
  let v89 : BitVec 32 := Scalar.divsi v87 c1_i32
  let v90 : BitVec 32 := Scalar.muli v89 c1_i32
  let v91 : BitVec 32 := Scalar.addi v36 v90
  let v88 : BitVec 32 := Scalar.addi v36 v87
  let c1_i32_28 : BitVec 32 := 1#32
  ⟨v91, v88, c1_i32_28⟩
def k0_mult2 (i : grid0.Coords) (v34 : BitVec 32) (k0_t2 : Fin (k0_t2_loop i v34).trips) : BitVec 32 :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let v87 : BitVec 32 := Scalar.subi arg1 v36
  let c1_i32 : BitVec 32 := 1#32
  let v89 : BitVec 32 := Scalar.divsi v87 c1_i32
  let v90 : BitVec 32 := Scalar.muli v89 c1_i32
  let v91 : BitVec 32 := Scalar.addi v36 v90
  let c1_i32_28 : BitVec 32 := 1#32
  let arg13 : BitVec 32 := Scf.iv v91 c1_i32_28 k0_t2
  let c256_i32_60 : BitVec 32 := 256#32
  let v184 : BitVec 32 := Scalar.muli arg13 c256_i32_60
  v184
def k0_off3 (i : grid0.Coords) (v34 : BitVec 32) (k0_t2 : Fin (k0_t2_loop i v34).trips) : Fin 3 → Nat :=
  let c0_61 : Index := 0#32
  let arg1 : BitVec 32 := BitVec.ofNat 32 (i 1).val
  let c0_i32_13 : BitVec 32 := 0#32
  let v35 : BitVec 32 := Scalar.maxsi c0_i32_13 v34
  let v36 : BitVec 32 := Scalar.minsi arg1 v35
  let v87 : BitVec 32 := Scalar.subi arg1 v36
  let c1_i32 : BitVec 32 := 1#32
  let v89 : BitVec 32 := Scalar.divsi v87 c1_i32
  let v90 : BitVec 32 := Scalar.muli v89 c1_i32
  let v91 : BitVec 32 := Scalar.addi v36 v90
  let c1_i32_28 : BitVec 32 := 1#32
  let arg13 : BitVec 32 := Scf.iv v91 c1_i32_28 k0_t2
  let c256_i32_60 : BitVec 32 := 256#32
  let v184 : BitVec 32 := Scalar.muli arg13 c256_i32_60
  let v185 : BitVec 32 := v184
  let v186 : Index := Scalar.indexCast v185
  let c0_62 : Index := 0#32
  ![0, v186.toNat, 0]
def k0_off4 (i : grid0.Coords) (v34 : BitVec 32) (k0_t2 : Fin (k0_t2_loop i v34).trips) : Fin 3 → Nat :=
  let arg1 : BitVec 32 := BitVec.ofNat 32 (i 1).val
  let c0_i32_13 : BitVec 32 := 0#32
  let v35 : BitVec 32 := Scalar.maxsi c0_i32_13 v34
  let v36 : BitVec 32 := Scalar.minsi arg1 v35
  let v87 : BitVec 32 := Scalar.subi arg1 v36
  let c1_i32 : BitVec 32 := 1#32
  let v89 : BitVec 32 := Scalar.divsi v87 c1_i32
  let v90 : BitVec 32 := Scalar.muli v89 c1_i32
  let v91 : BitVec 32 := Scalar.addi v36 v90
  let c1_i32_28 : BitVec 32 := 1#32
  let arg13 : BitVec 32 := Scf.iv v91 c1_i32_28 k0_t2
  let v235 : Index := Scalar.indexCast arg13
  let c0_74 : Index := 0#32
  let c0_75 : Index := 0#32
  ![v235.toNat, 0, 0]

def k0_chk1 (i : grid0.Coords) (v34 : BitVec 32) : Prop :=
  ((k0_t1_loop i v34).OK) ∧
  (∀ k0_t1 : Fin (k0_t1_loop i v34).trips, 256 ∣ (k0_mult1 i v34 k0_t1).toNat) ∧
  (∀ k0_t1 : Fin (k0_t1_loop i v34).trips, ∀ a, (k0_off1 i v34 k0_t1) a + S1x256x128.size a ≤ S1x8192x128.size a) ∧
  (∀ k0_t1 : Fin (k0_t1_loop i v34).trips, ∀ a, (k0_off2 i v34 k0_t1) a + S1x128x256.size a ≤ S32x128x256.size a) ∧
  ((k0_t2_loop i v34).OK) ∧
  (∀ k0_t2 : Fin (k0_t2_loop i v34).trips, 256 ∣ (k0_mult2 i v34 k0_t2).toNat) ∧
  (∀ k0_t2 : Fin (k0_t2_loop i v34).trips, ∀ a, (k0_off3 i v34 k0_t2) a + S1x256x128.size a ≤ S1x8192x128.size a) ∧
  (∀ k0_t2 : Fin (k0_t2_loop i v34).trips, ∀ a, (k0_off4 i v34 k0_t2) a + S1x128x256.size a ≤ S32x128x256.size a)
theorem k0_t1_ok : ∀ (i : grid0.Coords) (v34 : BitVec 32) (k0_hw1 : k0_chk1 i v34), (k0_t1_loop i v34).OK := fun i v34 k0_hw1 => k0_hw1.1
theorem k0_mult1_dvd : ∀ (i : grid0.Coords) (v34 : BitVec 32) (k0_hw1 : k0_chk1 i v34) (k0_t1 : Fin (k0_t1_loop i v34).trips), 256 ∣ (k0_mult1 i v34 k0_t1).toNat := fun i v34 k0_hw1 k0_t1 => k0_hw1.2.1 k0_t1
theorem k0_off1_inb : ∀ (i : grid0.Coords) (v34 : BitVec 32) (k0_hw1 : k0_chk1 i v34) (k0_t1 : Fin (k0_t1_loop i v34).trips), ∀ a, (k0_off1 i v34 k0_t1) a + S1x256x128.size a ≤ S1x8192x128.size a := fun i v34 k0_hw1 k0_t1 => k0_hw1.2.2.1 k0_t1
theorem k0_off2_inb : ∀ (i : grid0.Coords) (v34 : BitVec 32) (k0_hw1 : k0_chk1 i v34) (k0_t1 : Fin (k0_t1_loop i v34).trips), ∀ a, (k0_off2 i v34 k0_t1) a + S1x128x256.size a ≤ S32x128x256.size a := fun i v34 k0_hw1 k0_t1 => k0_hw1.2.2.2.1 k0_t1
theorem k0_t2_ok : ∀ (i : grid0.Coords) (v34 : BitVec 32) (k0_hw1 : k0_chk1 i v34), (k0_t2_loop i v34).OK := fun i v34 k0_hw1 => k0_hw1.2.2.2.2.1
theorem k0_mult2_dvd : ∀ (i : grid0.Coords) (v34 : BitVec 32) (k0_hw1 : k0_chk1 i v34) (k0_t2 : Fin (k0_t2_loop i v34).trips), 256 ∣ (k0_mult2 i v34 k0_t2).toNat := fun i v34 k0_hw1 k0_t2 => k0_hw1.2.2.2.2.2.1 k0_t2
theorem k0_off3_inb : ∀ (i : grid0.Coords) (v34 : BitVec 32) (k0_hw1 : k0_chk1 i v34) (k0_t2 : Fin (k0_t2_loop i v34).trips), ∀ a, (k0_off3 i v34 k0_t2) a + S1x256x128.size a ≤ S1x8192x128.size a := fun i v34 k0_hw1 k0_t2 => k0_hw1.2.2.2.2.2.2.1 k0_t2
theorem k0_off4_inb : ∀ (i : grid0.Coords) (v34 : BitVec 32) (k0_hw1 : k0_chk1 i v34) (k0_t2 : Fin (k0_t2_loop i v34).trips), ∀ a, (k0_off4 i v34 k0_t2) a + S1x128x256.size a ≤ S32x128x256.size a := fun i v34 k0_hw1 k0_t2 => k0_hw1.2.2.2.2.2.2.2 k0_t2

def k0_mult3 (i : grid0.Coords) : BitVec 32 :=
  let arg1 : BitVec 32 := BitVec.ofNat 32 (i 1).val
  let c256_i32 : BitVec 32 := 256#32
  let v94 : BitVec 32 := Scalar.muli arg1 c256_i32
  v94
def k0_off5 (i : grid0.Coords) : Fin 3 → Nat :=
  let c0_29 : Index := 0#32
  let arg1 : BitVec 32 := BitVec.ofNat 32 (i 1).val
  let c256_i32 : BitVec 32 := 256#32
  let v94 : BitVec 32 := Scalar.muli arg1 c256_i32
  let v95 : BitVec 32 := v94
  let v96 : Index := Scalar.indexCast v95
  let c0_30 : Index := 0#32
  ![0, v96.toNat, 0]
def k0_off6 (i : grid0.Coords) : Fin 3 → Nat :=
  let arg1 : BitVec 32 := BitVec.ofNat 32 (i 1).val
  let v151 : Index := Scalar.indexCast arg1
  let c0_45 : Index := 0#32
  let c0_46 : Index := 0#32
  ![v151.toNat, 0, 0]
def k0_cond2 (i : grid0.Coords) : BitVec 1 :=
  let arg1 : BitVec 32 := BitVec.ofNat 32 (i 1).val
  let c31_i32 : BitVec 32 := 31#32
  let v181 : BitVec 1 := Scalar.cmpi .eq arg1 c31_i32
  let v182 : BitVec 32 := Scalar.extui v181
  let c0_i32_59 : BitVec 32 := 0#32
  let v183 : BitVec 1 := Scalar.cmpi .ne v182 c0_i32_59
  v183

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdRefIdeal.lean ====
abbrev S8192x1536 : Shape := ⟨2, ![8192, 1536]⟩
abbrev S8192x512 : Shape := ⟨2, ![8192, 512]⟩
abbrev S8192x3x8x64 : Shape := ⟨4, ![8192, 3, 8, 64]⟩
abbrev S3x8x8192x64 : Shape := ⟨4, ![3, 8, 8192, 64]⟩
abbrev S1x8x8192x64 : Shape := ⟨4, ![1, 8, 8192, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8x64 : Shape := ⟨3, ![8192, 8, 64]⟩
abbrev S8x64x8192 : Shape := ⟨3, ![8, 64, 8192]⟩

abbrev nBuf : Space → Nat
  | .hbm => 183
  | .vmem => 0
  | .smem => 0
  | _ => 0

abbrev hbmTy0_0 (i : Nat) : BufTy := match i % 128 with
  | 0 => ⟨S8192x1536, .f32⟩
  | 1 => ⟨S8192x512, .f32⟩
  | 2 => ⟨S8192x3x8x64, .f32⟩
  | 3 => ⟨S3x8x8192x64, .f32⟩
  | 4 => ⟨S1x8x8192x64, .f32⟩
  | 5 => ⟨S1x8x8192x64, .f32⟩
  | 6 => ⟨S1x8x8192x64, .f32⟩
  | 7 => ⟨S8x8192x64, .f32⟩
  | 8 => ⟨S8x8192x64, .f32⟩
  | 9 => ⟨S8x8192x64, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S1x8192, .i32⟩
  | 16 => ⟨S8192, .i32⟩
  | 17 => ⟨S8192x1, .i32⟩
  | 18 => ⟨S8192x8192, .i32⟩
  | 19 => ⟨S8192x8192, .i32⟩
  | 20 => ⟨S8192x8192, .i1⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .i1⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .i1⟩
  | 39 => ⟨S_, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .i1⟩
  | 45 => ⟨S_, .f32⟩
  | 46 => ⟨S8x8192x8192, .f32⟩
  | 47 => ⟨S8x8192x8192, .f32⟩
  | 48 => ⟨S8x8192x8192, .f32⟩
  | 49 => ⟨S8x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x8192x8192, .f32⟩
  | 58 => ⟨S8x8192x8192, .i1⟩
  | 59 => ⟨S_, .f32⟩
  | 60 => ⟨S8x8192x8192, .f32⟩
  | 61 => ⟨S8x8192x8192, .f32⟩
  | 62 => ⟨S8x8192x8192, .f32⟩
  | 63 => ⟨S8x8192x8192, .f32⟩
  | 64 => ⟨S8x8192x8192, .f32⟩
  | 65 => ⟨S_, .f32⟩
  | 66 => ⟨S8x8192x8192, .f32⟩
  | 67 => ⟨S8x8192x8192, .f32⟩
  | 68 => ⟨S8x8192x8192, .f32⟩
  | 69 => ⟨S8x8192x8192, .f32⟩
  | 70 => ⟨S8x8192x8192, .f32⟩
  | 71 => ⟨S_, .f32⟩
  | 72 => ⟨S8x8192x8192, .f32⟩
  | 73 => ⟨S8x8192x8192, .f32⟩
  | 74 => ⟨S8x8192x8192, .f32⟩
  | 75 => ⟨S8x8192x8192, .f32⟩
  | 76 => ⟨S8x8192x8192, .i1⟩
  | 77 => ⟨S8x8192x8192, .f32⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .f32⟩
  | 85 => ⟨S_, .f32⟩
  | 86 => ⟨S8x8192x8192, .f32⟩
  | 87 => ⟨S8x8192x8192, .i1⟩
  | 88 => ⟨S_, .f32⟩
  | 89 => ⟨S8x8192x8192, .f32⟩
  | 90 => ⟨S8x8192x8192, .f32⟩
  | 91 => ⟨S_, .f32⟩
  | 92 => ⟨S8x8192x8192, .f32⟩
  | 93 => ⟨S8x8192x8192, .i1⟩
  | 94 => ⟨S_, .f32⟩
  | 95 => ⟨S8x8192x8192, .f32⟩
  | 96 => ⟨S8x8192x8192, .f32⟩
  | 97 => ⟨S8x8192x8192, .f32⟩
  | 98 => ⟨S8x8192x8192, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S8x8192x8192, .f32⟩
  | 107 => ⟨S8x8192x8192, .i1⟩
  | 108 => ⟨S_, .f32⟩
  | 109 => ⟨S8x8192x8192, .f32⟩
  | 110 => ⟨S8x8192x8192, .f32⟩
  | 111 => ⟨S8x8192x8192, .f32⟩
  | 112 => ⟨S8x8192x8192, .f32⟩
  | 113 => ⟨S8x8192x8192, .f32⟩
  | 114 => ⟨S_, .f32⟩
  | 115 => ⟨S8x8192x8192, .f32⟩
  | 116 => ⟨S8x8192x8192, .f32⟩
  | 117 => ⟨S8x8192x8192, .f32⟩
  | 118 => ⟨S_, .f32⟩
  | 119 => ⟨S_, .f32⟩
  | 120 => ⟨S8x8192x8192, .i1⟩
  | 121 => ⟨S8x8192x8192, .f32⟩
  | 122 => ⟨S8x8192x8192, .f32⟩
  | 123 => ⟨S_, .f32⟩
  | 124 => ⟨S8x8192x8192, .f32⟩
  | 125 => ⟨S_, .f32⟩
  | 126 => ⟨S_, .f32⟩
  | 127 => ⟨S8x8192x8192, .f32⟩
  | _ => ⟨S8192x1536, .f32⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S_, .f32⟩
  | 4 => ⟨S_, .f32⟩
  | 5 => ⟨S8x8192x8192, .i1⟩
  | 6 => ⟨S8x8192x8192, .f32⟩
  | 7 => ⟨S8x8192x8192, .f32⟩
  | 8 => ⟨S_, .f32⟩
  | 9 => ⟨S8x8192x8192, .f32⟩
  | 10 => ⟨S8x8192x64, .f32⟩
  | 11 => ⟨S8192x8x64, .f32⟩
  | 12 => ⟨S8192x512, .f32⟩
  | 13 => ⟨S8192x8x64, .f32⟩
  | 14 => ⟨S8x8192x64, .f32⟩
  | 15 => ⟨S8x64x8192, .f32⟩
  | 16 => ⟨S8x8192x64, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S_, .f32⟩
  | 24 => ⟨S_, .f32⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .f32⟩
  | 41 => ⟨S8x8192x64, .f32⟩
  | 42 => ⟨S8x8192x64, .f32⟩
  | 43 => ⟨S1x8x8192x64, .f32⟩
  | 44 => ⟨S1x8x8192x64, .f32⟩
  | 45 => ⟨S1x8x8192x64, .f32⟩
  | 46 => ⟨S3x8x8192x64, .f32⟩
  | 47 => ⟨S8192x3x8x64, .f32⟩
  | 48 => ⟨S8192x1536, .f32⟩
  | 49 => ⟨S8192x512, .f32⟩
  | 50 => ⟨S8192x512, .bf16⟩
  | 51 => ⟨S8192x512, .f32⟩
  | 52 => ⟨S8192x512, .bf16⟩
  | 53 => ⟨S8192x512, .f32⟩
  | 54 => ⟨S8192x512, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== AttnFwd.lean ====
abbrev S8192x1536 : Shape := ⟨2, ![8192, 1536]⟩
abbrev S8192x512 : Shape := ⟨2, ![8192, 512]⟩
abbrev S1x8192x512 : Shape := ⟨3, ![1, 8192, 512]⟩
abbrev S3x8192x512 : Shape := ⟨3, ![3, 8192, 512]⟩
abbrev S4x8192x128 : Shape := ⟨3, ![4, 8192, 128]⟩
abbrev S4x32x8x128 : Shape := ⟨4, ![4, 32, 8, 128]⟩
abbrev S1x256x128 : Shape := ⟨3, ![1, 256, 128]⟩
abbrev S1x8192x128 : Shape := ⟨3, ![1, 8192, 128]⟩
abbrev S256x128 : Shape := ⟨2, ![256, 128]⟩
abbrev S1x1x8x128 : Shape := ⟨4, ![1, 1, 8, 128]⟩
abbrev S256x256 : Shape := ⟨2, ![256, 256]⟩
abbrev S512x256 : Shape := ⟨2, ![512, 256]⟩
abbrev S1x128 : Shape := ⟨2, ![1, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S256x1 : Shape := ⟨2, ![256, 1]⟩
abbrev S8x128 : Shape := ⟨2, ![8, 128]⟩

abbrev nBuf : Space → Nat
  | .hbm => 12
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S3x8192x512, .f32⟩
  | .hbm, ⟨8, _⟩ => ⟨S3x8192x512, .bf16⟩
  | .hbm, ⟨9, _⟩ => ⟨S8192x512, .f32⟩
  | .hbm, ⟨10, _⟩ => ⟨S4x8192x128, .f32⟩
  | .hbm, ⟨11, _⟩ => ⟨S4x32x8x128, .f32⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x128, .f32⟩
  | .local _ .vmem, ⟨7, _⟩ => ⟨S256x128, .f32⟩
  | .local _ .vmem, ⟨8, _⟩ => ⟨S1x256x128, .f32⟩
  | .local _ .vmem, ⟨9, _⟩ => ⟨S1x256x128, .f32⟩
  | .local _ .vmem, ⟨10, _⟩ => ⟨S1x1x8x128, .f32⟩
  | .local _ .vmem, ⟨11, _⟩ => ⟨S1x1x8x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8_0 : Ref sig .tc := ⟨.hbm, 9, rfl⟩
abbrev main_v8_1 : Ref sig .tc := ⟨.hbm, 10, rfl⟩
abbrev main_v8_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v37 : BitVec 32 := Scalar.muli arg1 c256_i32
  v37
def k0_off1 (i : grid0.Coords) : Fin 3 → Nat :=
  let c0_7 : Index := 0#32
  let arg1 : BitVec 32 := BitVec.ofNat 32 (i 1).val
  let c256_i32 : BitVec 32 := 256#32
  let v37 : BitVec 32 := Scalar.muli arg1 c256_i32
  let v38 : BitVec 32 := v37
  let v39 : Index := Scalar.indexCast v38
  let c0_8 : Index := 0#32
  ![0, v39.toNat, 0]
def k0_mult2 (arg8 : BitVec 32) : BitVec 32 :=
  let c256_i32_33 : BitVec 32 := 256#32
  let v108 : BitVec 32 := Scalar.muli arg8 c256_i32_33
  v108

def k0_off2 (arg8 : BitVec 32) : Fin 3 → Nat :=
  let c0_34 : Index := 0#32
  let c256_i32_33 : BitVec 32 := 256#32
  let v108 : BitVec 32 := Scalar.muli arg8 c256_i32_33
  let v109 : BitVec 32 := v108
  let v110 : Index := Scalar.indexCast v109
  let c0_35 : Index := 0#32
  ![0, v110.toNat, 0]

def k0_chk1 (arg8 : BitVec 32) : Prop :=
  (256 ∣ (k0_mult2 arg8).toNat) ∧
  (∀ a, (k0_off2 arg8) a + S1x256x128.size a ≤ S1x8192x128.size a)
theorem k0_mult2_dvd : ∀ (arg8 : BitVec 32) (k0_hw1 : k0_chk1 arg8), 256 ∣ (k0_mult2 arg8).toNat := fun arg8 k0_hw1 => k0_hw1.1
theorem k0_off2_inb : ∀ (arg8 : BitVec 32) (k0_hw1 : k0_chk1 arg8), ∀ a, (k0_off2 arg8) a + S1x256x128.size a ≤ S1x8192x128.size a := fun arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdIdeal.lean ====
variable {F : FTy → Type} [FloatOps F] [Named F]
def κ : String → Option EReal := fun
  | "exit_below" => some ⊥
  | _ => none
-- ==== AttnFwdRefIdeal.lean ====
abbrev S8192x1536 : Shape := ⟨2, ![8192, 1536]⟩
abbrev S8192x3x8x64 : Shape := ⟨4, ![8192, 3, 8, 64]⟩
abbrev S3x8x8192x64 : Shape := ⟨4, ![3, 8, 8192, 64]⟩
abbrev S1x8x8192x64 : Shape := ⟨4, ![1, 8, 8192, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S4x2x8192 : Shape := ⟨3, ![4, 2, 8192]⟩
abbrev S4x8192x2 : Shape := ⟨3, ![4, 8192, 2]⟩
abbrev S4x8192x2x64 : Shape := ⟨4, ![4, 8192, 2, 64]⟩
abbrev S4x8192x128 : Shape := ⟨3, ![4, 8192, 128]⟩
abbrev S8192x8x64 : Shape := ⟨3, ![8192, 8, 64]⟩
abbrev S8192x512 : Shape := ⟨2, ![8192, 512]⟩

abbrev nBuf : Space → Nat
  | .hbm => 78
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x3x8x64, .f32⟩
  | .hbm, ⟨2, _⟩ => ⟨S3x8x8192x64, .f32⟩
  | .hbm, ⟨3, _⟩ => ⟨S1x8x8192x64, .f32⟩
  | .hbm, ⟨4, _⟩ => ⟨S1x8x8192x64, .f32⟩
  | .hbm, ⟨5, _⟩ => ⟨S1x8x8192x64, .f32⟩
  | .hbm, ⟨6, _⟩ => ⟨S8x8192x64, .f32⟩
  | .hbm, ⟨7, _⟩ => ⟨S8x8192x64, .f32⟩
  | .hbm, ⟨8, _⟩ => ⟨S8x8192x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .i1⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S_, .f32⟩
  | .hbm, ⟨55, _⟩ => ⟨S8x8192x8192, .i1⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S_, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S_, .f32⟩
  | .hbm, ⟨66, _⟩ => ⟨S8x8192x8192, .i1⟩
  | .hbm, ⟨67, _⟩ => ⟨S8x8192x8192, .f32⟩
  | .hbm, ⟨68, _⟩ => ⟨S8x8192x8192, .f32⟩
  | .hbm, ⟨69, _⟩ => ⟨S8x8192x64, .f32⟩
  | .hbm, ⟨70, _⟩ => ⟨S_, .f32⟩
  | .hbm, ⟨71, _⟩ => ⟨S8x8192, .f32⟩
  | .hbm, ⟨72, _⟩ => ⟨S4x2x8192, .f32⟩
  | .hbm, ⟨73, _⟩ => ⟨S4x8192x2, .f32⟩
  | .hbm, ⟨74, _⟩ => ⟨S4x8192x2x64, .f32⟩
  | .hbm, ⟨75, _⟩ => ⟨S4x8192x128, .f32⟩
  | .hbm, ⟨76, _⟩ => ⟨S8192x8x64, .f32⟩
  | .hbm, ⟨77, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== HaloBwd.lean ====
abbrev S8192x512 : Shape := ⟨2, ![8192, 512]⟩
abbrev S8192x1024 : Shape := ⟨2, ![8192, 1024]⟩
abbrev S31x512 : Shape := ⟨2, ![31, 512]⟩
abbrev S1x8192x512 : Shape := ⟨3, ![1, 8192, 512]⟩
abbrev S4x8192x512 : Shape := ⟨3, ![4, 8192, 512]⟩
abbrev S_ : Shape := ⟨0, ![]⟩
abbrev S32x512 : Shape := ⟨2, ![32, 512]⟩
abbrev S3x8192x512 : Shape := ⟨3, ![3, 8192, 512]⟩
abbrev S1x256x512 : Shape := ⟨3, ![1, 256, 512]⟩
abbrev S256x512 : Shape := ⟨2, ![256, 512]⟩
abbrev S3x256x512 : Shape := ⟨3, ![3, 256, 512]⟩
abbrev S288x512 : Shape := ⟨2, ![288, 512]⟩
abbrev S8x280x512 : Shape := ⟨3, ![8, 280, 512]⟩
abbrev S32x8x512 : Shape := ⟨3, ![32, 8, 512]⟩
abbrev S280x512 : Shape := ⟨2, ![280, 512]⟩
abbrev S1x280x512 : Shape := ⟨3, ![1, 280, 512]⟩
abbrev S1x512 : Shape := ⟨2, ![1, 512]⟩
abbrev S1x8x512 : Shape := ⟨3, ![1, 8, 512]⟩
abbrev S8x512 : Shape := ⟨2, ![8, 512]⟩
abbrev S288x1 : Shape := ⟨2, ![288, 1]⟩
abbrev S288x128 : Shape := ⟨2, ![288, 128]⟩
abbrev S256x128 : Shape := ⟨2, ![256, 128]⟩

abbrev nBuf : Space → Nat
  | .hbm => 17
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S31x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x8192x512, .f32⟩
  | .hbm, ⟨8, _⟩ => ⟨S1x8192x512, .f32⟩
  | .hbm, ⟨9, _⟩ => ⟨S1x8192x512, .f32⟩
  | .hbm, ⟨10, _⟩ => ⟨S1x8192x512, .f32⟩
  | .hbm, ⟨11, _⟩ => ⟨S4x8192x512, .f32⟩
  | .hbm, ⟨12, _⟩ => ⟨S_, .i32⟩
  | .hbm, ⟨13, _⟩ => ⟨S_, .f32⟩
  | .hbm, ⟨14, _⟩ => ⟨S32x512, .f32⟩
  | .hbm, ⟨15, _⟩ => ⟨S3x8192x512, .bf16⟩
  | .hbm, ⟨16, _⟩ => ⟨S32x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S32x512, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S3x256x512, .bf16⟩
  | .local _ .vmem, ⟨14, _⟩ => ⟨S3x256x512, .bf16⟩
  | .local _ .vmem, ⟨15, _⟩ => ⟨S32x512, .f32⟩
  | .local _ .vmem, ⟨16, _⟩ => ⟨S288x512, .f32⟩
  | .local _ .vmem, ⟨17, _⟩ => ⟨S288x512, .f32⟩
  | .local _ .vmem, ⟨18, _⟩ => ⟨S8x280x512, .f32⟩
  | .local _ .vmem, ⟨19, _⟩ => ⟨S32x8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v0 : BitVec 1 := Scalar.cmpi .eq arg0 c31_i32
  let v561 : BitVec 32 := Scalar.extui v0
  let c0_i32_397 : BitVec 32 := 0#32
  let v562 : BitVec 1 := Scalar.cmpi .ne v561 c0_i32_397
  v562

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HaloBwdRefIdeal.lean ====
abbrev S8192x512 : Shape := ⟨2, ![8192, 512]⟩
abbrev S8192x1024 : Shape := ⟨2, ![8192, 1024]⟩
abbrev S31x512 : Shape := ⟨2, ![31, 512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S512 : Shape := ⟨1, ![512]⟩
abbrev S8192 : Shape := ⟨1, ![8192]⟩
abbrev S8192x128 : Shape := ⟨2, ![8192, 128]⟩
abbrev S2x128 : Shape := ⟨2, ![2, 128]⟩
abbrev S8190x128 : Shape := ⟨2, ![8190, 128]⟩
abbrev S8192x1 : Shape := ⟨2, ![8192, 1]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x1x128 : Shape := ⟨3, ![8192, 1, 128]⟩
abbrev S8192x4x128 : Shape := ⟨3, ![8192, 4, 128]⟩
abbrev S1x8192x512 : Shape := ⟨3, ![1, 8192, 512]⟩
abbrev S3x8192x512 : Shape := ⟨3, ![3, 8192, 512]⟩
abbrev S32x512 : Shape := ⟨2, ![32, 512]⟩

abbrev nBuf : Space → Nat
  | .hbm => 883
  | .vmem => 0
  | .smem => 0
  | _ => 0

abbrev hbmTy0_0 (i : Nat) : BufTy := match i % 128 with
  | 0 => ⟨S8192x512, .f32⟩
  | 1 => ⟨S8192x1024, .f32⟩
  | 2 => ⟨S31x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S30x512, .f32⟩
  | 22 => ⟨S8222x512, .f32⟩
  | 23 => ⟨S_, .f32⟩
  | 24 => ⟨S30x512, .f32⟩
  | 25 => ⟨S8192x512, .f32⟩
  | 26 => ⟨S1x512, .f32⟩
  | 27 => ⟨S512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S1x512, .f32⟩
  | 105 => ⟨S8192x512, .f32⟩
  | 106 => ⟨S8192x512, .f32⟩
  | 107 => ⟨S8192x512, .f32⟩
  | 108 => ⟨S8192x512, .f32⟩
  | 109 => ⟨S1x512, .f32⟩
  | 110 => ⟨S512, .f32⟩
  | 111 => ⟨S1x512, .f32⟩
  | 112 => ⟨S8192x512, .f32⟩
  | 113 => ⟨S8192x512, .f32⟩
  | 114 => ⟨S8192x512, .f32⟩
  | 115 => ⟨S8192x512, .f32⟩
  | 116 => ⟨S1x512, .f32⟩
  | 117 => ⟨S512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S1x512, .f32⟩
  | 124 => ⟨S512, .f32⟩
  | 125 => ⟨S1x512, .f32⟩
  | 126 => ⟨S8192x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S1x512, .f32⟩
  | 3 => ⟨S512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S1x512, .f32⟩
  | 10 => ⟨S512, .f32⟩
  | 11 => ⟨S1x512, .f32⟩
  | 12 => ⟨S8192x512, .f32⟩
  | 13 => ⟨S8192x512, .f32⟩
  | 14 => ⟨S8192x512, .f32⟩
  | 15 => ⟨S8192x512, .f32⟩
  | 16 => ⟨S1x512, .f32⟩
  | 17 => ⟨S512, .f32⟩
  | 18 => ⟨S1x512, .f32⟩
  | 19 => ⟨S8192x512, .f32⟩
  | 20 => ⟨S8192x512, .f32⟩
  | 21 => ⟨S8192x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S1x512, .f32⟩
  | 52 => ⟨S512, .f32⟩
  | 53 => ⟨S1x512, .f32⟩
  | 54 => ⟨S8192x512, .f32⟩
  | 55 => ⟨S8192x512, .f32⟩
  | 56 => ⟨S8192x512, .f32⟩
  | 57 => ⟨S8192x512, .f32⟩
  | 58 => ⟨S1x512, .f32⟩
  | 59 => ⟨S512, .f32⟩
  | 60 => ⟨S1x512, .f32⟩
  | 61 => ⟨S8192x512, .f32⟩
  | 62 => ⟨S8192x512, .f32⟩
  | 63 => ⟨S8192x512, .f32⟩
  | 64 => ⟨S8192x512, .f32⟩
  | 65 => ⟨S1x512, .f32⟩
  | 66 => ⟨S512, .f32⟩
  | 67 => ⟨S1x512, .f32⟩
  | 68 => ⟨S8192x512, .f32⟩
  | 69 => ⟨S8192x512, .f32⟩
  | 70 => ⟨S8192x512, .f32⟩
  | 71 => ⟨S8192x512, .f32⟩
  | 72 => ⟨S1x512, .f32⟩
  | 73 => ⟨S512, .f32⟩
  | 74 => ⟨S1x512, .f32⟩
  | 75 => ⟨S8192x512, .f32⟩
  | 76 => ⟨S8192x512, .f32⟩
  | 77 => ⟨S8192x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S512, .f32⟩
  | 88 => ⟨S1x512, .f32⟩
  | 89 => ⟨S8192x512, .f32⟩
  | 90 => ⟨S8192x512, .f32⟩
  | 91 => ⟨S8192x512, .f32⟩
  | 92 => ⟨S8192x512, .f32⟩
  | 93 => ⟨S1x512, .f32⟩
  | 94 => ⟨S512, .f32⟩
  | 95 => ⟨S1x512, .f32⟩
  | 96 => ⟨S8192x512, .f32⟩
  | 97 => ⟨S8192x512, .f32⟩
  | 98 => ⟨S8192x512, .f32⟩
  | 99 => ⟨S8192x512, .f32⟩
  | 100 => ⟨S1x512, .f32⟩
  | 101 => ⟨S512, .f32⟩
  | 102 => ⟨S1x512, .f32⟩
  | 103 => ⟨S8192x512, .f32⟩
  | 104 => ⟨S8192x512, .f32⟩
  | 105 => ⟨S8192x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S_, .f32⟩
  | 117 => ⟨S512, .f32⟩
  | 118 => ⟨S1x512, .f32⟩
  | 119 => ⟨S8192x512, .f32⟩
  | 120 => ⟨S8192x512, .f32⟩
  | 121 => ⟨S_, .f32⟩
  | 122 => ⟨S512, .f32⟩
  | 123 => ⟨S1x512, .f32⟩
  | 124 => ⟨S_, .f32⟩
  | 125 => ⟨S31x512, .f32⟩
  | 126 => ⟨S_, .f32⟩
  | 127 => ⟨S8222x512, .f32⟩
  | _ => ⟨S8192x512, .f32⟩

abbrev hbmTy0_2 (i : Nat) : BufTy := match i % 128 with
  | 0 => ⟨S8192x512, .f32⟩
  | 1 => ⟨S_, .f32⟩
  | 2 => ⟨S512, .f32⟩
  | 3 => ⟨S1x512, .f32⟩
  | 4 => ⟨S8192x512, .f32⟩
  | 5 => ⟨S8192x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S8222x512, .f32⟩
  | 14 => ⟨S8222x512, .f32⟩
  | 15 => ⟨S8192x512, .f32⟩
  | 16 => ⟨S_, .f32⟩
  | 17 => ⟨S512, .f32⟩
  | 18 => ⟨S1x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S8222x512, .f32⟩
  | 29 => ⟨S8222x512, .f32⟩
  | 30 => ⟨S8192x512, .f32⟩
  | 31 => ⟨S_, .f32⟩
  | 32 => ⟨S512, .f32⟩
  | 33 => ⟨S1x512, .f32⟩
  | 34 => ⟨S8192x512, .f32⟩
  | 35 => ⟨S8192x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S8222x512, .f32⟩
  | 44 => ⟨S8222x512, .f32⟩
  | 45 => ⟨S8192x512, .f32⟩
  | 46 => ⟨S_, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S512, .f32⟩
  | 53 => ⟨S1x512, .f32⟩
  | 54 => ⟨S_, .f32⟩
  | 55 => ⟨S31x512, .f32⟩
  | 56 => ⟨S31x512, .f32⟩
  | 57 => ⟨S_, .f32⟩
  | 58 => ⟨S8222x512, .f32⟩
  | 59 => ⟨S8222x512, .f32⟩
  | 60 => ⟨S8192x512, .f32⟩
  | 61 => ⟨S_, .f32⟩
  | 62 => ⟨S512, .f32⟩
  | 63 => ⟨S1x512, .f32⟩
  | 64 => ⟨S8192x512, .f32⟩
  | 65 => ⟨S8192x512, .f32⟩
  | 66 => ⟨S_, .f32⟩
  | 67 => ⟨S512, .f32⟩
  | 68 => ⟨S1x512, .f32⟩
  | 69 => ⟨S_, .f32⟩
  | 70 => ⟨S31x512, .f32⟩
  | 71 => ⟨S31x512, .f32⟩
  | 72 => ⟨S_, .f32⟩
  | 73 => ⟨S8222x512, .f32⟩
  | 74 => ⟨S8222x512, .f32⟩
  | 75 => ⟨S8192x512, .f32⟩
  | 76 => ⟨S_, .f32⟩
  | 77 => ⟨S512, .f32⟩
  | 78 => ⟨S1x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S_, .f32⟩
  | 85 => ⟨S31x512, .f32⟩
  | 86 => ⟨S31x512, .f32⟩
  | 87 => ⟨S_, .f32⟩
  | 88 => ⟨S8222x512, .f32⟩
  | 89 => ⟨S8222x512, .f32⟩
  | 90 => ⟨S8192x512, .f32⟩
  | 91 => ⟨S_, .f32⟩
  | 92 => ⟨S512, .f32⟩
  | 93 => ⟨S1x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S_, .f32⟩
  | 100 => ⟨S31x512, .f32⟩
  | 101 => ⟨S31x512, .f32⟩
  | 102 => ⟨S_, .f32⟩
  | 103 => ⟨S8222x512, .f32⟩
  | 104 => ⟨S8222x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S31x512, .f32⟩
  | 116 => ⟨S31x512, .f32⟩
  | 117 => ⟨S_, .f32⟩
  | 118 => ⟨S8222x512, .f32⟩
  | 119 => ⟨S8222x512, .f32⟩
  | 120 => ⟨S8192x512, .f32⟩
  | 121 => ⟨S_, .f32⟩
  | 122 => ⟨S512, .f32⟩
  | 123 => ⟨S1x512, .f32⟩
  | 124 => ⟨S8192x512, .f32⟩
  | 125 => ⟨S8192x512, .f32⟩
  | 126 => ⟨S_, .f32⟩
  | 127 => ⟨S512, .f32⟩
  | _ => ⟨S8192x512, .f32⟩

abbrev hbmTy0_3 (i : Nat) : BufTy := match i % 128 with
  | 0 => ⟨S1x512, .f32⟩
  | 1 => ⟨S_, .f32⟩
  | 2 => ⟨S31x512, .f32⟩
  | 3 => ⟨S31x512, .f32⟩
  | 4 => ⟨S_, .f32⟩
  | 5 => ⟨S8222x512, .f32⟩
  | 6 => ⟨S8222x512, .f32⟩
  | 7 => ⟨S8192x512, .f32⟩
  | 8 => ⟨S_, .f32⟩
  | 9 => ⟨S512, .f32⟩
  | 10 => ⟨S1x512, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S_, .f32⟩
  | 17 => ⟨S31x512, .f32⟩
  | 18 => ⟨S31x512, .f32⟩
  | 19 => ⟨S_, .f32⟩
  | 20 => ⟨S8222x512, .f32⟩
  | 21 => ⟨S8222x512, .f32⟩
  | 22 => ⟨S8192x512, .f32⟩
  | 23 => ⟨S_, .f32⟩
  | 24 => ⟨S512, .f32⟩
  | 25 => ⟨S1x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S_, .f32⟩
  | 32 => ⟨S31x512, .f32⟩
  | 33 => ⟨S31x512, .f32⟩
  | 34 => ⟨S_, .f32⟩
  | 35 => ⟨S8222x512, .f32⟩
  | 36 => ⟨S8222x512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S1x512, .f32⟩
  | 46 => ⟨S_, .f32⟩
  | 47 => ⟨S31x512, .f32⟩
  | 48 => ⟨S31x512, .f32⟩
  | 49 => ⟨S_, .f32⟩
  | 50 => ⟨S8222x512, .f32⟩
  | 51 => ⟨S8222x512, .f32⟩
  | 52 => ⟨S8192x512, .f32⟩
  | 53 => ⟨S_, .f32⟩
  | 54 => ⟨S512, .f32⟩
  | 55 => ⟨S1x512, .f32⟩
  | 56 => ⟨S8192x512, .f32⟩
  | 57 => ⟨S8192x512, .f32⟩
  | 58 => ⟨S_, .f32⟩
  | 59 => ⟨S512, .f32⟩
  | 60 => ⟨S1x512, .f32⟩
  | 61 => ⟨S_, .f32⟩
  | 62 => ⟨S31x512, .f32⟩
  | 63 => ⟨S31x512, .f32⟩
  | 64 => ⟨S_, .f32⟩
  | 65 => ⟨S8222x512, .f32⟩
  | 66 => ⟨S8222x512, .f32⟩
  | 67 => ⟨S8192x512, .f32⟩
  | 68 => ⟨S_, .f32⟩
  | 69 => ⟨S512, .f32⟩
  | 70 => ⟨S1x512, .f32⟩
  | 71 => ⟨S8192x512, .f32⟩
  | 72 => ⟨S8192x512, .f32⟩
  | 73 => ⟨S_, .f32⟩
  | 74 => ⟨S512, .f32⟩
  | 75 => ⟨S1x512, .f32⟩
  | 76 => ⟨S_, .f32⟩
  | 77 => ⟨S31x512, .f32⟩
  | 78 => ⟨S31x512, .f32⟩
  | 79 => ⟨S_, .f32⟩
  | 80 => ⟨S8222x512, .f32⟩
  | 81 => ⟨S8222x512, .f32⟩
  | 82 => ⟨S8192x512, .f32⟩
  | 83 => ⟨S_, .f32⟩
  | 84 => ⟨S512, .f32⟩
  | 85 => ⟨S1x512, .f32⟩
  | 86 => ⟨S8192x512, .f32⟩
  | 87 => ⟨S8192x512, .f32⟩
  | 88 => ⟨S_, .f32⟩
  | 89 => ⟨S512, .f32⟩
  | 90 => ⟨S1x512, .f32⟩
  | 91 => ⟨S_, .f32⟩
  | 92 => ⟨S31x512, .f32⟩
  | 93 => ⟨S31x512, .f32⟩
  | 94 => ⟨S_, .f32⟩
  | 95 => ⟨S8222x512, .f32⟩
  | 96 => ⟨S8222x512, .f32⟩
  | 97 => ⟨S8192x512, .f32⟩
  | 98 => ⟨S_, .f32⟩
  | 99 => ⟨S512, .f32⟩
  | 100 => ⟨S1x512, .f32⟩
  | 101 => ⟨S8192x512, .f32⟩
  | 102 => ⟨S8192x512, .f32⟩
  | 103 => ⟨S_, .f32⟩
  | 104 => ⟨S512, .f32⟩
  | 105 => ⟨S1x512, .f32⟩
  | 106 => ⟨S_, .f32⟩
  | 107 => ⟨S31x512, .f32⟩
  | 108 => ⟨S31x512, .f32⟩
  | 109 => ⟨S_, .f32⟩
  | 110 => ⟨S8222x512, .f32⟩
  | 111 => ⟨S8222x512, .f32⟩
  | 112 => ⟨S8192x512, .f32⟩
  | 113 => ⟨S_, .f32⟩
  | 114 => ⟨S512, .f32⟩
  | 115 => ⟨S1x512, .f32⟩
  | 116 => ⟨S8192x512, .f32⟩
  | 117 => ⟨S8192x512, .f32⟩
  | 118 => ⟨S_, .f32⟩
  | 119 => ⟨S512, .f32⟩
  | 120 => ⟨S1x512, .f32⟩
  | 121 => ⟨S_, .f32⟩
  | 122 => ⟨S31x512, .f32⟩
  | 123 => ⟨S31x512, .f32⟩
  | 124 => ⟨S_, .f32⟩
  | 125 => ⟨S8222x512, .f32⟩
  | 126 => ⟨S8222x512, .f32⟩
  | 127 => ⟨S8192x512, .f32⟩
  | _ => ⟨S8192x512, .f32⟩

abbrev hbmTy0_4 (i : Nat) : BufTy := match i % 128 with
  | 0 => ⟨S_, .f32⟩
  | 1 => ⟨S512, .f32⟩
  | 2 => ⟨S1x512, .f32⟩
  | 3 => ⟨S8192x512, .f32⟩
  | 4 => ⟨S8192x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S31x512, .f32⟩
  | 11 => ⟨S_, .f32⟩
  | 12 => ⟨S8222x512, .f32⟩
  | 13 => ⟨S8222x512, .f32⟩
  | 14 => ⟨S8192x512, .f32⟩
  | 15 => ⟨S_, .f32⟩
  | 16 => ⟨S512, .f32⟩
  | 17 => ⟨S1x512, .f32⟩
  | 18 => ⟨S8192x512, .f32⟩
  | 19 => ⟨S8192x512, .f32⟩
  | 20 => ⟨S_, .f32⟩
  | 21 => ⟨S512, .f32⟩
  | 22 => ⟨S1x512, .f32⟩
  | 23 => ⟨S_, .f32⟩
  | 24 => ⟨S31x512, .f32⟩
  | 25 => ⟨S31x512, .f32⟩
  | 26 => ⟨S_, .f32⟩
  | 27 => ⟨S8222x512, .f32⟩
  | 28 => ⟨S8222x512, .f32⟩
  | 29 => ⟨S8192x512, .f32⟩
  | 30 => ⟨S_, .f32⟩
  | 31 => ⟨S512, .f32⟩
  | 32 => ⟨S1x512, .f32⟩
  | 33 => ⟨S8192x512, .f32⟩
  | 34 => ⟨S8192x512, .f32⟩
  | 35 => ⟨S_, .f32⟩
  | 36 => ⟨S512, .f32⟩
  | 37 => ⟨S1x512, .f32⟩
  | 38 => ⟨S_, .f32⟩
  | 39 => ⟨S31x512, .f32⟩
  | 40 => ⟨S31x512, .f32⟩
  | 41 => ⟨S_, .f32⟩
  | 42 => ⟨S8222x512, .f32⟩
  | 43 => ⟨S8222x512, .f32⟩
  | 44 => ⟨S8192x512, .f32⟩
  | 45 => ⟨S_, .f32⟩
  | 46 => ⟨S512, .f32⟩
  | 47 => ⟨S1x512, .f32⟩
  | 48 => ⟨S8192x512, .f32⟩
  | 49 => ⟨S8192x512, .f32⟩
  | 50 => ⟨S_, .f32⟩
  | 51 => ⟨S512, .f32⟩
  | 52 => ⟨S1x512, .f32⟩
  | 53 => ⟨S_, .f32⟩
  | 54 => ⟨S31x512, .f32⟩
  | 55 => ⟨S31x512, .f32⟩
  | 56 => ⟨S_, .f32⟩
  | 57 => ⟨S8222x512, .f32⟩
  | 58 => ⟨S8222x512, .f32⟩
  | 59 => ⟨S8192x512, .f32⟩
  | 60 => ⟨S_, .f32⟩
  | 61 => ⟨S512, .f32⟩
  | 62 => ⟨S1x512, .f32⟩
  | 63 => ⟨S8192x512, .f32⟩
  | 64 => ⟨S8192x512, .f32⟩
  | 65 => ⟨S_, .f32⟩
  | 66 => ⟨S512, .f32⟩
  | 67 => ⟨S1x512, .f32⟩
  | 68 => ⟨S_, .f32⟩
  | 69 => ⟨S31x512, .f32⟩
  | 70 => ⟨S31x512, .f32⟩
  | 71 => ⟨S_, .f32⟩
  | 72 => ⟨S8222x512, .f32⟩
  | 73 => ⟨S8222x512, .f32⟩
  | 74 => ⟨S8192x512, .f32⟩
  | 75 => ⟨S_, .f32⟩
  | 76 => ⟨S512, .f32⟩
  | 77 => ⟨S1x512, .f32⟩
  | 78 => ⟨S8192x512, .f32⟩
  | 79 => ⟨S8192x512, .f32⟩
  | 80 => ⟨S_, .f32⟩
  | 81 => ⟨S512, .f32⟩
  | 82 => ⟨S1x512, .f32⟩
  | 83 => ⟨S_, .f32⟩
  | 84 => ⟨S31x512, .f32⟩
  | 85 => ⟨S31x512, .f32⟩
  | 86 => ⟨S_, .f32⟩
  | 87 => ⟨S8222x512, .f32⟩
  | 88 => ⟨S8222x512, .f32⟩
  | 89 => ⟨S8192x512, .f32⟩
  | 90 => ⟨S_, .f32⟩
  | 91 => ⟨S512, .f32⟩
  | 92 => ⟨S1x512, .f32⟩
  | 93 => ⟨S8192x512, .f32⟩
  | 94 => ⟨S8192x512, .f32⟩
  | 95 => ⟨S_, .f32⟩
  | 96 => ⟨S512, .f32⟩
  | 97 => ⟨S1x512, .f32⟩
  | 98 => ⟨S_, .f32⟩
  | 99 => ⟨S31x512, .f32⟩
  | 100 => ⟨S31x512, .f32⟩
  | 101 => ⟨S_, .f32⟩
  | 102 => ⟨S8222x512, .f32⟩
  | 103 => ⟨S8222x512, .f32⟩
  | 104 => ⟨S8192x512, .f32⟩
  | 105 => ⟨S_, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S512, .f32⟩
  | 112 => ⟨S1x512, .f32⟩
  | 113 => ⟨S_, .f32⟩
  | 114 => ⟨S31x512, .f32⟩
  | 115 => ⟨S31x512, .f32⟩
  | 116 => ⟨S_, .f32⟩
  | 117 => ⟨S8222x512, .f32⟩
  | 118 => ⟨S8222x512, .f32⟩
  | 119 => ⟨S8192x512, .f32⟩
  | 120 => ⟨S_, .f32⟩
  | 121 => ⟨S512, .f32⟩
  | 122 => ⟨S1x512, .f32⟩
  | 123 => ⟨S8192x512, .f32⟩
  | 124 => ⟨S8192x512, .f32⟩
  | 125 => ⟨S_, .f32⟩
  | 126 => ⟨S512, .f32⟩
  | 127 => ⟨S1x512, .f32⟩
  | _ => ⟨S8192x512, .f32⟩

abbrev hbmTy0_5 (i : Nat) : BufTy := match i % 128 with
  | 0 => ⟨S_, .f32⟩
  | 1 => ⟨S31x512, .f32⟩
  | 2 => ⟨S31x512, .f32⟩
  | 3 => ⟨S_, .f32⟩
  | 4 => ⟨S8222x512, .f32⟩
  | 5 => ⟨S8222x512, .f32⟩
  | 6 => ⟨S8192x512, .f32⟩
  | 7 => ⟨S_, .f32⟩
  | 8 => ⟨S512, .f32⟩
  | 9 => ⟨S1x512, .f32⟩
  | 10 => ⟨S8192x512, .f32⟩
  | 11 => ⟨S8192x512, .f32⟩
  | 12 => ⟨S_, .f32⟩
  | 13 => ⟨S512, .f32⟩
  | 14 => ⟨S1x512, .f32⟩
  | 15 => ⟨S_, .f32⟩
  | 16 => ⟨S31x512, .f32⟩
  | 17 => ⟨S31x512, .f32⟩
  | 18 => ⟨S_, .f32⟩
  | 19 => ⟨S8222x512, .f32⟩
  | 20 => ⟨S8222x512, .f32⟩
  | 21 => ⟨S8192x512, .f32⟩
  | 22 => ⟨S_, .f32⟩
  | 23 => ⟨S512, .f32⟩
  | 24 => ⟨S1x512, .f32⟩
  | 25 => ⟨S8192x512, .f32⟩
  | 26 => ⟨S8192x512, .f32⟩
  | 27 => ⟨S_, .f32⟩
  | 28 => ⟨S512, .f32⟩
  | 29 => ⟨S1x512, .f32⟩
  | 30 => ⟨S_, .f32⟩
  | 31 => ⟨S31x512, .f32⟩
  | 32 => ⟨S31x512, .f32⟩
  | 33 => ⟨S_, .f32⟩
  | 34 => ⟨S8222x512, .f32⟩
  | 35 => ⟨S8222x512, .f32⟩
  | 36 => ⟨S8192x512, .f32⟩
  | 37 => ⟨S_, .f32⟩
  | 38 => ⟨S512, .f32⟩
  | 39 => ⟨S1x512, .f32⟩
  | 40 => ⟨S8192x512, .f32⟩
  | 41 => ⟨S8192x512, .f32⟩
  | 42 => ⟨S_, .f32⟩
  | 43 => ⟨S512, .f32⟩
  | 44 => ⟨S1x512, .f32⟩
  | 45 => ⟨S_, .f32⟩
  | 46 => ⟨S31x512, .f32⟩
  | 47 => ⟨S31x512, .f32⟩
  | 48 => ⟨S_, .f32⟩
  | 49 => ⟨S8222x512, .f32⟩
  | 50 => ⟨S8222x512, .f32⟩
  | 51 => ⟨S8192x512, .f32⟩
  | 52 => ⟨S_, .f32⟩
  | 53 => ⟨S512, .f32⟩
  | 54 => ⟨S1x512, .f32⟩
  | 55 => ⟨S8192x512, .f32⟩
  | 56 => ⟨S8192x512, .f32⟩
  | 57 => ⟨S_, .f32⟩
  | 58 => ⟨S512, .f32⟩
  | 59 => ⟨S1x512, .f32⟩
  | 60 => ⟨S_, .f32⟩
  | 61 => ⟨S31x512, .f32⟩
  | 62 => ⟨S31x512, .f32⟩
  | 63 => ⟨S_, .f32⟩
  | 64 => ⟨S8222x512, .f32⟩
  | 65 => ⟨S8222x512, .f32⟩
  | 66 => ⟨S30x512, .f32⟩
  | 67 => ⟨S8192x512, .f32⟩
  | 68 => ⟨S8192x512, .f32⟩
  | 69 => ⟨S8192x512, .f32⟩
  | 70 => ⟨S8192x512, .f32⟩
  | 71 => ⟨S8192x1024, .f32⟩
  | 72 => ⟨S_, .f32⟩
  | 73 => ⟨S_, .f32⟩
  | 74 => ⟨S8192x512, .f32⟩
  | 75 => ⟨S8192, .i32⟩
  | 76 => ⟨S8192x128, .f32⟩
  | 77 => ⟨S_, .f32⟩
  | 78 => ⟨S2x128, .f32⟩
  | 79 => ⟨S8190x128, .f32⟩
  | 80 => ⟨S8192x128, .f32⟩
  | 81 => ⟨S_, .f32⟩
  | 82 => ⟨S2x128, .f32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .f32⟩
  | 90 => ⟨S8192x1, .f32⟩
  | 91 => ⟨S8192x128, .f32⟩
  | 92 => ⟨S8192x128, .f32⟩
  | 93 => ⟨S8192x128, .f32⟩
  | 94 => ⟨S8192x128, .f32⟩
  | 95 => ⟨S8192x128, .f32⟩
  | 96 => ⟨S8192x128, .f32⟩
  | 97 => ⟨S_, .f32⟩
  | 98 => ⟨S4x128, .f32⟩
  | 99 => ⟨S8188x128, .f32⟩
  | 100 => ⟨S8192x128, .f32⟩
  | 101 => ⟨S_, .f32⟩
  | 102 => ⟨S4x128, .f32⟩
  | 103 => ⟨S_, .i32⟩
  | 104 => ⟨S8192, .i32⟩
  | 105 => ⟨S8192, .i32⟩
  | 106 => ⟨S_, .i32⟩
  | 107 => ⟨S8192, .i32⟩
  | 108 => ⟨S8192, .i32⟩
  | 109 => ⟨S8192, .f32⟩
  | 110 => ⟨S8192x1, .f32⟩
  | 111 => ⟨S8192x128, .f32⟩
  | 112 => ⟨S8192x128, .f32⟩
  | 113 => ⟨S8192x128, .f32⟩
  | 114 => ⟨S8192x128, .f32⟩
  | 115 => ⟨S8192x128, .f32⟩
  | 116 => ⟨S8192x128, .f32⟩
  | 117 => ⟨S_, .f32⟩
  | 118 => ⟨S8x128, .f32⟩
  | 119 => ⟨S8184x128, .f32⟩
  | 120 => ⟨S8192x128, .f32⟩
  | 121 => ⟨S_, .f32⟩
  | 122 => ⟨S8x128, .f32⟩
  | 123 => ⟨S_, .i32⟩
  | 124 => ⟨S8192, .i32⟩
  | 125 => ⟨S8192, .i32⟩
  | 126 => ⟨S_, .i32⟩
  | 127 => ⟨S8192, .i32⟩
  | _ => ⟨S8192x512, .f32⟩

abbrev hbmTy0_6 (i : Nat) : BufTy := match i % 128 with
  | 0 => ⟨S8192, .i32⟩
  | 1 => ⟨S8192, .f32⟩
  | 2 => ⟨S8192x1, .f32⟩
  | 3 => ⟨S8192x128, .f32⟩
  | 4 => ⟨S8192x128, .f32⟩
  | 5 => ⟨S8192x128, .f32⟩
  | 6 => ⟨S8192x128, .f32⟩
  | 7 => ⟨S8192x128, .f32⟩
  | 8 => ⟨S8192x128, .f32⟩
  | 9 => ⟨S_, .f32⟩
  | 10 => ⟨S16x128, .f32⟩
  | 11 => ⟨S8176x128, .f32⟩
  | 12 => ⟨S8192x128, .f32⟩
  | 13 => ⟨S_, .f32⟩
  | 14 => ⟨S16x128, .f32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S8192, .f32⟩
  | 22 => ⟨S8192x1, .f32⟩
  | 23 => ⟨S8192x128, .f32⟩
  | 24 => ⟨S8192x128, .f32⟩
  | 25 => ⟨S8192x128, .f32⟩
  | 26 => ⟨S8192x128, .f32⟩
  | 27 => ⟨S8192x128, .f32⟩
  | 28 => ⟨S8192x1x128, .f32⟩
  | 29 => ⟨S8192x1x128, .f32⟩
  | 30 => ⟨S8192x1x128, .f32⟩
  | 31 => ⟨S8192x1x128, .f32⟩
  | 32 => ⟨S8192x4x128, .f32⟩
  | 33 => ⟨S8192x512, .f32⟩
  | 34 => ⟨S8192x4x128, .f32⟩
  | 35 => ⟨S8192x1x128, .f32⟩
  | 36 => ⟨S8192x128, .f32⟩
  | 37 => ⟨S8192x1x128, .f32⟩
  | 38 => ⟨S8192x128, .f32⟩
  | 39 => ⟨S8192x1x128, .f32⟩
  | 40 => ⟨S8192x128, .f32⟩
  | 41 => ⟨S8192x1x128, .f32⟩
  | 42 => ⟨S8192x128, .f32⟩
  | 43 => ⟨S8192x128, .f32⟩
  | 44 => ⟨S_, .f32⟩
  | 45 => ⟨S8192x512, .f32⟩
  | 46 => ⟨S8192x128, .f32⟩
  | 47 => ⟨S8192x128, .f32⟩
  | 48 => ⟨S8192x128, .f32⟩
  | 49 => ⟨S16x128, .f32⟩
  | 50 => ⟨S8176x128, .f32⟩
  | 51 => ⟨S_, .f32⟩
  | 52 => ⟨S8192x128, .f32⟩
  | 53 => ⟨S8192x128, .f32⟩
  | 54 => ⟨S_, .f32⟩
  | 55 => ⟨S8192x512, .f32⟩
  | 56 => ⟨S8192x128, .f32⟩
  | 57 => ⟨S_, .f32⟩
  | 58 => ⟨S8192x512, .f32⟩
  | 59 => ⟨S8192x512, .f32⟩
  | 60 => ⟨S8192x128, .f32⟩
  | 61 => ⟨S8192x128, .f32⟩
  | 62 => ⟨S8192x128, .f32⟩
  | 63 => ⟨S8x128, .f32⟩
  | 64 => ⟨S8184x128, .f32⟩
  | 65 => ⟨S_, .f32⟩
  | 66 => ⟨S8192x128, .f32⟩
  | 67 => ⟨S8192x128, .f32⟩
  | 68 => ⟨S_, .f32⟩
  | 69 => ⟨S8192x512, .f32⟩
  | 70 => ⟨S8192x512, .f32⟩
  | 71 => ⟨S8192x128, .f32⟩
  | 72 => ⟨S_, .f32⟩
  | 73 => ⟨S8192x512, .f32⟩
  | 74 => ⟨S8192x512, .f32⟩
  | 75 => ⟨S8192x128, .f32⟩
  | 76 => ⟨S8192x128, .f32⟩
  | 77 => ⟨S8192x128, .f32⟩
  | 78 => ⟨S4x128, .f32⟩
  | 79 => ⟨S8188x128, .f32⟩
  | 80 => ⟨S_, .f32⟩
  | 81 => ⟨S8192x128, .f32⟩
  | 82 => ⟨S8192x128, .f32⟩
  | 83 => ⟨S_, .f32⟩
  | 84 => ⟨S8192x512, .f32⟩
  | 85 => ⟨S8192x512, .f32⟩
  | 86 => ⟨S8192x128, .f32⟩
  | 87 => ⟨S_, .f32⟩
  | 88 => ⟨S8192x512, .f32⟩
  | 89 => ⟨S8192x512, .f32⟩
  | 90 => ⟨S8192x128, .f32⟩
  | 91 => ⟨S8192x128, .f32⟩
  | 92 => ⟨S8192x128, .f32⟩
  | 93 => ⟨S2x128, .f32⟩
  | 94 => ⟨S8190x128, .f32⟩
  | 95 => ⟨S_, .f32⟩
  | 96 => ⟨S8192x128, .f32⟩
  | 97 => ⟨S8192x128, .f32⟩
  | 98 => ⟨S_, .f32⟩
  | 99 => ⟨S8192x512, .f32⟩
  | 100 => ⟨S8192x512, .f32⟩
  | 101 => ⟨S_, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S1x8192x512, .f32⟩
  | 108 => ⟨S1x8192x512, .f32⟩
  | 109 => ⟨S1x8192x512, .f32⟩
  | 110 => ⟨S3x8192x512, .f32⟩
  | 111 => ⟨S3x8192x512, .bf16⟩
  | 112 => ⟨S_, .i32⟩
  | 113 => ⟨S_, .f32⟩
  | 114 => ⟨S32x512, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_5 : Ref sig .tc := ⟨.hbm, 249, rfl⟩
abbrev main_v238 : Ref sig .tc := ⟨.hbm, 250, rfl⟩
abbrev main_v239 : Ref sig .tc := ⟨.hbm, 251, rfl⟩
abbrev main_cst_6 : Ref sig .tc := ⟨.hbm, 252, rfl⟩
abbrev main_v240 : Ref sig .tc := ⟨.hbm, 253, rfl⟩
abbrev main_cst_7 : Ref sig .tc := ⟨.hbm, 254, rfl⟩
abbrev main_v241 : Ref sig .tc := ⟨.hbm, 255, rfl⟩
abbrev main_v242 : Ref sig .tc := ⟨.hbm, 256, rfl⟩
abbrev main_cst_8 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_cst_9 : Ref sig .tc := ⟨.hbm, 262, rfl⟩
abbrev main_v247 : Ref sig .tc := ⟨.hbm, 263, rfl⟩
abbrev main_v248 : Ref sig .tc := ⟨.hbm, 264, rfl⟩
abbrev main_cst_10 : Ref sig .tc := ⟨.hbm, 265, rfl⟩
abbrev main_v249 : Ref sig .tc := ⟨.hbm, 266, rfl⟩
abbrev main_v250 : Ref sig .tc := ⟨.hbm, 267, rfl⟩
abbrev main_cst_11 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_cst_12 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_cst_13 : Ref sig .tc := ⟨.hbm, 277, rfl⟩
abbrev main_v258 : Ref sig .tc := ⟨.hbm, 278, rfl⟩
abbrev main_v259 : Ref sig .tc := ⟨.hbm, 279, rfl⟩
abbrev main_cst_14 : Ref sig .tc := ⟨.hbm, 280, rfl⟩
abbrev main_v260 : Ref sig .tc := ⟨.hbm, 281, rfl⟩
abbrev main_v261 : Ref sig .tc := ⟨.hbm, 282, rfl⟩
abbrev main_cst_15 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_cst_16 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_cst_17 : Ref sig .tc := ⟨.hbm, 292, rfl⟩
abbrev main_v269 : Ref sig .tc := ⟨.hbm, 293, rfl⟩
abbrev main_v270 : Ref sig .tc := ⟨.hbm, 294, rfl⟩
abbrev main_cst_18 : Ref sig .tc := ⟨.hbm, 295, rfl⟩
abbrev main_v271 : Ref sig .tc := ⟨.hbm, 296, rfl⟩
abbrev main_v272 : Ref sig .tc := ⟨.hbm, 297, rfl⟩
abbrev main_cst_19 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_cst_20 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_cst_21 : Ref sig .tc := ⟨.hbm, 307, rfl⟩
abbrev main_v280 : Ref sig .tc := ⟨.hbm, 308, rfl⟩
abbrev main_v281 : Ref sig .tc := ⟨.hbm, 309, rfl⟩
abbrev main_cst_22 : Ref sig .tc := ⟨.hbm, 310, rfl⟩
abbrev main_v282 : Ref sig .tc := ⟨.hbm, 311, rfl⟩
abbrev main_v283 : Ref sig .tc := ⟨.hbm, 312, rfl⟩
abbrev main_cst_23 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_cst_24 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_cst_25 : Ref sig .tc := ⟨.hbm, 322, rfl⟩
abbrev main_v291 : Ref sig .tc := ⟨.hbm, 323, rfl⟩
abbrev main_v292 : Ref sig .tc := ⟨.hbm, 324, rfl⟩
abbrev main_cst_26 : Ref sig .tc := ⟨.hbm, 325, rfl⟩
abbrev main_v293 : Ref sig .tc := ⟨.hbm, 326, rfl⟩
abbrev main_v294 : Ref sig .tc := ⟨.hbm, 327, rfl⟩
abbrev main_cst_27 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_cst_28 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_cst_29 : Ref sig .tc := ⟨.hbm, 337, rfl⟩
abbrev main_v302 : Ref sig .tc := ⟨.hbm, 338, rfl⟩
abbrev main_v303 : Ref sig .tc := ⟨.hbm, 339, rfl⟩
abbrev main_cst_30 : Ref sig .tc := ⟨.hbm, 340, rfl⟩
abbrev main_v304 : Ref sig .tc := ⟨.hbm, 341, rfl⟩
abbrev main_v305 : Ref sig .tc := ⟨.hbm, 342, rfl⟩
abbrev main_cst_31 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_cst_32 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_cst_33 : Ref sig .tc := ⟨.hbm, 352, rfl⟩
abbrev main_v313 : Ref sig .tc := ⟨.hbm, 353, rfl⟩
abbrev main_v314 : Ref sig .tc := ⟨.hbm, 354, rfl⟩
abbrev main_cst_34 : Ref sig .tc := ⟨.hbm, 355, rfl⟩
abbrev main_v315 : Ref sig .tc := ⟨.hbm, 356, rfl⟩
abbrev main_v316 : Ref sig .tc := ⟨.hbm, 357, rfl⟩
abbrev main_cst_35 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_cst_36 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_cst_37 : Ref sig .tc := ⟨.hbm, 367, rfl⟩
abbrev main_v324 : Ref sig .tc := ⟨.hbm, 368, rfl⟩
abbrev main_v325 : Ref sig .tc := ⟨.hbm, 369, rfl⟩
abbrev main_cst_38 : Ref sig .tc := ⟨.hbm, 370, rfl⟩
abbrev main_v326 : Ref sig .tc := ⟨.hbm, 371, rfl⟩
abbrev main_v327 : Ref sig .tc := ⟨.hbm, 372, rfl⟩
abbrev main_cst_39 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_cst_40 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_cst_41 : Ref sig .tc := ⟨.hbm, 382, rfl⟩
abbrev main_v335 : Ref sig .tc := ⟨.hbm, 383, rfl⟩
abbrev main_v336 : Ref sig .tc := ⟨.hbm, 384, rfl⟩
abbrev main_cst_42 : Ref sig .tc := ⟨.hbm, 385, rfl⟩
abbrev main_v337 : Ref sig .tc := ⟨.hbm, 386, rfl⟩
abbrev main_v338 : Ref sig .tc := ⟨.hbm, 387, rfl⟩
abbrev main_cst_43 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_cst_44 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_cst_45 : Ref sig .tc := ⟨.hbm, 397, rfl⟩
abbrev main_v346 : Ref sig .tc := ⟨.hbm, 398, rfl⟩
abbrev main_v347 : Ref sig .tc := ⟨.hbm, 399, rfl⟩
abbrev main_cst_46 : Ref sig .tc := ⟨.hbm, 400, rfl⟩
abbrev main_v348 : Ref sig .tc := ⟨.hbm, 401, rfl⟩
abbrev main_v349 : Ref sig .tc := ⟨.hbm, 402, rfl⟩
abbrev main_cst_47 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_cst_48 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_cst_49 : Ref sig .tc := ⟨.hbm, 412, rfl⟩
abbrev main_v357 : Ref sig .tc := ⟨.hbm, 413, rfl⟩
abbrev main_v358 : Ref sig .tc := ⟨.hbm, 414, rfl⟩
abbrev main_cst_50 : Ref sig .tc := ⟨.hbm, 415, rfl⟩
abbrev main_v359 : Ref sig .tc := ⟨.hbm, 416, rfl⟩
abbrev main_v360 : Ref sig .tc := ⟨.hbm, 417, rfl⟩
abbrev main_cst_51 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_cst_52 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_cst_53 : Ref sig .tc := ⟨.hbm, 427, rfl⟩
abbrev main_v368 : Ref sig .tc := ⟨.hbm, 428, rfl⟩
abbrev main_v369 : Ref sig .tc := ⟨.hbm, 429, rfl⟩
abbrev main_cst_54 : Ref sig .tc := ⟨.hbm, 430, rfl⟩
abbrev main_v370 : Ref sig .tc := ⟨.hbm, 431, rfl⟩
abbrev main_v371 : Ref sig .tc := ⟨.hbm, 432, rfl⟩
abbrev main_cst_55 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_cst_56 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_cst_57 : Ref sig .tc := ⟨.hbm, 442, rfl⟩
abbrev main_v379 : Ref sig .tc := ⟨.hbm, 443, rfl⟩
abbrev main_v380 : Ref sig .tc := ⟨.hbm, 444, rfl⟩
abbrev main_cst_58 : Ref sig .tc := ⟨.hbm, 445, rfl⟩
abbrev main_v381 : Ref sig .tc := ⟨.hbm, 446, rfl⟩
abbrev main_v382 : Ref sig .tc := ⟨.hbm, 447, rfl⟩
abbrev main_cst_59 : Ref sig .tc := ⟨.hbm, 448, rfl⟩
abbrev main_v383 : Ref sig .tc := ⟨.hbm, 449, rfl⟩
abbrev main_v384 : Ref sig .tc := ⟨.hbm, 450, rfl⟩
abbrev main_v385 : Ref sig .tc := ⟨.hbm, 451, rfl⟩
abbrev main_cst_60 : Ref sig .tc := ⟨.hbm, 452, rfl⟩
abbrev main_v386 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_cst_61 : Ref sig .tc := ⟨.hbm, 457, rfl⟩
abbrev main_v390 : Ref sig .tc := ⟨.hbm, 458, rfl⟩
abbrev main_v391 : Ref sig .tc := ⟨.hbm, 459, rfl⟩
abbrev main_cst_62 : Ref sig .tc := ⟨.hbm, 460, rfl⟩
abbrev main_v392 : Ref sig .tc := ⟨.hbm, 461, rfl⟩
abbrev main_v393 : Ref sig .tc := ⟨.hbm, 462, rfl⟩
abbrev main_cst_63 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_cst_64 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_cst_65 : Ref sig .tc := ⟨.hbm, 472, rfl⟩
abbrev main_v401 : Ref sig .tc := ⟨.hbm, 473, rfl⟩
abbrev main_v402 : Ref sig .tc := ⟨.hbm, 474, rfl⟩
abbrev main_cst_66 : Ref sig .tc := ⟨.hbm, 475, rfl⟩
abbrev main_v403 : Ref sig .tc := ⟨.hbm, 476, rfl⟩
abbrev main_v404 : Ref sig .tc := ⟨.hbm, 477, rfl⟩
abbrev main_cst_67 : Ref sig .tc := ⟨.hbm, 478, rfl⟩
abbrev main_v405 : Ref sig .tc := ⟨.hbm, 479, rfl⟩
abbrev main_v406 : Ref sig .tc := ⟨.hbm, 480, rfl⟩
abbrev main_v407 : Ref sig .tc := ⟨.hbm, 481, rfl⟩
abbrev main_cst_68 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_cst_69 : Ref sig .tc := ⟨.hbm, 487, rfl⟩
abbrev main_v412 : Ref sig .tc := ⟨.hbm, 488, rfl⟩
abbrev main_v413 : Ref sig .tc := ⟨.hbm, 489, rfl⟩
abbrev main_cst_70 : Ref sig .tc := ⟨.hbm, 490, rfl⟩
abbrev main_v414 : Ref sig .tc := ⟨.hbm, 491, rfl⟩
abbrev main_v415 : Ref sig .tc := ⟨.hbm, 492, rfl⟩
abbrev main_cst_71 : Ref sig .tc := ⟨.hbm, 493, rfl⟩
abbrev main_v416 : Ref sig .tc := ⟨.hbm, 494, rfl⟩
abbrev main_v417 : Ref sig .tc := ⟨.hbm, 495, rfl⟩
abbrev main_v418 : Ref sig .tc := ⟨.hbm, 496, rfl⟩
abbrev main_cst_72 : Ref sig .tc := ⟨.hbm, 497, rfl⟩
abbrev main_v419 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_cst_73 : Ref sig .tc := ⟨.hbm, 502, rfl⟩
abbrev main_v423 : Ref sig .tc := ⟨.hbm, 503, rfl⟩
abbrev main_v424 : Ref sig .tc := ⟨.hbm, 504, rfl⟩
abbrev main_cst_74 : Ref sig .tc := ⟨.hbm, 505, rfl⟩
abbrev main_v425 : Ref sig .tc := ⟨.hbm, 506, rfl⟩
abbrev main_v426 : Ref sig .tc := ⟨.hbm, 507, rfl⟩
abbrev main_cst_75 : Ref sig .tc := ⟨.hbm, 508, rfl⟩
abbrev main_v427 : Ref sig .tc := ⟨.hbm, 509, rfl⟩
abbrev main_v428 : Ref sig .tc := ⟨.hbm, 510, rfl⟩
abbrev main_v429 : Ref sig .tc := ⟨.hbm, 511, rfl⟩
abbrev main_cst_76 : Ref sig .tc := ⟨.hbm, 512, rfl⟩
abbrev main_v430 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_cst_77 : Ref sig .tc := ⟨.hbm, 517, rfl⟩
abbrev main_v434 : Ref sig .tc := ⟨.hbm, 518, rfl⟩
abbrev main_v435 : Ref sig .tc := ⟨.hbm, 519, rfl⟩
abbrev main_cst_78 : Ref sig .tc := ⟨.hbm, 520, rfl⟩
abbrev main_v436 : Ref sig .tc := ⟨.hbm, 521, rfl⟩
abbrev main_v437 : Ref sig .tc := ⟨.hbm, 522, rfl⟩
abbrev main_cst_79 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_cst_80 : Ref sig .tc := ⟨.hbm, 527, rfl⟩
abbrev main_v441 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_cst_81 : Ref sig .tc := ⟨.hbm, 532, rfl⟩
abbrev main_v445 : Ref sig .tc := ⟨.hbm, 533, rfl⟩
abbrev main_v446 : Ref sig .tc := ⟨.hbm, 534, rfl⟩
abbrev main_cst_82 : Ref sig .tc := ⟨.hbm, 535, rfl⟩
abbrev main_v447 : Ref sig .tc := ⟨.hbm, 536, rfl⟩
abbrev main_v448 : Ref sig .tc := ⟨.hbm, 537, rfl⟩
abbrev main_cst_83 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_cst_84 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_cst_85 : Ref sig .tc := ⟨.hbm, 547, rfl⟩
abbrev main_v456 : Ref sig .tc := ⟨.hbm, 548, rfl⟩
abbrev main_v457 : Ref sig .tc := ⟨.hbm, 549, rfl⟩
abbrev main_cst_86 : Ref sig .tc := ⟨.hbm, 550, rfl⟩
abbrev main_v458 : Ref sig .tc := ⟨.hbm, 551, rfl⟩
abbrev main_v459 : Ref sig .tc := ⟨.hbm, 552, rfl⟩
abbrev main_cst_87 : Ref sig .tc := ⟨.hbm, 553, rfl⟩
abbrev main_v460 : Ref sig .tc := ⟨.hbm, 554, rfl⟩
abbrev main_v461 : Ref sig .tc := ⟨.hbm, 555, rfl⟩
abbrev main_v462 : Ref sig .tc := ⟨.hbm, 556, rfl⟩
abbrev main_cst_88 : Ref sig .tc := ⟨.hbm, 557, rfl⟩
abbrev main_v463 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_cst_89 : Ref sig .tc := ⟨.hbm, 562, rfl⟩
abbrev main_v467 : Ref sig .tc := ⟨.hbm, 563, rfl⟩
abbrev main_v468 : Ref sig .tc := ⟨.hbm, 564, rfl⟩
abbrev main_cst_90 : Ref sig .tc := ⟨.hbm, 565, rfl⟩
abbrev main_v469 : Ref sig .tc := ⟨.hbm, 566, rfl⟩
abbrev main_v470 : Ref sig .tc := ⟨.hbm, 567, rfl⟩
abbrev main_cst_91 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_cst_92 : Ref sig .tc := ⟨.hbm, 572, rfl⟩
abbrev main_v474 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_cst_93 : Ref sig .tc := ⟨.hbm, 577, rfl⟩
abbrev main_v478 : Ref sig .tc := ⟨.hbm, 578, rfl⟩
abbrev main_v479 : Ref sig .tc := ⟨.hbm, 579, rfl⟩
abbrev main_cst_94 : Ref sig .tc := ⟨.hbm, 580, rfl⟩
abbrev main_v480 : Ref sig .tc := ⟨.hbm, 581, rfl⟩
abbrev main_v481 : Ref sig .tc := ⟨.hbm, 582, rfl⟩
abbrev main_cst_95 : Ref sig .tc := ⟨.hbm, 583, rfl⟩
abbrev main_v482 : Ref sig .tc := ⟨.hbm, 584, rfl⟩
abbrev main_v483 : Ref sig .tc := ⟨.hbm, 585, rfl⟩
abbrev main_v484 : Ref sig .tc := ⟨.hbm, 586, rfl⟩
abbrev main_cst_96 : Ref sig .tc := ⟨.hbm, 587, rfl⟩
abbrev main_v485 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_cst_97 : Ref sig .tc := ⟨.hbm, 592, rfl⟩
abbrev main_v489 : Ref sig .tc := ⟨.hbm, 593, rfl⟩
abbrev main_v490 : Ref sig .tc := ⟨.hbm, 594, rfl⟩
abbrev main_cst_98 : Ref sig .tc := ⟨.hbm, 595, rfl⟩
abbrev main_v491 : Ref sig .tc := ⟨.hbm, 596, rfl⟩
abbrev main_v492 : Ref sig .tc := ⟨.hbm, 597, rfl⟩
abbrev main_cst_99 : Ref sig .tc := ⟨.hbm, 598, rfl⟩
abbrev main_v493 : Ref sig .tc := ⟨.hbm, 599, rfl⟩
abbrev main_v494 : Ref sig .tc := ⟨.hbm, 600, rfl⟩
abbrev main_v495 : Ref sig .tc := ⟨.hbm, 601, rfl⟩
abbrev main_cst_100 : Ref sig .tc := ⟨.hbm, 602, rfl⟩
abbrev main_v496 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_cst_101 : Ref sig .tc := ⟨.hbm, 607, rfl⟩
abbrev main_v500 : Ref sig .tc := ⟨.hbm, 608, rfl⟩
abbrev main_v501 : Ref sig .tc := ⟨.hbm, 609, rfl⟩
abbrev main_cst_102 : Ref sig .tc := ⟨.hbm, 610, rfl⟩
abbrev main_v502 : Ref sig .tc := ⟨.hbm, 611, rfl⟩
abbrev main_v503 : Ref sig .tc := ⟨.hbm, 612, rfl⟩
abbrev main_cst_103 : Ref sig .tc := ⟨.hbm, 613, rfl⟩
abbrev main_v504 : Ref sig .tc := ⟨.hbm, 614, rfl⟩
abbrev main_v505 : Ref sig .tc := ⟨.hbm, 615, rfl⟩
abbrev main_v506 : Ref sig .tc := ⟨.hbm, 616, rfl⟩
abbrev main_cst_104 : Ref sig .tc := ⟨.hbm, 617, rfl⟩
abbrev main_v507 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_cst_105 : Ref sig .tc := ⟨.hbm, 622, rfl⟩
abbrev main_v511 : Ref sig .tc := ⟨.hbm, 623, rfl⟩
abbrev main_v512 : Ref sig .tc := ⟨.hbm, 624, rfl⟩
abbrev main_cst_106 : Ref sig .tc := ⟨.hbm, 625, rfl⟩
abbrev main_v513 : Ref sig .tc := ⟨.hbm, 626, rfl⟩
abbrev main_v514 : Ref sig .tc := ⟨.hbm, 627, rfl⟩
abbrev main_cst_107 : Ref sig .tc := ⟨.hbm, 628, rfl⟩
abbrev main_v515 : Ref sig .tc := ⟨.hbm, 629, rfl⟩
abbrev main_v516 : Ref sig .tc := ⟨.hbm, 630, rfl⟩
abbrev main_v517 : Ref sig .tc := ⟨.hbm, 631, rfl⟩
abbrev main_cst_108 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_cst_109 : Ref sig .tc := ⟨.hbm, 637, rfl⟩
abbrev main_v522 : Ref sig .tc := ⟨.hbm, 638, rfl⟩
abbrev main_v523 : Ref sig .tc := ⟨.hbm, 639, rfl⟩
abbrev main_cst_110 : Ref sig .tc := ⟨.hbm, 640, rfl⟩
abbrev main_v524 : Ref sig .tc := ⟨.hbm, 641, rfl⟩
abbrev main_v525 : Ref sig .tc := ⟨.hbm, 642, rfl⟩
abbrev main_cst_111 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_cst_112 : Ref sig .tc := ⟨.hbm, 647, rfl⟩
abbrev main_v529 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_cst_113 : Ref sig .tc := ⟨.hbm, 652, rfl⟩
abbrev main_v533 : Ref sig .tc := ⟨.hbm, 653, rfl⟩
abbrev main_v534 : Ref sig .tc := ⟨.hbm, 654, rfl⟩
abbrev main_cst_114 : Ref sig .tc := ⟨.hbm, 655, rfl⟩
abbrev main_v535 : Ref sig .tc := ⟨.hbm, 656, rfl⟩
abbrev main_v536 : Ref sig .tc := ⟨.hbm, 657, rfl⟩
abbrev main_cst_115 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_cst_116 : Ref sig .tc := ⟨.hbm, 662, rfl⟩
abbrev main_v540 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_cst_117 : Ref sig .tc := ⟨.hbm, 667, rfl⟩
abbrev main_v544 : Ref sig .tc := ⟨.hbm, 668, rfl⟩
abbrev main_v545 : Ref sig .tc := ⟨.hbm, 669, rfl⟩
abbrev main_cst_118 : Ref sig .tc := ⟨.hbm, 670, rfl⟩
abbrev main_v546 : Ref sig .tc := ⟨.hbm, 671, rfl⟩
abbrev main_v547 : Ref sig .tc := ⟨.hbm, 672, rfl⟩
abbrev main_cst_119 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_cst_120 : Ref sig .tc := ⟨.hbm, 677, rfl⟩
abbrev main_v551 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_cst_121 : Ref sig .tc := ⟨.hbm, 682, rfl⟩
abbrev main_v555 : Ref sig .tc := ⟨.hbm, 683, rfl⟩
abbrev main_v556 : Ref sig .tc := ⟨.hbm, 684, rfl⟩
abbrev main_cst_122 : Ref sig .tc := ⟨.hbm, 685, rfl⟩
abbrev main_v557 : Ref sig .tc := ⟨.hbm, 686, rfl⟩
abbrev main_v558 : Ref sig .tc := ⟨.hbm, 687, rfl⟩
abbrev main_cst_123 : Ref sig .tc := ⟨.hbm, 688, rfl⟩
abbrev main_v559 : Ref sig .tc := ⟨.hbm, 689, rfl⟩
abbrev main_v560 : Ref sig .tc := ⟨.hbm, 690, rfl⟩
abbrev main_v561 : Ref sig .tc := ⟨.hbm, 691, rfl⟩
abbrev main_cst_124 : Ref sig .tc := ⟨.hbm, 692, rfl⟩
abbrev main_v562 : Ref sig .tc := ⟨.hbm, 693, rfl⟩
abbrev main_v563 : Ref sig .tc := ⟨.hbm, 694, rfl⟩
abbrev main_v564 : Ref sig .tc := ⟨.hbm, 695, rfl⟩
abbrev main_v565 : Ref sig .tc := ⟨.hbm, 696, rfl⟩
abbrev main_cst_125 : Ref sig .tc := ⟨.hbm, 697, rfl⟩
abbrev main_v566 : Ref sig .tc := ⟨.hbm, 698, rfl⟩
abbrev main_v567 : Ref sig .tc := ⟨.hbm, 699, rfl⟩
abbrev main_cst_126 : Ref sig .tc := ⟨.hbm, 700, rfl⟩
abbrev main_v568 : Ref sig .tc := ⟨.hbm, 701, rfl⟩
abbrev main_v569 : Ref sig .tc := ⟨.hbm, 702, rfl⟩
abbrev main_cst_127 : Ref sig .tc := ⟨.hbm, 703, rfl⟩
abbrev main_v570 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_v574 : Ref sig .tc := ⟨.hbm, 708, rfl⟩
abbrev main_v575 : Ref sig .tc := ⟨.hbm, 709, rfl⟩
abbrev main_v576 : Ref sig .tc := ⟨.hbm, 710, rfl⟩
abbrev main_v577 : Ref sig .tc := ⟨.hbm, 711, rfl⟩
abbrev main_call0_call0_cst : Ref sig .tc := ⟨.hbm, 712, rfl⟩
abbrev main_call0_call0_v0 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_cst_128 : Ref sig .tc := ⟨.hbm, 717, rfl⟩
abbrev main_v581 : Ref sig .tc := ⟨.hbm, 718, rfl⟩
abbrev main_v582 : Ref sig .tc := ⟨.hbm, 719, rfl⟩
abbrev main_v583 : Ref sig .tc := ⟨.hbm, 720, rfl⟩
abbrev main_cst_129 : Ref sig .tc := ⟨.hbm, 721, rfl⟩
abbrev main_v584 : Ref sig .tc := ⟨.hbm, 722, rfl⟩
abbrev main_c : Ref sig .tc := ⟨.hbm, 723, rfl⟩
abbrev main_v585 : Ref sig .tc := ⟨.hbm, 724, rfl⟩
abbrev main_v586 : Ref sig .tc := ⟨.hbm, 725, rfl⟩
abbrev main_c_130 : Ref sig .tc := ⟨.hbm, 726, rfl⟩
abbrev main_v587 : Ref sig .tc := ⟨.hbm, 727, rfl⟩
abbrev main_v588 : Ref sig .tc := ⟨.hbm, 728, rfl⟩
abbrev main_v589 : Ref sig .tc := ⟨.hbm, 729, rfl⟩
abbrev main_v590 : Ref sig .tc := ⟨.hbm, 730, rfl⟩
abbrev main_v591 : Ref sig .tc := ⟨.hbm, 731, rfl⟩
abbrev main_v592 : Ref sig .tc := ⟨.hbm, 732, rfl⟩
abbrev main_v593 : Ref sig .tc := ⟨.hbm, 733, rfl⟩
abbrev main_v594 : Ref sig .tc := ⟨.hbm, 734, rfl⟩
abbrev main_v595 : Ref sig .tc := ⟨.hbm, 735, rfl⟩
abbrev main_v596 : Ref sig .tc := ⟨.hbm, 736, rfl⟩
abbrev main_cst_131 : Ref sig .tc := ⟨.hbm, 737, rfl⟩
abbrev main_v597 : Ref sig .tc := ⟨.hbm, 738, rfl⟩
abbrev main_v598 : Ref sig .tc := ⟨.hbm, 739, rfl⟩
abbrev main_v599 : Ref sig .tc := ⟨.hbm, 740, rfl⟩
abbrev main_cst_132 : Ref sig .tc := ⟨.hbm, 741, rfl⟩
abbrev main_v600 : Ref sig .tc := ⟨.hbm, 742, rfl⟩
abbrev main_c_133 : Ref sig .tc := ⟨.hbm, 743, rfl⟩
abbrev main_v601 : Ref sig .tc := ⟨.hbm, 744, rfl⟩
abbrev main_v602 : Ref sig .tc := ⟨.hbm, 745, rfl⟩
abbrev main_c_134 : Ref sig .tc := ⟨.hbm, 746, rfl⟩
abbrev main_v603 : Ref sig .tc := ⟨.hbm, 747, rfl⟩
abbrev main_v604 : Ref sig .tc := ⟨.hbm, 748, rfl⟩
abbrev main_v605 : Ref sig .tc := ⟨.hbm, 749, rfl⟩
abbrev main_v606 : Ref sig .tc := ⟨.hbm, 750, rfl⟩
abbrev main_v607 : Ref sig .tc := ⟨.hbm, 751, rfl⟩
abbrev main_v608 : Ref sig .tc := ⟨.hbm, 752, rfl⟩
abbrev main_v609 : Ref sig .tc := ⟨.hbm, 753, rfl⟩
abbrev main_v610 : Ref sig .tc := ⟨.hbm, 754, rfl⟩
abbrev main_v611 : Ref sig .tc := ⟨.hbm, 755, rfl⟩
abbrev main_v612 : Ref sig .tc := ⟨.hbm, 756, rfl⟩
abbrev main_cst_135 : Ref sig .tc := ⟨.hbm, 757, rfl⟩
abbrev main_v613 : Ref sig .tc := ⟨.hbm, 758, rfl⟩
abbrev main_v614 : Ref sig .tc := ⟨.hbm, 759, rfl⟩
abbrev main_v615 : Ref sig .tc := ⟨.hbm, 760, rfl⟩
abbrev main_cst_136 : Ref sig .tc := ⟨.hbm, 761, rfl⟩
abbrev main_v616 : Ref sig .tc := ⟨.hbm, 762, rfl⟩
abbrev main_c_137 : Ref sig .tc := ⟨.hbm, 763, rfl⟩
abbrev main_v617 : Ref sig .tc := ⟨.hbm, 764, rfl⟩
abbrev main_v618 : Ref sig .tc := ⟨.hbm, 765, rfl⟩
abbrev main_c_138 : Ref sig .tc := ⟨.hbm, 766, rfl⟩
abbrev main_v619 : Ref sig .tc := ⟨.hbm, 767, rfl⟩
abbrev main_v620 : Ref sig .tc := ⟨.hbm, 768, rfl⟩
abbrev main_v621 : Ref sig .tc := ⟨.hbm, 769, rfl⟩
abbrev main_v622 : Ref sig .tc := ⟨.hbm, 770, rfl⟩
abbrev main_v623 : Ref sig .tc := ⟨.hbm, 771, rfl⟩
abbrev main_v624 : Ref sig .tc := ⟨.hbm, 772, rfl⟩
abbrev main_v625 : Ref sig .tc := ⟨.hbm, 773, rfl⟩
abbrev main_v626 : Ref sig .tc := ⟨.hbm, 774, rfl⟩
abbrev main_v627 : Ref sig .tc := ⟨.hbm, 775, rfl⟩
abbrev main_v628 : Ref sig .tc := ⟨.hbm, 776, rfl⟩
abbrev main_cst_139 : Ref sig .tc := ⟨.hbm, 777, rfl⟩
abbrev main_v629 : Ref sig .tc := ⟨.hbm, 778, rfl⟩
abbrev main_v630 : Ref sig .tc := ⟨.hbm, 779, rfl⟩
abbrev main_v631 : Ref sig .tc := ⟨.hbm, 780, rfl⟩
abbrev main_cst_140 : Ref sig .tc := ⟨.hbm, 781, rfl⟩
abbrev main_v632 : Ref sig .tc := ⟨.hbm, 782, rfl⟩
abbrev main_c_141 : Ref sig .tc := ⟨.hbm, 783, rfl⟩
abbrev main_v633 : Ref sig .tc := ⟨.hbm, 784, rfl⟩
abbrev main_v634 : Ref sig .tc := ⟨.hbm, 785, rfl⟩
abbrev main_c_142 : Ref sig .tc := ⟨.hbm, 786, rfl⟩
abbrev main_v635 : Ref sig .tc := ⟨.hbm, 787, rfl⟩
abbrev main_v636 : Ref sig .tc := ⟨.hbm, 788, rfl⟩
abbrev main_v637 : Ref sig .tc := ⟨.hbm, 789, rfl⟩
abbrev main_v638 : Ref sig .tc := ⟨.hbm, 790, rfl⟩
abbrev main_v639 : Ref sig .tc := ⟨.hbm, 791, rfl⟩
abbrev main_v640 : Ref sig .tc := ⟨.hbm, 792, rfl⟩
abbrev main_v641 : Ref sig .tc := ⟨.hbm, 793, rfl⟩
abbrev main_v642 : Ref sig .tc := ⟨.hbm, 794, rfl⟩
abbrev main_v643 : Ref sig .tc := ⟨.hbm, 795, rfl⟩
abbrev main_v644 : Ref sig .tc := ⟨.hbm, 796, rfl⟩
abbrev main_v645 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_v649 : Ref sig .tc := ⟨.hbm, 801, rfl⟩
abbrev main_v650 : Ref sig .tc := ⟨.hbm, 802, rfl⟩
abbrev main_v651 : Ref sig .tc := ⟨.hbm, 803, rfl⟩
abbrev main_v652 : Ref sig .tc := ⟨.hbm, 804, rfl⟩
abbrev main_v653 : Ref sig .tc := ⟨.hbm, 805, rfl⟩
abbrev main_v654 : Ref sig .tc := ⟨.hbm, 806, rfl⟩
abbrev main_v655 : Ref sig .tc := ⟨.hbm, 807, rfl⟩
abbrev main_v656 : Ref sig .tc := ⟨.hbm, 808, rfl⟩
abbrev main_v657 : Ref sig .tc := ⟨.hbm, 809, rfl⟩
abbrev main_v658 : Ref sig .tc := ⟨.hbm, 810, rfl⟩
abbrev main_v659 : Ref sig .tc := ⟨.hbm, 811, rfl⟩
abbrev main_cst_143 : Ref sig .tc := ⟨.hbm, 812, rfl⟩
abbrev main_v660 : Ref sig .tc := ⟨.hbm, 813, rfl⟩
abbrev main_v661 : Ref sig .tc := ⟨.hbm, 814, rfl⟩
abbrev main_v662 : Ref sig .tc := ⟨.hbm, 815, rfl⟩
abbrev main_v663 : Ref sig .tc := ⟨.hbm, 816, rfl⟩
abbrev main_v664 : Ref sig .tc := ⟨.hbm, 817, rfl⟩
abbrev main_v665 : Ref sig .tc := ⟨.hbm, 818, rfl⟩
abbrev main_cst_144 : Ref sig .tc := ⟨.hbm, 819, rfl⟩
abbrev main_v666 : Ref sig .tc := ⟨.hbm, 820, rfl⟩
abbrev main_v667 : Ref sig .tc := ⟨.hbm, 821, rfl⟩
abbrev main_cst_145 : Ref sig .tc := ⟨.hbm, 822, rfl⟩
abbrev main_v668 : Ref sig .tc := ⟨.hbm, 823, rfl⟩
abbrev main_v669 : Ref sig .tc := ⟨.hbm, 824, rfl⟩
abbrev main_cst_146 : Ref sig .tc := ⟨.hbm, 825, rfl⟩
abbrev main_v670 : Ref sig .tc := ⟨.hbm, 826, rfl⟩
abbrev main_v671 : Ref sig .tc := ⟨.hbm, 827, rfl⟩
abbrev main_v672 : Ref sig .tc := ⟨.hbm, 828, rfl⟩
abbrev main_v673 : Ref sig .tc := ⟨.hbm, 829, rfl⟩
abbrev main_v674 : Ref sig .tc := ⟨.hbm, 830, rfl⟩
abbrev main_v675 : Ref sig .tc := ⟨.hbm, 831, rfl⟩
abbrev main_v676 : Ref sig .tc := ⟨.hbm, 832, rfl⟩
abbrev main_cst_147 : Ref sig .tc := ⟨.hbm, 833, rfl⟩
abbrev main_v677 : Ref sig .tc := ⟨.hbm, 834, rfl⟩
abbrev main_v678 : Ref sig .tc := ⟨.hbm, 835, rfl⟩
abbrev main_cst_148 : Ref sig .tc := ⟨.hbm, 836, rfl⟩
abbrev main_v679 : Ref sig .tc := ⟨.hbm, 837, rfl⟩
abbrev main_v680 : Ref sig .tc := ⟨.hbm, 838, rfl⟩
abbrev main_v681 : Ref sig .tc := ⟨.hbm, 839, rfl⟩
abbrev main_cst_149 : Ref sig .tc := ⟨.hbm, 840, rfl⟩
abbrev main_v682 : Ref sig .tc := ⟨.hbm, 841, rfl⟩
abbrev main_v683 : Ref sig .tc := ⟨.hbm, 842, rfl⟩
abbrev main_v684 : Ref sig .tc := ⟨.hbm, 843, rfl⟩
abbrev main_v685 : Ref sig .tc := ⟨.hbm, 844, rfl⟩
abbrev main_v686 : Ref sig .tc := ⟨.hbm, 845, rfl⟩
abbrev main_v687 : Ref sig .tc := ⟨.hbm, 846, rfl⟩
abbrev main_v688 : Ref sig .tc := ⟨.hbm, 847, rfl⟩
abbrev main_cst_150 : Ref sig .tc := ⟨.hbm, 848, rfl⟩
abbrev main_v689 : Ref sig .tc := ⟨.hbm, 849, rfl⟩
abbrev main_v690 : Ref sig .tc := ⟨.hbm, 850, rfl⟩
abbrev main_cst_151 : Ref sig .tc := ⟨.hbm, 851, rfl⟩
abbrev main_v691 : Ref sig .tc := ⟨.hbm, 852, rfl⟩
abbrev main_v692 : Ref sig .tc := ⟨.hbm, 853, rfl⟩
abbrev main_v693 : Ref sig .tc := ⟨.hbm, 854, rfl⟩
abbrev main_cst_152 : Ref sig .tc := ⟨.hbm, 855, rfl⟩
abbrev main_v694 : Ref sig .tc := ⟨.hbm, 856, rfl⟩
abbrev main_v695 : Ref sig .tc := ⟨.hbm, 857, rfl⟩
abbrev main_v696 : Ref sig .tc := ⟨.hbm, 858, rfl⟩
abbrev main_v697 : Ref sig .tc := ⟨.hbm, 859, rfl⟩
abbrev main_v698 : Ref sig .tc := ⟨.hbm, 860, rfl⟩
abbrev main_v699 : Ref sig .tc := ⟨.hbm, 861, rfl⟩
abbrev main_v700 : Ref sig .tc := ⟨.hbm, 862, rfl⟩
abbrev main_cst_153 : Ref sig .tc := ⟨.hbm, 863, rfl⟩
abbrev main_v701 : Ref sig .tc := ⟨.hbm, 864, rfl⟩
abbrev main_v702 : Ref sig .tc := ⟨.hbm, 865, rfl⟩
abbrev main_cst_154 : Ref sig .tc := ⟨.hbm, 866, rfl⟩
abbrev main_v703 : Ref sig .tc := ⟨.hbm, 867, rfl⟩
abbrev main_v704 : Ref sig .tc := ⟨.hbm, 868, rfl⟩
abbrev main_call1_call0_cst : Ref sig .tc := ⟨.hbm, 869, rfl⟩
abbrev main_call1_call0_v0 : Ref sig .tc := ⟨.hbm, 870, rfl⟩
abbrev main_v705 : Ref sig .tc := ⟨.hbm, 871, rfl⟩
abbrev main_v706 : Ref sig .tc := ⟨.hbm, 872, rfl⟩
abbrev main_v707 : Ref sig .tc := ⟨.hbm, 873, rfl⟩
abbrev main_v708 : Ref sig .tc := ⟨.hbm, 874, rfl⟩
abbrev main_v709 : Ref sig .tc := ⟨.hbm, 875, rfl⟩
abbrev main_v710 : Ref sig .tc := ⟨.hbm, 876, rfl⟩
abbrev main_v711 : Ref sig .tc := ⟨.hbm, 877, rfl⟩
abbrev main_v712 : Ref sig .tc := ⟨.hbm, 878, rfl⟩
abbrev main_v713 : Ref sig .tc := ⟨.hbm, 879, rfl⟩
abbrev main_c_155 : Ref sig .tc := ⟨.hbm, 880, rfl⟩
abbrev main_call2_v0 : Ref sig .tc := ⟨.hbm, 881, rfl⟩
abbrev main_v714 : Ref sig .tc := ⟨.hbm, 882, rfl⟩

abbrev nD : Nat := 1
abbrev τ : Topo := Topo.v7x

variable {F : FTy → Type} [FloatOps F]
-- ==== InBwd.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S8192x512 : Shape := ⟨2, ![8192, 512]⟩
abbrev S1x8192x512 : Shape := ⟨3, ![1, 8192, 512]⟩
abbrev S3x8192x512 : Shape := ⟨3, ![3, 8192, 512]⟩
abbrev S9x8192x512 : Shape := ⟨3, ![9, 8192, 512]⟩
abbrev S1x1024 : Shape := ⟨2, ![1, 1024]⟩
abbrev S1x1024x7680 : Shape := ⟨3, ![1, 1024, 7680]⟩
abbrev S512x1024 : Shape := ⟨2, ![512, 1024]⟩
abbrev S3x512x512 : Shape := ⟨3, ![3, 512, 512]⟩
abbrev S9x512x512 : Shape := ⟨3, ![9, 512, 512]⟩
abbrev S512x512 : Shape := ⟨2, ![512, 512]⟩
abbrev S1x512x512 : Shape := ⟨3, ![1, 512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 54
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x512, .bf16⟩
  | .hbm, ⟨11, _⟩ => ⟨S1x8192x512, .bf16⟩
  | .hbm, ⟨12, _⟩ => ⟨S1x8192x512, .bf16⟩
  | .hbm, ⟨13, _⟩ => ⟨S1x8192x512, .bf16⟩
  | .hbm, ⟨14, _⟩ => ⟨S3x8192x512, .bf16⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .bf16⟩
  | .hbm, ⟨25, _⟩ => ⟨S8192x512, .f32⟩
  | .hbm, ⟨26, _⟩ => ⟨S8192x512, .bf16⟩
  | .hbm, ⟨27, _⟩ => ⟨S8192x512, .f32⟩
  | .hbm, ⟨28, _⟩ => ⟨S8192x512, .bf16⟩
  | .hbm, ⟨29, _⟩ => ⟨S8192x512, .f32⟩
  | .hbm, ⟨30, _⟩ => ⟨S8192x512, .bf16⟩
  | .hbm, ⟨31, _⟩ => ⟨S8192x512, .f32⟩
  | .hbm, ⟨32, _⟩ => ⟨S8192x512, .bf16⟩
  | .hbm, ⟨33, _⟩ => ⟨S1x8192x512, .bf16⟩
  | .hbm, ⟨34, _⟩ => ⟨S1x8192x512, .bf16⟩
  | .hbm, ⟨35, _⟩ => ⟨S1x8192x512, .bf16⟩
  | .hbm, ⟨36, _⟩ => ⟨S1x8192x512, .bf16⟩
  | .hbm, ⟨37, _⟩ => ⟨S1x8192x512, .bf16⟩
  | .hbm, ⟨38, _⟩ => ⟨S1x8192x512, .bf16⟩
  | .hbm, ⟨39, _⟩ => ⟨S1x8192x512, .bf16⟩
  | .hbm, ⟨40, _⟩ => ⟨S1x8192x512, .bf16⟩
  | .hbm, ⟨41, _⟩ => ⟨S1x8192x512, .bf16⟩
  | .hbm, ⟨42, _⟩ => ⟨S9x8192x512, .bf16⟩
  | .hbm, ⟨43, _⟩ => ⟨S1x1024, .f32⟩
  | .hbm, ⟨44, _⟩ => ⟨S1024x7680, .bf16⟩
  | .hbm, ⟨45, _⟩ => ⟨S1x1024x7680, .bf16⟩
  | .hbm, ⟨46, _⟩ => ⟨S8192x512, .f32⟩
  | .hbm, ⟨47, _⟩ => ⟨S8192x512, .bf16⟩
  | .hbm, ⟨48, _⟩ => ⟨S8192x512, .f32⟩
  | .hbm, ⟨49, _⟩ => ⟨S8192x512, .bf16⟩
  | .hbm, ⟨50, _⟩ => ⟨S8192x512, .f32⟩
  | .hbm, ⟨51, _⟩ => ⟨S8192x512, .bf16⟩
  | .hbm, ⟨52, _⟩ => ⟨S8192x1024, .f32⟩
  | .hbm, ⟨53, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x7680, .bf16⟩
  | .local _ .vmem, ⟨4, _⟩ => ⟨S3x512x512, .bf16⟩
  | .local _ .vmem, ⟨5, _⟩ => ⟨S3x512x512, .bf16⟩
  | .local _ .vmem, ⟨6, _⟩ => ⟨S9x512x512, .bf16⟩
  | .local _ .vmem, ⟨7, _⟩ => ⟨S9x512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47_0 : Ref sig .tc := ⟨.hbm, 52, rfl⟩
abbrev main_v47_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S9x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7680, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== InW.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S8192x512 : Shape := ⟨2, ![8192, 512]⟩
abbrev S1x8192x512 : Shape := ⟨3, ![1, 8192, 512]⟩
abbrev S3x8192x512 : Shape := ⟨3, ![3, 8192, 512]⟩
abbrev S9x8192x512 : Shape := ⟨3, ![9, 8192, 512]⟩
abbrev S1x1024 : Shape := ⟨2, ![1, 1024]⟩
abbrev S512x1024 : Shape := ⟨2, ![512, 1024]⟩
abbrev S3x512x512 : Shape := ⟨3, ![3, 512, 512]⟩
abbrev S9x512x512 : Shape := ⟨3, ![9, 512, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x512x512 : Shape := ⟨3, ![1, 512, 512]⟩
abbrev S_ : Shape := ⟨0, ![]⟩

abbrev nBuf : Space → Nat
  | .hbm => 50
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .bf16⟩
  | .hbm, ⟨10, _⟩ => ⟨S1x8192x512, .bf16⟩
  | .hbm, ⟨11, _⟩ => ⟨S1x8192x512, .bf16⟩
  | .hbm, ⟨12, _⟩ => ⟨S1x8192x512, .bf16⟩
  | .hbm, ⟨13, _⟩ => ⟨S3x8192x512, .bf16⟩
  | .hbm, ⟨14, _⟩ => ⟨S8192x512, .f32⟩
  | .hbm, ⟨15, _⟩ => ⟨S8192x512, .bf16⟩
  | .hbm, ⟨16, _⟩ => ⟨S8192x512, .f32⟩
  | .hbm, ⟨17, _⟩ => ⟨S8192x512, .bf16⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S8192x512, .bf16⟩
  | .hbm, ⟨22, _⟩ => ⟨S8192x512, .f32⟩
  | .hbm, ⟨23, _⟩ => ⟨S8192x512, .bf16⟩
  | .hbm, ⟨24, _⟩ => ⟨S8192x512, .f32⟩
  | .hbm, ⟨25, _⟩ => ⟨S8192x512, .bf16⟩
  | .hbm, ⟨26, _⟩ => ⟨S8192x512, .f32⟩
  | .hbm, ⟨27, _⟩ => ⟨S8192x512, .bf16⟩
  | .hbm, ⟨28, _⟩ => ⟨S8192x512, .f32⟩
  | .hbm, ⟨29, _⟩ => ⟨S8192x512, .bf16⟩
  | .hbm, ⟨30, _⟩ => ⟨S8192x512, .f32⟩
  | .hbm, ⟨31, _⟩ => ⟨S8192x512, .bf16⟩
  | .hbm, ⟨32, _⟩ => ⟨S1x8192x512, .bf16⟩
  | .hbm, ⟨33, _⟩ => ⟨S1x8192x512, .bf16⟩
  | .hbm, ⟨34, _⟩ => ⟨S1x8192x512, .bf16⟩
  | .hbm, ⟨35, _⟩ => ⟨S1x8192x512, .bf16⟩
  | .hbm, ⟨36, _⟩ => ⟨S1x8192x512, .bf16⟩
  | .hbm, ⟨37, _⟩ => ⟨S1x8192x512, .bf16⟩
  | .hbm, ⟨38, _⟩ => ⟨S1x8192x512, .bf16⟩
  | .hbm, ⟨39, _⟩ => ⟨S1x8192x512, .bf16⟩
  | .hbm, ⟨40, _⟩ => ⟨S1x8192x512, .bf16⟩
  | .hbm, ⟨41, _⟩ => ⟨S9x8192x512, .bf16⟩
  | .hbm, ⟨42, _⟩ => ⟨S1x1024, .f32⟩
  | .hbm, ⟨43, _⟩ => ⟨S8192x512, .f32⟩
  | .hbm, ⟨44, _⟩ => ⟨S8192x512, .bf16⟩
  | .hbm, ⟨45, _⟩ => ⟨S8192x512, .f32⟩
  | .hbm, ⟨46, _⟩ => ⟨S8192x512, .bf16⟩
  | .hbm, ⟨47, _⟩ => ⟨S8192x512, .f32⟩
  | .hbm, ⟨48, _⟩ => ⟨S8192x512, .bf16⟩
  | .hbm, ⟨49, _⟩ => ⟨S1024x7680, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512x512, .bf16⟩
  | .local _ .vmem, ⟨4, _⟩ => ⟨S3x512x512, .bf16⟩
  | .local _ .vmem, ⟨5, _⟩ => ⟨S9x512x512, .bf16⟩
  | .local _ .vmem, ⟨6, _⟩ => ⟨S9x512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x7680, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S9x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InWRefIdeal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7680x1024 : Shape := ⟨2, ![7680, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x7680, .f32⟩
  | .hbm, ⟨21, _⟩ => ⟨S7680x1024, .f32⟩
  | .hbm, ⟨22, _⟩ => ⟨S1024x7680, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== InFwd.lean ====
abbrev S8192x1024 : Shape := ⟨2, ![8192, 1024]⟩
abbrev S2x1024 : Shape := ⟨2, ![2, 1024]⟩
abbrev S2x1024x7680 : Shape := ⟨3, ![2, 1024, 7680]⟩
abbrev S1x1024 : Shape := ⟨2, ![1, 1024]⟩
abbrev S1024 : Shape := ⟨1, ![1024]⟩
abbrev S15x8192x512 : Shape := ⟨3, ![15, 8192, 512]⟩
abbrev S3x8192x512 : Shape := ⟨3, ![3, 8192, 512]⟩
abbrev S512x1024 : Shape := ⟨2, ![512, 1024]⟩
abbrev S1x1024x7680 : Shape := ⟨3, ![1, 1024, 7680]⟩
abbrev S15x512x512 : Shape := ⟨3, ![15, 512, 512]⟩
abbrev S3x512x512 : Shape := ⟨3, ![3, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024x7680, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2x1024x7680, .bf16⟩
  | .hbm, ⟨7, _⟩ => ⟨S15x8192x512, .f32⟩
  | .hbm, ⟨8, _⟩ => ⟨S3x8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x7680, .bf16⟩
  | .local _ .vmem, ⟨4, _⟩ => ⟨S15x512x512, .f32⟩
  | .local _ .vmem, ⟨5, _⟩ => ⟨S15x512x512, .f32⟩
  | .local _ .vmem, ⟨6, _⟩ => ⟨S3x512x512, .bf16⟩
  | .local _ .vmem, ⟨7, _⟩ => ⟨S3x512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S2x1024 : Shape := ⟨2, ![2, 1024]⟩
abbrev S2x1024x7680 : Shape := ⟨3, ![2, 1024, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024 : Shape := ⟨1, ![1024]⟩
abbrev S1x1024x7680 : Shape := ⟨3, ![1, 1024, 7680]⟩
abbrev S1024x7680 : Shape := ⟨2, ![1024, 7680]⟩
abbrev S8192x7680 : Shape := ⟨2, ![8192, 7680]⟩
abbrev S8192x15x512 : Shape := ⟨3, ![8192, 15, 512]⟩
abbrev S15x8192x512 : Shape := ⟨3, ![15, 8192, 512]⟩
abbrev S3x8192x512 : Shape := ⟨3, ![3, 8192, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024x7680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024x7680, .f32⟩
  | .hbm, ⟨22, _⟩ => ⟨S1024x7680, .f32⟩
  | .hbm, ⟨23, _⟩ => ⟨S8192x7680, .f32⟩
  | .hbm, ⟨24, _⟩ => ⟨S8192x15x512, .f32⟩
  | .hbm, ⟨25, _⟩ => ⟨S15x8192x512, .f32⟩
  | .hbm, ⟨26, _⟩ => ⟨S3x8192x512, .f32⟩
  | .hbm, ⟨27, _⟩ => ⟨S3x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Adam.lean ====
abbrev S2048x1920 : Shape := ⟨2, ![2048, 1920]⟩
abbrev S1x2048x1920 : Shape := ⟨3, ![1, 2048, 1920]⟩
abbrev S1x128x1920 : Shape := ⟨3, ![1, 128, 1920]⟩
abbrev S128x1920 : Shape := ⟨2, ![128, 1920]⟩

abbrev nBuf : Space → Nat
  | .hbm => 9
  | .vmem => 16
  | .smem => 0
  | _ => 0

abbrev bufTy : (tb : Table) → Fin (tcTables nBuf tb) → BufTy
  | .hbm, ⟨0, _⟩ => ⟨S2048x1920, .f32⟩
  | .hbm, ⟨1, _⟩ => ⟨S2048x1920, .f32⟩
  | .hbm, ⟨2, _⟩ => ⟨S2048x1920, .f32⟩
  | .hbm, ⟨3, _⟩ => ⟨S2048x1920, .f32⟩
  | .hbm, ⟨4, _⟩ => ⟨S1x2048x1920, .f32⟩
  | .hbm, ⟨5, _⟩ => ⟨S2048x1920, .f32⟩
  | .hbm, ⟨6, _⟩ => ⟨S2048x1920, .f32⟩
  | .hbm, ⟨7, _⟩ => ⟨S2048x1920, .f32⟩
  | .hbm, ⟨8, _⟩ => ⟨S2048x1920, .f32⟩
  | .local _ .vmem, ⟨0, _⟩ => ⟨S1x128x1920, .f32⟩
  | .local _ .vmem, ⟨1, _⟩ => ⟨S1x128x1920, .f32⟩
  | .local _ .vmem, ⟨2, _⟩ => ⟨S128x1920, .f32⟩
  | .local _ .vmem, ⟨3, _⟩ => ⟨S128x1920, .f32⟩
  | .local _ .vmem, ⟨4, _⟩ => ⟨S128x1920, .f32⟩
  | .local _ .vmem, ⟨5, _⟩ => ⟨S128x1920, .f32⟩
  | .local _ .vmem, ⟨6, _⟩ => ⟨S128x1920, .f32⟩
  | .local _ .vmem, ⟨7, _⟩ => ⟨S128x1920, .f32⟩
  | .local _ .vmem, ⟨8, _⟩ => ⟨S128x1920, .f32⟩
  | .local _ .vmem, ⟨9, _⟩ => ⟨S128x1920, .f32⟩
  | .local _ .vmem, ⟨10, _⟩ => ⟨S128x1920, .f32⟩
  | .local _ .vmem, ⟨11, _⟩ => ⟨S128x1920, .f32⟩
  | .local _ .vmem, ⟨12, _⟩ => ⟨S128x1920, .f32⟩
  | .local _ .vmem, ⟨13, _⟩ => ⟨S128x1920, .f32⟩
  | .local _ .vmem, ⟨14, _⟩ => ⟨S128x1920, .f32⟩
  | .local _ .vmem, ⟨15, _⟩ => ⟨S128x1920, .f32⟩
  | _, _ => ⟨S2048x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S2048x1920 : Shape := ⟨2, ![2048, 1920]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1920, .f32⟩
  | .hbm, ⟨1, _⟩ => ⟨S2048x1920, .f32⟩
  | .hbm, ⟨2, _⟩ => ⟨S2048x1920, .f32⟩
  | .hbm, ⟨3, _⟩ => ⟨S2048x1920, .f32⟩
  | .hbm, ⟨4, _⟩ => ⟨S_, .f32⟩
  | .hbm, ⟨5, _⟩ => ⟨S2048x1920, .f32⟩
  | .hbm, ⟨6, _⟩ => ⟨S2048x1920, .f32⟩
  | .hbm, ⟨7, _⟩ => ⟨S_, .f32⟩
  | .hbm, ⟨8, _⟩ => ⟨S2048x1920, .f32⟩
  | .hbm, ⟨9, _⟩ => ⟨S2048x1920, .f32⟩
  | .hbm, ⟨10, _⟩ => ⟨S2048x1920, .f32⟩
  | .hbm, ⟨11, _⟩ => ⟨S_, .f32⟩
  | .hbm, ⟨12, _⟩ => ⟨S2048x1920, .f32⟩
  | .hbm, ⟨13, _⟩ => ⟨S2048x1920, .f32⟩
  | .hbm, ⟨14, _⟩ => ⟨S2048x1920, .f32⟩
  | .hbm, ⟨15, _⟩ => ⟨S_, .f32⟩
  | .hbm, ⟨16, _⟩ => ⟨S2048x1920, .f32⟩
  | .hbm, ⟨17, _⟩ => ⟨S2048x1920, .f32⟩
  | .hbm, ⟨18, _⟩ => ⟨S2048x1920, .f32⟩
  | .hbm, ⟨19, _⟩ => ⟨S_, .f32⟩
  | .hbm, ⟨20, _⟩ => ⟨S2048x1920, .f32⟩
  | .hbm, ⟨21, _⟩ => ⟨S2048x1920, .f32⟩
  | .hbm, ⟨22, _⟩ => ⟨S_, .f32⟩
  | .hbm, ⟨23, _⟩ => ⟨S2048x1920, .f32⟩
  | .hbm, ⟨24, _⟩ => ⟨S2048x1920, .f32⟩
  | .hbm, ⟨25, _⟩ => ⟨S2048x1920, .f32⟩
  | .hbm, ⟨26, _⟩ => ⟨S_, .f32⟩
  | .hbm, ⟨27, _⟩ => ⟨S2048x1920, .f32⟩
  | .hbm, ⟨28, _⟩ => ⟨S2048x1920, .f32⟩
  | .hbm, ⟨29, _⟩ => ⟨S2048x1920, .f32⟩
  | .hbm, ⟨30, _⟩ => ⟨S_, .f32⟩
  | .hbm, ⟨31, _⟩ => ⟨S2048x1920, .f32⟩
  | .hbm, ⟨32, _⟩ => ⟨S2048x1920, .f32⟩
  | .hbm, ⟨33, _⟩ => ⟨S2048x1920, .f32⟩
  | .hbm, ⟨34, _⟩ => ⟨S_, .f32⟩
  | .hbm, ⟨35, _⟩ => ⟨S2048x1920, .f32⟩
  | .hbm, ⟨36, _⟩ => ⟨S2048x1920, .f32⟩
  | _, _ => ⟨S2048x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S8x1104x128 : Shape := ⟨3, ![8, 1104, 128]⟩
abbrev S1104x128 : Shape := ⟨2, ![1104, 128]⟩
abbrev S1x1104x128 : Shape := ⟨3, ![1, 1104, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S1104x128, .f32⟩
  | .hbm, ⟨5, _⟩ => ⟨S1104x128, .f32⟩
  | .hbm, ⟨6, _⟩ => ⟨S1104x128, .f32⟩
  | .hbm, ⟨7, _⟩ => ⟨S1104x128, .f32⟩
  | .local _ .vmem, ⟨0, _⟩ => ⟨S8x1104x128, .f32⟩
  | .local _ .vmem, ⟨1, _⟩ => ⟨S1104x128, .f32⟩
  | .local _ .vmem, ⟨2, _⟩ => ⟨S1104x128, .f32⟩
  | .local _ .vmem, ⟨3, _⟩ => ⟨S1104x128, .f32⟩
  | .local _ .vmem, ⟨4, _⟩ => ⟨S1104x128, .f32⟩
  | .local _ .vmem, ⟨5, _⟩ => ⟨S1104x128, .f32⟩
  | .local _ .vmem, ⟨6, _⟩ => ⟨S1104x128, .f32⟩
  | .local _ .vmem, ⟨7, _⟩ => ⟨S1104x128, .f32⟩
  | _, _ => ⟨S8x1104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1104x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x1104x128 : Shape := ⟨3, ![8, 1104, 128]⟩
abbrev S1104x128 : Shape := ⟨2, ![1104, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S_, .f32⟩
  | .hbm, ⟨5, _⟩ => ⟨S1104x128, .f32⟩
  | .hbm, ⟨6, _⟩ => ⟨S_, .f32⟩
  | .hbm, ⟨7, _⟩ => ⟨S1104x128, .f32⟩
  | .hbm, ⟨8, _⟩ => ⟨S1104x128, .f32⟩
  | .hbm, ⟨9, _⟩ => ⟨S_, .f32⟩
  | .hbm, ⟨10, _⟩ => ⟨S1104x128, .f32⟩
  | .hbm, ⟨11, _⟩ => ⟨S1104x128, .f32⟩
  | .hbm, ⟨12, _⟩ => ⟨S1104x128, .f32⟩
  | .hbm, ⟨13, _⟩ => ⟨S_, .f32⟩
  | .hbm, ⟨14, _⟩ => ⟨S1104x128, .f32⟩
  | .hbm, ⟨15, _⟩ => ⟨S1104x128, .f32⟩
  | .hbm, ⟨16, _⟩ => ⟨S1104x128, .f32⟩
  | .hbm, ⟨17, _⟩ => ⟨S_, .f32⟩
  | .hbm, ⟨18, _⟩ => ⟨S1104x128, .f32⟩
  | .hbm, ⟨19, _⟩ => ⟨S1104x128, .f32⟩
  | .hbm, ⟨20, _⟩ => ⟨S1104x128, .f32⟩
  | .hbm, ⟨21, _⟩ => ⟨S_, .f32⟩
  | .hbm, ⟨22, _⟩ => ⟨S1104x128, .f32⟩
  | .hbm, ⟨23, _⟩ => ⟨S1104x128, .f32⟩
  | .hbm, ⟨24, _⟩ => ⟨S_, .f32⟩
  | .hbm, ⟨25, _⟩ => ⟨S1104x128, .f32⟩
  | .hbm, ⟨26, _⟩ => ⟨S1104x128, .f32⟩
  | .hbm, ⟨27, _⟩ => ⟨S1104x128, .f32⟩
  | .hbm, ⟨28, _⟩ => ⟨S_, .f32⟩
  | .hbm, ⟨29, _⟩ => ⟨S1104x128, .f32⟩
  | .hbm, ⟨30, _⟩ => ⟨S1104x128, .f32⟩
  | .hbm, ⟨31, _⟩ => ⟨S1104x128, .f32⟩
  | .hbm, ⟨32, _⟩ => ⟨S_, .f32⟩
  | .hbm, ⟨33, _⟩ => ⟨S1104x128, .f32⟩
  | .hbm, ⟨34, _⟩ => ⟨S1104x128, .f32⟩
  | .hbm, ⟨35, _⟩ => ⟨S1104x128, .f32⟩
  | .hbm, ⟨36, _⟩ => ⟨S_, .f32⟩
  | .hbm, ⟨37, _⟩ => ⟨S1104x128, .f32⟩
  | .hbm, ⟨38, _⟩ => ⟨S1104x128, .f32⟩
  | _, _ => ⟨S8x1104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumChips.lean ====
abbrev S4x1024x1920 : Shape := ⟨3, ![4, 1024, 1920]⟩
abbrev S1024x1920 : Shape := ⟨2, ![1024, 1920]⟩
abbrev S4x256x1920 : Shape := ⟨3, ![4, 256, 1920]⟩
abbrev S256x1920 : Shape := ⟨2, ![256, 1920]⟩
abbrev S1x256x1920 : Shape := ⟨3, ![1, 256, 1920]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1920, .bf16⟩
  | .hbm, ⟨1, _⟩ => ⟨S1024x1920, .f32⟩
  | .local _ .vmem, ⟨0, _⟩ => ⟨S4x256x1920, .bf16⟩
  | .local _ .vmem, ⟨1, _⟩ => ⟨S4x256x1920, .bf16⟩
  | .local _ .vmem, ⟨2, _⟩ => ⟨S256x1920, .f32⟩
  | .local _ .vmem, ⟨3, _⟩ => ⟨S256x1920, .f32⟩
  | _, _ => ⟨S4x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsRefIdeal.lean ====
abbrev S4x1024x1920 : Shape := ⟨3, ![4, 1024, 1920]⟩
abbrev S_ : Shape := ⟨0, ![]⟩
abbrev S1024x1920 : Shape := ⟨2, ![1024, 1920]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1920, .bf16⟩
  | .hbm, ⟨1, _⟩ => ⟨S4x1024x1920, .f32⟩
  | .hbm, ⟨2, _⟩ => ⟨S_, .f32⟩
  | .hbm, ⟨3, _⟩ => ⟨S1024x1920, .f32⟩
  | _, _ => ⟨S4x1024x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCores.lean ====
abbrev S1 : Shape := ⟨1, ![1]⟩
abbrev S1024x7680 : Shape := ⟨2, ![1024, 7680]⟩
abbrev S1x1024x7680 : Shape := ⟨3, ![1, 1024, 7680]⟩
abbrev S64x7680 : Shape := ⟨2, ![64, 7680]⟩
abbrev S1x64x7680 : Shape := ⟨3, ![1, 64, 7680]⟩

abbrev nBuf : Space → Nat
  | .hbm => 4
  | .vmem => 8
  | .smem => 1
  | _ => 0

abbrev bufTy : (tb : Table) → Fin (tcTables nBuf tb) → BufTy
  | .hbm, ⟨0, _⟩ => ⟨S1024x7680, .f32⟩
  | .hbm, ⟨1, _⟩ => ⟨S1024x7680, .f32⟩
  | .hbm, ⟨2, _⟩ => ⟨S1024x7680, .f32⟩
  | .hbm, ⟨3, _⟩ => ⟨S1x1024x7680, .bf16⟩
  | .local _ .vmem, ⟨0, _⟩ => ⟨S64x7680, .f32⟩
  | .local _ .vmem, ⟨1, _⟩ => ⟨S64x7680, .f32⟩
  | .local _ .vmem, ⟨2, _⟩ => ⟨S64x7680, .f32⟩
  | .local _ .vmem, ⟨3, _⟩ => ⟨S64x7680, .f32⟩
  | .local _ .vmem, ⟨4, _⟩ => ⟨S64x7680, .f32⟩
  | .local _ .vmem, ⟨5, _⟩ => ⟨S64x7680, .f32⟩
  | .local _ .vmem, ⟨6, _⟩ => ⟨S1x64x7680, .bf16⟩
  | .local _ .vmem, ⟨7, _⟩ => ⟨S1x64x7680, .bf16⟩
  | .local _ .smem, ⟨0, _⟩ => ⟨S1, .i32⟩
  | _, _ => ⟨S1024x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq v0 c0_i32
  let c0_i32_0 : BitVec 32 := 0#32
  let v2 : BitVec 32 := Scalar.select v1 arg0 c0_i32_0
  let c0_i32_1 : BitVec 32 := 0#32
  let c0_i32_2 : BitVec 32 := 0#32
  ![v2.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq v0 c1_i32
  let c0_i32 : BitVec 32 := 0#32
  let v2 : BitVec 32 := Scalar.select v1 arg0 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x7680 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumCoresRefIdeal.lean ====
abbrev S1 : Shape := ⟨1, ![1]⟩
abbrev S1024x7680 : Shape := ⟨2, ![1024, 7680]⟩
abbrev S_ : Shape := ⟨0, ![]⟩
abbrev S1x1024x7680 : Shape := ⟨3, ![1, 1024, 7680]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x7680, .f32⟩
  | .hbm, ⟨2, _⟩ => ⟨S1024x7680, .f32⟩
  | .hbm, ⟨3, _⟩ => ⟨S1024x7680, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1024x7680, .f32⟩
  | .hbm, ⟨8, _⟩ => ⟨S1024x7680, .f32⟩
  | .hbm, ⟨9, _⟩ => ⟨S1024x7680, .bf16⟩
  | .hbm, ⟨10, _⟩ => ⟨S1x1024x7680, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8192x1024 : Shape := ⟨2, ![8192, 1024]⟩
abbrev S_ : Shape := ⟨0, ![]⟩
abbrev S8192 : Shape := ⟨1, ![8192]⟩
abbrev S8 : Shape := ⟨1, ![8]⟩
abbrev S8x1 : Shape := ⟨2, ![8, 1]⟩
abbrev S128 : Shape := ⟨1, ![128]⟩
abbrev S1x128 : Shape := ⟨2, ![1, 128]⟩
abbrev S8x128 : Shape := ⟨2, ![8, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8, .i32⟩
  | .hbm, ⟨26, _⟩ => ⟨S8x1, .i32⟩
  | .hbm, ⟨27, _⟩ => ⟨S128, .i32⟩
  | .hbm, ⟨28, _⟩ => ⟨S1x128, .i32⟩
  | .hbm, ⟨29, _⟩ => ⟨S8x128, .i32⟩
  | .hbm, ⟨30, _⟩ => ⟨S8x128, .i32⟩
  | .hbm, ⟨31, _⟩ => ⟨S8x128, .i32⟩
  | .hbm, ⟨32, _⟩ => ⟨S_, .i32⟩
  | .hbm, ⟨33, _⟩ => ⟨S8x128, .i32⟩
  | .hbm, ⟨34, _⟩ => ⟨S8x128, .i1⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x128, .f32⟩
  | .hbm, ⟨49, _⟩ => ⟨S8x128, .f32⟩
  | .hbm, ⟨50, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_cst_11 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.AttnCases.lean ====
module

public import proofs.«01_k».proof.Proof.Gen.AttnBwdIdeal.Frame
public import proofs.«01_k».proof.Proof.Gen.AttnBwdIdeal.Loops

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

/-! # The attention gradient's tile: which case a point is in, and the checks its loops ask -/

/-- The first query block of a head: the sums over key blocks start from nothing. -/
abbrev First (i : grid0.Coords) : Prop :=
  (Scalar.cmpi .ne (Scalar.extui (Scalar.cmpi .eq (BitVec.ofNat 32 (i 1).val) 0#32)) 0#32) = 1#1

/-- The last query block of a head: the sums over key blocks are written out. -/
abbrev Last (i : grid0.Coords) : Prop := k0_cond2 i = 1#1

theorem first_iff (t : Fin cfg0.N) : First (grid0.coords t) ↔ t.val % 32 = 0 := by
  have ht : t.val < 128 := Nat.lt_of_lt_of_eq t.isLt N_0
  have e : (grid0.coords t 1).val = t.val / 1 % 32 := Pipeline.Grid.coords_val t 1 (by decide) rfl
  simp only [First, e]
  word_cmp

theorem last_iff (t : Fin cfg0.N) : Last (grid0.coords t) ↔ t.val % 32 = 31 := by
  have ht : t.val < 128 := Nat.lt_of_lt_of_eq t.isLt N_0
  have e : (grid0.coords t 1).val = t.val / 1 % 32 := Pipeline.Grid.coords_val t 1 (by decide) rfl
  simp only [Last, k0_cond2, e]
  word_cmp

/-- The gradients of keys and values are written at a head's last query block only. -/
theorem quiet7 : ∀ t : Fin cfg0.N, ¬Last (grid0.coords t) →
    cfg0.idle 7 (grid0.coords t) = true ∧ (cfg0.win 7).flush t = false := by decide +kernel
theorem quiet8 : ∀ t : Fin cfg0.N, ¬Last (grid0.coords t) →
    cfg0.idle 8 (grid0.coords t) = true ∧ (cfg0.win 8).flush t = false := by decide +kernel
theorem busy7 : ∀ t : Fin cfg0.N, Last (grid0.coords t) → cfg0.idle 7 (grid0.coords t) = false := by
  decide +kernel
theorem busy8 : ∀ t : Fin cfg0.N, Last (grid0.coords t) → cfg0.idle 8 (grid0.coords t) = false := by
  decide +kernel

/-- The word the key loop starts from, between 0 and the query block. -/
def start (i : grid0.Coords) (w : BitVec 32) : BitVec 32 :=
  Scalar.minsi (BitVec.ofNat 32 (i 1).val) (Scalar.maxsi 0#32 w)

theorem start_eq (i : grid0.Coords) (w : BitVec 32) :
    ∃ n : Fin 32, n.val ≤ (i 1).val ∧ start i w = BitVec.ofNat 32 n.val := by
  have hi : (i 1).val < 32 := (i 1).isLt
  have hz : (0#32).toInt = 0 := by decide
  have ha : (BitVec.ofNat 32 (i 1).val).toInt = ((i 1).val : Int) := by
    rw [BitVec.toInt_eq_toNat_of_lt (by rw [BitVec.toNat_ofNat]; omega), BitVec.toNat_ofNat]; omega
  have hs : 0 ≤ (start i w).toInt ∧ (start i w).toInt ≤ (i 1).val := by
    simp only [start, Scalar.minsi, Scalar.maxsi, IntOp.minsi, IntOp.maxsi, BitVec.slt]
    split_ifs <;> simp_all <;> omega
  have hn : (start i w).toNat = (start i w).toInt.toNat := by
    have h32 := (start i w).isLt
    rw [BitVec.toInt_eq_toNat_cond] at hs ⊢
    split_ifs at hs ⊢ <;> omega
  refine ⟨⟨(start i w).toInt.toNat, by omega⟩, by simp only []; omega, ?_⟩
  apply BitVec.eq_of_toNat_eq
  rw [BitVec.toNat_ofNat]; simp only []; omega

/-- The loop over whole key blocks, before the query block's own, and the loop after it, which is empty. -/
theorem loops : ∀ a n : Fin 32, n ≤ a →
    Scalar.addi (BitVec.ofNat 32 n.val) (Scalar.muli (Scalar.divsi (Scalar.subi (BitVec.ofNat 32 a.val) (BitVec.ofNat 32 n.val)) 1#32) 1#32) = BitVec.ofNat 32 a.val
    ∧ Scalar.addi (BitVec.ofNat 32 n.val) (Scalar.subi (BitVec.ofNat 32 a.val) (BitVec.ofNat 32 n.val)) = BitVec.ofNat 32 a.val
    ∧ Scf.trips (BitVec.ofNat 32 n.val) (BitVec.ofNat 32 a.val) 1#32 = a.val - n.val
    ∧ Scf.OK (BitVec.ofNat 32 n.val) (BitVec.ofNat 32 a.val) 1#32 := by
  decide +kernel

/-- The key block of a trip, as a word. -/
theorem block_word : ∀ n k : Fin 32, n.val + k.val < 32 →
    (Scf.iv (BitVec.ofNat 32 n.val) 1#32 k.val).toNat = n.val + k.val
    ∧ (Scalar.muli (Scf.iv (BitVec.ofNat 32 n.val) 1#32 k.val) 256#32).toNat = 256 * (n.val + k.val) := by
  decide +kernel

theorem loop1_eq (i : grid0.Coords) (w : BitVec 32) {n : Fin 32} (hn : n.val ≤ (i 1).val)
    (h : start i w = BitVec.ofNat 32 n.val) :
    k0_t1_loop i w = ⟨BitVec.ofNat 32 n.val, BitVec.ofNat 32 (i 1).val, 1#32⟩ := by
  have e := (loops ⟨(i 1).val, (i 1).isLt⟩ n hn).1
  rw [← e, ← h]; rfl

theorem loop2_eq (i : grid0.Coords) (w : BitVec 32) {n : Fin 32} (hn : n.val ≤ (i 1).val)
    (h : start i w = BitVec.ofNat 32 n.val) :
    k0_t2_loop i w = ⟨BitVec.ofNat 32 (i 1).val, BitVec.ofNat 32 (i 1).val, 1#32⟩ := by
  have e := loops ⟨(i 1).val, (i 1).isLt⟩ n hn
  have e' : k0_t2_loop i w = ⟨_, _, 1#32⟩ := congrArg₂ (fun l u => (⟨l, u, 1#32⟩ : Scf.Loop 32))
    (h ▸ e.1 : Scalar.addi (start i w) (Scalar.muli (Scalar.divsi (Scalar.subi (BitVec.ofNat 32 (i 1).val) (start i w)) 1#32) 1#32) = _)
    (h ▸ e.2.1 : Scalar.addi (start i w) (Scalar.subi (BitVec.ofNat 32 (i 1).val) (start i w)) = _)
  exact e'

theorem trips2 (i : grid0.Coords) (w : BitVec 32) : (k0_t2_loop i w).trips = 0 := by
  obtain ⟨n, hn, h⟩ := start_eq i w
  have e := (loops ⟨(i 1).val, (i 1).isLt⟩ ⟨(i 1).val, (i 1).isLt⟩ le_rfl).2.2.1
  rw [Scf.Loop.trips, loop2_eq i w hn h]; exact e.trans (Nat.sub_self _)

/-- The check the body asks of the word holds whatever the word is: the loop runs over key blocks up to the query block. -/
theorem checks (i : grid0.Coords) (w : BitVec 32) : k0_chk1 i w := by
  obtain ⟨n, hn, h⟩ := start_eq i w
  have hi : (i 1).val < 32 := (i 1).isLt
  have l := loops ⟨(i 1).val, hi⟩ n hn
  have l' := loops ⟨(i 1).val, hi⟩ ⟨(i 1).val, hi⟩ le_rfl
  have ht : (k0_t1_loop i w).trips = (i 1).val - n.val := by
    rw [Scf.Loop.trips, loop1_eq i w hn h]; exact l.2.2.1
  have hk : ∀ k : Fin (k0_t1_loop i w).trips, n.val + k.val < 32 := fun k => by have := k.isLt; omega
  have b : ∀ k : Fin (k0_t1_loop i w).trips,
      (Scf.iv (start i w) 1#32 k).toNat = n.val + k.val
      ∧ (Scalar.muli (Scf.iv (start i w) 1#32 k) 256#32).toNat = 256 * (n.val + k.val) := fun k => by
    rw [h]; exact block_word n ⟨k.val, by have := hk k; omega⟩ (hk k)
  have no : ∀ {P : Fin (k0_t2_loop i w).trips → Prop}, ∀ k, P k := fun k =>
    absurd (lt_of_lt_of_eq k.isLt (trips2 i w)) (Nat.not_lt_zero _)
  refine ⟨?_, fun k => ?_, fun k a => ?_, fun k a => ?_, ?_, no, no, no⟩
  · rw [Scf.Loop.OK, loop1_eq i w hn h]; exact l.2.2.2
  · exact ⟨n.val + k.val, (b k).2⟩
  · have e := (b k).2
    have := hk k
    have e' : k0_off1 i w k = ![0, 256 * (n.val + k.val), 0] := by rw [← e]; rfl
    rw [e']; fin_cases a <;> simp [Shape.size] <;> omega
  · have e := (b k).1
    have := hk k
    have e' : k0_off2 i w k = ![n.val + k.val, 0, 0] := by rw [← e]; rfl
    rw [e']; fin_cases a <;> simp [Shape.size] <;> omega
  · rw [Scf.Loop.OK, loop2_eq i w hn h]; exact l'.2.2.2

end Cert.AttnBwdIdeal.Tile

end
-- ==== Proof.AttnRunA.lean ====
module

public import proofs.«01_k».proof.Proof.AttnCases

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

set_option maxHeartbeats 2000000 in
/-- The tile's body at the first query block of a head: from the inputs at `x·`, it returns with the
    inputs as they were and the stores listed made into each buffer it writes. -/
def runA (hc0 : First i) (hc1 : ¬Last i) :
    Σ' (Lq : List (View.Piece (Elt F) S256x128 .bf16)), Σ' (L0 : List (View.Piece (Elt F) S32x128x256 .f32)), { L1 : List (View.Piece (Elt F) S32x128x256 .f32) //
      ∀ (E : Set ℕ) (K : PUnit → sProp 𝕄) (y9 y10 : Vec F S8192x128 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare y9 ∗ owns (c : Thread nD τ) arg10 fullShare y10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f Lq)
              ∗ owns (c : Thread nD τ) arg9 fullShare y9
              ∗ owns (c : Thread nD τ) arg10 fullShare y10
              ∗ (∃ f, arg11.view.loc (c : Thread nD τ) ↦[arg11.view.set]{fullShare} arg11.view.writes (Elt F) f L0)
              ∗ (∃ f, arg12.view.loc (c : Thread nD τ) ↦[arg12.view.set]{fullShare} arg12.view.writes (Elt F) f L1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K y9 y10 => ?run⟩
  case run =>

    simp only [cc0_attn_bwd_eq_skeleton]; unfold cc0_attn_bwd_skel
    simp only [k0_part14_eq_skeleton, k0_part15_eq_skeleton, k0_part16_eq_skeleton, k0_part17_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%f7, %h7, H7⟩, ⟨%f8, %h8, H8⟩, ⟨%d9, %f9, -, S0⟩, ⟨%d10, %f10, -, S1⟩, Hk⟩
    obtain rfl := harg2.eq_unread h0; obtain rfl := harg3.eq_unread h1; obtain rfl := harg4.eq_unread h2
    obtain rfl := harg5.eq_unread h3; obtain rfl := harg6.eq_unread h4; obtain rfl := harg7.eq_unread h5
    sl_exec (disch := first | with_reducible exact checks _ _ | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact h7
      iexact H7
    isplitl [H8]
    · iexists _; isplitr; · ipureintro; exact h8
      iexact H8
    isplitl [S0]; · iexists _; iexact S0
    iexists _; iexact S1

end Cert.AttnBwdIdeal.Tile

end
-- ==== Proof.AttnRunB.lean ====
module

public import proofs.«01_k».proof.Proof.AttnRunA

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

set_option maxHeartbeats 2000000 in
/-- The tile's body at a query block between the first and the last: from the inputs at `x·` and the two running sums at `g0`, `g1`, it returns with the
    inputs as they were and the stores listed made into each buffer it writes. -/
def runB (hc0 : ¬First i) (hc1 : ¬Last i) (g0 g1 : Vec F S32x128x256 .f32) :
    Σ' (Lq : List (View.Piece (Elt F) S256x128 .bf16)), Σ' (L0 : List (View.Piece (Elt F) S32x128x256 .f32)), { L1 : List (View.Piece (Elt F) S32x128x256 .f32) //
      ∀ (E : Set ℕ) (K : PUnit → sProp 𝕄) (y9 y10 : Vec F S8192x128 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare y9 ∗ owns (c : Thread nD τ) arg10 fullShare y10 ∗ owns (c : Thread nD τ) arg11 fullShare g0 ∗ owns (c : Thread nD τ) arg12 fullShare g1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f Lq)
              ∗ owns (c : Thread nD τ) arg9 fullShare y9
              ∗ owns (c : Thread nD τ) arg10 fullShare y10
              ∗ (arg11.view.loc (c : Thread nD τ) ↦[arg11.view.set]{fullShare} arg11.view.writes (Elt F) (harg11.unread g0) L0)
              ∗ (arg12.view.loc (c : Thread nD τ) ↦[arg12.view.set]{fullShare} arg12.view.writes (Elt F) (harg12.unread g1) L1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K y9 y10 => ?run⟩
  case run =>

    simp only [cc0_attn_bwd_eq_skeleton]; unfold cc0_attn_bwd_skel
    simp only [k0_part14_eq_skeleton, k0_part15_eq_skeleton, k0_part16_eq_skeleton, k0_part17_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%f7, %h7, H7⟩, ⟨%f8, %h8, H8⟩, ⟨%f9, %h9, S0⟩, ⟨%f10, %h10, S1⟩, Hk⟩
    obtain rfl := harg2.eq_unread h0; obtain rfl := harg3.eq_unread h1; obtain rfl := harg4.eq_unread h2
    obtain rfl := harg5.eq_unread h3; obtain rfl := harg6.eq_unread h4; obtain rfl := harg7.eq_unread h5
    obtain rfl := harg11.eq_unread h9; obtain rfl := harg12.eq_unread h10
    sl_exec (disch := first | with_reducible exact checks _ _ | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact h7
      iexact H7
    isplitl [H8]
    · iexists _; isplitr; · ipureintro; exact h8
      iexact H8
    isplitl [S0]; · iexact S0
    iexact S1

end Cert.AttnBwdIdeal.Tile

end
-- ==== Proof.AttnRunC.lean ====
module

public import proofs.«01_k».proof.Proof.AttnRunB

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

set_option maxHeartbeats 2000000 in
/-- The tile's body at the last query block of a head: from the inputs at `x·` and the two running sums at `g0`, `g1`, it returns with the
    inputs as they were and the stores listed made into each buffer it writes. -/
def runC (hc0 : ¬First i) (hc1 : Last i) (g0 g1 : Vec F S32x128x256 .f32) :
    Σ' (Lq : List (View.Piece (Elt F) S256x128 .bf16)), Σ' (Lk : List (View.Piece (Elt F) S8192x128 .bf16)), Σ' (Lv : List (View.Piece (Elt F) S8192x128 .bf16)), Σ' (L0 : List (View.Piece (Elt F) S32x128x256 .f32)), { L1 : List (View.Piece (Elt F) S32x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare g0 ∗ owns (c : Thread nD τ) arg12 fullShare g1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f Lq)
              ∗ (∃ f, arg9.view.loc (c : Thread nD τ) ↦[arg9.view.set]{fullShare} arg9.view.writes (Elt F) f Lk)
              ∗ (∃ f, arg10.view.loc (c : Thread nD τ) ↦[arg10.view.set]{fullShare} arg10.view.writes (Elt F) f Lv)
              ∗ (arg11.view.loc (c : Thread nD τ) ↦[arg11.view.set]{fullShare} arg11.view.writes (Elt F) (harg11.unread g0) L0)
              ∗ (arg12.view.loc (c : Thread nD τ) ↦[arg12.view.set]{fullShare} arg12.view.writes (Elt F) (harg12.unread g1) L1)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>

    simp only [cc0_attn_bwd_eq_skeleton]; unfold cc0_attn_bwd_skel
    simp only [k0_part14_eq_skeleton, k0_part15_eq_skeleton, k0_part16_eq_skeleton, k0_part17_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%f9, %h9, S0⟩, ⟨%f10, %h10, S1⟩, Hk⟩
    obtain rfl := harg2.eq_unread h0; obtain rfl := harg3.eq_unread h1; obtain rfl := harg4.eq_unread h2
    obtain rfl := harg5.eq_unread h3; obtain rfl := harg6.eq_unread h4; obtain rfl := harg7.eq_unread h5
    obtain rfl := harg11.eq_unread h9; obtain rfl := harg12.eq_unread h10
    sl_exec (disch := first | with_reducible exact checks _ _ | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [S0]; · iexact S0
    iexact S1

end Cert.AttnBwdIdeal.Tile

end
-- ==== Proof.AttnTile.lean ====
module

public import proofs.«01_k».proof.Proof.AttnRunC

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

/-- What a point leaves: a block of the gradient of the queries, the gradients of keys and values
    (meaningful at a head's last point) and the two running sums over query blocks. -/
structure Left (F : FTy → Type) where
  dq : Vec F S256x128 .bf16
  dk : Vec F S8192x128 .bf16
  dv : Vec F S8192x128 .bf16
  g0 : Vec F S32x128x256 .f32
  g1 : Vec F S32x128x256 .f32

/-- Nothing left yet. -/
def none0 : Left F := ⟨fun _ => Scalar.ofBits .bf16 0, fun _ => Scalar.ofBits .bf16 0, fun _ => Scalar.ofBits .bf16 0,
  fun _ => Scalar.ofBits .f32 0, fun _ => Scalar.ofBits .f32 0⟩

/-- A buffer whose stores cover it is owned at what the stores leave, whatever was there before. -/
theorem owns_covered (c : Dev nD) {sp : Space} {s : Shape} {e : EltTy} (a : Memref sig .tc sp s e) (f : a.view.ty.Contents (Elt F))
    (L : List (View.Piece (Elt F) s e)) (h : ∀ y, ∃ pc ∈ L, y ∈ pc.1.set) :
    (a.view.loc (c : Thread nD τ) ↦[a.view.set]{fullShare} a.view.writes (Elt F) f L : sProp 𝕄)
      ⊢ owns (c : Thread nD τ) a fullShare (a.view.read (Elt F) (a.view.writes (Elt F) a.view.junk L)) := by
  unfold owns
  iintro H; iexists _; isplitr
  swap; · iexact H
  ipureintro; exact View.read_writes_of_cover _ _ _ _ _ h

/-- A buffer is owned at what it reads as. -/
theorem owns_read (c : Dev nD) {sp : Space} {s : Shape} {e : EltTy} (a : Memref sig .tc sp s e) (f : a.view.ty.Contents (Elt F)) :
    (a.view.loc (c : Thread nD τ) ↦[a.view.set]{fullShare} f : sProp 𝕄)
      ⊢ owns (c : Thread nD τ) a fullShare (a.view.read (Elt F) f) := by
  unfold owns
  iintro H; iexists _; isplitr
  swap; · iexact H
  ipureintro; rfl

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

/-- What the body leaves, case A. -/
def leftA (hc0 : First i) (hc1 : ¬Last i) : Left F where
  dq := arg8.view.read (Elt F) (arg8.view.writes (Elt F) arg8.view.junk (runA c i arg2 harg2 arg3 harg3 arg4 harg4 arg5 harg5 arg6 harg6 arg7 harg7 arg8 harg8 arg9 harg9 arg10 harg10 arg11 harg11 arg12 harg12 x0 x1 x2 x3 x4 x5 hc0 hc1).1)
  dk := none0.dk
  dv := none0.dv
  g0 := arg11.view.read (Elt F) (arg11.view.writes (Elt F) arg11.view.junk (runA c i arg2 harg2 arg3 harg3 arg4 harg4 arg5 harg5 arg6 harg6 arg7 harg7 arg8 harg8 arg9 harg9 arg10 harg10 arg11 harg11 arg12 harg12 x0 x1 x2 x3 x4 x5 hc0 hc1).2.1)
  g1 := arg12.view.read (Elt F) (arg12.view.writes (Elt F) arg12.view.junk (runA c i arg2 harg2 arg3 harg3 arg4 harg4 arg5 harg5 arg6 harg6 arg7 harg7 arg8 harg8 arg9 harg9 arg10 harg10 arg11 harg11 arg12 harg12 x0 x1 x2 x3 x4 x5 hc0 hc1).2.2.1)

theorem coverA_dq (hc0 : First i) (hc1 : ¬Last i) (y : S256x128.Idx) :
    ∃ pc ∈ (runA c i arg2 harg2 arg3 harg3 arg4 harg4 arg5 harg5 arg6 harg6 arg7 harg7 arg8 harg8 arg9 harg9 arg10 harg10 arg11 harg11 arg12 harg12 x0 x1 x2 x3 x4 x5 hc0 hc1).1, y ∈ pc.1.set :=
  View.cover_of_tiledL (runA c i arg2 harg2 arg3 harg3 arg4 harg4 arg5 harg5 arg6 harg6 arg7 harg7 arg8 harg8 arg9 harg9 arg10 harg10 arg11 harg11 arg12 harg12 x0 x1 x2 x3 x4 x5 hc0 hc1).1 S256x128.size (by sl_kernel_rfl) y

theorem coverA_g0 (hc0 : First i) (hc1 : ¬Last i) (y : S32x128x256.Idx) :
    ∃ pc ∈ (runA c i arg2 harg2 arg3 harg3 arg4 harg4 arg5 harg5 arg6 harg6 arg7 harg7 arg8 harg8 arg9 harg9 arg10 harg10 arg11 harg11 arg12 harg12 x0 x1 x2 x3 x4 x5 hc0 hc1).2.1, y ∈ pc.1.set :=
  View.cover_of_wholeMem (runA c i arg2 harg2 arg3 harg3 arg4 harg4 arg5 harg5 arg6 harg6 arg7 harg7 arg8 harg8 arg9 harg9 arg10 harg10 arg11 harg11 arg12 harg12 x0 x1 x2 x3 x4 x5 hc0 hc1).2.1 (by sl_whole_mem) y

theorem coverA_g1 (hc0 : First i) (hc1 : ¬Last i) (y : S32x128x256.Idx) :
    ∃ pc ∈ (runA c i arg2 harg2 arg3 harg3 arg4 harg4 arg5 harg5 arg6 harg6 arg7 harg7 arg8 harg8 arg9 harg9 arg10 harg10 arg11 harg11 arg12 harg12 x0 x1 x2 x3 x4 x5 hc0 hc1).2.2.1, y ∈ pc.1.set :=
  View.cover_of_wholeMem (runA c i arg2 harg2 arg3 harg3 arg4 harg4 arg5 harg5 arg6 harg6 arg7 harg7 arg8 harg8 arg9 harg9 arg10 harg10 arg11 harg11 arg12 harg12 x0 x1 x2 x3 x4 x5 hc0 hc1).2.2.1 (by sl_whole_mem) y

/-- The body's triple, case A. -/
theorem tileA (hc0 : First i) (hc1 : ¬Last i) (E : Set ℕ) (K : PUnit → sProp 𝕄) (y9 y10 : Vec F S8192x128 .bf16) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare y9 ∗ owns (c : Thread nD τ) arg10 fullShare y10 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (leftA c i arg2 harg2 arg3 harg3 arg4 harg4 arg5 harg5 arg6 harg6 arg7 harg7 arg8 harg8 arg9 harg9 arg10 harg10 arg11 harg11 arg12 harg12 x0 x1 x2 x3 x4 x5 hc0 hc1).dq
          ∗ owns (c : Thread nD τ) arg9 fullShare y9
          ∗ owns (c : Thread nD τ) arg10 fullShare y10
          ∗ owns (c : Thread nD τ) arg11 fullShare (leftA c i arg2 harg2 arg3 harg3 arg4 harg4 arg5 harg5 arg6 harg6 arg7 harg7 arg8 harg8 arg9 harg9 arg10 harg10 arg11 harg11 arg12 harg12 x0 x1 x2 x3 x4 x5 hc0 hc1).g0
          ∗ owns (c : Thread nD τ) arg12 fullShare (leftA c i arg2 harg2 arg3 harg3 arg4 harg4 arg5 harg5 arg6 harg6 arg7 harg7 arg8 harg8 arg9 harg9 arg10 harg10 arg11 harg11 arg12 harg12 x0 x1 x2 x3 x4 x5 hc0 hc1).g1) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, S0, S1, Hk⟩
  iapply ((runA c i arg2 harg2 arg3 harg3 arg4 harg4 arg5 harg5 arg6 harg6 arg7 harg7 arg8 harg8 arg9 harg9 arg10 harg10 arg11 harg11 arg12 harg12 x0 x1 x2 x3 x4 x5 hc0 hc1).2.2.2 E K y9 y10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, ⟨%e6, H6⟩, H7, H8, ⟨%e9, S0⟩, ⟨%e10, S1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_covered c arg8 _ _ (coverA_dq c i arg2 harg2 arg3 harg3 arg4 harg4 arg5 harg5 arg6 harg6 arg7 harg7 arg8 harg8 arg9 harg9 arg10 harg10 arg11 harg11 arg12 harg12 x0 x1 x2 x3 x4 x5 hc0 hc1)); iexact H6
  isplitl [H7]; · iexact H7
  isplitl [H8]; · iexact H8
  isplitl [S0]; · iapply (owns_covered c arg11 _ _ (coverA_g0 c i arg2 harg2 arg3 harg3 arg4 harg4 arg5 harg5 arg6 harg6 arg7 harg7 arg8 harg8 arg9 harg9 arg10 harg10 arg11 harg11 arg12 harg12 x0 x1 x2 x3 x4 x5 hc0 hc1)); iexact S0
  iapply (owns_covered c arg12 _ _ (coverA_g1 c i arg2 harg2 arg3 harg3 arg4 harg4 arg5 harg5 arg6 harg6 arg7 harg7 arg8 harg8 arg9 harg9 arg10 harg10 arg11 harg11 arg12 harg12 x0 x1 x2 x3 x4 x5 hc0 hc1)); iexact S1

/-- What the body leaves, case B. -/
def leftB (hc0 : ¬First i) (hc1 : ¬Last i) (g0 g1 : Vec F S32x128x256 .f32) : Left F where
  dq := arg8.view.read (Elt F) (arg8.view.writes (Elt F) arg8.view.junk (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).1)
  dk := none0.dk
  dv := none0.dv
  g0 := arg11.view.read (Elt F) (arg11.view.writes (Elt F) (harg11.unread g0) (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1)
  g1 := arg12.view.read (Elt F) (arg12.view.writes (Elt F) (harg12.unread g1) (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1)

theorem coverB_dq (hc0 : ¬First i) (hc1 : ¬Last i) (g0 g1 : Vec F S32x128x256 .f32) (y : S256x128.Idx) :
    ∃ pc ∈ (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).1, y ∈ pc.1.set :=
  View.cover_of_tiledL (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).1 S256x128.size (by sl_kernel_rfl) y

/-- The body's triple, case B. -/
theorem tileB (hc0 : ¬First i) (hc1 : ¬Last i) (g0 g1 : Vec F S32x128x256 .f32) (E : Set ℕ) (K : PUnit → sProp 𝕄) (y9 y10 : Vec F S8192x128 .bf16) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare y9 ∗ owns (c : Thread nD τ) arg10 fullShare y10 ∗ owns (c : Thread nD τ) arg11 fullShare g0 ∗ owns (c : Thread nD τ) arg12 fullShare g1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (leftB c i arg2 harg2 arg3 harg3 arg4 harg4 arg5 harg5 arg6 harg6 arg7 harg7 arg8 harg8 arg9 harg9 arg10 harg10 arg11 harg11 arg12 harg12 x0 x1 x2 x3 x4 x5 hc0 hc1 g0 g1).dq
          ∗ owns (c : Thread nD τ) arg9 fullShare y9
          ∗ owns (c : Thread nD τ) arg10 fullShare y10
          ∗ owns (c : Thread nD τ) arg11 fullShare (leftB c i arg2 harg2 arg3 harg3 arg4 harg4 arg5 harg5 arg6 harg6 arg7 harg7 arg8 harg8 arg9 harg9 arg10 harg10 arg11 harg11 arg12 harg12 x0 x1 x2 x3 x4 x5 hc0 hc1 g0 g1).g0
          ∗ owns (c : Thread nD τ) arg12 fullShare (leftB c i arg2 harg2 arg3 harg3 arg4 harg4 arg5 harg5 arg6 harg6 arg7 harg7 arg8 harg8 arg9 harg9 arg10 harg10 arg11 harg11 arg12 harg12 x0 x1 x2 x3 x4 x5 hc0 hc1 g0 g1).g1) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, S0, S1, Hk⟩
  iapply ((runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2 E K y9 y10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, ⟨%e6, H6⟩, H7, H8, S0, S1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_covered c arg8 _ _ (coverB_dq c i arg2 harg2 arg3 harg3 arg4 harg4 arg5 harg5 arg6 harg6 arg7 harg7 arg8 harg8 arg9 harg9 arg10 harg10 arg11 harg11 arg12 harg12 x0 x1 x2 x3 x4 x5 hc0 hc1 g0 g1)); iexact H6
  isplitl [H7]; · iexact H7
  isplitl [H8]; · iexact H8
  isplitl [S0]; · iapply (owns_read c arg11 _); iexact S0
  iapply (owns_read c arg12 _); iexact S1

/-- What the body leaves, case C. -/
def leftC (hc0 : ¬First i) (hc1 : Last i) (g0 g1 : Vec F S32x128x256 .f32) : Left F where
  dq := arg8.view.read (Elt F) (arg8.view.writes (Elt F) arg8.view.junk (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).1)
  dk := arg9.view.read (Elt F) (arg9.view.writes (Elt F) arg9.view.junk (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1)
  dv := arg10.view.read (Elt F) (arg10.view.writes (Elt F) arg10.view.junk (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1)
  g0 := arg11.view.read (Elt F) (arg11.view.writes (Elt F) (harg11.unread g0) (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.1)
  g1 := arg12.view.read (Elt F) (arg12.view.writes (Elt F) (harg12.unread g1) (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.2.1)

theorem coverC_dq (hc0 : ¬First i) (hc1 : Last i) (g0 g1 : Vec F S32x128x256 .f32) (y : S256x128.Idx) :
    ∃ pc ∈ (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).1, y ∈ pc.1.set :=
  View.cover_of_tiledL (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).1 S256x128.size (by sl_kernel_rfl) y

theorem coverC_dk (hc0 : ¬First i) (hc1 : Last i) (g0 g1 : Vec F S32x128x256 .f32) (y : S8192x128.Idx) :
    ∃ pc ∈ (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1, y ∈ pc.1.set :=
  View.cover_of_tiledL (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1 S256x128.size (by sl_kernel_rfl) y

theorem coverC_dv (hc0 : ¬First i) (hc1 : Last i) (g0 g1 : Vec F S32x128x256 .f32) (y : S8192x128.Idx) :
    ∃ pc ∈ (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1 S256x128.size (by sl_kernel_rfl) y

/-- The body's triple, case C. -/
theorem tileC (hc0 : ¬First i) (hc1 : Last i) (g0 g1 : Vec F S32x128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare g0 ∗ owns (c : Thread nD τ) arg12 fullShare g1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).dq
          ∗ owns (c : Thread nD τ) arg9 fullShare (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).dk
          ∗ owns (c : Thread nD τ) arg10 fullShare (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).dv
          ∗ owns (c : Thread nD τ) arg11 fullShare (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).g0
          ∗ owns (c : Thread nD τ) arg12 fullShare (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).g1) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, S0, S1, Hk⟩
  iapply ((runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, ⟨%e6, H6⟩, ⟨%e7, H7⟩, ⟨%e8, H8⟩, S0, S1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (owns_covered c arg8 _ _ (coverC_dq c i arg2 harg2 arg3 harg3 arg4 harg4 arg5 harg5 arg6 harg6 arg7 harg7 arg8 harg8 arg9 harg9 arg10 harg10 arg11 harg11 arg12 harg12 x0 x1 x2 x3 x4 x5 hc0 hc1 g0 g1)); iexact H6
  isplitl [H7]; · iapply (owns_covered c arg9 _ _ (coverC_dk c i arg2 harg2 arg3 harg3 arg4 harg4 arg5 harg5 arg6 harg6 arg7 harg7 arg8 harg8 arg9 harg9 arg10 harg10 arg11 harg11 arg12 harg12 x0 x1 x2 x3 x4 x5 hc0 hc1 g0 g1)); iexact H7
  isplitl [H8]; · iapply (owns_covered c arg10 _ _ (coverC_dv c i arg2 harg2 arg3 harg3 arg4 harg4 arg5 harg5 arg6 harg6 arg7 harg7 arg8 harg8 arg9 harg9 arg10 harg10 arg11 harg11 arg12 harg12 x0 x1 x2 x3 x4 x5 hc0 hc1 g0 g1)); iexact H8
  isplitl [S0]; · iapply (owns_read c arg11 _); iexact S0
  iapply (owns_read c arg12 _); iexact S1

end Cert.AttnBwdIdeal.Tile

end
-- ==== Proof.AttnFrame.lean ====
module

public import proofs.«01_k».proof.Proof.AttnTile
public import Idealize.ShloMosaic.Lib.Claim

@[expose] public section

set_option maxRecDepth 16384

noncomputable section

namespace Cert.AttnBwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_last (i : grid0.Coords) (h : First i) : ¬Last i := by
  intro h'
  have hi : (i 1).val < 32 := (i 1).isLt
  have e : ∀ a : Fin 32, (Scalar.cmpi .ne (Scalar.extui (Scalar.cmpi .eq (BitVec.ofNat 32 a.val) 0#32)) 0#32) = 1#1 →
      ¬ Scalar.cmpi .ne (Scalar.extui (Scalar.cmpi .eq (BitVec.ofNat 32 a.val) 31#32)) 0#32 = 1#1 := by decide +kernel
  exact e ⟨(i 1).val, hi⟩ h h'

/-- What point `t` leaves, the running sums entering it at `g0` and `g1`. -/
def leftAt (c : Dev nD) (t : Fin cfg0.N) (g0 g1 : Vec F S32x128x256 .f32) : Left F :=
  if h0 : First (grid0.coords t) then leftA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 (not_last _ h0)
  else if h1 : Last (grid0.coords t) then leftC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 g0 g1
  else leftB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 g0 g1

/-- What the points up to `n` leave. -/
def leftUpTo (c : Dev nD) : (n : ℕ) → n < cfg0.N → Left F
  | 0, hn => leftAt m c ⟨0, hn⟩ none0.g0 none0.g1
  | n + 1, hn => leftAt m c ⟨n + 1, hn⟩ (leftUpTo c n (Nat.lt_of_succ_lt hn)).g0 (leftUpTo c n (Nat.lt_of_succ_lt hn)).g1

/-- What point `t` leaves, the points before it done. -/
abbrev left (c : Dev nD) (t : Fin cfg0.N) : Left F := leftUpTo m c t.val t.isLt

theorem left_first (c : Dev nD) (t : Fin cfg0.N) (h0 : First (grid0.coords t)) :
    left m c t = leftA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 (not_last _ h0) := by
  obtain ⟨n, hn⟩ := t
  cases n <;> exact dif_pos h0

theorem left_later (c : Dev nD) (t s : Fin cfg0.N) (hs : t.val = s.val + 1) :
    left m c t = leftAt m c t (left m c s).g0 (left m c s).g1 := by
  obtain ⟨n, hn⟩ := t
  obtain ⟨k, hk⟩ := s
  obtain rfl : n = k + 1 := hs
  rfl

theorem leftAt_last (c : Dev nD) (t : Fin cfg0.N) (g0 g1) (h0 : ¬First (grid0.coords t)) (h1 : Last (grid0.coords t)) :
    leftAt m c t g0 g1 = leftC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 g0 g1 :=
  (dif_neg h0).trans (dif_pos h1)

theorem leftAt_mid (c : Dev nD) (t : Fin cfg0.N) (g0 g1) (h0 : ¬First (grid0.coords t)) (h1 : ¬Last (grid0.coords t)) :
    leftAt m c t g0 g1 = leftB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 g0 g1 :=
  (dif_neg h0).trans (dif_neg h1)

/-- Before a point: at the launch the running sums hold anything, later what the point before left. -/
def held (c : Dev nD) : (n : ℕ) → n ≤ cfg0.N → sProp 𝕄
  | 0, _ => Pipeline.ΦA spec0 c
  | n + 1, hn => iprop((owns (c : Thread nD τ) (Memref.whole cc0_scratch0) fullShare (leftUpTo m c n hn).g0
      ∗ owns (c : Thread nD τ) (Memref.whole cc0_scratch1) fullShare (leftUpTo m c n hn).g1) ∗ (∃ r, prngReg c r))

theorem ΦA_eq (c : Dev nD) : (Pipeline.ΦA spec0 c : sProp 𝕄)
    = iprop(((∃ d, owns (c : Thread nD τ) (Memref.whole cc0_scratch0 : Memref sig .tc .vmem S32x128x256 .f32) fullShare d)
        ∗ (∃ d, owns (c : Thread nD τ) (Memref.whole cc0_scratch1 : Memref sig .tc .vmem S32x128x256 .f32) fullShare d)) ∗ (∃ r, prngReg c r)) := by
  unfold Pipeline.ΦA; rw [scopedRest0_eq]; simp only [owns_whole]

/-- Whatever the position, the running sums are there at some contents. -/
theorem held_some (c : Dev nD) (n : ℕ) (h : n ≤ cfg0.N) : held m c n h ⊢ (Pipeline.ΦA spec0 c : sProp 𝕄) := by
  cases n with
  | zero => exact Idealize.SL.BI.Entails.refl _
  | succ n =>
    rw [ΦA_eq]; unfold held
    iintro ⟨⟨S0, S1⟩, Hg⟩
    isplitl [S0 S1]
    · isplitl [S0]
      · iexists _; iexact S0
      iexists _; iexact S1
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t).dq
    | ⟨7, _⟩ => (left m c t).dk
    | ⟨8, _⟩ => (left m c t).dv
  Φ t := held m c t.val (Nat.le_of_lt_succ t.isLt)
  q w := Pipeline.shareOf spec0 w
  owed _ := 0

theorem entry (c : Dev nD) (w : Fin cfg0.W) : (dats m 0 c).A w = V m c (Pipeline.arrRef spec0 w) := by dsimp only [dats]

theorem Φ_start (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (entry m c 0) (after_0 m c) t d

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (entry m c 1) (after_1 m c) t d

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (entry m c 2) (after_2 m c) t d

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (entry m c 3) (after_3 m c) t d

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (entry m c 4) (after_4 m c) t d

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (entry m c 5) (after_5 m c) t d

theorem after_6 (c : Dev nD) (t : Fin cfg0.N) : (dats m 0 c).after 6 t = (left m c t).dq := by dsimp only [dats]

theorem after_7 (c : Dev nD) (t : Fin cfg0.N) : (dats m 0 c).after 7 t = (left m c t).dk := by dsimp only [dats]

theorem after_8 (c : Dev nD) (t : Fin cfg0.N) : (dats m 0 c).after 8 t = (left m c t).dv := by dsimp only [dats]

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]

theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]

theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]

theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]

theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]

theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]

theorem leaves_6 (c : Dev nD) (t : Fin cfg0.N) : (dats m 0 c).leavesExact 6 t = owns (c : Thread nD τ) (win0_6.stage (cfg0.slots t 6)) fullShare (left m c t).dq := by
  unfold Dat.leavesExact; rw [show cfg0.idle 6 (grid0.coords t) = false from rfl, after_6]

theorem leaves_7 (c : Dev nD) (t : Fin cfg0.N) (h : Last (grid0.coords t)) :
    (dats m 0 c).leavesExact 7 t = owns (c : Thread nD τ) (win0_7.stage (cfg0.slots t 7)) fullShare (left m c t).dk := by
  unfold Dat.leavesExact; rw [busy7 t h, after_7]

theorem quiet_7 (c : Dev nD) (t : Fin cfg0.N) (h : ¬Last (grid0.coords t)) (d) :
    (owns (c : Thread nD τ) (win0_7.stage (cfg0.slots t 7)) fullShare ((dats m 0 c).before 7 t d) : sProp 𝕄) ⊢ (dats m 0 c).leavesExact 7 t := by
  rw [Dat.leavesExact_idle _ 7 t (quiet7 t h).1 (quiet7 t h).2]
  iintro H; iexists d; iexact H

theorem leaves_8 (c : Dev nD) (t : Fin cfg0.N) (h : Last (grid0.coords t)) :
    (dats m 0 c).leavesExact 8 t = owns (c : Thread nD τ) (win0_8.stage (cfg0.slots t 8)) fullShare (left m c t).dv := by
  unfold Dat.leavesExact; rw [busy8 t h, after_8]

theorem quiet_8 (c : Dev nD) (t : Fin cfg0.N) (h : ¬Last (grid0.coords t)) (d) :
    (owns (c : Thread nD τ) (win0_8.stage (cfg0.slots t 8)) fullShare ((dats m 0 c).before 8 t d) : sProp 𝕄) ⊢ (dats m 0 c).leavesExact 8 t := by
  rw [Dat.leavesExact_idle _ 8 t (quiet8 t h).1 (quiet8 t h).2]
  iintro H; iexists d; iexact H

set_option maxHeartbeats 4000000 in
/-- The body's triple at a point. -/
theorem body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
      ⊢ wp frame (wpE (defs₀ (F := F)) Variants.none c none) Set.univ (bodyAt0 t) (fun _ =>
        iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)) := by
  unfold bodyAt0
  simp only [before_0, before_1, before_2, before_3, before_4, before_5, leaves_0, leaves_1, leaves_2, leaves_3, leaves_4, leaves_5, leaves_6]
  rw [show (dats m 0 c).owesAt () t.succ = (dats m 0 c).owesAt () t.castSucc from rfl, Φ_start,
    show (dats m 0 c).Φ t.succ = held m c (t.val + 1) t.isLt from rfl]
  rw [show held m c (t.val + 1) t.isLt = iprop((owns (c : Thread nD τ) (Memref.whole cc0_scratch0) fullShare (left m c t).g0
      ∗ owns (c : Thread nD τ) (Memref.whole cc0_scratch1) fullShare (left m c t).g1) ∗ (∃ r, prngReg c r)) from rfl]
  have hN : t.val < 128 := lt_of_lt_of_eq t.isLt N_0
  by_cases h0 : First (grid0.coords t)
  · rw [left_first m c t h0]
    refine (sep_mono (held_some m c _ _) .rfl).trans ?_
    rw [ΦA_eq]
    iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tileA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 (not_last _ h0) Set.univ _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [S0]; · iexact S0
    isplitl [S1]; · iexact S1
    iintro ⟨H0, H1, H2, H3, H4, H5, H6, H7, H8, S0, S1⟩
    isplitl [S0 S1 Hg]
    · isplitl [S0 S1]
      · isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (quiet_7 m c t (not_last _ h0) _); iexact H7
    iapply (quiet_8 m c t (not_last _ h0) _); iexact H8
  · obtain ⟨s, hs⟩ : ∃ s : Fin cfg0.N, t.val = s.val + 1 :=
      ⟨⟨t.val - 1, by omega⟩, by
        have : t.val ≠ 0 := fun e => h0 ((first_iff t).mpr (by rw [e]))
        simp only []; omega⟩
    rw [left_later m c t s hs]
    have hh : held m c t.val (Nat.le_of_lt t.isLt) = iprop((owns (c : Thread nD τ) (Memref.whole cc0_scratch0) fullShare (left m c s).g0
      ∗ owns (c : Thread nD τ) (Memref.whole cc0_scratch1) fullShare (left m c s).g1) ∗ (∃ r, prngReg c r)) := by
      obtain ⟨n, hn⟩ := t
      obtain rfl : n = s.val + 1 := hs
      rfl
    rw [hh]
    by_cases h1 : Last (grid0.coords t)
    · rw [leaves_7 m c t h1, leaves_8 m c t h1, left_later m c t s hs, leftAt_last m c t _ _ h0 h1]
      iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (tileC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [S0]; · iexact S0
      isplitl [S1]; · iexact S1
      iintro ⟨H0, H1, H2, H3, H4, H5, H6, H7, H8, S0, S1⟩
      isplitl [S0 S1 Hg]
      · isplitl [S0 S1]
        · isplitl [S0]; · iexact S0
          iexact S1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [leftAt_mid m c t _ _ h0 h1]
      iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (tileB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) h0 h1 _ _ Set.univ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [S0]; · iexact S0
      isplitl [S1]; · iexact S1
      iintro ⟨H0, H1, H2, H3, H4, H5, H6, H7, H8, S0, S1⟩
      isplitl [S0 S1 Hg]
      · isplitl [S0 S1]
        · isplitl [S0]; · iexact S0
          iexact S1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (quiet_7 m c t h1 _); iexact H7
      iapply (quiet_8 m c t h1 _); iexact H8

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The launch: the arrays end at what the proof data says, and no semaphore is left raised. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := entry m)
    (hin := fun c => .rfl) (hout := fun c => held_some m c cfg0.N le_rfl)

theorem run_post : θ_run defs (onTc (τ := τ) (main (F := F))) (s₀ m ρ) (Pipeline.FramePost cfgs (dats m) 0 (V m)) :=
  (θ_run defs _ _).mono (fun _ h => h.1) (run_all m ρ)

/-- The frame: the arguments end as they were and no semaphore is left raised, for any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (entry m) (run_post m ρ)) ((θ_run defs _ _).mono (fun _ h => h.2) (run_all m ρ))

end Cert.AttnBwdIdeal.Tile

end
-- ==== Proof.AttnMath.lean ====
/- The mathematics of the stick-breaking attention's gradient over the reals, on rows and columns counted by natural numbers:
   what one head computes, and the sums over lanes and stacked rows by which one tile of the kernel computes it for two heads. -/
module

public import Mathlib.Analysis.SpecialFunctions.Log.Basic
public import Mathlib.Algebra.BigOperators.Intervals
public import Mathlib.Data.EReal.Operations

@[expose] public section

noncomputable section

namespace Cert.AttnMath

open Finset

/-- log(1 + e^x), as both programs write it. -/
def sp (x : ℝ) : ℝ := max x 0 + Real.log (1 + Real.exp (-|x|))

theorem exp_sp (x : ℝ) : Real.exp (sp x) = 1 + Real.exp x := by
  have h : (0 : ℝ) < 1 + Real.exp (-|x|) := by positivity
  rw [sp, Real.exp_add, Real.exp_log h]
  rcases le_total x 0 with hx | hx
  · rw [max_eq_right hx, abs_of_nonpos hx]; simp
  · rw [max_eq_left hx, abs_of_nonneg hx, mul_add, ← Real.exp_add]; simp [add_comm]

theorem sp_neg (x : ℝ) : -sp (-x) = x - sp x := by
  have : max (-x) 0 = max x 0 - x := by
    rcases le_total x 0 with hx | hx
    · rw [max_eq_right hx, max_eq_left (by linarith)]; ring
    · rw [max_eq_left hx, max_eq_right (by linarith)]; ring
  rw [sp, sp, abs_neg, this]; ring

/-- The two slopes of log(1 + e^x) add to one. -/
theorem exp_neg_sp (x : ℝ) : Real.exp (-sp x) = 1 - Real.exp (x - sp x) := by
  have h : (0 : ℝ) < 1 + Real.exp x := by positivity
  rw [Real.exp_sub, Real.exp_neg, exp_sp]
  field_simp
  ring

section head

variable (Q K V D : ℕ → ℕ → ℝ)

/-- The product of row `q` of `A` and row `k` of `B` over head `h`'s columns. -/
def hd (A B : ℕ → ℕ → ℝ) (h q k : ℕ) : ℝ := ∑ d ∈ range 64, A q (64 * h + d) * B k (64 * h + d)

/-- The logits. -/
def Z (h q k : ℕ) : ℝ := hd Q K h q k * 0.125
/-- log(1 − β). -/
def LM (h q k : ℕ) : ℝ := -sp (Z Q K h q k)
/-- log β. -/
def LB (h q k : ℕ) : ℝ := Z Q K h q k - sp (Z Q K h q k)
/-- The sum of log(1 − β) over the first `n` keys. -/
def SM (h q n : ℕ) : ℝ := ∑ k ∈ range n, LM Q K h q k
/-- The weights. -/
def W (h q k : ℕ) : ℝ := if k < q then Real.exp (LB Q K h q k + (SM Q K h q q - SM Q K h q (k + 1))) else 0
/-- The weights times their cotangent. -/
def E (h q k : ℕ) : ℝ := W Q K h q k * hd D V h q k
/-- The sum of those over the first `n` keys. -/
def PS (h q n : ℕ) : ℝ := ∑ k ∈ range n, E Q K V D h q k
/-- The logits' cotangent. -/
def DZ (h q k : ℕ) : ℝ :=
  if k < q then E Q K V D h q k * (1 - Real.exp (LB Q K h q k)) - PS Q K V D h q k * Real.exp (LB Q K h q k) else 0

/-- The gradient with respect to the queries, at column `l` of head `l / 64`. -/
def DQ (q l : ℕ) : ℝ := (∑ k ∈ range 8192, DZ Q K V D (l / 64) q k * K k l) * 0.125
/-- The gradient with respect to the keys. -/
def DK (k l : ℕ) : ℝ := ∑ q ∈ range 8192, Q q l * 0.125 * DZ Q K V D (l / 64) q k
/-- The gradient with respect to the values. -/
def DV (k l : ℕ) : ℝ := ∑ q ∈ range 8192, D q l * W Q K (l / 64) q k

theorem SM_add (h q a b : ℕ) : SM Q K h q (a + b) = SM Q K h q a + ∑ t ∈ range b, LM Q K h q (a + t) := sum_range_add _ _ _

theorem PS_add (h q a b : ℕ) : PS Q K V D h q (a + b) = PS Q K V D h q a + ∑ t ∈ range b, E Q K V D h q (a + t) := sum_range_add _ _ _

end head

/-- A sum over the block's 128 lanes of which only one head's 64 count. -/
theorem sum_lanes (A B : ℕ → ℕ → ℝ) (p hh q k : ℕ) (hhh : hh < 2) (s : ℝ) :
    ∑ l ∈ range 128, (if l / 64 = hh then A q (128 * p + l) * s else 0) * B k (128 * p + l) = hd A B (2 * p + hh) q k * s := by
  rw [show (128 : ℕ) = 64 + 64 from rfl, sum_range_add, hd, Finset.sum_mul]
  have h0 : ∀ x ∈ range 64, x / 64 = 0 := fun x hx => Nat.div_eq_of_lt (mem_range.1 hx)
  have h1 : ∀ x ∈ range 64, (64 + x) / 64 = 1 := fun x hx => by have := mem_range.1 hx; omega
  obtain rfl | rfl : hh = 0 ∨ hh = 1 := by omega
  · rw [sum_congr rfl (fun x hx => by rw [if_pos (h0 x hx)]),
      sum_eq_zero (s := range 64) (f := fun x => (if (64 + x) / 64 = 0 then _ else _) * _) (fun x hx => by rw [if_neg (by rw [h1 x hx]; simp), zero_mul]), add_zero]
    refine sum_congr rfl fun x _ => ?_
    rw [show 64 * (2 * p + 0) + x = (64 + 64) * p + x by ring]; ring
  · rw [sum_eq_zero (s := range 64) (f := fun x => (if x / 64 = 1 then _ else _) * _) (fun x hx => by rw [if_neg (by rw [h0 x hx]; simp), zero_mul]), zero_add]
    refine sum_congr rfl fun x hx => ?_
    rw [if_pos (h1 x hx), show 64 * (2 * p + 1) + x = (64 + 64) * p + (64 + x) by ring]; ring

/-- A sum over the 512 stacked rows of which only one head's 256 count. -/
theorem sum_rows (A : ℕ → ℝ) (G : ℕ → ℕ → ℝ) (hh : ℕ) (hhh : hh < 2) :
    ∑ r ∈ range 512, (if hh = r / 256 then A (r % 256) else 0) * G (r / 256) (r % 256) = ∑ t ∈ range 256, A t * G hh t := by
  rw [show (512 : ℕ) = 256 + 256 from rfl, sum_range_add]
  have h0 : ∀ x ∈ range 256, x / 256 = 0 ∧ x % 256 = x := fun x hx => by have := mem_range.1 hx; omega
  have h1 : ∀ x ∈ range 256, (256 + x) / 256 = 1 ∧ (256 + x) % 256 = x := fun x hx => by have := mem_range.1 hx; omega
  rw [sum_congr rfl (fun x hx => by rw [(h0 x hx).1, (h0 x hx).2]),
    sum_congr (s₁ := range 256) (f := fun x => (if hh = (256 + x) / 256 then A ((256 + x) % 256) else 0) * G ((256 + x) / 256) ((256 + x) % 256)) rfl
      (fun x hx => by rw [(h1 x hx).1, (h1 x hx).2])]
  obtain rfl | rfl : hh = 0 ∨ hh = 1 := by omega
  all_goals simp

/-- A sum over 512 stacked columns, the second half of which is zero. -/
theorem sum_split (x : ℕ → ℝ) (u : ℕ → ℝ) :
    ∑ r ∈ range 512, (if r < 256 then x r else x (r - 256) - x (r - 256)) * u (r % 256) = ∑ r ∈ range 256, x r * u r := by
  rw [show (512 : ℕ) = 256 + 256 from rfl, sum_range_add]
  rw [sum_eq_zero (s := range 256) (f := fun r => (if 256 + r < 256 then _ else _) * _) (fun r _ => by
    rw [if_neg (by omega)]; ring), add_zero]
  exact sum_congr rfl fun r hr => by
    have := mem_range.1 hr
    rw [if_pos this, Nat.mod_eq_of_lt this]

/-- A sum with an indicator of the first `n` terms. -/
theorem sum_below (x : ℕ → ℝ) (n N : ℕ) (h : n ≤ N) :
    ∑ r ∈ range N, x r * (if r < n then 1 else 0) = ∑ r ∈ range n, x r := by
  simp only [mul_ite, mul_one, mul_zero]
  rw [← sum_filter]
  exact sum_congr (by ext a; simp only [mem_filter, mem_range]; omega) fun _ _ => rfl

/-- A finite sum of real products, summed in the extended reals. -/
theorem coe_sum_fin {n : ℕ} (f : ℕ → ℝ) : ∑ i : Fin n, ((f i : ℝ) : EReal) = ((∑ i ∈ range n, f i : ℝ) : EReal) := by
  rw [Finset.sum_range]
  induction n with
  | zero => simp
  | succ n ih => rw [Fin.sum_univ_castSucc, Fin.sum_univ_castSucc, EReal.coe_add]; exact congrArg (· + _) ih

theorem coe_sum_mul {n : ℕ} (f g : ℕ → ℝ) :
    ∑ i : Fin n, ((f i : ℝ) : EReal) * ((g i : ℝ) : EReal) = ((∑ i ∈ range n, f i * g i : ℝ) : EReal) := by
  rw [← coe_sum_fin]
  exact Finset.sum_congr rfl fun i _ => (EReal.coe_mul _ _).symm

end Cert.AttnMath

end
-- ==== Proof.AttnPay.lean ====
/- What each stored or carried vector of the stick-breaking attention's gradient kernel is over the reals. -/
module

public import proofs.«01_k».proof.Proof.AttnMath
public import proofs.«01_k».proof.Proof.AttnTile
public import Idealize.ShloMosaic.Lib.Pipeline.ValueKit
public import Idealize.ShloMosaic.Lib.ValueLayout
public import Idealize.ShloMosaic.Lib.Pointwise

@[expose] public section

open Idealize.ShloMosaic Idealize.ShloMosaic.TcCoe Idealize.SL.Sem
open scoped BigOperators

noncomputable section

namespace Cert.AttnBwdIdeal.Pay

open Cert.AttnBwdIdeal Cert.AttnBwdIdeal.Gen Cert.AttnMath
open Finset (range)

/-- Every entry of a matrix is the given real. -/
abbrev IsC {φ : FTy} {a b : ℕ} (v : FVec Ideal ⟨2, ![a, b]⟩ φ) (f : ℕ → ℕ → ℝ) : Prop :=
  ∀ (i : Fin a) (j : Fin b), v (ix2 i j) = ((f i.val j.val : ℝ) : EReal)

/-- Every entry of a block of one matrix is the given real. -/
abbrev IsB {φ : FTy} {a b : ℕ} (v : FVec Ideal ⟨3, ![1, a, b]⟩ φ) (f : ℕ → ℕ → ℝ) : Prop :=
  ∀ (i : Fin a) (j : Fin b), v (ix3 0 i j) = ((f i.val j.val : ℝ) : EReal)

theorem coe_sum {n : ℕ} (f : Fin n → ℝ) : ∑ i : Fin n, ((f i : ℝ) : EReal) = ((∑ i : Fin n, f i : ℝ) : EReal) := by
  induction n with
  | zero => simp
  | succ n ih => rw [Fin.sum_univ_castSucc, Fin.sum_univ_castSucc, EReal.coe_add, ih]

theorem ideal_sp (x : ℝ) :
    max (x : EReal) 0 + Ideal.log (1 + Ideal.exp (0 - FloatOps.absf (F := Ideal) (φ := .f32) (x : EReal))) = ((sp x : ℝ) : EReal) := by
  have h0 : FloatOps.absf (F := Ideal) (φ := .f32) (x : EReal) = ((|x| : ℝ) : EReal) := by
    first | rfl | (simp [FloatOps.absf, Ideal.absf]; done) | trace_state
  have h1 : ¬ (1 + Real.exp (-|x|) ≤ 0) := not_le.2 (by positivity)
  rw [h0, show (0 : EReal) - ((|x| : ℝ) : EReal) = ((-|x| : ℝ) : EReal) by rw [zero_sub, EReal.coe_neg]]
  rw [show Ideal.exp ((-|x| : ℝ) : EReal) = ((Real.exp (-|x|) : ℝ) : EReal) from rfl,
    show (1 : EReal) + ((Real.exp (-|x|) : ℝ) : EReal) = ((1 + Real.exp (-|x|) : ℝ) : EReal) from rfl]
  rw [show Ideal.log ((1 + Real.exp (-|x|) : ℝ) : EReal) = ((Real.log (1 + Real.exp (-|x|)) : ℝ) : EReal) from if_neg h1]
  rw [show max (x : EReal) 0 = ((max x 0 : ℝ) : EReal) from (EReal.coe_strictMono.monotone.map_max (a := x) (b := 0)).symm, ← EReal.coe_add]
  rfl

section

variable (Q K V D : ℕ → ℕ → ℝ) (p i kj : ℕ)

/-- Two heads' rows of `A`, stacked: the other head's lanes are zero. -/
def stack (A : ℕ → ℕ → ℝ) (s : ℝ) (p i r l : ℕ) : ℝ := if l / 64 = r / 256 then A (256 * i + r % 256) (128 * p + l) * s else 0

variable {v65 : FVec Ideal S512x128 .bf16} {v187 : FVec Ideal S1x256x128 .bf16} {v66 : FVec Ideal S512x128 .bf16} {v190 : FVec Ideal S1x256x128 .bf16}
  {v13 v14 : FVec Ideal S512x256 .bf16} {v83 cb cp : FVec Ideal S512x1 .f32} {v68 v70 : FVec Ideal S128x512 .bf16}

theorem pay7 (hq : IsC v65 (stack Q 0.125 p i)) (hk : IsB v187 fun j l => K (256 * kj + j) (128 * p + l)) :
    IsC (k0_pay7 v65 v187) fun r j => Z Q K (2 * p + r / 256) (256 * i + r % 256) (256 * kj + j) := by
  intro r j
  pointwise [k0_pay7, k0_pay6]
  simp only [hq r _, hk j _, ← EReal.coe_mul, coe_sum]
  rw [Z, ← sum_lanes Q K p (r.val / 256) (256 * i + r.val % 256) (256 * kj + j.val) (by omega) 0.125, Finset.sum_range]
  rfl

theorem pay8 (hq : IsC v65 (stack Q 0.125 p i)) (hk : IsB v187 fun j l => K (256 * kj + j) (128 * p + l)) :
    IsC (k0_pay8 v65 v187) fun r j => sp (Z Q K (2 * p + r / 256) (256 * i + r % 256) (256 * kj + j)) := by
  intro r j
  pointwise [k0_pay8]
  rw [pay7 Q K p i kj hq hk, ideal_sp]

theorem pay9 (hq : IsC v65 (stack Q 0.125 p i)) (hk : IsB v187 fun j l => K (256 * kj + j) (128 * p + l)) :
    IsC (k0_pay9 v65 v187) fun r j => LM Q K (2 * p + r / 256) (256 * i + r % 256) (256 * kj + j) := by
  intro r j
  pointwise [k0_pay9]
  rw [pay8 Q K p i kj hq hk, LM, EReal.coe_neg, zero_sub]

theorem pay10 (hq : IsC v65 (stack Q 0.125 p i)) (hk : IsB v187 fun j l => K (256 * kj + j) (128 * p + l)) :
    IsC (k0_pay10 v65 v187) fun r j => LB Q K (2 * p + r / 256) (256 * i + r % 256) (256 * kj + j) := by
  intro r j
  pointwise [k0_pay10]
  rw [pay8 Q K p i kj hq hk, pay7 Q K p i kj hq hk, LB, EReal.coe_sub]

theorem pay14 (hq : IsC v65 (stack Q 0.125 p i)) (hk : IsB v187 fun j l => K (256 * kj + j) (128 * p + l)) :
    IsC (k0_pay14 v65 v187) fun r j => Real.exp (LB Q K (2 * p + r / 256) (256 * i + r % 256) (256 * kj + j)) := by
  intro r j
  pointwise [k0_pay14]
  rw [pay10 Q K p i kj hq hk]; rfl

/-- The rows of one block of keys up to a column, as a matrix of zeros and ones. -/
def upto (r j : ℕ) : ℝ := if r % 256 ≤ j then 1 else 0
def before (r j : ℕ) : ℝ := if r % 256 < j then 1 else 0

theorem sum_upto (f : ℕ → ℝ) (j : ℕ) (hj : j < 256) : ∑ x : Fin 256, f x.val * upto x.val j = ∑ t ∈ range (j + 1), f t := by
  rw [← sum_below f (j + 1) 256 (by omega), Finset.sum_range (n := 256)]
  refine Finset.sum_congr rfl fun x _ => ?_
  rw [upto, Nat.mod_eq_of_lt x.isLt]
  simp only [Nat.lt_succ_iff]

theorem sum_before (f : ℕ → ℝ) (j : ℕ) (hj : j < 256) : ∑ x : Fin 256, f x.val * before x.val j = ∑ t ∈ range j, f t := by
  rw [← sum_below f j 256 (by omega), Finset.sum_range (n := 256)]
  refine Finset.sum_congr rfl fun x _ => ?_
  rw [before, Nat.mod_eq_of_lt x.isLt]

theorem pay11 (h : kj < i) (h13 : IsC v13 upto) (hq : IsC v65 (stack Q 0.125 p i))
    (hb : IsC v83 fun r _ => SM Q K (2 * p + r / 256) (256 * i + r % 256) (256 * i + r % 256))
    (hc : IsC cb fun r _ => SM Q K (2 * p + r / 256) (256 * i + r % 256) (256 * kj))
    (hk : IsB v187 fun j l => K (256 * kj + j) (128 * p + l)) :
    IsC (k0_pay11 v13 v65 v83 cb v187) fun r j => W Q K (2 * p + r / 256) (256 * i + r % 256) (256 * kj + j) := by
  intro r j
  pointwise [k0_pay11]
  simp only [pay9 Q K p i kj hq hk r _, pay10 Q K p i kj hq hk r _, hb r _, hc r _, h13 _ j, ← EReal.coe_sub, sub_self, EReal.coe_zero, zero_mul, Finset.sum_const_zero, add_zero,
    ← EReal.coe_mul, coe_sum, ← EReal.coe_add]
  rw [sum_upto (fun t => LM Q K (2 * p + r.val / 256) (256 * i + r.val % 256) (256 * kj + t)) j.val j.isLt, W, if_pos (by omega),
    show 256 * kj + j.val + 1 = 256 * kj + (j.val + 1) by ring, SM_add _ _ _ _ (256 * kj)]
  rfl

theorem pay12 (h : kj < i) (h13 : IsC v13 upto) (hq : IsC v65 (stack Q 0.125 p i)) (hD : IsC v66 (stack D 1 p i))
    (hb : IsC v83 fun r _ => SM Q K (2 * p + r / 256) (256 * i + r % 256) (256 * i + r % 256))
    (hc : IsC cb fun r _ => SM Q K (2 * p + r / 256) (256 * i + r % 256) (256 * kj))
    (hk : IsB v187 fun j l => K (256 * kj + j) (128 * p + l)) (hv : IsB v190 fun j l => V (256 * kj + j) (128 * p + l)) :
    IsC (k0_pay12 v13 v65 v66 v83 cb v187 v190) fun r j => E Q K V D (2 * p + r / 256) (256 * i + r % 256) (256 * kj + j) := by
  intro r j
  pointwise [k0_pay12]
  simp only [pay11 Q K p i kj h h13 hq hb hc hk r j, hD r _, hv j _, ← EReal.coe_mul, coe_sum]
  rw [E, ← mul_one (hd D V _ _ _), ← sum_lanes D V p (r.val / 256) (256 * i + r.val % 256) (256 * kj + j.val) (by omega) 1, Finset.sum_range]
  rfl

theorem pay13 (h : kj < i) (h13 : IsC v13 upto) (h14 : IsC v14 before) (hq : IsC v65 (stack Q 0.125 p i)) (hD : IsC v66 (stack D 1 p i))
    (hb : IsC v83 fun r _ => SM Q K (2 * p + r / 256) (256 * i + r % 256) (256 * i + r % 256))
    (hc : IsC cb fun r _ => SM Q K (2 * p + r / 256) (256 * i + r % 256) (256 * kj))
    (hp : IsC cp fun r _ => PS Q K V D (2 * p + r / 256) (256 * i + r % 256) (256 * kj))
    (hk : IsB v187 fun j l => K (256 * kj + j) (128 * p + l)) (hv : IsB v190 fun j l => V (256 * kj + j) (128 * p + l)) :
    IsC (k0_pay13 v13 v14 v65 v66 v83 cb cp v187 v190) fun r j => PS Q K V D (2 * p + r / 256) (256 * i + r % 256) (256 * kj + j) := by
  intro r j
  pointwise [k0_pay13]
  simp only [pay12 Q K V D p i kj h h13 hq hD hb hc hk hv r _, hp r _, h14 _ j, ← EReal.coe_sub, sub_self, EReal.coe_zero, zero_mul, Finset.sum_const_zero, add_zero,
    ← EReal.coe_mul, coe_sum, ← EReal.coe_add]
  rw [sum_before (fun t => E Q K V D (2 * p + r.val / 256) (256 * i + r.val % 256) (256 * kj + t)) j.val j.isLt, PS, PS, Finset.sum_range_add]

theorem pay108 {e ps b : FVec Ideal S512x256 .f32} (h : kj < i)
    (he : IsC e fun r j => E Q K V D (2 * p + r / 256) (256 * i + r % 256) (256 * kj + j))
    (hs : IsC ps fun r j => PS Q K V D (2 * p + r / 256) (256 * i + r % 256) (256 * kj + j))
    (hb : IsC b fun r j => Real.exp (LB Q K (2 * p + r / 256) (256 * i + r % 256) (256 * kj + j))) :
    IsC (k0_pay108 e ps b (1 : EReal)) fun r j => DZ Q K V D (2 * p + r / 256) (256 * i + r % 256) (256 * kj + j) := by
  intro r j
  pointwise [k0_pay108]
  rw [he, hs, hb, DZ, if_pos (by omega), EReal.coe_sub, EReal.coe_mul, EReal.coe_mul, EReal.coe_sub, EReal.coe_one]

/-- One more tile of rows in a sum over the rows of two heads. -/
theorem rows_step (A : ℕ → ℕ → ℝ) (s : ℝ) (G : ℕ → ℕ → ℝ) (l : ℕ) (hl : l < 128) :
    ∑ r : Fin 512, stack A s p i r.val l * G (2 * p + r.val / 256) (256 * i + r.val % 256)
      = ∑ t ∈ range 256, A (256 * i + t) (128 * p + l) * s * G ((128 * p + l) / 64) (256 * i + t) := by
  rw [show (128 * p + l) / 64 = 2 * p + l / 64 by omega,
    ← sum_rows (fun t => A (256 * i + t) (128 * p + l) * s) (fun hh t => G (2 * p + hh) (256 * i + t)) (l / 64) (by omega), Finset.sum_range]
  rfl

/-- The key gradient over the first `n` query rows. -/
def DKn (n k l : ℕ) : ℝ := ∑ q ∈ range n, Q q l * 0.125 * DZ Q K V D (l / 64) q k
/-- The value gradient over the first `n` query rows. -/
def DVn (n k l : ℕ) : ℝ := ∑ q ∈ range n, D q l * 1 * W Q K (l / 64) q k
/-- One head's query gradient, before its scale, over the first `n` keys. -/
def DQn (h q n l : ℕ) : ℝ := ∑ k ∈ range n, DZ Q K V D h q k * K k l

theorem pay109 {e ps b : FVec Ideal S512x256 .f32} {o : FVec Ideal S1x128x256 .f32} (h : kj < i)
    (hq : IsC v68 fun l r => stack Q 0.125 p i r l)
    (he : IsC e fun r j => E Q K V D (2 * p + r / 256) (256 * i + r % 256) (256 * kj + j))
    (hs : IsC ps fun r j => PS Q K V D (2 * p + r / 256) (256 * i + r % 256) (256 * kj + j))
    (hb : IsC b fun r j => Real.exp (LB Q K (2 * p + r / 256) (256 * i + r % 256) (256 * kj + j)))
    (ho : IsB o fun l j => DKn Q K V D (256 * i) (256 * kj + j) (128 * p + l)) :
    IsB (k0_pay109 v68 e ps b (1 : EReal) o) fun l j => DKn Q K V D (256 * (i + 1)) (256 * kj + j) (128 * p + l) := by
  intro l j
  pointwise [k0_pay109]
  simp only [pay108 Q K V D p i kj h he hs hb _ j, hq l _, ho l j, ← EReal.coe_mul, coe_sum, ← EReal.coe_add]
  rw [rows_step p i Q 0.125 (fun h q => DZ Q K V D h q (256 * kj + j.val)) l.val l.isLt, DKn, DKn, Nat.mul_add, Finset.sum_range_add]

theorem pay110 {w : FVec Ideal S512x256 .f32} {o : FVec Ideal S1x128x256 .f32}
    (hD : IsC v70 fun l r => stack D 1 p i r l)
    (hw : IsC w fun r j => W Q K (2 * p + r / 256) (256 * i + r % 256) (256 * kj + j))
    (ho : IsB o fun l j => DVn Q K D (256 * i) (256 * kj + j) (128 * p + l)) :
    IsB (k0_pay110 v70 w o) fun l j => DVn Q K D (256 * (i + 1)) (256 * kj + j) (128 * p + l) := by
  intro l j
  pointwise [k0_pay110]
  simp only [hw _ j, hD l _, ho l j, ← EReal.coe_mul, coe_sum, ← EReal.coe_add]
  rw [rows_step p i D 1 (fun h q => W Q K h q (256 * kj + j.val)) l.val l.isLt, DVn, DVn, Nat.mul_add, Finset.sum_range_add]

theorem pay111 {c : FVec Ideal S512x256 .f32}
    (hc : IsC cb fun r _ => SM Q K (2 * p + r / 256) (256 * i + r % 256) (256 * kj))
    (hl : IsC c fun r j => LM Q K (2 * p + r / 256) (256 * i + r % 256) (256 * kj + j)) :
    IsC (k0_pay111 cb c) fun r _ => SM Q K (2 * p + r / 256) (256 * i + r % 256) (256 * (kj + 1)) := by
  intro r j
  pointwise [k0_pay111]
  have h1 := hc r j
  simp only [hl r _, h1, ← EReal.coe_mul, coe_sum, ← EReal.coe_add]
  rw [Nat.mul_add, Nat.mul_one, SM_add, Finset.sum_range (n := 256)]

theorem pay112 {c : FVec Ideal S512x256 .f32}
    (hc : IsC cp fun r _ => PS Q K V D (2 * p + r / 256) (256 * i + r % 256) (256 * kj))
    (hl : IsC c fun r j => E Q K V D (2 * p + r / 256) (256 * i + r % 256) (256 * kj + j)) :
    IsC (k0_pay112 cp c) fun r _ => PS Q K V D (2 * p + r / 256) (256 * i + r % 256) (256 * (kj + 1)) := by
  intro r j
  pointwise [k0_pay112]
  have h1 := hc r j
  simp only [hl r _, h1, ← EReal.coe_mul, coe_sum, ← EReal.coe_add]
  rw [Nat.mul_add, Nat.mul_one, PS_add, Finset.sum_range (n := 256)]

theorem pay113 {e ps b : FVec Ideal S512x256 .f32} {o : FVec Ideal S512x128 .f32} {k : FVec Ideal S256x128 .bf16} (h : kj < i)
    (he : IsC e fun r j => E Q K V D (2 * p + r / 256) (256 * i + r % 256) (256 * kj + j))
    (hs : IsC ps fun r j => PS Q K V D (2 * p + r / 256) (256 * i + r % 256) (256 * kj + j))
    (hb : IsC b fun r j => Real.exp (LB Q K (2 * p + r / 256) (256 * i + r % 256) (256 * kj + j)))
    (hk : IsC k fun j l => K (256 * kj + j) (128 * p + l))
    (ho : IsC o fun r l => DQn Q K V D (2 * p + r / 256) (256 * i + r % 256) (256 * kj) (128 * p + l)) :
    IsC (k0_pay113 o k e ps b (1 : EReal)) fun r l => DQn Q K V D (2 * p + r / 256) (256 * i + r % 256) (256 * (kj + 1)) (128 * p + l) := by
  intro r l
  pointwise [k0_pay113]
  simp only [pay108 Q K V D p i kj h he hs hb r _, hk _ l, ho r l, ← EReal.coe_mul, coe_sum, ← EReal.coe_add]
  rw [DQn, DQn, Nat.mul_add, Finset.sum_range_add, Finset.sum_range (n := 256)]

section masked

theorem sel_zero (c : Prop) [Decidable c] (x : ℝ) :
    Scalar.select (if c then 1#1 else 0#1) (x : EReal) 0 = ((if c then x else 0 : ℝ) : EReal) := by
  by_cases h : c <;> simp [h, Scalar.select]

theorem sel_mul (c : Prop) [Decidable c] (x y : ℝ) :
    Scalar.select (if c then 1#1 else 0#1) ((x : EReal) * y) 0 = (((if c then x else 0) * y : ℝ) : EReal) := by
  by_cases h : c <;> simp [h, Scalar.select]

variable {v16 : IVec S512x256 1} (hm : ∀ (r : Fin 512) (j : Fin 256), v16 (ix2 r j) = if j.val < r.val % 256 then 1#1 else 0#1)

include hm

theorem pay122 (hq : IsC v65 (stack Q 0.125 p i)) (hk : IsB v187 fun j l => K (256 * i + j) (128 * p + l)) :
    IsC (k0_pay122 v65 v187) fun r j => Z Q K (2 * p + r / 256) (256 * i + r % 256) (256 * i + j) := by
  clear hm
  intro r j
  pointwise [k0_pay122, k0_pay120]
  simp only [hq r _, hk j _, ← EReal.coe_mul, coe_sum]
  rw [Z, ← sum_lanes Q K p (r.val / 256) (256 * i + r.val % 256) (256 * i + j.val) (by omega) 0.125, Finset.sum_range]
  rfl

theorem pay123 (hq : IsC v65 (stack Q 0.125 p i)) (hk : IsB v187 fun j l => K (256 * i + j) (128 * p + l)) :
    IsC (k0_pay123 v65 v187) fun r j => sp (Z Q K (2 * p + r / 256) (256 * i + r % 256) (256 * i + j)) := by
  intro r j
  pointwise [k0_pay123]
  rw [pay122 Q K p i hm hq hk, ideal_sp]

theorem pay124 (hq : IsC v65 (stack Q 0.125 p i)) (hk : IsB v187 fun j l => K (256 * i + j) (128 * p + l)) :
    IsC (k0_pay124 v65 v187) fun r j => LB Q K (2 * p + r / 256) (256 * i + r % 256) (256 * i + j) := by
  intro r j
  pointwise [k0_pay124]
  rw [pay122 Q K p i hm hq hk, pay123 Q K p i hm hq hk, LB, EReal.coe_sub]

theorem pay125 (h13 : IsC v13 upto) (hq : IsC v65 (stack Q 0.125 p i))
    (hb : IsC v83 fun r _ => SM Q K (2 * p + r / 256) (256 * i + r % 256) (256 * i + r % 256))
    (hc : IsC cb fun r _ => SM Q K (2 * p + r / 256) (256 * i + r % 256) (256 * i))
    (hk : IsB v187 fun j l => K (256 * i + j) (128 * p + l)) (r : Fin 512) (j : Fin 256) :
    ∃ x : ℝ, k0_pay125 v13 v16 v65 v83 cb v187 (ix2 r j) = (x : EReal)
      ∧ (j.val < r.val % 256 → Real.exp x = W Q K (2 * p + r / 256) (256 * i + r % 256) (256 * i + j)) := by
  pointwise [k0_pay125]
  simp only [pay123 Q K p i hm hq hk r _, pay124 Q K p i hm hq hk r _, hb r _, hc r _, h13 _ j, hm r _, zero_sub, ← EReal.coe_neg, sel_zero, sel_mul, ← EReal.coe_sub, sub_self,
    EReal.coe_zero, zero_mul, Finset.sum_const_zero, add_zero, coe_sum, ← EReal.coe_add]
  refine ⟨_, rfl, fun hj => ?_⟩
  simp only [show ∀ a b c, -sp (Z Q K a b c) = LM Q K a b c from fun _ _ _ => rfl]
  rw [sum_upto (fun t => if t < r.val % 256 then LM Q K (2 * p + r.val / 256) (256 * i + r.val % 256) (256 * i + t) else 0) j.val j.isLt, W, if_pos (by omega),
    show 256 * i + j.val + 1 = 256 * i + (j.val + 1) by ring, SM_add _ _ _ _ (256 * i) (j.val + 1),
    Finset.sum_congr rfl fun t ht => if_pos (by have := Finset.mem_range.1 ht; omega)]

theorem pay126 {x : FVec Ideal S512x256 .f32}
    (hx : ∀ (r : Fin 512) (j : Fin 256), ∃ y : ℝ, x (ix2 r j) = (y : EReal)
      ∧ (j.val < r.val % 256 → Real.exp y = W Q K (2 * p + r / 256) (256 * i + r % 256) (256 * i + j))) :
    IsC (k0_pay126 v16 x) fun r j => W Q K (2 * p + r / 256) (256 * i + r % 256) (256 * i + j) := by
  intro r j
  pointwise [k0_pay126]
  obtain ⟨y, hy, hw⟩ := hx r j
  rw [hm, hy, show Ideal.exp (y : EReal) = ((Real.exp y : ℝ) : EReal) from rfl, sel_zero]
  by_cases hj : j.val < r.val % 256
  · rw [if_pos hj, hw hj]
  · rw [if_neg hj, W, if_neg (by omega)]

theorem pay127 {x b : FVec Ideal S512x256 .f32} {v : FVec Ideal S256x128 .bf16}
    (hx : ∀ (r : Fin 512) (j : Fin 256), ∃ y : ℝ, x (ix2 r j) = (y : EReal)
      ∧ (j.val < r.val % 256 → Real.exp y = W Q K (2 * p + r / 256) (256 * i + r % 256) (256 * i + j)))
    (hb : IsC b fun r j => LB Q K (2 * p + r / 256) (256 * i + r % 256) (256 * i + j))
    (h14 : IsC v14 before) (hD : IsC v66 (stack D 1 p i)) (hv : IsC v fun j l => V (256 * i + j) (128 * p + l))
    (hp : IsC cp fun r _ => PS Q K V D (2 * p + r / 256) (256 * i + r % 256) (256 * i)) :
    IsC (k0_pay127 v14 v16 v66 cp v b x) fun r j => DZ Q K V D (2 * p + r / 256) (256 * i + r % 256) (256 * i + j) := by
  intro r j
  pointwise [k0_pay127]
  have hE : ∀ t : Fin 256, k0_pay126 v16 x (ix2 r t) * ∑ l, v66 (ix2 r l) * v (ix2 t l)
      = ((E Q K V D (2 * p + r.val / 256) (256 * i + r.val % 256) (256 * i + t.val) : ℝ) : EReal) := fun t => by
    simp only [pay126 Q K p i hm hx r t, hD r _, hv t _, ← EReal.coe_mul, coe_sum]
    rw [E, ← mul_one (hd D V _ _ _), ← sum_lanes D V p (r.val / 256) (256 * i + r.val % 256) (256 * i + t.val) (by omega) 1, Finset.sum_range]
    rfl
  simp only [hE, hp r _, hb r j, h14 _ j, hm r j, ← EReal.coe_sub, sub_self, EReal.coe_zero, zero_mul, Finset.sum_const_zero, add_zero,
    ← EReal.coe_mul, coe_sum, ← EReal.coe_add, ← EReal.coe_one]
  rw [show ∀ y : ℝ, Ideal.exp (y : EReal) = ((Real.exp y : ℝ) : EReal) from fun _ => rfl]
  simp only [← EReal.coe_mul, ← EReal.coe_sub, sel_zero]
  rw [sum_before (fun t => E Q K V D (2 * p + r.val / 256) (256 * i + r.val % 256) (256 * i + t)) j.val j.isLt, ← PS_add, DZ]
  simp only [Nat.add_lt_add_iff_left]

theorem pay128 {x b : FVec Ideal S512x256 .f32} {v : FVec Ideal S256x128 .bf16} {o : FVec Ideal S1x128x256 .f32}
    (hq : IsC v68 fun l r => stack Q 0.125 p i r l)
    (hx : ∀ (r : Fin 512) (j : Fin 256), ∃ y : ℝ, x (ix2 r j) = (y : EReal)
      ∧ (j.val < r.val % 256 → Real.exp y = W Q K (2 * p + r / 256) (256 * i + r % 256) (256 * i + j)))
    (hb : IsC b fun r j => LB Q K (2 * p + r / 256) (256 * i + r % 256) (256 * i + j))
    (h14 : IsC v14 before) (hD : IsC v66 (stack D 1 p i)) (hv : IsC v fun j l => V (256 * i + j) (128 * p + l))
    (hp : IsC cp fun r _ => PS Q K V D (2 * p + r / 256) (256 * i + r % 256) (256 * i))
    (ho : IsB o fun l j => DKn Q K V D (256 * i) (256 * i + j) (128 * p + l)) :
    IsB (k0_pay128 v14 v16 v66 v68 cp v b x o) fun l j => DKn Q K V D (256 * (i + 1)) (256 * i + j) (128 * p + l) := by
  intro l j
  pointwise [k0_pay128]
  simp only [pay127 Q K V D p i hm hx hb h14 hD hv hp _ j, hq l _, ho l j, ← EReal.coe_mul, coe_sum, ← EReal.coe_add]
  rw [rows_step p i Q 0.125 (fun h q => DZ Q K V D h q (256 * i + j.val)) l.val l.isLt, DKn, DKn, Nat.mul_add, Finset.sum_range_add]

theorem pay129 {x : FVec Ideal S512x256 .f32} {o : FVec Ideal S1x128x256 .f32}
    (hD : IsC v70 fun l r => stack D 1 p i r l)
    (hx : ∀ (r : Fin 512) (j : Fin 256), ∃ y : ℝ, x (ix2 r j) = (y : EReal)
      ∧ (j.val < r.val % 256 → Real.exp y = W Q K (2 * p + r / 256) (256 * i + r % 256) (256 * i + j)))
    (ho : IsB o fun l j => DVn Q K D (256 * i) (256 * i + j) (128 * p + l)) :
    IsB (k0_pay129 v16 v70 x o) fun l j => DVn Q K D (256 * (i + 1)) (256 * i + j) (128 * p + l) := by
  intro l j
  pointwise [k0_pay129]
  simp only [pay126 Q K p i hm hx _ j, hD l _, ho l j, ← EReal.coe_mul, coe_sum, ← EReal.coe_add]
  rw [rows_step p i D 1 (fun h q => W Q K h q (256 * i + j.val)) l.val l.isLt, DVn, DVn, Nat.mul_add, Finset.sum_range_add]

theorem pay130 {x b : FVec Ideal S512x256 .f32} {k v : FVec Ideal S256x128 .bf16}
    (hx : ∀ (r : Fin 512) (j : Fin 256), ∃ y : ℝ, x (ix2 r j) = (y : EReal)
      ∧ (j.val < r.val % 256 → Real.exp y = W Q K (2 * p + r / 256) (256 * i + r % 256) (256 * i + j)))
    (hb : IsC b fun r j => LB Q K (2 * p + r / 256) (256 * i + r % 256) (256 * i + j))
    (h14 : IsC v14 before) (hD : IsC v66 (stack D 1 p i)) (hk : IsC k fun j l => K (256 * i + j) (128 * p + l))
    (hv : IsC v fun j l => V (256 * i + j) (128 * p + l))
    (hp : IsC cp fun r _ => PS Q K V D (2 * p + r / 256) (256 * i + r % 256) (256 * i)) :
    IsC (k0_pay130 v14 v16 v66 cp k v b x) fun r l => ∑ t ∈ range 256, DZ Q K V D (2 * p + r / 256) (256 * i + r % 256) (256 * i + t) * K (256 * i + t) (128 * p + l) := by
  intro r l
  pointwise [k0_pay130]
  simp only [pay127 Q K V D p i hm hx hb h14 hD hv hp r _, hk _ l, ← EReal.coe_mul, coe_sum]
  rw [Finset.sum_range (n := 256)]

end masked

theorem small_int : ∀ a : Fin 256, (BitVec.ofNat 32 a.val).toInt = (a.val : ℤ) := by decide +kernel

theorem cmp_sle (a b : Fin 256) : IntOp.cmpi .sle (BitVec.ofNat 32 a.val) (BitVec.ofNat 32 b.val) = if a.val ≤ b.val then 1#1 else 0#1 := by
  simp only [IntOp.cmpi, BitVec.sle, small_int, Int.ofNat_le]
  by_cases h : a.val ≤ b.val <;> simp [h]

theorem cmp_slt (a b : Fin 256) : IntOp.cmpi .slt (BitVec.ofNat 32 a.val) (BitVec.ofNat 32 b.val) = if a.val < b.val then 1#1 else 0#1 := by
  simp only [IntOp.cmpi, BitVec.slt, small_int, Int.ofNat_lt]
  by_cases h : a.val < b.val <;> simp [h]

theorem lane_lo : ∀ l : Fin 128, IntOp.andi (IntOp.cmpi .sge (BitVec.ofNat 32 l.val) 0#32) (IntOp.cmpi .slt (BitVec.ofNat 32 l.val) 64#32)
    = if l.val / 64 = 0 then 1#1 else 0#1 := by
  decide +kernel

theorem lane_hi : ∀ l : Fin 128, IntOp.andi (IntOp.cmpi .sge (BitVec.ofNat 32 l.val) 64#32) (IntOp.cmpi .slt (BitVec.ofNat 32 l.val) 128#32)
    = if l.val / 64 = 1 then 1#1 else 0#1 := by
  decide +kernel

theorem bit_real (c : Prop) [Decidable c] :
    FloatOps.sitofp (F := Ideal) .f32 (BitVec.setWidth 32 (if c then 1#1 else 0#1)) = ((if c then 1 else 0 : ℝ) : EReal) := by
  have h1 : FloatOps.sitofp (F := Ideal) .f32 (1#32) = (((1#32).toInt : ℝ) : EReal) := rfl
  have h0 : FloatOps.sitofp (F := Ideal) .f32 (0#32) = (((0#32).toInt : ℝ) : EReal) := rfl
  by_cases h : c
  · rw [if_pos h, if_pos h]; exact h1.trans (by norm_num)
  · rw [if_neg h, if_neg h]; exact h0.trans (by norm_num)

/-- The masks and the stacked operands of the prologue. -/
theorem pay88_is : IsC (k0_pay88 (F := Ideal)) upto := by
  intro r j
  pointwise [k0_pay88]
  split
  · rename_i h
    rw [cmp_sle ⟨r, h⟩ j, bit_real, upto, Nat.mod_eq_of_lt h]
  · rename_i h
    rw [cmp_sle ⟨r - 256, by omega⟩ j, bit_real, upto, show r.val % 256 = r.val - 256 by omega]

theorem pay89_is : IsC (k0_pay89 (F := Ideal)) before := by
  intro r j
  pointwise [k0_pay89]
  split
  · rename_i h
    rw [cmp_slt ⟨r, h⟩ j, bit_real, before, Nat.mod_eq_of_lt h]
  · rename_i h
    rw [cmp_slt ⟨r - 256, by omega⟩ j, bit_real, before, show r.val % 256 = r.val - 256 by omega]

theorem pay90_is (r : Fin 512) (j : Fin 256) : k0_pay90 (ix2 r j) = if j.val < r.val % 256 then 1#1 else 0#1 := by
  pointwise [k0_pay90]
  split
  · rename_i h
    rw [cmp_slt j ⟨r, h⟩, Nat.mod_eq_of_lt h]
  · rename_i h
    rw [cmp_slt j ⟨r - 256, by omega⟩, show r.val % 256 = r.val - 256 by omega]

theorem eighth : Ideal.ofBits .f32 0x3E000000#32 = ((0.125 : ℝ) : EReal) := by
  simp [Ideal.ofBits, Ideal.ieee, -EReal.coe_mul]; norm_num

theorem pay98_is {v18 : FVec Ideal S1x256x128 .bf16} (h : IsB v18 fun t l => Q (256 * i + t) (128 * p + l)) :
    IsC (k0_pay98 (iota .tc S1x128 32 [1] iota_S1x128_d1_w32) (k0_pay91 v18) k0_pay95) (stack Q 0.125 p i) := by
  intro r j
  pointwise [k0_pay98, k0_pay97, k0_pay96, k0_pay95, k0_pay91]
  split
  · rename_i hr
    have h1 := h ⟨r, hr⟩ j
    rw [lane_lo, h1, show Ideal.ofBits .f32 1040187392#32 = _ from eighth, ← EReal.coe_mul, sel_zero, stack, Nat.div_eq_of_lt hr, Nat.mod_eq_of_lt hr]
  · rename_i hr
    have h1 := h ⟨r - 256, by omega⟩ j
    rw [lane_hi, h1, show Ideal.ofBits .f32 1040187392#32 = _ from eighth, ← EReal.coe_mul, sel_zero, stack, show r.val / 256 = 1 by omega, show r.val % 256 = r.val - 256 by omega]

theorem pay99_is {v23 : FVec Ideal S256x128 .bf16} (h : IsC v23 fun t l => D (256 * i + t) (128 * p + l)) :
    IsC (k0_pay99 (iota .tc S1x128 32 [1] iota_S1x128_d1_w32) (k0_pay92 v23) k0_pay95) (stack D 1 p i) := by
  intro r j
  pointwise [k0_pay99, k0_pay97, k0_pay96, k0_pay95, k0_pay92]
  split
  · rename_i hr
    have h1 := h ⟨r, hr⟩ j
    rw [lane_lo, h1, sel_zero, stack, mul_one, Nat.div_eq_of_lt hr, Nat.mod_eq_of_lt hr]
  · rename_i hr
    have h1 := h ⟨r - 256, by omega⟩ j
    rw [lane_hi, h1, sel_zero, stack, mul_one, show r.val / 256 = 1 by omega, show r.val % 256 = r.val - 256 by omega]

theorem pay100_is {v18 : FVec Ideal S1x256x128 .bf16} (h : IsB v18 fun t l => Q (256 * i + t) (128 * p + l)) :
    IsC (k0_pay100 (iota .tc S1x128 32 [1] iota_S1x128_d1_w32) (k0_pay91 v18) k0_pay95) (stack Q 0.125 p i) := by
  intro r j
  pointwise [k0_pay100]
  exact pay98_is Q p i h r j

theorem pay101_is {v23 : FVec Ideal S256x128 .bf16} (h : IsC v23 fun t l => D (256 * i + t) (128 * p + l)) :
    IsC (k0_pay101 (iota .tc S1x128 32 [1] iota_S1x128_d1_w32) (k0_pay92 v23) k0_pay95) (stack D 1 p i) := by
  intro r j
  pointwise [k0_pay101]
  exact pay99_is D p i h r j

theorem pay102_is {v18 : FVec Ideal S1x256x128 .bf16} (h : IsB v18 fun t l => Q (256 * i + t) (128 * p + l)) :
    IsC (k0_pay102 (iota .tc S1x128 32 [1] iota_S1x128_d1_w32) (k0_pay91 v18) k0_pay95) fun l r => stack Q 0.125 p i r l := by
  intro l r
  pointwise [k0_pay102]
  exact pay98_is Q p i h r l

theorem pay103_is {v23 : FVec Ideal S256x128 .bf16} (h : IsC v23 fun t l => D (256 * i + t) (128 * p + l)) :
    IsC (k0_pay103 (iota .tc S1x128 32 [1] iota_S1x128_d1_w32) (k0_pay92 v23) k0_pay95) fun l r => stack D 1 p i r l := by
  intro l r
  pointwise [k0_pay103]
  exact pay99_is D p i h r l

theorem bot_bits : Ideal.ofBits .f32 0xFF800000#32 = (⊥ : EReal) := by
  simp [Ideal.ofBits, Ideal.ieee]

/-- The largest of one head's lanes, which all hold one value. -/
theorem lane_max (x : Fin 128 → EReal) (b : EReal) (hh : ℕ) (hhh : hh < 2) (hx : ∀ l : Fin 128, l.val / 64 = hh → x l = b) :
    Finset.fold max (⊥ : EReal) (fun l : Fin 128 => Scalar.select (if l.val / 64 = hh then 1#1 else 0#1) (x l) ⊥) Finset.univ = b := by
  apply le_antisymm
  · rw [Finset.fold_max_le]
    refine ⟨bot_le, fun l _ => ?_⟩
    by_cases h : l.val / 64 = hh
    · simp [h, Scalar.select, hx l h]
    · simp [h, Scalar.select]
  · rw [Finset.le_fold_max]
    refine .inr ⟨⟨64 * hh, by omega⟩, Finset.mem_univ _, ?_⟩
    have h : (⟨64 * hh, by omega⟩ : Fin 128).val / 64 = hh := by show 64 * hh / 64 = hh; omega
    rw [if_pos h, hx _ h]; simp [Scalar.select]

theorem pay104_is {v26 : FVec Ideal S1x256x128 .f32} (B : ℕ → ℕ → ℝ) (h : IsB v26 fun t l => B (2 * p + l / 64) (256 * i + t)) :
    IsC (k0_pay104 (iota .tc S1x128 32 [1] iota_S1x128_d1_w32) (k0_pay93 v26) k0_pay95) fun r _ => B (2 * p + r / 256) (256 * i + r % 256) := by
  intro r j
  pointwise [k0_pay104, k0_pay97, k0_pay96, k0_pay95, k0_pay93]
  simp only [lane_lo, lane_hi, show Ideal.ofBits .f32 4286578688#32 = _ from bot_bits]
  split
  · rename_i hr
    refine lane_max _ _ 0 (by omega) fun l hl => ?_
    have h1 := h ⟨r, hr⟩ l
    rw [h1]; simp only [hl]; rw [Nat.div_eq_of_lt hr, Nat.mod_eq_of_lt hr]
  · rename_i hr
    refine lane_max _ _ 1 (by omega) fun l hl => ?_
    have h1 := h ⟨r - 256, by omega⟩ l
    rw [h1]; simp only [hl]; rw [show r.val / 256 = 1 by omega, show r.val % 256 = r.val - 256 by omega]

theorem pay105_is (f : ℕ → ℕ → ℝ) (hf : ∀ r j, f r j = 0) : IsC (k0_pay105 (F := Ideal)) f := by
  intro r j
  pointwise [k0_pay105]
  rw [hf, EReal.coe_zero]

theorem pay106_is (f : ℕ → ℕ → ℝ) (hf : ∀ r j, f r j = 0) : IsC (k0_pay106 (F := Ideal) (Scalar.ofBits .f32 0x00000000#32)) f := by
  intro r j
  pointwise [k0_pay106]
  rw [hf, EReal.coe_zero]

theorem pay107_is (f : ℕ → ℕ → ℝ) (hf : ∀ r j, f r j = 0) : IsC (k0_pay107 (F := Ideal)) f := by
  intro r j
  pointwise [k0_pay107]
  rw [hf, EReal.coe_zero]

theorem pay1_is {x y : FVec Ideal S512x128 .f32} {f g : ℕ → ℕ → ℝ} (hx : IsC x f) (hy : IsC y g) (t : Fin 256) (l : Fin 128) :
    k0_pay1 (k0_pay97 (iota .tc S1x128 32 [1] iota_S1x128_d1_w32)) x y (ix2 t l)
      = (((f (256 * (l.val / 64) + t.val) l.val + g (256 * (l.val / 64) + t.val) l.val) * 0.125 : ℝ) : EReal) := by
  pointwise [k0_pay1, k0_pay97]
  have h0 := hx ⟨t, by omega⟩ l
  have h1 := hx ⟨256 + t, by omega⟩ l
  have h2 := hy ⟨t, by omega⟩ l
  have h3 := hy ⟨256 + t, by omega⟩ l
  rw [lane_hi, h0, h1, h2, h3, show Ideal.ofBits .f32 1040187392#32 = _ from eighth]
  by_cases h : l.val / 64 = 1
  · rw [h, EReal.coe_mul, EReal.coe_add]; rfl
  · rw [show l.val / 64 = 0 by omega, EReal.coe_mul, EReal.coe_add]; simp [Scalar.select]

theorem pay2_is {x : FVec Ideal S1x128x256 .f32} {f : ℕ → ℕ → ℝ} (hx : IsB x f) (t : Fin 256) (l : Fin 128) :
    k0_pay2 (F := Ideal) x (ix2 t l) = ((f l.val t.val : ℝ) : EReal) := by
  pointwise [k0_pay2]
  exact hx l t

theorem pay6_is {x : FVec Ideal S1x256x128 .bf16} {f : ℕ → ℕ → ℝ} (h : IsB x f) : IsC (k0_pay6 x) f := by
  intro r l
  pointwise [k0_pay6]
  exact h r l

theorem pay120_is {x : FVec Ideal S1x256x128 .bf16} {f : ℕ → ℕ → ℝ} (h : IsB x f) : IsC (k0_pay120 x) f := by
  intro r l
  pointwise [k0_pay120]
  exact h r l

theorem pay121_is {x : FVec Ideal S1x256x128 .bf16} {f : ℕ → ℕ → ℝ} (h : IsB x f) : IsC (k0_pay121 x) f := by
  intro r l
  pointwise [k0_pay121]
  exact h r l

end

end Cert.AttnBwdIdeal.Pay

end
-- ==== Proof.AttnTrip.lean ====
/- The attention gradient's loop over key blocks: what it carries and what it leaves in the two running sums, over the reals. -/
module

public import proofs.«01_k».proof.Proof.AttnPay
public import Idealize.ShloMosaic.Lib.WholeRead
public import Idealize.ShloMosaic.Lib.WritesUnit

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

/-- With the key loop starting at block 0, trip `k` works on block `k`, and there are as many trips as the query block's number. -/
theorem off1_zero (i : grid0.Coords) (w : BitVec 32) (h : start i w = BitVec.ofNat 32 (0 : Fin 32).val) (k : Fin (k0_t1_loop i w).trips) :
    (k0_t1_loop i w).trips = (i 1).val ∧ k.val < (i 1).val ∧ k0_off1 i w k = ![0, 256 * k.val, 0] ∧ k0_off2 i w k = ![k.val, 0, 0] := by
  have hi : (i 1).val < 32 := (i 1).isLt
  have l := loops ⟨(i 1).val, hi⟩ 0 (Nat.zero_le _)
  have ht : (k0_t1_loop i w).trips = (i 1).val := by
    rw [Scf.Loop.trips, loop1_eq i w (n := 0) (Nat.zero_le _) h]; exact l.2.2.1
  have hk : k.val < (i 1).val := lt_of_lt_of_eq k.isLt ht
  have b := block_word 0 ⟨k.val, by omega⟩ (by simp only [Fin.val_zero]; omega)
  rw [← h] at b
  simp only [Fin.val_zero, Nat.zero_add] at b
  exact ⟨ht, hk, by rw [← b.2]; rfl, by rw [← b.1]; rfl⟩

theorem trips1_zero (i : grid0.Coords) (w : BitVec 32) (h : start i w = BitVec.ofNat 32 (0 : Fin 32).val) :
    (k0_t1_loop i w).trips = (i 1).val := by
  have hi : (i 1).val < 32 := (i 1).isLt
  rw [Scf.Loop.trips, loop1_eq i w (n := 0) (Nat.zero_le _) h]
  exact (loops ⟨(i 1).val, hi⟩ 0 (Nat.zero_le _)).2.2.1

section

variable {F : FTy → Type} [FloatOps F]

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (arg1 : BitVec 32) (v13 v14 : FVec F S512x256 .bf16) (v16 : IVec S512x256 1) (v34 : BitVec 32) (k0_hw1 : k0_chk1 i v34) (v36 : BitVec 32)
  (v65 v66 : FVec F S512x128 .bf16) (v68 v70 : FVec F S128x512 .bf16) (v83 v84 : FVec F S512x1 .f32) (cst_25 : F .f32)
  (X_arg3 : BufTy.Contents (Elt F) arg3.view.ty) (X_arg4 : BufTy.Contents (Elt F) arg4.view.ty)

/-- A trip's block of keys or values. -/
def blk (a : Memref sig .tc .vmem S1x8192x128 .bf16) (X : BufTy.Contents (Elt F) a.view.ty) (k : Fin (k0_t1_loop i v34).trips) : FVec F S1x256x128 .bf16 :=
  by exact View.readAt (Elt F) a.view (Rect.unit (s := S1x8192x128) (k0_off1 i v34 k) ![1, 256, 128] (k0_hw1.2.2.1 k)).toLoadRect X

/-- A trip's block of a running sum. -/
def acc0 (a : Memref sig .tc .vmem S32x128x256 .f32) (X : BufTy.Contents (Elt F) a.view.ty) (k : Fin (k0_t1_loop i v34).trips) : FVec F S1x128x256 .f32 :=
  by exact View.readAt (Elt F) a.view (Rect.unit (s := S32x128x256) (k0_off2 i v34 k) ![1, 128, 256] (k0_hw1.2.2.2.1 k)).toLoadRect X

theorem trip_yield (k : Fin (k0_t1_loop i v34).trips) (acc : FVec F S512x1 .f32 × FVec F S512x1 .f32 × FVec F S512x128 .f32) (f11 f12) :
    tripR_k0_t1 (F := F) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 X_arg3 X_arg4 k acc f11 f12
      = (k0_pay111 acc.1 (k0_pay9 v65 (blk i v34 k0_hw1 arg3 X_arg3 k)),
        k0_pay112 acc.2.1 (k0_pay12 v13 v65 v66 v83 acc.1 (blk i v34 k0_hw1 arg3 X_arg3 k) (blk i v34 k0_hw1 arg4 X_arg4 k)),
        k0_pay113 acc.2.2 (k0_pay6 (blk i v34 k0_hw1 arg3 X_arg3 k))
          (k0_pay12 v13 v65 v66 v83 acc.1 (blk i v34 k0_hw1 arg3 X_arg3 k) (blk i v34 k0_hw1 arg4 X_arg4 k))
          (k0_pay13 v13 v14 v65 v66 v83 acc.1 acc.2.1 (blk i v34 k0_hw1 arg3 X_arg3 k) (blk i v34 k0_hw1 arg4 X_arg4 k))
          (k0_pay14 v65 (blk i v34 k0_hw1 arg3 X_arg3 k)) (Scalar.ofBits .f32 0x3F800000#32)) := by
  delta tripR_k0_t1 trip_k0_t1
  rfl

theorem trip_stores (k : Fin (k0_t1_loop i v34).trips) (acc : FVec F S512x1 .f32 × FVec F S512x1 .f32 × FVec F S512x128 .f32) (f11 f12) :
    tripL_k0_t1 (F := F) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 X_arg3 X_arg4 k acc f11 f12
      = ([⟨Rect.unit (s := S32x128x256) (k0_off2 i v34 k) ![1, 128, 256] (k0_hw1.2.2.2.1 k), k0_pay109 v68
          (k0_pay12 v13 v65 v66 v83 acc.1 (blk i v34 k0_hw1 arg3 X_arg3 k) (blk i v34 k0_hw1 arg4 X_arg4 k))
          (k0_pay13 v13 v14 v65 v66 v83 acc.1 acc.2.1 (blk i v34 k0_hw1 arg3 X_arg3 k) (blk i v34 k0_hw1 arg4 X_arg4 k))
          (k0_pay14 v65 (blk i v34 k0_hw1 arg3 X_arg3 k)) (Scalar.ofBits .f32 0x3F800000#32) (acc0 i v34 k0_hw1 arg11 f11 k)⟩],
        [⟨Rect.unit (s := S32x128x256) (k0_off2 i v34 k) ![1, 128, 256] (k0_hw1.2.2.2.1 k), k0_pay110 v70
          (k0_pay11 v13 v65 v83 acc.1 (blk i v34 k0_hw1 arg3 X_arg3 k)) (acc0 i v34 k0_hw1 arg12 f12 k)⟩]) := by
  delta tripL_k0_t1 trip_k0_t1
  rfl

end

section

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (arg1 : BitVec 32) (v13 v14 : FVec Ideal S512x256 .bf16) (v16 : IVec S512x256 1) (v34 : BitVec 32) (k0_hw1 : k0_chk1 i v34) (v36 : BitVec 32)
  (v65 v66 : FVec Ideal S512x128 .bf16) (v68 v70 : FVec Ideal S128x512 .bf16) (v83 v84 : FVec Ideal S512x1 .f32) (cst_25 : Ideal .f32)
  (x1 x2 : Vec Ideal S1x8192x128 .bf16) (Q K V D : ℕ → ℕ → ℝ) (p : ℕ)

/-- A whole array of one head's keys or values is the given real matrix. -/
abbrev IsK (x : Vec Ideal S1x8192x128 .bf16) (A : ℕ → ℕ → ℝ) (p : ℕ) : Prop := IsB (φ := .bf16) x fun k l => A k (128 * p + l)

theorem blk_is {a : Memref sig .tc .vmem S1x8192x128 .bf16} (ha : a.IsWhole) {x : Vec Ideal S1x8192x128 .bf16} {A : ℕ → ℕ → ℝ}
    (hz : start i v34 = BitVec.ofNat 32 (0 : Fin 32).val) (hx : IsK x A p) (k : Fin (k0_t1_loop i v34).trips) :
    IsB (blk i v34 k0_hw1 a (ha.unread x) k) fun j l => A (256 * k.val + j) (128 * p + l) := by
  intro j l
  have hk := off1_zero i v34 hz k
  have hi : (i 1).val < 32 := (i 1).isLt
  refine (ha.readAt_unread x _ _).trans ?_
  refine Eq.trans ?_ (hx ⟨256 * k.val + j.val, by omega⟩ l)
  congr 1
  funext b
  apply Fin.ext
  refine (congrArg (· + 1 * (ix3 (0 : Fin 1) j l b).val) (congrFun hk.2.2.1 b)).trans ?_
  fin_cases b <;> simp [ix3]

/-- What the loop carries before trip `k`, and what the two running sums hold then. -/
structure Inv (k : ℕ) (acc : FVec Ideal S512x1 .f32 × FVec Ideal S512x1 .f32 × FVec Ideal S512x128 .f32) (f11 : BufTy.Contents (Elt Ideal) arg11.view.ty)
    (f12 : BufTy.Contents (Elt Ideal) arg12.view.ty) : Prop where
  c0 : IsC acc.1 fun r _ => SM Q K (2 * p + r / 256) (256 * (i 1).val + r % 256) (256 * k)
  c1 : IsC acc.2.1 fun r _ => PS Q K V D (2 * p + r / 256) (256 * (i 1).val + r % 256) (256 * k)
  c2 : IsC acc.2.2 fun r l => DQn Q K V D (2 * p + r / 256) (256 * (i 1).val + r % 256) (256 * k) (128 * p + l)
  s0 : ∀ (j : Fin 32) (l : Fin 128) (t : Fin 256), arg11.view.read (Elt Ideal) f11 (ix3 j l t)
      = ((DKn Q K V D (256 * (if j.val < k then (i 1).val + 1 else (i 1).val)) (256 * j.val + t.val) (128 * p + l.val) : ℝ) : EReal)
  s1 : ∀ (j : Fin 32) (l : Fin 128) (t : Fin 256), arg12.view.read (Elt Ideal) f12 (ix3 j l t)
      = ((DVn Q K D (256 * (if j.val < k then (i 1).val + 1 else (i 1).val)) (256 * j.val + t.val) (128 * p + l.val) : ℝ) : EReal)

/-- What the tile's prologue hands to the loop. -/
structure Pro : Prop where
  h13 : IsC v13 upto
  h14 : IsC v14 before
  hq : IsC v65 (stack Q 0.125 p (i 1).val)
  hd : IsC v66 (stack D 1 p (i 1).val)
  hqt : IsC v68 fun l r => stack Q 0.125 p (i 1).val r l
  hdt : IsC v70 fun l r => stack D 1 p (i 1).val r l
  hb : IsC v83 fun r _ => SM Q K (2 * p + r / 256) (256 * (i 1).val + r % 256) (256 * (i 1).val + r % 256)
  hk : IsK x1 K p
  hv : IsK x2 V p

theorem acc0_is {a : Memref sig .tc .vmem S32x128x256 .f32} {X : BufTy.Contents (Elt Ideal) a.view.ty} {f : ℕ → ℕ → ℕ → ℝ}
    (hz : start i v34 = BitVec.ofNat 32 (0 : Fin 32).val)
    (hX : ∀ (j : Fin 32) (l : Fin 128) (t : Fin 256), a.view.read (Elt Ideal) X (ix3 j l t) = ((f j.val l.val t.val : ℝ) : EReal))
    (k : Fin (k0_t1_loop i v34).trips) : IsB (acc0 i v34 k0_hw1 a X k) fun l t => f k.val l t := by
  intro l t
  have hk := off1_zero i v34 hz k
  have hi : (i 1).val < 32 := (i 1).isLt
  refine Eq.trans ?_ (hX ⟨k.val, by omega⟩ l t)
  show a.view.read (Elt Ideal) X _ = _
  congr 1
  funext b
  apply Fin.ext
  refine (congrArg (· + 1 * (ix3 (0 : Fin 1) l t b).val) (congrFun hk.2.2.2 b)).trans ?_
  fin_cases b <;> simp [ix3]

/-- A store of one slab of a running sum. -/
theorem slab_is {a : Memref sig .tc .vmem S32x128x256 .f32} {X : BufTy.Contents (Elt Ideal) a.view.ty} {f : ℕ → ℕ → ℕ → ℝ} {g : ℕ → ℕ → ℝ} (n : ℕ)
    {off : Fin 3 → ℕ} (ho : off = ![n, 0, 0]) (inb : ∀ b, off b + (![1, 128, 256] : Fin 3 → ℕ) b ≤ S32x128x256.size b) {w : FVec Ideal S1x128x256 .f32} (hw : IsB w g)
    (hX : ∀ (j : Fin 32) (l : Fin 128) (t : Fin 256), j.val ≠ n → a.view.read (Elt Ideal) X (ix3 j l t) = ((f j.val l.val t.val : ℝ) : EReal))
    (hg : ∀ l t, g l t = f n l t) (j : Fin 32) (l : Fin 128) (t : Fin 256) :
    a.view.read (Elt Ideal) (a.view.writes (Elt Ideal) X [⟨Rect.unit (s := S32x128x256) off ![1, 128, 256] inb, w⟩]) (ix3 j l t) = ((f j.val l.val t.val : ℝ) : EReal) := by
  by_cases hj : j.val = n
  · rw [View.read_writes_cons_unit_of_mem a.view X inb w [] (ix3 j l t) (ix3 0 l t) ho (by
      intro b; subst hj; fin_cases b <;> simp [ix3]), hw l t, hg, hj]
  · rw [View.read_writes_cons_unit_of_not_mem a.view X inb w [] (ix3 j l t) ho 0 (by
      show j.val < n ∨ n + 1 ≤ j.val; omega)]
    exact hX j l t hj

/-- One trip. -/
theorem trip_inv (hz : start i v34 = BitVec.ofNat 32 (0 : Fin 32).val) (P : Pro i v13 v14 v65 v66 v68 v70 v83 x1 x2 Q K V D p)
    (k : Fin (k0_t1_loop i v34).trips) (acc) (f11) (f12) (h : Inv i arg11 arg12 Q K V D p k.val acc f11 f12) :
    Inv i arg11 arg12 Q K V D p (k.val + 1)
      (tripR_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) k acc f11 f12)
      (arg11.view.writes (Elt Ideal) f11 (tripL_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) k acc f11 f12).1)
      (arg12.view.writes (Elt Ideal) f12 (tripL_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) k acc f11 f12).2) := by
  have hk := off1_zero i v34 hz k
  have bk := blk_is i v34 k0_hw1 p harg3 hz P.hk k
  have bv := blk_is i v34 k0_hw1 p harg4 hz P.hv k
  have hlt := hk.2.1
  have e1 : (Scalar.ofBits (F := Ideal) .f32 0x3F800000#32 : Ideal .f32) = (1 : EReal) := Ideal.ofBits_one_f32
  have eE := pay12 Q K V D p _ k.val hlt P.h13 P.hq P.hd P.hb h.c0 bk bv
  have eP := pay13 Q K V D p _ k.val hlt P.h13 P.h14 P.hq P.hd P.hb h.c0 h.c1 bk bv
  have eB := pay14 Q K p _ k.val P.hq bk
  have eW := pay11 Q K p _ k.val hlt P.h13 P.hq P.hb h.c0 bk
  have b0 := acc0_is (f := fun j l t => DKn Q K V D (256 * (if j < k.val then (i 1).val + 1 else (i 1).val)) (256 * j + t) (128 * p + l)) i v34 k0_hw1 hz h.s0 k
  have b1 := acc0_is (f := fun j l t => DVn Q K D (256 * (if j < k.val then (i 1).val + 1 else (i 1).val)) (256 * j + t) (128 * p + l)) i v34 k0_hw1 hz h.s1 k
  simp only [lt_irrefl, if_false] at b0 b1
  rw [trip_yield, trip_stores]
  refine ⟨?_, ?_, ?_, ?_, ?_⟩
  · exact pay111 Q K p _ k.val h.c0 (pay9 Q K p _ k.val P.hq bk)
  · exact pay112 Q K V D p _ k.val h.c1 eE
  · rw [e1]
    exact pay113 Q K V D p _ k.val hlt eE eP eB (pay6_is bk) h.c2
  · rw [e1]
    exact slab_is (f := fun j l t => DKn Q K V D (256 * (if j < k.val + 1 then (i 1).val + 1 else (i 1).val)) (256 * j + t) (128 * p + l)) k.val hk.2.2.2 _
      (pay109 Q K V D p _ k.val hlt P.hqt eE eP eB b0)
      (fun j l t hj => by rw [h.s0 j l t]; simp only [show j.val < k.val + 1 ↔ j.val < k.val by omega])
      (fun l t => by simp)
  · exact slab_is (f := fun j l t => DVn Q K D (256 * (if j < k.val + 1 then (i 1).val + 1 else (i 1).val)) (256 * j + t) (128 * p + l)) k.val hk.2.2.2 _
      (pay110 Q K D p _ k.val P.hdt eW b1)
      (fun j l t hj => by rw [h.s1 j l t]; simp only [show j.val < k.val + 1 ↔ j.val < k.val by omega])
      (fun l t => by simp)

/-- The loop before trip `k`. -/
theorem loop_inv (hz : start i v34 = BitVec.ofNat 32 (0 : Fin 32).val) (P : Pro i v13 v14 v65 v66 v68 v70 v83 x1 x2 Q K V D p)
    (init : FVec Ideal S512x1 .f32 × FVec Ideal S512x1 .f32 × FVec Ideal S512x128 .f32) (G11) (G12) (h : Inv i arg11 arg12 Q K V D p 0 init G11 G12) :
    ∀ k ≤ (k0_t1_loop i v34).trips, Inv i arg11 arg12 Q K V D p k
      (st_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) G11 G12 init k).1
      (arg11.view.writes (Elt Ideal) G11 (st_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) G11 G12 init k).2.1)
      (arg12.view.writes (Elt Ideal) G12 (st_k0_t1 (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) G11 G12 init k).2.2)
  | 0, _ => h
  | k + 1, hk => by
    have ih := loop_inv hz P init G11 G12 h k (by omega)
    have e := st_k0_t1_succ (F := Ideal) Variants.none c none i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 (harg3.unread x1) (harg4.unread x2) G11 G12 init ⟨k, hk⟩
    rw [e]
    dsimp only
    rw [View.writes_append, View.writes_append]
    exact trip_inv c i arg2 harg2 arg3 harg3 arg4 harg4 arg5 harg5 arg6 harg6 arg7 harg7 arg8 harg8 arg9 harg9 arg10 harg10 arg11 harg11 arg12 harg12 arg1 v13 v14 v16 v34 k0_hw1 v36 v65 v66 v68 v70 v83 v84 cst_25 x1 x2 Q K V D p hz P ⟨k, hk⟩ _ _ _ ih

end

end Cert.AttnBwdIdeal.Pay

end
-- ==== Proof.AttnStores.lean ====
/- What a tile of the attention gradient stores, in closed form. -/
module

public import proofs.«01_k».proof.Proof.AttnTrip
public import proofs.«01_k».proof.Proof.AttnTile

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

/-- The second loop of a tile never runs. -/
theorem trips2_scf (i : grid0.Coords) (w : BitVec 32) : Scf.trips (k0_t2_loop i w).lb (k0_t2_loop i w).ub (k0_t2_loop i w).st = 0 := trips2 i w

section

variable {F : FTy → Type} [FloatOps F]

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

/-- The number of each lane. -/
def lanes : IVec S1x128 32 := iota .tc S1x128 32 [1] iota_S1x128_d1_w32

/-- The queries' block. -/
def ld0 : FVec F S256x128 .f32 := k0_pay91 (View.readAt (Elt F) arg2.view (Rect.unit ![0, 0, 0] S1x256x128.size inb_S1x256x128_S1x256x128_0_0_0).toLoadRect (harg2.unread x0))

/-- The output gradient's block. -/
def ld3 : FVec F S256x128 .f32 := k0_pay92 (View.readAt (Elt F) arg5.view (Rect.unit ![0, 0] S256x128.size inb_S256x128_S256x128_0_0).toLoadRect (harg5.unread x3))

/-- The block of the sums of the logarithms. -/
def ld4 : FVec F S256x128 .f32 := k0_pay93 (View.readAt (Elt F) arg6.view (Rect.unit ![0, 0, 0] S1x256x128.size inb_S1x256x128_S1x256x128_0_0_0).toLoadRect (harg6.unread x4))

/-- The word of the first key block. -/
def ld5 : BitVec 32 := Scalar.fptosi 32 (k0_pay94 (View.readAt (Elt F) arg7.view (Rect.unit ![0, 0, 0, 0] S1x1x8x128.size inb_S1x1x8x128_S1x1x8x128_0_0_0_0).toLoadRect (harg7.unread x5)))

/-- The keys (or values) of the diagonal block. -/
def ldk (i : grid0.Coords) (a : Memref sig .tc .vmem S1x8192x128 .bf16) (ha : a.IsWhole) (x : Vec F S1x8192x128 .bf16) : FVec F S1x256x128 .bf16 :=
  by exact View.readAt (Elt F) a.view (Rect.unit (s := S1x8192x128) (k0_off5 i) ![1, 256, 128] (k0_off5_inb i)).toLoadRect (ha.unread x)

/-- The state after the loop over the earlier key blocks. -/
def lp (v13 v14 : FVec F S512x256 .bf16) (v16 : IVec S512x256 1) (v34 : BitVec 32) (w : k0_chk1 i v34) (v36 : BitVec 32) (v65 v66 : FVec F S512x128 .bf16)
    (v68 v70 : FVec F S128x512 .bf16) (v83 : FVec F S512x1 .f32) (G11 : BufTy.Contents (Elt F) arg11.view.ty) (G12 : BufTy.Contents (Elt F) arg12.view.ty) :=
  st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) v13 v14 v16 v34 w v36 v65 v66 v68 v70 v83
    k0_pay105 (FloatOps.ofBits .f32 0#32) (harg3.unread x1) (harg4.unread x2) G11 G12 (k0_pay105, k0_pay106 (FloatOps.ofBits .f32 0#32), k0_pay107) (k0_t1_loop i v34).trips

/-- The loop's state with the prologue's values. -/
def lpx (G11 : BufTy.Contents (Elt F) arg11.view.ty) (G12 : BufTy.Contents (Elt F) arg12.view.ty) :=
  lp c i arg2 harg2 arg3 harg3 arg4 harg4 arg5 harg5 arg6 harg6 arg7 harg7 arg8 harg8 arg9 harg9 arg10 harg10 arg11 harg11 arg12 harg12 x1 x2 k0_pay88 k0_pay89 k0_pay90 (ld5 arg7 harg7 x5) (checks _ _) (Scalar.minsi (BitVec.ofNat 32 (i 1).val) (Scalar.maxsi 0#32 (ld5 arg7 harg7 x5)))
    (k0_pay100 lanes (ld0 arg2 harg2 x0) k0_pay95) (k0_pay101 lanes (ld3 arg5 harg5 x3) k0_pay95) (k0_pay102 lanes (ld0 arg2 harg2 x0) k0_pay95)
    (k0_pay103 lanes (ld3 arg5 harg5 x3) k0_pay95) (k0_pay104 lanes (ld4 arg6 harg6 x4) k0_pay95) G11 G12

/-- The state after the second loop, which never runs. -/
def l2x (v91 : BitVec 32) (H11 : BufTy.Contents (Elt F) arg11.view.ty) (H12 : BufTy.Contents (Elt F) arg12.view.ty) (G11 : BufTy.Contents (Elt F) arg11.view.ty) (G12 : BufTy.Contents (Elt F) arg12.view.ty) :=
  st_k0_t2 (F := F) Variants.none c none i arg2 harg2 arg3 harg3 arg4 harg4 arg5 harg5 arg6 harg6 arg7 harg7 arg8 harg8 arg9 harg9 arg10 harg10 arg11 harg11 arg12 harg12 (BitVec.ofNat 32 (i 1).val) k0_pay88 k0_pay89 k0_pay90 (ld5 arg7 harg7 x5) (checks _ _) (Scalar.minsi (BitVec.ofNat 32 (i 1).val) (Scalar.maxsi 0#32 (ld5 arg7 harg7 x5)))
    (k0_pay100 lanes (ld0 arg2 harg2 x0) k0_pay95) (k0_pay101 lanes (ld3 arg5 harg5 x3) k0_pay95) (k0_pay102 lanes (ld0 arg2 harg2 x0) k0_pay95)
    (k0_pay103 lanes (ld3 arg5 harg5 x3) k0_pay95) (k0_pay104 lanes (ld4 arg6 harg6 x4) k0_pay95)
    k0_pay105 (FloatOps.ofBits .f32 0#32) v91 (harg3.unread x1) (harg4.unread x2)
    H11 H12
    ((lpx c i arg2 harg2 arg3 harg3 arg4 harg4 arg5 harg5 arg6 harg6 arg7 harg7 arg8 harg8 arg9 harg9 arg10 harg10 arg11 harg11 arg12 harg12 x0 x1 x2 x3 x4 x5 G11 G12).1.1, (lpx c i arg2 harg2 arg3 harg3 arg4 harg4 arg5 harg5 arg6 harg6 arg7 harg7 arg8 harg8 arg9 harg9 arg10 harg10 arg11 harg11 arg12 harg12 x0 x1 x2 x3 x4 x5 G11 G12).1.2.1, (lpx c i arg2 harg2 arg3 harg3 arg4 harg4 arg5 harg5 arg6 harg6 arg7 harg7 arg8 harg8 arg9 harg9 arg10 harg10 arg11 harg11 arg12 harg12 x0 x1 x2 x3 x4 x5 G11 G12).1.2.2)
    (k0_t2_loop i (ld5 arg7 harg7 x5)).trips

theorem l2x_eq (v91 : BitVec 32) (H11 : BufTy.Contents (Elt F) arg11.view.ty) (H12 : BufTy.Contents (Elt F) arg12.view.ty) (G11 : BufTy.Contents (Elt F) arg11.view.ty) (G12 : BufTy.Contents (Elt F) arg12.view.ty) :
    l2x c i arg2 harg2 arg3 harg3 arg4 harg4 arg5 harg5 arg6 harg6 arg7 harg7 arg8 harg8 arg9 harg9 arg10 harg10 arg11 harg11 arg12 harg12 x0 x1 x2 x3 x4 x5 v91 H11 H12 G11 G12 = ((lpx c i arg2 harg2 arg3 harg3 arg4 harg4 arg5 harg5 arg6 harg6 arg7 harg7 arg8 harg8 arg9 harg9 arg10 harg10 arg11 harg11 arg12 harg12 x0 x1 x2 x3 x4 x5 G11 G12).1, [], []) := by
  rw [l2x, trips2]
  rfl

theorem runC_dq' (hc0 : ¬First i) (hc1 : Last i) (g0 g1 : Vec F S32x128x256 .f32) : ∃ v91 H11 H12, (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).1
    = [⟨Rect.unit ![0, 0] S256x128.size inb_S256x128_S256x128_0_0, k0_pay1 (k0_pay97 lanes) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.2 (k0_pay130 k0_pay89 k0_pay90 (k0_pay101 lanes (ld3 arg5 harg5 x3) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)))⟩] := by
  delta runC runC.sl.r_8 runC.sl.r_9 runC.sl.r_13 runC.sl.r_14
  exact ⟨_, _, _, rfl⟩

theorem runC_dq (hc0 : ¬First i) (hc1 : Last i) (g0 g1 : Vec F S32x128x256 .f32) : (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).1
    = [⟨Rect.unit ![0, 0] S256x128.size inb_S256x128_S256x128_0_0, k0_pay1 (k0_pay97 lanes) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.2 (k0_pay130 k0_pay89 k0_pay90 (k0_pay101 lanes (ld3 arg5 harg5 x3) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)))⟩] := by
  obtain ⟨v91, H11, H12, h⟩ := runC_dq' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

theorem runC_g0' (hc0 : ¬First i) (hc1 : Last i) (g0 g1 : Vec F S32x128x256 .f32) : ∃ v91 H11 H12, (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)) (View.readAt (Elt F) arg11.view (Rect.unit (s := S32x128x256) (k0_off6 i) ![1, 128, 256] (k0_off6_inb i)).toLoadRect (arg11.view.writes (Elt F) (harg11.unread g0) ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.1 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.1 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1)) := by
  delta runC runC.sl.r_8 runC.sl.r_9 runC.sl.r_13 runC.sl.r_14
  exact ⟨_, _, _, rfl⟩

theorem runC_g0 (hc0 : ¬First i) (hc1 : Last i) (g0 g1 : Vec F S32x128x256 .f32) : (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)) (View.readAt (Elt F) arg11.view (Rect.unit (s := S32x128x256) (k0_off6 i) ![1, 128, 256] (k0_off6_inb i)).toLoadRect (arg11.view.writes (Elt F) (harg11.unread g0) ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1)))⟩ :: ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1) := by
  obtain ⟨v91, H11, H12, h⟩ := runC_g0' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

theorem runC_g1' (hc0 : ¬First i) (hc1 : Last i) (g0 g1 : Vec F S32x128x256 .f32) : ∃ v91 H11 H12, (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)) (View.readAt (Elt F) arg12.view (Rect.unit (s := S32x128x256) (k0_off6 i) ![1, 128, 256] (k0_off6_inb i)).toLoadRect (arg12.view.writes (Elt F) (harg12.unread g1) ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.2 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.2 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2)) := by
  delta runC runC.sl.r_8 runC.sl.r_9 runC.sl.r_13 runC.sl.r_14
  exact ⟨_, _, _, rfl⟩

theorem runC_g1 (hc0 : ¬First i) (hc1 : Last i) (g0 g1 : Vec F S32x128x256 .f32) : (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)) (View.readAt (Elt F) arg12.view (Rect.unit (s := S32x128x256) (k0_off6 i) ![1, 128, 256] (k0_off6_inb i)).toLoadRect (arg12.view.writes (Elt F) (harg12.unread g1) ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2)))⟩ :: ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2) := by
  obtain ⟨v91, H11, H12, h⟩ := runC_g1' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

theorem runA_dq' (hc0 : First i) (hc1 : ¬Last i) : ∃ v91 H11 H12, (runA c i arg2 harg2 arg3 harg3 arg4 harg4 arg5 harg5 arg6 harg6 arg7 harg7 arg8 harg8 arg9 harg9 arg10 harg10 arg11 harg11 arg12 harg12 x0 x1 x2 x3 x4 x5 hc0 hc1).1
    = [⟨Rect.unit ![0, 0] S256x128.size inb_S256x128_S256x128_0_0, k0_pay1 (k0_pay97 lanes) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.2.2 (k0_pay130 k0_pay89 k0_pay90 (k0_pay101 lanes (ld3 arg5 harg5 x3) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.1 (ldk i arg3 harg3 x1)))⟩] := by
  delta runA runA.sl.r_8 runA.sl.r_9 runA.sl.r_13 runA.sl.r_14
  exact ⟨_, _, _, rfl⟩

theorem runA_dq (hc0 : First i) (hc1 : ¬Last i) : (runA c i arg2 harg2 arg3 harg3 arg4 harg4 arg5 harg5 arg6 harg6 arg7 harg7 arg8 harg8 arg9 harg9 arg10 harg10 arg11 harg11 arg12 harg12 x0 x1 x2 x3 x4 x5 hc0 hc1).1
    = [⟨Rect.unit ![0, 0] S256x128.size inb_S256x128_S256x128_0_0, k0_pay1 (k0_pay97 lanes) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.2.2 (k0_pay130 k0_pay89 k0_pay90 (k0_pay101 lanes (ld3 arg5 harg5 x3) k0_pay95) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.1 (ldk i arg3 harg3 x1)))⟩] := by
  obtain ⟨v91, H11, H12, h⟩ := runA_dq' c i arg2 harg2 arg3 harg3 arg4 harg4 arg5 harg5 arg6 harg6 arg7 harg7 arg8 harg8 arg9 harg9 arg10 harg10 arg11 harg11 arg12 harg12 x0 x1 x2 x3 x4 x5 hc0 hc1
  simp only [h, l2x_eq, List.nil_append]

theorem runA_g0' (hc0 : First i) (hc1 : ¬Last i) : ∃ v91 H11 H12, (runA c i arg2 harg2 arg3 harg3 arg4 harg4 arg5 harg5 arg6 harg6 arg7 harg7 arg8 harg8 arg9 harg9 arg10 harg10 arg11 harg11 arg12 harg12 x0 x1 x2 x3 x4 x5 hc0 hc1).2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.1 (ldk i arg3 harg3 x1)) (View.readAt (Elt F) arg11.view (Rect.unit (s := S32x128x256) (k0_off6 i) ![1, 128, 256] (k0_off6_inb i)).toLoadRect (arg11.view.writes (Elt F) arg11.view.junk ((l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).2.1 ++ ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.1 ++ runA.sl.S0_1))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).2.1 ++ ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.1 ++ runA.sl.S0_1)) := by
  delta runA runA.sl.r_8 runA.sl.r_9 runA.sl.r_13 runA.sl.r_14
  exact ⟨_, _, _, rfl⟩

theorem runA_g0 (hc0 : First i) (hc1 : ¬Last i) : (runA c i arg2 harg2 arg3 harg3 arg4 harg4 arg5 harg5 arg6 harg6 arg7 harg7 arg8 harg8 arg9 harg9 arg10 harg10 arg11 harg11 arg12 harg12 x0 x1 x2 x3 x4 x5 hc0 hc1).2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.1 (ldk i arg3 harg3 x1)) (View.readAt (Elt F) arg11.view (Rect.unit (s := S32x128x256) (k0_off6 i) ![1, 128, 256] (k0_off6_inb i)).toLoadRect (arg11.view.writes (Elt F) arg11.view.junk ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.1 ++ runA.sl.S0_1)))⟩ :: ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.1 ++ runA.sl.S0_1) := by
  obtain ⟨v91, H11, H12, h⟩ := runA_g0' c i arg2 harg2 arg3 harg3 arg4 harg4 arg5 harg5 arg6 harg6 arg7 harg7 arg8 harg8 arg9 harg9 arg10 harg10 arg11 harg11 arg12 harg12 x0 x1 x2 x3 x4 x5 hc0 hc1
  simp only [h, l2x_eq, List.nil_append]

theorem runA_g1' (hc0 : First i) (hc1 : ¬Last i) : ∃ v91 H11 H12, (runA c i arg2 harg2 arg3 harg3 arg4 harg4 arg5 harg5 arg6 harg6 arg7 harg7 arg8 harg8 arg9 harg9 arg10 harg10 arg11 harg11 arg12 harg12 x0 x1 x2 x3 x4 x5 hc0 hc1).2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).1.1 (ldk i arg3 harg3 x1)) (View.readAt (Elt F) arg12.view (Rect.unit (s := S32x128x256) (k0_off6 i) ![1, 128, 256] (k0_off6_inb i)).toLoadRect (arg12.view.writes (Elt F) arg12.view.junk ((l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).2.2 ++ ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.2 ++ runA.sl.S1_1))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (arg11.view.writes (Elt F) arg11.view.junk runA.sl.S0_1) (arg12.view.writes (Elt F) arg12.view.junk runA.sl.S1_1)).2.2 ++ ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.2 ++ runA.sl.S1_1)) := by
  delta runA runA.sl.r_8 runA.sl.r_9 runA.sl.r_13 runA.sl.r_14
  exact ⟨_, _, _, rfl⟩

theorem runA_g1 (hc0 : First i) (hc1 : ¬Last i) : (runA c i arg2 harg2 arg3 harg3 arg4 harg4 arg5 harg5 arg6 harg6 arg7 harg7 arg8 harg8 arg9 harg9 arg10 harg10 arg11 harg11 arg12 harg12 x0 x1 x2 x3 x4 x5 hc0 hc1).2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).1.1 (ldk i arg3 harg3 x1)) (View.readAt (Elt F) arg12.view (Rect.unit (s := S32x128x256) (k0_off6 i) ![1, 128, 256] (k0_off6_inb i)).toLoadRect (arg12.view.writes (Elt F) arg12.view.junk ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.2 ++ runA.sl.S1_1)))⟩ :: ((lpx c i arg2 harg2 arg3 harg3 arg4 harg4 arg5 harg5 arg6 harg6 arg7 harg7 arg8 harg8 arg9 harg9 arg10 harg10 arg11 harg11 arg12 harg12 x0 x1 x2 x3 x4 x5 (arg11.view.writes (Elt F) arg11.view.junk runA.sl.S0_1) (arg12.view.writes (Elt F) arg12.view.junk runA.sl.S1_1)).2.2 ++ runA.sl.S1_1) := by
  obtain ⟨v91, H11, H12, h⟩ := runA_g1' c i arg2 harg2 arg3 harg3 arg4 harg4 arg5 harg5 arg6 harg6 arg7 harg7 arg8 harg8 arg9 harg9 arg10 harg10 arg11 harg11 arg12 harg12 x0 x1 x2 x3 x4 x5 hc0 hc1
  simp only [h, l2x_eq, List.nil_append]

theorem runB_dq' (hc0 : ¬First i) (hc1 : ¬Last i) (g0 g1 : Vec F S32x128x256 .f32) : ∃ v91 H11 H12, (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).1
    = [⟨Rect.unit ![0, 0] S256x128.size inb_S256x128_S256x128_0_0, k0_pay1 (k0_pay97 lanes) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.2 (k0_pay130 k0_pay89 k0_pay90 (k0_pay101 lanes (ld3 arg5 harg5 x3) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)))⟩] := by
  delta runB runB.sl.r_8 runB.sl.r_9 runB.sl.r_13 runB.sl.r_14
  exact ⟨_, _, _, rfl⟩

theorem runB_dq (hc0 : ¬First i) (hc1 : ¬Last i) (g0 g1 : Vec F S32x128x256 .f32) : (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).1
    = [⟨Rect.unit ![0, 0] S256x128.size inb_S256x128_S256x128_0_0, k0_pay1 (k0_pay97 lanes) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.2 (k0_pay130 k0_pay89 k0_pay90 (k0_pay101 lanes (ld3 arg5 harg5 x3) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)))⟩] := by
  obtain ⟨v91, H11, H12, h⟩ := runB_dq' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

theorem runB_g0' (hc0 : ¬First i) (hc1 : ¬Last i) (g0 g1 : Vec F S32x128x256 .f32) : ∃ v91 H11 H12, (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)) (View.readAt (Elt F) arg11.view (Rect.unit (s := S32x128x256) (k0_off6 i) ![1, 128, 256] (k0_off6_inb i)).toLoadRect (arg11.view.writes (Elt F) (harg11.unread g0) ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.1 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.1 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1)) := by
  delta runB runB.sl.r_8 runB.sl.r_9 runB.sl.r_13 runB.sl.r_14
  exact ⟨_, _, _, rfl⟩

theorem runB_g0 (hc0 : ¬First i) (hc1 : ¬Last i) (g0 g1 : Vec F S32x128x256 .f32) : (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1
    = ⟨Rect.unit (s := S32x128x256) (k0_off6 i) ![1, 128, 256] (k0_off6_inb i), k0_pay128 k0_pay89 k0_pay90 (k0_pay101 lanes (ld3 arg5 harg5 x3) k0_pay95) (k0_pay102 lanes (ld0 arg2 harg2 x0) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)) (View.readAt (Elt F) arg11.view (Rect.unit (s := S32x128x256) (k0_off6 i) ![1, 128, 256] (k0_off6_inb i)).toLoadRect (arg11.view.writes (Elt F) (harg11.unread g0) ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1)))⟩ :: ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.1) := by
  obtain ⟨v91, H11, H12, h⟩ := runB_g0' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

theorem runB_g1' (hc0 : ¬First i) (hc1 : ¬Last i) (g0 g1 : Vec F S32x128x256 .f32) : ∃ v91 H11 H12, (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).1.1 (ldk i arg3 harg3 x1)) (View.readAt (Elt F) arg12.view (Rect.unit (s := S32x128x256) (k0_off6 i) ![1, 128, 256] (k0_off6_inb i)).toLoadRect (arg12.view.writes (Elt F) (harg12.unread g1) ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.2 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2))))⟩ :: ((l2x c i arg2 harg2 arg3 harg3 arg4 harg4 arg5 harg5 arg6 harg6 arg7 harg7 arg8 harg8 arg9 harg9 arg10 harg10 arg11 harg11 arg12 harg12 x0 x1 x2 x3 x4 x5 v91 H11 H12 (harg11.unread g0) (harg12.unread g1)).2.2 ++ ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2)) := by
  delta runB runB.sl.r_8 runB.sl.r_9 runB.sl.r_13 runB.sl.r_14
  exact ⟨_, _, _, rfl⟩

theorem runB_g1 (hc0 : ¬First i) (hc1 : ¬Last i) (g0 g1 : Vec F S32x128x256 .f32) : (runB c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1
    = ⟨Rect.unit (s := S32x128x256) (k0_off6 i) ![1, 128, 256] (k0_off6_inb i), k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).1.1 (ldk i arg3 harg3 x1)) (View.readAt (Elt F) arg12.view (Rect.unit (s := S32x128x256) (k0_off6 i) ![1, 128, 256] (k0_off6_inb i)).toLoadRect (arg12.view.writes (Elt F) (harg12.unread g1) ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2)))⟩ :: ((lpx c i arg2 harg2 arg3 harg3 arg4 harg4 arg5 harg5 arg6 harg6 arg7 harg7 arg8 harg8 arg9 harg9 arg10 harg10 arg11 harg11 arg12 harg12 x0 x1 x2 x3 x4 x5 (harg11.unread g0) (harg12.unread g1)).2.2) := by
  obtain ⟨v91, H11, H12, h⟩ := runB_g1' c i arg2 harg2 arg3 harg3 arg4 harg4 arg5 harg5 arg6 harg6 arg7 harg7 arg8 harg8 arg9 harg9 arg10 harg10 arg11 harg11 arg12 harg12 x0 x1 x2 x3 x4 x5 hc0 hc1 g0 g1
  simp only [h, l2x_eq, List.nil_append]

end

end Cert.AttnBwdIdeal.Pay

end
-- ==== Proof.AttnEnd.lean ====
/- What a tile of the attention gradient leaves, over the reals. -/
module

public import proofs.«01_k».proof.Proof.AttnStores

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

/-- Reading a whole buffer. -/
theorem whole_read {sp : Space} {s : Shape} {e : EltTy} (a : Memref sig .tc sp s e) (ha : a.IsWhole) (x : Vec Ideal s e) {off : Fin s.rank → ℕ}
    (ho : ∀ b, off b = 0) (inb : ∀ b, off b + s.size b ≤ s.size b) :
    View.readAt (Elt Ideal) a.view (Rect.unit off s.size inb).toLoadRect (ha.unread x) = x := by
  funext y
  refine (ha.readAt_unread x _ _).trans (congrArg x (funext fun b => Fin.ext ?_))
  refine (congrArg (· + 1 * (y b).val) (ho b)).trans ?_
  rw [Nat.zero_add, Nat.one_mul]

theorem DZ_above (Q K V D : ℕ → ℕ → ℝ) (h q k : ℕ) (hk : q ≤ k) : DZ Q K V D h q k = 0 := by
  rw [DZ, if_neg (by omega)]

theorem W_above (Q K : ℕ → ℕ → ℝ) (h q k : ℕ) (hk : q ≤ k) : W Q K h q k = 0 := by
  rw [W, if_neg (by omega)]

theorem DKn_above (Q K V D : ℕ → ℕ → ℝ) (n k l : ℕ) (h : n ≤ k) : DKn Q K V D n k l = 0 :=
  Finset.sum_eq_zero fun q hq => by rw [DZ_above Q K V D _ q k (by have := Finset.mem_range.mp hq; omega), mul_zero]

theorem DVn_above (Q K D : ℕ → ℕ → ℝ) (n k l : ℕ) (h : n ≤ k) : DVn Q K D n k l = 0 :=
  Finset.sum_eq_zero fun q hq => by rw [W_above Q K _ q k (by have := Finset.mem_range.mp hq; omega), mul_zero]

/-- A query's row is complete once the keys up to its own block are in. -/
theorem dq_sum (Q K V D : ℕ → ℕ → ℝ) (h i t c : ℕ) (hi : i < 32) (ht : t < 256) :
    DQn Q K V D h (256 * i + t) (256 * i) c + ∑ j ∈ range 256, DZ Q K V D h (256 * i + t) (256 * i + j) * K (256 * i + j) c
      = ∑ k ∈ range 8192, DZ Q K V D h (256 * i + t) k * K k c := by
  rw [show 8192 = 256 * i + 256 + (8192 - (256 * i + 256)) by omega, Finset.sum_range_add, Finset.sum_range_add, DQn]
  rw [Finset.sum_eq_zero (s := range (8192 - (256 * i + 256))) fun k _ => by rw [DZ_above Q K V D _ _ _ (by omega), zero_mul], add_zero]

theorem off5_at (i : grid0.Coords) : k0_off5 i = ![0, 256 * (i 1).val, 0] := by
  have h : ∀ n : Fin 32, (Scalar.indexCast (Scalar.muli (BitVec.ofNat 32 n.val) 256#32)).toNat = 256 * n.val := by decide +kernel
  rw [← h ⟨(i 1).val, (i 1).isLt⟩]
  rfl

theorem off6_at (i : grid0.Coords) : k0_off6 i = ![(i 1).val, 0, 0] := by
  have h : ∀ n : Fin 32, (Scalar.indexCast (BitVec.ofNat 32 n.val)).toNat = n.val := by decide +kernel
  rw [congrArg (fun n => (![n, 0, 0] : Fin 3 → ℕ)) (h ⟨(i 1).val, (i 1).isLt⟩).symm]
  rfl

/-- Reading one slab of a running sum. -/
theorem slab_read {a : Memref sig .tc .vmem S32x128x256 .f32} {X : BufTy.Contents (Elt Ideal) a.view.ty} {f : ℕ → ℕ → ℕ → ℝ}
    (hX : ∀ (j : Fin 32) (l : Fin 128) (t : Fin 256), a.view.read (Elt Ideal) X (ix3 j l t) = ((f j.val l.val t.val : ℝ) : EReal))
    (n : Fin 32) {off : Fin 3 → ℕ} (ho : off = ![n.val, 0, 0]) (inb : ∀ b, off b + (![1, 128, 256] : Fin 3 → ℕ) b ≤ S32x128x256.size b) :
    IsB (φ := .f32) (a := 128) (b := 256) (View.readAt (Elt Ideal) a.view (Rect.unit (s := S32x128x256) off ![1, 128, 256] inb).toLoadRect X) fun l t => f n.val l t := by
  intro l t
  refine Eq.trans ?_ (hX n l t)
  show a.view.read (Elt Ideal) X _ = _
  congr 1
  funext b
  apply Fin.ext
  refine (congrArg (· + 1 * (ix3 (0 : Fin 1) l t b).val) (congrFun ho b)).trans ?_
  fin_cases b <;> simp [ix3]

section

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec Ideal S1x256x128 .bf16) (x1 x2 : Vec Ideal S1x8192x128 .bf16) (x3 : Vec Ideal S256x128 .bf16)
  (x4 : Vec Ideal S1x256x128 .f32) (x5 : Vec Ideal S1x1x8x128 .f32) (Q K V D : ℕ → ℕ → ℝ) (p : ℕ)

/-- What a tile reads, over the reals: pair `p` of heads, query block `i 1`. -/
structure Ins : Prop where
  q : IsB (φ := .bf16) x0 fun t l => Q (256 * (i 1).val + t) (128 * p + l)
  k : IsK x1 K p
  v : IsK x2 V p
  d : IsC (φ := .bf16) x3 fun t l => D (256 * (i 1).val + t) (128 * p + l)
  s : IsB (φ := .f32) x4 fun t l => SM Q K (2 * p + l / 64) (256 * (i 1).val + t) (256 * (i 1).val + t)
  z : ∀ y, x5 y = (0 : EReal)

variable {x0 x1 x2 x3 x4 x5 Q K V D p}

theorem fptosi_zero : Scalar.fptosi (F := Ideal) (φ := .f32) 32 (0 : EReal) = 0#32 := by
  rw [Ideal.scalar_fptosi_def, ← EReal.coe_zero, Ideal.fptosi, Ideal.toIntClamped_coe]
  simp

include harg2 harg3 harg4 harg5 harg6 harg7 in
theorem start_zero (I : Ins i x0 x1 x2 x3 x4 x5 Q K V D p) : start i (ld5 arg7 harg7 x5) = BitVec.ofNat 32 (0 : Fin 32).val := by
  have e : ld5 arg7 harg7 x5 = 0#32 := by
    rw [ld5, whole_read arg7 harg7 x5 (by intro b; fin_cases b <;> rfl), show x5 = fun _ => (0 : EReal) from funext I.z]
    have : k0_pay94 (F := Ideal) (fun _ => (0 : EReal)) = (0 : EReal) := by
      pointwise [k0_pay94]
      rw [show Ideal.ofBits .f32 4286578688#32 = _ from bot_bits]
      exact le_antisymm ((Finset.fold_max_le _).2 ⟨bot_le, fun _ _ => le_rfl⟩) ((Finset.le_fold_max _).2 (Or.inr ⟨default, Finset.mem_univ _, le_rfl⟩))
    rw [this]
    exact fptosi_zero
  rw [e]
  have h : ∀ n : Fin 32, Scalar.minsi (BitVec.ofNat 32 n.val) (Scalar.maxsi 0#32 0#32) = BitVec.ofNat 32 (0 : Fin 32).val := by decide +kernel
  exact h ⟨(i 1).val, (i 1).isLt⟩

theorem pro_of (I : Ins i x0 x1 x2 x3 x4 x5 Q K V D p) :
    Pro i k0_pay88 k0_pay89 (k0_pay100 lanes (ld0 arg2 harg2 x0) k0_pay95) (k0_pay101 lanes (ld3 arg5 harg5 x3) k0_pay95)
      (k0_pay102 lanes (ld0 arg2 harg2 x0) k0_pay95) (k0_pay103 lanes (ld3 arg5 harg5 x3) k0_pay95) (k0_pay104 lanes (ld4 arg6 harg6 x4) k0_pay95)
      x1 x2 Q K V D p := by
  have e0 : ld0 arg2 harg2 x0 = k0_pay91 x0 := by rw [ld0, whole_read arg2 harg2 x0 (by intro b; fin_cases b <;> rfl)]
  have e3 : ld3 arg5 harg5 x3 = k0_pay92 x3 := by rw [ld3, whole_read arg5 harg5 x3 (by intro b; fin_cases b <;> rfl)]
  have e4 : ld4 arg6 harg6 x4 = k0_pay93 x4 := by rw [ld4, whole_read arg6 harg6 x4 (by intro b; fin_cases b <;> rfl)]
  rw [e0, e3, e4]
  exact ⟨pay88_is, pay89_is, pay100_is Q p _ I.q, pay101_is D p _ I.d, pay102_is Q p _ I.q, pay103_is D p _ I.d,
    pay104_is p _ (fun h q => SM Q K h q q) I.s, I.k, I.v⟩

theorem ldk_is {a : Memref sig .tc .vmem S1x8192x128 .bf16} (ha : a.IsWhole) {x : Vec Ideal S1x8192x128 .bf16} {A : ℕ → ℕ → ℝ}
    (hx : IsK x A p) : IsB (ldk i a ha x) fun j l => A (256 * (i 1).val + j) (128 * p + l) := by
  intro j l
  have hi : (i 1).val < 32 := (i 1).isLt
  refine (ha.readAt_unread x _ _).trans ?_
  refine Eq.trans ?_ (hx ⟨256 * (i 1).val + j.val, by omega⟩ l)
  congr 1
  funext b
  apply Fin.ext
  refine (congrArg (· + 1 * (ix3 (0 : Fin 1) j l b).val) (congrFun (off5_at i) b)).trans ?_
  fin_cases b <;> simp [ix3]

variable (G11 : BufTy.Contents (Elt Ideal) arg11.view.ty) (G12 : BufTy.Contents (Elt Ideal) arg12.view.ty)

/-- What a running sum holds when `n` query blocks are in. -/
abbrev Holds (a : Memref sig .tc .vmem S32x128x256 .f32) (X : BufTy.Contents (Elt Ideal) a.view.ty) (f : ℕ → ℕ → ℝ) (p : ℕ) : Prop :=
  ∀ (j : Fin 32) (l : Fin 128) (t : Fin 256), a.view.read (Elt Ideal) X (ix3 j l t) = ((f (256 * j.val + t.val) (128 * p + l.val) : ℝ) : EReal)

theorem end_inv (I : Ins i x0 x1 x2 x3 x4 x5 Q K V D p) (h0 : Holds arg11 G11 (DKn Q K V D (256 * (i 1).val)) p) (h1 : Holds arg12 G12 (DVn Q K D (256 * (i 1).val)) p) :
    Inv i arg11 arg12 Q K V D p (i 1).val (lpx c i arg2 harg2 arg3 harg3 arg4 harg4 arg5 harg5 arg6 harg6 arg7 harg7 arg8 harg8 arg9 harg9 arg10 harg10 arg11 harg11 arg12 harg12 x0 x1 x2 x3 x4 x5 G11 G12).1
      (arg11.view.writes (Elt Ideal) G11 (lpx c i arg2 harg2 arg3 harg3 arg4 harg4 arg5 harg5 arg6 harg6 arg7 harg7 arg8 harg8 arg9 harg9 arg10 harg10 arg11 harg11 arg12 harg12 x0 x1 x2 x3 x4 x5 G11 G12).2.1)
      (arg12.view.writes (Elt Ideal) G12 (lpx c i arg2 harg2 arg3 harg3 arg4 harg4 arg5 harg5 arg6 harg6 arg7 harg7 arg8 harg8 arg9 harg9 arg10 harg10 arg11 harg11 arg12 harg12 x0 x1 x2 x3 x4 x5 G11 G12).2.2) := by
  have hz := start_zero i arg2 harg2 arg3 harg3 arg4 harg4 arg5 harg5 arg6 harg6 arg7 harg7 I
  have ht := trips1_zero i _ hz
  have h := loop_inv c i arg2 harg2 arg3 harg3 arg4 harg4 arg5 harg5 arg6 harg6 arg7 harg7 arg8 harg8 arg9 harg9 arg10 harg10 arg11 harg11 arg12 harg12 (BitVec.ofNat 32 (i 1).val) k0_pay88 k0_pay89 k0_pay90 (ld5 arg7 harg7 x5) (checks _ _) (Scalar.minsi (BitVec.ofNat 32 (i 1).val) (Scalar.maxsi 0#32 (ld5 arg7 harg7 x5)))
    (k0_pay100 lanes (ld0 arg2 harg2 x0) k0_pay95) (k0_pay101 lanes (ld3 arg5 harg5 x3) k0_pay95) (k0_pay102 lanes (ld0 arg2 harg2 x0) k0_pay95)
    (k0_pay103 lanes (ld3 arg5 harg5 x3) k0_pay95) (k0_pay104 lanes (ld4 arg6 harg6 x4) k0_pay95) k0_pay105 (FloatOps.ofBits .f32 0#32) x1 x2 Q K V D p hz
    (pro_of i arg2 harg2 arg5 harg5 arg6 harg6 I) (k0_pay105, k0_pay106 (FloatOps.ofBits .f32 0#32), k0_pay107) G11 G12
    ⟨pay105_is _ (fun _ _ => by simp [SM]), pay106_is _ (fun _ _ => by simp [PS]), pay107_is _ (fun _ _ => by simp [DQn]),
      fun j l t => by rw [h0 j l t, if_neg (Nat.not_lt_zero _)], fun j l t => by rw [h1 j l t, if_neg (Nat.not_lt_zero _)]⟩
    (k0_t1_loop i (ld5 arg7 harg7 x5)).trips le_rfl
  exact ht ▸ h

section

variable (I : Ins i x0 x1 x2 x3 x4 x5 Q K V D p) (h0 : Holds arg11 G11 (DKn Q K V D (256 * (i 1).val)) p) (h1 : Holds arg12 G12 (DVn Q K D (256 * (i 1).val)) p)

include I h0 h1

theorem end_x (r : Fin 512) (j : Fin 256) : ∃ y : ℝ, (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.1 (ldk i arg3 harg3 x1)) (ix2 r j) = (y : EReal)
    ∧ (j.val < r.val % 256 → Real.exp y = W Q K (2 * p + r / 256) (256 * (i 1).val + r % 256) (256 * (i 1).val + j)) := by
  have P := pro_of i arg2 harg2 arg5 harg5 arg6 harg6 I
  have h := end_inv c i arg2 harg2 arg3 harg3 arg4 harg4 arg5 harg5 arg6 harg6 arg7 harg7 arg8 harg8 arg9 harg9 arg10 harg10 arg11 harg11 arg12 harg12 G11 G12 I h0 h1
  exact pay125 Q K p _ pay90_is P.h13 P.hq P.hb h.c0 (ldk_is i harg3 I.k) r j

/-- The block of the queries' gradient. -/
theorem end_dq (t : Fin 256) (l : Fin 128) : k0_pay1 (k0_pay97 lanes) (lpx c i arg2 harg2 arg3 harg3 arg4 harg4 arg5 harg5 arg6 harg6 arg7 harg7 arg8 harg8 arg9 harg9 arg10 harg10 arg11 harg11 arg12 harg12 x0 x1 x2 x3 x4 x5 G11 G12).1.2.2
      (k0_pay130 k0_pay89 k0_pay90 (k0_pay101 lanes (ld3 arg5 harg5 x3) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.2.1 (k0_pay120 (ldk i arg3 harg3 x1)) (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.1 (ldk i arg3 harg3 x1))) (ix2 t l)
    = ((DQ Q K V D (256 * (i 1).val + t) (128 * p + l) : ℝ) : EReal) := by
  have P := pro_of i arg2 harg2 arg5 harg5 arg6 harg6 I
  have h := end_inv c i arg2 harg2 arg3 harg3 arg4 harg4 arg5 harg5 arg6 harg6 arg7 harg7 arg8 harg8 arg9 harg9 arg10 harg10 arg11 harg11 arg12 harg12 G11 G12 I h0 h1
  have hi : (i 1).val < 32 := (i 1).isLt
  rw [lanes]
  refine (pay1_is h.c2 (pay130 Q K V D p _ pay90_is (end_x c i arg2 harg2 arg3 harg3 arg4 harg4 arg5 harg5 arg6 harg6 arg7 harg7 arg8 harg8 arg9 harg9 arg10 harg10 arg11 harg11 arg12 harg12 G11 G12 I h0 h1) (pay124 Q K p _ pay90_is P.hq (ldk_is i harg3 I.k)) P.h14 P.hd
    (pay120_is (ldk_is i harg3 I.k)) (pay121_is (ldk_is i harg4 I.v)) h.c1) t l).trans ?_
  have e1 : (256 * (l.val / 64) + t.val) / 256 = l.val / 64 := by omega
  have e2 : (256 * (l.val / 64) + t.val) % 256 = t.val := by omega
  have e3 : (128 * p + l.val) / 64 = 2 * p + l.val / 64 := by omega
  rw [e1, e2, dq_sum Q K V D _ _ _ _ hi t.isLt, DQ, e3]

/-- The keys' running sum after the tile. -/
theorem end_g0 : Holds arg11 (arg11.view.writes (Elt Ideal) G11 (⟨Rect.unit (s := S32x128x256) (k0_off6 i) ![1, 128, 256] (k0_off6_inb i),
      k0_pay128 k0_pay89 k0_pay90 (k0_pay101 lanes (ld3 arg5 harg5 x3) k0_pay95) (k0_pay102 lanes (ld0 arg2 harg2 x0) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.2.1 (k0_pay121 (ldk i arg4 harg4 x2)) (k0_pay124 (k0_pay100 lanes (ld0 arg2 harg2 x0) k0_pay95) (ldk i arg3 harg3 x1)) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.1 (ldk i arg3 harg3 x1)) (View.readAt (Elt Ideal) arg11.view (Rect.unit (s := S32x128x256) (k0_off6 i) ![1, 128, 256] (k0_off6_inb i)).toLoadRect (arg11.view.writes (Elt Ideal) G11 (lpx c i arg2 harg2 arg3 harg3 arg4 harg4 arg5 harg5 arg6 harg6 arg7 harg7 arg8 harg8 arg9 harg9 arg10 harg10 arg11 harg11 arg12 harg12 x0 x1 x2 x3 x4 x5 G11 G12).2.1))⟩ :: (lpx c i arg2 harg2 arg3 harg3 arg4 harg4 arg5 harg5 arg6 harg6 arg7 harg7 arg8 harg8 arg9 harg9 arg10 harg10 arg11 harg11 arg12 harg12 x0 x1 x2 x3 x4 x5 G11 G12).2.1))
    (DKn Q K V D (256 * ((i 1).val + 1))) p := by
  have P := pro_of i arg2 harg2 arg5 harg5 arg6 harg6 I
  have h := end_inv c i arg2 harg2 arg3 harg3 arg4 harg4 arg5 harg5 arg6 harg6 arg7 harg7 arg8 harg8 arg9 harg9 arg10 harg10 arg11 harg11 arg12 harg12 G11 G12 I h0 h1
  have hi : (i 1).val < 32 := (i 1).isLt
  have b := slab_read (f := fun j l t => DKn Q K V D (256 * (if j < (i 1).val then (i 1).val + 1 else (i 1).val)) (256 * j + t) (128 * p + l)) h.s0 ⟨(i 1).val, hi⟩ (off6_at i) (k0_off6_inb i)
  simp only [lt_irrefl, if_false] at b
  refine slab_is (f := fun j l t => DKn Q K V D (256 * ((i 1).val + 1)) (256 * j + t) (128 * p + l)) (i 1).val (off6_at i) (k0_off6_inb i)
    (pay128 Q K V D p _ pay90_is P.hqt (end_x c i arg2 harg2 arg3 harg3 arg4 harg4 arg5 harg5 arg6 harg6 arg7 harg7 arg8 harg8 arg9 harg9 arg10 harg10 arg11 harg11 arg12 harg12 G11 G12 I h0 h1) (pay124 Q K p _ pay90_is P.hq (ldk_is i harg3 I.k)) P.h14 P.hd
      (pay121_is (ldk_is i harg4 I.v)) h.c1 b) (fun j l t hj => ?_) fun l t => rfl
  rw [h.s0 j l t]
  by_cases hl : j.val < (i 1).val
  · rw [if_pos hl]
  · rw [if_neg hl, DKn_above _ _ _ _ _ _ _ (by omega), DKn_above _ _ _ _ _ _ _ (by omega)]

/-- The values' running sum after the tile. -/
theorem end_g1 : Holds arg12 (arg12.view.writes (Elt Ideal) G12 (⟨Rect.unit (s := S32x128x256) (k0_off6 i) ![1, 128, 256] (k0_off6_inb i),
      k0_pay129 k0_pay90 (k0_pay103 lanes (ld3 arg5 harg5 x3) k0_pay95) (k0_pay125 k0_pay88 k0_pay90 (k0_pay100 lanes (ld0 arg2 harg2 x0) k0_pay95) (k0_pay104 lanes (ld4 arg6 harg6 x4) k0_pay95) (lpx c i arg2 harg2 arg3 harg3 arg4 harg4 arg5 harg5 arg6 harg6 arg7 harg7 arg8 harg8 arg9 harg9 arg10 harg10 arg11 harg11 arg12 harg12 x0 x1 x2 x3 x4 x5 G11 G12).1.1 (ldk i arg3 harg3 x1)) (View.readAt (Elt Ideal) arg12.view (Rect.unit (s := S32x128x256) (k0_off6 i) ![1, 128, 256] (k0_off6_inb i)).toLoadRect (arg12.view.writes (Elt Ideal) G12 (lpx c i arg2 harg2 arg3 harg3 arg4 harg4 arg5 harg5 arg6 harg6 arg7 harg7 arg8 harg8 arg9 harg9 arg10 harg10 arg11 harg11 arg12 harg12 x0 x1 x2 x3 x4 x5 G11 G12).2.2))⟩ :: (lpx c i arg2 harg2 arg3 harg3 arg4 harg4 arg5 harg5 arg6 harg6 arg7 harg7 arg8 harg8 arg9 harg9 arg10 harg10 arg11 harg11 arg12 harg12 x0 x1 x2 x3 x4 x5 G11 G12).2.2))
    (DVn Q K D (256 * ((i 1).val + 1))) p := by
  have P := pro_of i arg2 harg2 arg5 harg5 arg6 harg6 I
  have h := end_inv c i arg2 harg2 arg3 harg3 arg4 harg4 arg5 harg5 arg6 harg6 arg7 harg7 arg8 harg8 arg9 harg9 arg10 harg10 arg11 harg11 arg12 harg12 G11 G12 I h0 h1
  have hi : (i 1).val < 32 := (i 1).isLt
  have b := slab_read (f := fun j l t => DVn Q K D (256 * (if j < (i 1).val then (i 1).val + 1 else (i 1).val)) (256 * j + t) (128 * p + l)) h.s1 ⟨(i 1).val, hi⟩ (off6_at i) (k0_off6_inb i)
  simp only [lt_irrefl, if_false] at b
  refine slab_is (f := fun j l t => DVn Q K D (256 * ((i 1).val + 1)) (256 * j + t) (128 * p + l)) (i 1).val (off6_at i) (k0_off6_inb i)
    (pay129 Q K D p _ pay90_is P.hdt (end_x c i arg2 harg2 arg3 harg3 arg4 harg4 arg5 harg5 arg6 harg6 arg7 harg7 arg8 harg8 arg9 harg9 arg10 harg10 arg11 harg11 arg12 harg12 G11 G12 I h0 h1) b) (fun j l t hj => ?_) fun l t => rfl
  rw [h.s1 j l t]
  by_cases hl : j.val < (i 1).val
  · rw [if_pos hl]
  · rw [if_neg hl, DVn_above _ _ _ _ _ _ (by omega), DVn_above _ _ _ _ _ _ (by omega)]

end

end

end Cert.AttnBwdIdeal.Pay

end
-- ==== Proof.AttnLeft.lean ====
/- What a tile of the attention gradient leaves in each of its three cases, over the reals. -/
module

public import proofs.«01_k».proof.Proof.AttnEnd

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

/-- The store of one block of rows of the gradient of keys or values. -/
def rowsOut {F : FTy → Type} [FloatOps F] (a : Memref sig .tc .vmem S32x128x256 .f32) (X : BufTy.Contents (Elt F) a.view.ty) (k : Fin 32) : View.Piece (Elt F) S8192x128 .bf16 :=
  ⟨Rect.unit (s := S8192x128) ![256 * k.val, 0] ![256, 128] (by intro b; have := k.isLt; fin_cases b <;> simp [Shape.size] <;> omega),
    k0_pay2 (View.readAt (Elt F) a.view (Rect.unit (s := S32x128x256) ![k.val, 0, 0] ![1, 128, 256] (by intro b; have := k.isLt; fin_cases b <;> simp [Shape.size] <;> omega)).toLoadRect X)⟩

/-- The stores of all the blocks, last first. -/
def allOut {F : FTy → Type} [FloatOps F] (a : Memref sig .tc .vmem S32x128x256 .f32) (X : BufTy.Contents (Elt F) a.view.ty) : List (View.Piece (Elt F) S8192x128 .bf16) :=
  List.ofFn fun k : Fin 32 => rowsOut a X ⟨31 - k.val, by omega⟩

/-- Reading what those stores left. -/
theorem allOut_read (o : Memref sig .tc .vmem S8192x128 .bf16) (a : Memref sig .tc .vmem S32x128x256 .f32) (X : BufTy.Contents (Elt Ideal) a.view.ty) (Y : BufTy.Contents (Elt Ideal) o.view.ty)
    (f : ℕ → ℕ → ℝ) (p : ℕ) (h : Holds a X f p) (k : Fin 8192) (l : Fin 128) :
    o.view.read (Elt Ideal) (o.view.writes (Elt Ideal) Y (allOut a X)) (ix2 k l) = ((f k.val (128 * p + l.val) : ℝ) : EReal) := by
  refine View.read_writes_apply_of_pieces (v := o.view) (f := Y) (fun y => ((f (y 0).val (128 * p + (y 1).val) : ℝ) : EReal)) (allOut a X) ?_ (ix2 k l) ?_
  · intro pc hpc x
    obtain ⟨n, rfl⟩ := (List.mem_ofFn' _ _).1 hpc
    obtain ⟨t, l', rfl⟩ : ∃ (t : Fin 256) (l' : Fin 128), x = ix2 t l' := ⟨x 0, x 1, by funext b; fin_cases b <;> rfl⟩
    have hb := slab_read (f := fun j l t => f (256 * j + t) (128 * p + l)) h ⟨31 - n.val, by omega⟩ (off := ![31 - n.val, 0, 0]) rfl
      (by intro b; fin_cases b <;> simp [Shape.size] <;> omega)
    refine (pay2_is hb t l').trans ?_
    congr 2
    · show 256 * (31 - n.val) + t.val = 256 * (31 - n.val) + 1 * t.val
      omega
    · show 128 * p + l'.val = 128 * p + (0 + 1 * l'.val)
      omega
  · have hk := k.isLt
    refine ⟨rowsOut a X ⟨k.val / 256, by omega⟩, (List.mem_ofFn' _ _).2 ⟨⟨31 - k.val / 256, by omega⟩, ?_⟩, ?_⟩
    · show rowsOut a X _ = rowsOut a X _
      congr 1
      apply Fin.ext
      show 31 - (31 - k.val / 256) = k.val / 256
      omega
    · refine ((rowsOut a X ⟨k.val / 256, by omega⟩).1.mem_set).2 fun b => ?_
      fin_cases b
      · exact ⟨k.val % 256, Nat.mod_lt _ (by decide), by show k.val = 256 * (k.val / 256) + 1 * (k.val % 256); omega⟩
      · exact ⟨l.val, l.isLt, by show l.val = 0 + 1 * l.val; omega⟩

section

variable {F : FTy → Type} [FloatOps F]

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec F S1x256x128 .bf16) (x1 x2 : Vec F S1x8192x128 .bf16) (x3 : Vec F S256x128 .bf16)
  (x4 : Vec F S1x256x128 .f32) (x5 : Vec F S1x1x8x128 .f32)

theorem runC_dk (hc0 : ¬First i) (hc1 : Last i) (g0 g1 : Vec F S32x128x256 .f32) :
    (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.1
      = allOut arg11 (arg11.view.writes (Elt F) (harg11.unread g0) (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.1) := by
  delta runC
  rfl

theorem runC_dv (hc0 : ¬First i) (hc1 : Last i) (g0 g1 : Vec F S32x128x256 .f32) :
    (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.1
      = allOut arg12 (arg12.view.writes (Elt F) (harg12.unread g1) (runC c i arg2 harg2 arg3 harg3 arg4 harg4 arg5 harg5 arg6 harg6 arg7 harg7 arg8 harg8 arg9 harg9 arg10 harg10 arg11 harg11 arg12 harg12 x0 x1 x2 x3 x4 x5 hc0 hc1 g0 g1).2.2.2.2.1) := by
  delta runC
  rfl

end

section

variable (c : Dev nD) (i : grid0.Coords)
  (arg2 : Memref sig .tc .vmem S1x256x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S256x128 .bf16) (harg5 : arg5.IsWhole)
  (arg6 : Memref sig .tc .vmem S1x256x128 .f32) (harg6 : arg6.IsWhole)
  (arg7 : Memref sig .tc .vmem S1x1x8x128 .f32) (harg7 : arg7.IsWhole)
  (arg8 : Memref sig .tc .vmem S256x128 .bf16) (harg8 : arg8.IsWhole)
  (arg9 : Memref sig .tc .vmem S8192x128 .bf16) (harg9 : arg9.IsWhole)
  (arg10 : Memref sig .tc .vmem S8192x128 .bf16) (harg10 : arg10.IsWhole)
  (arg11 : Memref sig .tc .vmem S32x128x256 .f32) (harg11 : arg11.IsWhole)
  (arg12 : Memref sig .tc .vmem S32x128x256 .f32) (harg12 : arg12.IsWhole)
  (x0 : Vec Ideal S1x256x128 .bf16) (x1 x2 : Vec Ideal S1x8192x128 .bf16) (x3 : Vec Ideal S256x128 .bf16)
  (x4 : Vec Ideal S1x256x128 .f32) (x5 : Vec Ideal S1x1x8x128 .f32) (Q K V D : ℕ → ℕ → ℝ) (p : ℕ)

/-- What a vector of running sums holds when some query blocks are in. -/
abbrev Sums (g : Vec Ideal S32x128x256 .f32) (f : ℕ → ℕ → ℝ) (p : ℕ) : Prop :=
  ∀ (j : Fin 32) (l : Fin 128) (t : Fin 256), g (ix3 j l t) = ((f (256 * j.val + t.val) (128 * p + l.val) : ℝ) : EReal)

/-- What a tile leaves: its block of the queries' gradient and the two running sums. -/
structure Done (i : grid0.Coords) (L : Left Ideal) : Prop where
  dq : ∀ (t : Fin 256) (l : Fin 128), L.dq (ix2 t l) = ((DQ Q K V D (256 * (i 1).val + t) (128 * p + l) : ℝ) : EReal)
  g0 : Sums L.g0 (DKn Q K V D (256 * ((i 1).val + 1))) p
  g1 : Sums L.g1 (DVn Q K D (256 * ((i 1).val + 1))) p

theorem holds_unread {a : Memref sig .tc .vmem S32x128x256 .f32} (ha : a.IsWhole) {g : Vec Ideal S32x128x256 .f32} {f : ℕ → ℕ → ℝ} (h : Sums g f p) : Holds a (ha.unread g) f p :=
  fun j l t => (congrFun (ha.read_unread g) _).trans (h j l t)

/-- One store over a whole block. -/
theorem whole_store {s : Shape} {e : EltTy} (a : Memref sig .tc .vmem s e) (X : BufTy.Contents (Elt Ideal) a.view.ty) {off : Fin s.rank → ℕ} (ho : ∀ b, off b = 0)
    (inb : ∀ b, off b + s.size b ≤ s.size b) (w : s.Idx → Elt Ideal e) (y : s.Idx) :
    a.view.read (Elt Ideal) (a.view.writes (Elt Ideal) X [⟨Rect.unit off s.size inb, w⟩]) y = w y :=
  View.read_writes_cons_unit_of_mem a.view X inb w [] y y (funext ho : off = fun _ => 0) (fun b => by simp)

variable {Q K V D p}

theorem leftB_done (hc0 : ¬First i) (hc1 : ¬Last i) (g0 g1 : Vec Ideal S32x128x256 .f32) (I : Ins i x0 x1 x2 x3 x4 x5 Q K V D p)
    (h0 : Sums g0 (DKn Q K V D (256 * (i 1).val)) p) (h1 : Sums g1 (DVn Q K D (256 * (i 1).val)) p) :
    Done Q K V D p i (leftB c i arg2 harg2 arg3 harg3 arg4 harg4 arg5 harg5 arg6 harg6 arg7 harg7 arg8 harg8 arg9 harg9 arg10 harg10 arg11 harg11 arg12 harg12 x0 x1 x2 x3 x4 x5 hc0 hc1 g0 g1) := by
  have H0 := holds_unread p harg11 h0
  have H1 := holds_unread p harg12 h1
  refine ⟨fun t l => ?_, fun j l t => ?_, fun j l t => ?_⟩
  · refine (congrArg (fun L => arg8.view.read (Elt Ideal) (arg8.view.writes (Elt Ideal) arg8.view.junk L) (ix2 t l)) (runB_dq c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    refine (whole_store arg8 _ (by intro b; fin_cases b <;> rfl) _ _ _).trans ?_
    exact end_dq c i arg2 harg2 arg3 harg3 arg4 harg4 arg5 harg5 arg6 harg6 arg7 harg7 arg8 harg8 arg9 harg9 arg10 harg10 arg11 harg11 arg12 harg12 _ _ I H0 H1 t l
  · refine (congrArg (fun L => arg11.view.read (Elt Ideal) (arg11.view.writes (Elt Ideal) (harg11.unread g0) L) (ix3 j l t)) (runB_g0 c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    exact end_g0 c i arg2 harg2 arg3 harg3 arg4 harg4 arg5 harg5 arg6 harg6 arg7 harg7 arg8 harg8 arg9 harg9 arg10 harg10 arg11 harg11 arg12 harg12 _ _ I H0 H1 j l t
  · refine (congrArg (fun L => arg12.view.read (Elt Ideal) (arg12.view.writes (Elt Ideal) (harg12.unread g1) L) (ix3 j l t)) (runB_g1 c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    exact end_g1 c i arg2 harg2 arg3 harg3 arg4 harg4 arg5 harg5 arg6 harg6 arg7 harg7 arg8 harg8 arg9 harg9 arg10 harg10 arg11 harg11 arg12 harg12 _ _ I H0 H1 j l t

theorem leftC_done (hc0 : ¬First i) (hc1 : Last i) (g0 g1 : Vec Ideal S32x128x256 .f32) (I : Ins i x0 x1 x2 x3 x4 x5 Q K V D p)
    (h0 : Sums g0 (DKn Q K V D (256 * (i 1).val)) p) (h1 : Sums g1 (DVn Q K D (256 * (i 1).val)) p) :
    Done Q K V D p i (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1) := by
  have H0 := holds_unread p harg11 h0
  have H1 := holds_unread p harg12 h1
  refine ⟨fun t l => ?_, fun j l t => ?_, fun j l t => ?_⟩
  · refine (congrArg (fun L => arg8.view.read (Elt Ideal) (arg8.view.writes (Elt Ideal) arg8.view.junk L) (ix2 t l)) (runC_dq c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    refine (whole_store arg8 _ (by intro b; fin_cases b <;> rfl) _ _ _).trans ?_
    exact end_dq c i arg2 harg2 arg3 harg3 arg4 harg4 arg5 harg5 arg6 harg6 arg7 harg7 arg8 harg8 arg9 harg9 arg10 harg10 arg11 harg11 arg12 harg12 _ _ I H0 H1 t l
  · refine (congrArg (fun L => arg11.view.read (Elt Ideal) (arg11.view.writes (Elt Ideal) (harg11.unread g0) L) (ix3 j l t)) (runC_g0 c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    exact end_g0 c i arg2 harg2 arg3 harg3 arg4 harg4 arg5 harg5 arg6 harg6 arg7 harg7 arg8 harg8 arg9 harg9 arg10 harg10 arg11 harg11 arg12 harg12 _ _ I H0 H1 j l t
  · refine (congrArg (fun L => arg12.view.read (Elt Ideal) (arg12.view.writes (Elt Ideal) (harg12.unread g1) L) (ix3 j l t)) (runC_g1 c i arg2 harg2 arg3 harg3 arg4 harg4 arg5 harg5 arg6 harg6 arg7 harg7 arg8 harg8 arg9 harg9 arg10 harg10 arg11 harg11 arg12 harg12 x0 x1 x2 x3 x4 x5 hc0 hc1 g0 g1)).trans ?_
    exact end_g1 c i arg2 harg2 arg3 harg3 arg4 harg4 arg5 harg5 arg6 harg6 arg7 harg7 arg8 harg8 arg9 harg9 arg10 harg10 arg11 harg11 arg12 harg12 _ _ I H0 H1 j l t

/-- The last tile of a pair of heads also leaves the gradients of the keys and of the values. -/
theorem leftC_out (hc0 : ¬First i) (hc1 : Last i) (g0 g1 : Vec Ideal S32x128x256 .f32) (I : Ins i x0 x1 x2 x3 x4 x5 Q K V D p)
    (h0 : Sums g0 (DKn Q K V D (256 * (i 1).val)) p) (h1 : Sums g1 (DVn Q K D (256 * (i 1).val)) p) (k : Fin 8192) (l : Fin 128) :
    (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).dk (ix2 k l) = ((DKn Q K V D (256 * ((i 1).val + 1)) k (128 * p + l) : ℝ) : EReal)
    ∧ (leftC c i arg2 harg2 arg3 harg3 arg4 harg4 arg5 harg5 arg6 harg6 arg7 harg7 arg8 harg8 arg9 harg9 arg10 harg10 arg11 harg11 arg12 harg12 x0 x1 x2 x3 x4 x5 hc0 hc1 g0 g1).dv (ix2 k l) = ((DVn Q K D (256 * ((i 1).val + 1)) k (128 * p + l) : ℝ) : EReal) := by
  have H0 := holds_unread p harg11 h0
  have H1 := holds_unread p harg12 h1
  refine ⟨?_, ?_⟩
  · refine (congrArg (fun L => arg9.view.read (Elt Ideal) (arg9.view.writes (Elt Ideal) arg9.view.junk L) (ix2 k l)) ((runC_dk c i arg2 harg2 arg3 harg3 arg4 harg4 arg5 harg5 arg6 harg6 arg7 harg7 arg8 harg8 arg9 harg9 arg10 harg10 arg11 harg11 arg12 harg12 x0 x1 x2 x3 x4 x5 hc0 hc1 g0 g1).trans (congrArg (fun L => allOut arg11 (arg11.view.writes (Elt Ideal) (harg11.unread g0) L)) (runC_g0 c i arg2 harg2 arg3 harg3 arg4 harg4 arg5 harg5 arg6 harg6 arg7 harg7 arg8 harg8 arg9 harg9 arg10 harg10 arg11 harg11 arg12 harg12 x0 x1 x2 x3 x4 x5 hc0 hc1 g0 g1)))).trans ?_
    exact allOut_read arg9 arg11 _ _ _ p (end_g0 c i arg2 harg2 arg3 harg3 arg4 harg4 arg5 harg5 arg6 harg6 arg7 harg7 arg8 harg8 arg9 harg9 arg10 harg10 arg11 harg11 arg12 harg12 _ _ I H0 H1) k l
  · refine (congrArg (fun L => arg10.view.read (Elt Ideal) (arg10.view.writes (Elt Ideal) arg10.view.junk L) (ix2 k l)) ((runC_dv c i arg2 harg2 arg3 harg3 arg4 harg4 arg5 harg5 arg6 harg6 arg7 harg7 arg8 harg8 arg9 harg9 arg10 harg10 arg11 harg11 arg12 harg12 x0 x1 x2 x3 x4 x5 hc0 hc1 g0 g1).trans (congrArg (fun L => allOut arg12 (arg12.view.writes (Elt Ideal) (harg12.unread g1) L)) (runC_g1 c i arg2 harg2 arg3 harg3 arg4 harg4 arg5 harg5 arg6 harg6 arg7 harg7 arg8 harg8 arg9 harg9 arg10 harg10 arg11 harg11 arg12 harg12 x0 x1 x2 x3 x4 x5 hc0 hc1 g0 g1)))).trans ?_
    exact allOut_read arg10 arg12 _ _ _ p (end_g1 c i arg2 harg2 arg3 harg3 arg4 harg4 arg5 harg5 arg6 harg6 arg7 harg7 arg8 harg8 arg9 harg9 arg10 harg10 arg11 harg11 arg12 harg12 _ _ I H0 H1) k l

theorem leftA_done (hc0 : First i) (hc1 : ¬Last i) (I : Ins i x0 x1 x2 x3 x4 x5 Q K V D p) (hi : (i 1).val = 0) :
    Done Q K V D p i (leftA c i arg2 harg2 arg3 harg3 arg4 harg4 arg5 harg5 arg6 harg6 arg7 harg7 arg8 harg8 arg9 harg9 arg10 harg10 arg11 harg11 arg12 harg12 x0 x1 x2 x3 x4 x5 hc0 hc1) := by
  have H0 : Holds arg11 (arg11.view.writes (Elt Ideal) arg11.view.junk runA.sl.S0_1) (DKn Q K V D (256 * (i 1).val)) p := fun j l t => by
    refine (whole_store arg11 _ (off := ![0, 0, 0]) (by intro b; fin_cases b <;> rfl) inb_S32x128x256_S32x128x256_0_0_0 _ _).trans ?_
    rw [hi, DKn]
    pointwise [k0_pay86]
    simp
  have H1 : Holds arg12 (arg12.view.writes (Elt Ideal) arg12.view.junk runA.sl.S1_1) (DVn Q K D (256 * (i 1).val)) p := fun j l t => by
    refine (whole_store arg12 _ (off := ![0, 0, 0]) (by intro b; fin_cases b <;> rfl) inb_S32x128x256_S32x128x256_0_0_0 _ _).trans ?_
    rw [hi, DVn]
    pointwise [k0_pay87]
    simp
  refine ⟨fun t l => ?_, fun j l t => ?_, fun j l t => ?_⟩
  · refine (congrArg (fun L => arg8.view.read (Elt Ideal) (arg8.view.writes (Elt Ideal) arg8.view.junk L) (ix2 t l)) (runA_dq c i arg2 harg2 arg3 harg3 arg4 harg4 arg5 harg5 arg6 harg6 arg7 harg7 arg8 harg8 arg9 harg9 arg10 harg10 arg11 harg11 arg12 harg12 x0 x1 x2 x3 x4 x5 hc0 hc1)).trans ?_
    refine (whole_store arg8 _ (by intro b; fin_cases b <;> rfl) _ _ _).trans ?_
    exact end_dq c i arg2 harg2 arg3 harg3 arg4 harg4 arg5 harg5 arg6 harg6 arg7 harg7 arg8 harg8 arg9 harg9 arg10 harg10 arg11 harg11 arg12 harg12 _ _ I H0 H1 t l
  · refine (congrArg (fun L => arg11.view.read (Elt Ideal) (arg11.view.writes (Elt Ideal) arg11.view.junk L) (ix3 j l t)) (runA_g0 c i arg2 harg2 arg3 harg3 arg4 harg4 arg5 harg5 arg6 harg6 arg7 harg7 arg8 harg8 arg9 harg9 arg10 harg10 arg11 harg11 arg12 harg12 x0 x1 x2 x3 x4 x5 hc0 hc1)).trans ?_
    rw [View.writes_append, ← List.cons_append, View.writes_append]
    exact end_g0 c i arg2 harg2 arg3 harg3 arg4 harg4 arg5 harg5 arg6 harg6 arg7 harg7 arg8 harg8 arg9 harg9 arg10 harg10 arg11 harg11 arg12 harg12 _ _ I H0 H1 j l t
  · refine (congrArg (fun L => arg12.view.read (Elt Ideal) (arg12.view.writes (Elt Ideal) arg12.view.junk L) (ix3 j l t)) (runA_g1 c i arg2 harg2 arg3 harg3 arg4 harg4 arg5 harg5 arg6 harg6 arg7 harg7 arg8 harg8 arg9 harg9 arg10 harg10 arg11 harg11 arg12 harg12 x0 x1 x2 x3 x4 x5 hc0 hc1)).trans ?_
    rw [View.writes_append, ← List.cons_append, View.writes_append]
    exact end_g1 c i arg2 harg2 arg3 harg3 arg4 harg4 arg5 harg5 arg6 harg6 arg7 harg7 arg8 harg8 arg9 harg9 arg10 harg10 arg11 harg11 arg12 harg12 _ _ I H0 H1 j l t

end

end Cert.AttnBwdIdeal.Pay

end
-- ==== Proof.AttnGrid.lean ====
/- What every grid point of the attention gradient leaves, over the reals. -/
module

public import proofs.«01_k».proof.Proof.AttnLeft
public import proofs.«01_k».proof.Proof.AttnFrame

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

variable (m : (ℓ : Loc nD τ sig) → Buf (Elt Ideal) ℓ) (c : Dev nD) (Q K V D : ℕ → ℕ → ℝ)

/-- The blocks every grid point reads, over the reals. -/
def InsAll : Prop := ∀ t : Fin cfg0.N,
  Ins (grid0.coords t) (iblk m c 0 t) (iblk m c 1 t) (iblk m c 2 t) (iblk m c 3 t) (iblk m c 4 t) (iblk m c 5 t) Q K V D (t.val / 32)

theorem coord1 (t : Fin cfg0.N) : (grid0.coords t 1).val = t.val % 32 := by
  have e : (grid0.coords t 1).val = t.val / 1 % 32 := Pipeline.Grid.coords_val t 1 (by decide) rfl
  rw [e, Nat.div_one]

variable {m c Q K V D}

/-- Every point leaves its block of the queries' gradient and the sums over the query blocks so far. -/
theorem done_all (H : InsAll m c Q K V D) : ∀ (n : ℕ) (hn : n < cfg0.N), Done Q K V D (n / 32) (grid0.coords ⟨n, hn⟩) (left m c ⟨n, hn⟩)
  | n, hn => by
    have I := H ⟨n, hn⟩
    have hi := coord1 ⟨n, hn⟩
    by_cases h0 : First (grid0.coords ⟨n, hn⟩)
    · have e0 := (first_iff ⟨n, hn⟩).1 h0
      rw [left_first m c ⟨n, hn⟩ h0]
      exact leftA_done c _ _ _ _ _ _ _ _ _ _ _ _ _ _ _ _ _ _ _ _ _ _ _ _ _ _ _ _ _ h0 (not_last _ h0) I (hi.trans e0)
    · have e0 : n % 32 ≠ 0 := fun h => h0 ((first_iff ⟨n, hn⟩).2 h)
      obtain ⟨k, rfl⟩ : ∃ k, n = k + 1 := ⟨n - 1, by omega⟩
      have hk' : k < cfg0.N := by omega
      have ih := done_all H k hk'
      have hk := coord1 ⟨k, hk'⟩
      have ep : (k + 1) / 32 = k / 32 := by omega
      have ei : (grid0.coords ⟨k, hk'⟩ 1).val + 1 = (grid0.coords ⟨k + 1, hn⟩ 1).val := by rw [hk, hi]; show k % 32 + 1 = (k + 1) % 32; omega
      have g0 := ih.g0
      have g1 := ih.g1
      rw [ei, ← ep] at g0 g1
      rw [left_later m c ⟨k + 1, hn⟩ ⟨k, hk'⟩ rfl]
      by_cases h1 : Last (grid0.coords ⟨k + 1, hn⟩)
      · rw [leftAt_last m c _ _ _ h0 h1]
        exact leftC_done c _ _ _ _ _ _ _ _ _ _ _ _ _ _ _ _ _ _ _ _ _ _ _ _ _ _ _ _ _ h0 h1 _ _ I g0 g1
      · rw [leftAt_mid m c _ _ _ h0 h1]
        exact leftB_done c _ _ _ _ _ _ _ _ _ _ _ _ _ _ _ _ _ _ _ _ _ _ _ _ _ _ _ _ _ h0 h1 _ _ I g0 g1

/-- The last point of a pair of heads leaves the gradients of its keys and values. -/
theorem out_all (H : InsAll m c Q K V D) (t : Fin cfg0.N) (ht : t.val % 32 = 31) (k : Fin 8192) (l : Fin 128) :
    (left m c t).dk (ix2 k l) = ((DK Q K V D k (128 * (t.val / 32) + l) : ℝ) : EReal)
    ∧ (left m c t).dv (ix2 k l) = ((DV Q K D k (128 * (t.val / 32) + l) : ℝ) : EReal) := by
  obtain ⟨n, hn⟩ := t
  have h1 := (last_iff ⟨n, hn⟩).2 ht
  have h0 : ¬First (grid0.coords ⟨n, hn⟩) := fun h => not_last _ h h1
  have ht' : n % 32 = 31 := ht
  obtain ⟨k', rfl⟩ : ∃ k, n = k + 1 := ⟨n - 1, by omega⟩
  have hk' : k' < cfg0.N := by omega
  have hi := coord1 ⟨k' + 1, hn⟩
  have ih := done_all H k' hk'
  have hk := coord1 ⟨k', hk'⟩
  have ep : (k' + 1) / 32 = k' / 32 := by omega
  have ei : (grid0.coords ⟨k', hk'⟩ 1).val + 1 = (grid0.coords ⟨k' + 1, hn⟩ 1).val := by rw [hk, hi]; show k' % 32 + 1 = (k' + 1) % 32; omega
  have g0 := ih.g0
  have g1 := ih.g1
  rw [ei, ← ep] at g0 g1
  rw [left_later m c ⟨k' + 1, hn⟩ ⟨k', hk'⟩ rfl, leftAt_last m c _ _ _ h0 h1]
  have e32 : 256 * ((grid0.coords ⟨k' + 1, hn⟩ 1).val + 1) = 8192 := by rw [hi]; show 256 * ((k' + 1) % 32 + 1) = 8192; omega
  refine ⟨Eq.trans (And.left (leftC_out c _ _ _ _ _ _ _ _ _ _ _ _ _ _ _ _ _ _ _ _ _ _ _ _ _ _ _ _ _ h0 h1 _ _ (H ⟨k' + 1, hn⟩) g0 g1 k l)) ?_,
    Eq.trans (And.right (leftC_out c _ _ _ _ _ _ _ _ _ _ _ _ _ _ _ _ _ _ _ _ _ _ _ _ _ _ _ _ _ h0 h1 _ _ (H ⟨k' + 1, hn⟩) g0 g1 k l)) ?_⟩
  · rw [e32]
    rfl
  · rw [e32, DVn, DV]
    simp only [mul_one]

end Cert.AttnBwdIdeal.Pay

end
-- ==== Proof.AttnHostV.lean ====
/- What the host lines before the attention gradient's region leave in the buffers the region reads. -/
module

public import proofs.«01_k».proof.Proof.AttnGrid
public import Idealize.ShloMosaic.Lib.Claim

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

variable (m : (ℓ : Loc nD τ sig) → Buf (Elt Ideal) ℓ) (c : Dev nD)

/-- One head's columns of a third of the projections, as the host cuts them out. -/
def hostA (a : FVec Ideal S8192x512 .f32) : FVec Ideal S8x8192x64 .f32 :=
  transpose S8x8192x64 [1, 0, 2] (shapeCast S8192x8x64 a shapeCasts_S8192x512_S8192x8x64) transposes_S8192x8x64_S8x8192x64_1_0_2

/-- The logits, as the host computes them. -/
def hostZ (x : FVec Ideal S8192x1536 .f32) : FVec Ideal S8x8192x8192 .f32 :=
  mulf (Host.dotGeneral dot_S8x8192x64_S8x8192x64_S8x8192x8192_2_2_1_1_0_0 none
      (hostA (extractStridedSlice S8192x512 ![0, 0] x slices_S8192x1536_S8192x512_0_0))
      (hostA (extractStridedSlice S8192x512 ![0, 512] x slices_S8192x1536_S8192x512_0_512)))
    (broadcastInDim S8x8192x8192 ![] bcast_S_S8x8192x8192 (constant S_ .f32 0x3E000000#32))

/-- The host's zeros. -/
def host0 : FVec Ideal S8x8192x8192 .f32 := broadcastInDim S8x8192x8192 ![] bcast_S_S8x8192x8192 (constant S_ .f32 0x00000000#32)

/-- log(1 + e^x), as the host computes it. -/
def hostSP (x : FVec Ideal S8x8192x8192 .f32) : FVec Ideal S8x8192x8192 .f32 :=
  select (cmpf .une (subf x host0) (subf x host0)) (addf x host0)
    (addf (maximumf x host0) (Host.log1p (Host.exp (Host.negf (Host.absf (subf x host0))))))

/-- Which keys a query sees. -/
def hostM : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- A query's sums of the logarithms. -/
def hostS (x : FVec Ideal S8192x1536 .f32) : FVec Ideal S8x8192 .f32 :=
  Host.reduceAdd (select (broadcastInDim S8x8192x8192 ![1, 2] bcast_S8192x8192_S8x8192x8192_1_2 hostM)
    (Host.negf (hostSP (Host.negf (Host.negf (hostZ x))))) host0) (constant S_ .f32 0x00000000#32) reducesTo_S8x8192x8192_S8x8192_d2 h_S_

theorem V_v33 : Gen.V m c main_v33 = (truncf .bf16 (m ((c : Thread nD τ).loc main_arg1)) bitsLt_bf16_f32 : FVec Ideal S8192x512 .bf16) := by
  rfl
theorem V_v7 : Gen.V m c main_v7 = (truncf .bf16 (concatenate S3x8192x512 0
    [⟨S1x8192x512, broadcastInDim S1x8192x512 ![1, 2] bcast_S8192x512_S1x8192x512_1_2 (extractStridedSlice S8192x512 ![0, 0] (m ((c : Thread nD τ).loc main_arg0)) slices_S8192x1536_S8192x512_0_0)⟩,
     ⟨S1x8192x512, broadcastInDim S1x8192x512 ![1, 2] bcast_S8192x512_S1x8192x512_1_2 (extractStridedSlice S8192x512 ![0, 512] (m ((c : Thread nD τ).loc main_arg0)) slices_S8192x1536_S8192x512_0_512)⟩,
     ⟨S1x8192x512, broadcastInDim S1x8192x512 ![1, 2] bcast_S8192x512_S1x8192x512_1_2 (extractStridedSlice S8192x512 ![0, 1024] (m ((c : Thread nD τ).loc main_arg0)) slices_S8192x1536_S8192x512_0_1024)⟩]
     (concatenates_S1x8192x512_S1x8192x512_S1x8192x512_S3x8192x512_d0)) bitsLt_bf16_f32 : FVec Ideal S3x8192x512 .bf16) := by
  rfl
theorem V_v32 : Gen.V m c main_v32 = (broadcastInDim S4x32x8x128 ![] bcast_S_S4x32x8x128 (constant S_ .f32 0x00000000#32) : FVec Ideal S4x32x8x128 .f32) := by
  rfl
theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => rw [List.cons_append, StableHlo.after_cons, StableHlo.after_cons, ih]

section Stretch

variable (W : Valuation τ sig (Elt Ideal))

theorem s0_v24 : StableHlo.after hostOps0 W (Proc.devRef .tc main_v24) = (Host.negf (hostZ (W (Proc.devRef .tc main_arg0))) : FVec Ideal S8x8192x8192 .f32) := by
  unfold_abbrev_sides
  after_results
  try rfl
theorem s0_v23 : StableHlo.after hostOps0 W (Proc.devRef .tc main_v23) = hostM := by
  unfold_abbrev_sides
  after_results
  try rfl
theorem s1_v25 : StableHlo.after hostOps0_1 W (Proc.devRef .tc main_v25) = (Host.negf (hostSP (Host.negf (W (Proc.devRef .tc main_v24) : FVec Ideal S8x8192x8192 .f32))) : FVec Ideal S8x8192x8192 .f32) := by
  unfold_abbrev_sides
  after_results
  try rfl
theorem s1_v23 : StableHlo.after hostOps0_1 W (Proc.devRef .tc main_v23) = W (Proc.devRef .tc main_v23) := by
  unfold_abbrev_sides
  after_results
  try rfl
theorem s2_v25 : StableHlo.after hostOps0_2 W (Proc.devRef .tc main_v25) = W (Proc.devRef .tc main_v25) := by
  unfold_abbrev_sides
  after_results
  try rfl
theorem s2_v23 : StableHlo.after hostOps0_2 W (Proc.devRef .tc main_v23) = W (Proc.devRef .tc main_v23) := by
  unfold_abbrev_sides
  after_results
  try rfl
theorem s2_cst : StableHlo.after hostOps0_2 W (Proc.devRef .tc main_cst_0) = (constant S_ .f32 0x00000000#32 : FVec Ideal S_ .f32) := by
  unfold_abbrev_sides
  after_results
  try rfl
theorem s3_v26 : StableHlo.after hostOps0_3 W (Proc.devRef .tc main_v26) =
    (select (broadcastInDim S8x8192x8192 ![1, 2] bcast_S8192x8192_S8x8192x8192_1_2 (W (Proc.devRef .tc main_v23) : IVec S8192x8192 1))
    (W (Proc.devRef .tc main_v25) : FVec Ideal S8x8192x8192 .f32)
      (broadcastInDim S8x8192x8192 ![] bcast_S_S8x8192x8192 (W (Proc.devRef .tc main_cst_0) : FVec Ideal S_ .f32)) : FVec Ideal S8x8192x8192 .f32) := by
  unfold_abbrev_sides
  after_results
  try rfl
theorem s4_v31 : StableHlo.after hostOps0_4 W (Proc.devRef .tc main_v31) =
   (shapeCast S4x8192x128 (broadcastInDim S4x8192x2x64 ![0, 1, 2] bcast_S4x8192x2_S4x8192x2x64_0_1_2
    (transpose S4x8192x2 [0, 2, 1] (shapeCast S4x2x8192 (Host.reduceAdd (W (Proc.devRef .tc main_v26) : FVec Ideal S8x8192x8192 .f32) (constant S_ .f32 0x00000000#32) reducesTo_S8x8192x8192_S8x8192_d2 h_S_)
      shapeCasts_S8x8192_S4x2x8192) transposes_S4x2x8192_S4x8192x2_0_2_1))
    shapeCasts_S4x8192x2x64_S4x8192x128 : FVec Ideal S4x8192x128 .f32) := by
  unfold_abbrev_sides
  after_results
  try rfl

end Stretch

theorem V_parts : Gen.V m c main_v31 = StableHlo.after hostOps0_4 (StableHlo.after hostOps0_3 (StableHlo.after hostOps0_2
    (StableHlo.after hostOps0_1 (StableHlo.after hostOps0 (fun b => m (c, b)))))) (Proc.devRef .tc main_v31) := by
  rw [Gen.V]
  simp only [List.flatten_cons, List.flatten_nil, List.append_nil, after_app]

theorem sums_eq : (Host.reduceAdd (StableHlo.after hostOps0_3 (StableHlo.after hostOps0_2
    (StableHlo.after hostOps0_1 (StableHlo.after hostOps0 (fun b => m (c, b))))) (Proc.devRef .tc main_v26) : FVec Ideal S8x8192x8192 .f32)
      (constant S_ .f32 0x00000000#32) reducesTo_S8x8192x8192_S8x8192_d2 h_S_) = hostS (m ((c : Thread nD τ).loc main_arg0)) := by
  rw [s3_v26, s2_v25, s2_v23, s2_cst, s1_v25, s1_v23, s0_v24, s0_v23]
  rfl

theorem V_v31 : Gen.V m c main_v31 = (shapeCast S4x8192x128 (broadcastInDim S4x8192x2x64 ![0, 1, 2] bcast_S4x8192x2_S4x8192x2x64_0_1_2
    (transpose S4x8192x2 [0, 2, 1] (shapeCast S4x2x8192 (hostS (m ((c : Thread nD τ).loc main_arg0))) shapeCasts_S8x8192_S4x2x8192) transposes_S4x2x8192_S4x8192x2_0_2_1))
    shapeCasts_S4x8192x2x64_S4x8192x128 : FVec Ideal S4x8192x128 .f32) := by
  rw [V_parts, s4_v31, sums_eq]
end Cert.AttnBwdIdeal.Pay
end
-- ==== Proof.AttnReal.lean ====
/- Reading an array of finite extended reals as a matrix over the reals, and log(1 + e^x) as a host line computes it. -/
module

public import proofs.«01_k».proof.Proof.AttnPay

@[expose] public section

open Idealize.ShloMosaic Idealize.ShloMosaic.TcCoe
open scoped BigOperators

noncomputable section

namespace Cert.AttnReal

open Cert.AttnMath
open Finset (range)

/-- Every entry is a real number. -/
abbrev Fin2 {n : ℕ} (x : FVec Ideal ⟨2, ![8192, n]⟩ .f32) : Prop := ∀ (q : Fin 8192) (l : Fin n), ∃ r : ℝ, x (ix2 q l) = (r : EReal)

/-- The columns from `o` on, as a matrix over the reals. -/
def mat {n : ℕ} (x : FVec Ideal ⟨2, ![8192, n]⟩ .f32) (o q l : ℕ) : ℝ :=
  if h : q < 8192 ∧ o + l < n then EReal.toReal (x (ix2 ⟨q, h.1⟩ ⟨o + l, h.2⟩)) else 0

theorem mat_coe {n : ℕ} {x : FVec Ideal ⟨2, ![8192, n]⟩ .f32} (hx : Fin2 x) (q : Fin 8192) (j : Fin n) (o l : ℕ) (hj : j.val = o + l) :
    x (ix2 q j) = ((mat x o q.val l : ℝ) : EReal) := by
  obtain ⟨r, hr⟩ := hx q j
  have h : q.val < 8192 ∧ o + l < n := ⟨q.isLt, hj ▸ j.isLt⟩
  have e : (⟨o + l, h.2⟩ : Fin n) = j := Fin.ext hj.symm
  rw [mat, dif_pos h, e, hr]
  rfl

theorem ofBits_eighth : Ideal.ofBits .f32 1040187392#32 = ((0.125 : ℝ) : EReal) := Cert.AttnBwdIdeal.Pay.eighth

theorem absf_coe (x : ℝ) : FloatOps.absf (F := Ideal) (φ := .f32) (x : EReal) = ((|x| : ℝ) : EReal) := by
  first | rfl | (simp [FloatOps.absf, Ideal.absf]; done)

theorem sp_coe (x : ℝ) : max (x : EReal) 0 + Ideal.log1p (Ideal.exp (-FloatOps.absf (F := Ideal) (φ := .f32) (x : EReal))) = ((sp x : ℝ) : EReal) := by
  rw [← Cert.AttnBwdIdeal.Pay.ideal_sp, zero_sub]
  rfl

theorem sp_select (x : ℝ) (y : EReal) (h : y = (x : EReal)) :
    (if y ≠ y then y else max y 0 + Ideal.log1p (Ideal.exp (-FloatOps.absf (F := Ideal) (φ := .f32) y))) = ((sp x : ℝ) : EReal) := by
  rw [if_neg (fun h => h rfl), h, sp_coe]

theorem slt_iff (a b : ℕ) (ha : a < 8192) (hb : b < 8192) : IntOp.cmpi CmpIPredicate.slt (BitVec.ofNat 32 a) (BitVec.ofNat 32 b) = if a < b then 1#1 else 0#1 := by
  have e : ∀ n < 8192, (BitVec.ofNat 32 n).toInt = n := fun n hn => by
    rw [BitVec.toInt_ofNat']
    simp only [Int.bmod_def]
    omega
  simp only [IntOp.cmpi, BitVec.slt, e a ha, e b hb, Nat.cast_lt]
  by_cases h : a < b <;> simp [h]

end Cert.AttnReal

end
-- ==== Proof.AttnHost.lean ====
/- The blocks the attention gradient reads, over the reals. -/
module

public import proofs.«01_k».proof.Proof.AttnHostV
public import proofs.«01_k».proof.Proof.AttnReal
public import Idealize.ShloMosaic.Lib.Claim

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

open Cert.AttnReal

variable {x : FVec Ideal S8192x1536 .f32}

theorem hostZ_at (hx : Fin2 x) (h : Fin 8) (q k : Fin 8192) : hostZ x (ix3 h q k) = ((Z (mat x 0) (mat x 512) h q k : ℝ) : EReal) := by
  pointwise [hostZ, hostA]
  have e0 : ∀ d : Fin 64, x (ix2 q ⟨h.val * 64 + d.val, by omega⟩) = ((mat x 0 q (64 * h.val + d.val) : ℝ) : EReal) := fun d => mat_coe hx _ _ _ _ (by simp only; omega)
  have e1 : ∀ d : Fin 64, x (ix2 k ⟨512 + (h.val * 64 + d.val), by omega⟩) = ((mat x 512 k (64 * h.val + d.val) : ℝ) : EReal) := fun d => mat_coe hx _ _ _ _ (by simp only; omega)
  simp only [e0, e1, ← EReal.coe_mul, coe_sum, ofBits_eighth]
  rw [Z, hd, Finset.sum_range]

theorem hostSP_at (y : FVec Ideal S8x8192x8192 .f32) (h : Fin 8) (q k : Fin 8192) (r : ℝ) (hr : y (ix3 h q k) = (r : EReal)) :
    hostSP y (ix3 h q k) = ((sp r : ℝ) : EReal) := by
  pointwise [hostSP, host0]
  exact sp_select r _ hr

theorem hostM_at (q k : Fin 8192) : hostM (ix2 q k) = if k.val < q.val then 1#1 else 0#1 := by
  pointwise [hostM]
  exact slt_iff _ _ k.isLt q.isLt

theorem hostS_at (hx : Fin2 x) (h : Fin 8) (q : Fin 8192) : hostS x (ix2 h q) = ((SM (mat x 0) (mat x 512) h q q : ℝ) : EReal) := by
  pointwise [hostS, host0]
  have e : ∀ k : Fin 8192, Scalar.select (hostM (ix2 q k)) (-hostSP (Host.negf (Host.negf (hostZ x))) (ix3 h q k)) (0 : EReal)
      = (((if k.val < q.val then LM (mat x 0) (mat x 512) h q k else 0 : ℝ)) : EReal) := fun k => by
    rw [hostM_at, hostSP_at _ h q k (Z (mat x 0) (mat x 512) h q k) (by
      pointwise
      rw [hostZ_at hx, neg_neg])]
    by_cases hk : k.val < q.val
    · rw [if_pos hk, if_pos hk, LM, EReal.coe_neg]; rfl
    · rw [if_neg hk, if_neg hk]; rfl
  simp only [e, coe_sum]
  rw [SM, ← sum_below (fun k => LM (mat x 0) (mat x 512) h q k) q.val 8192 (by omega), Finset.sum_range]
  congr 1
  refine Finset.sum_congr rfl fun k _ => ?_
  by_cases hk : k.val < q.val
  · rw [if_pos hk, if_pos hk, mul_one]
  · rw [if_neg hk, if_neg hk, mul_zero]

variable (m : (ℓ : Loc nD τ sig) → Buf (Elt Ideal) ℓ) (c : Dev nD)

theorem idx_in : ∀ t : Fin cfg0.N, win0_0.index t = ![0, t.val % 32, t.val / 32] ∧ win0_1.index t = ![1, 0, t.val / 32]
    ∧ win0_2.index t = ![2, 0, t.val / 32] ∧ win0_3.index t = ![t.val % 32, t.val / 32] ∧ win0_4.index t = ![t.val / 32, t.val % 32, 0]
    ∧ win0_5.index t = ![t.val / 32, t.val % 32, 0, 0] :=
  (by decide +kernel : ∀ t : Fin grid0.N, _)

theorem lt128 (t : Fin cfg0.N) : t.val < 128 := t.isLt

theorem V7_at (u : Fin 3) (q : Fin 8192) (l : Fin 512) (h : 512 * u.val + l.val < 1536) :
    Gen.V m c main_v7 (ix3 u q l) = (m ((c : Thread nD τ).loc main_arg0) : FVec Ideal S8192x1536 .f32) (ix2 q ⟨512 * u.val + l.val, h⟩) := by
  rw [V_v7]
  pointwise
  obtain ⟨u, hu⟩ := u
  obtain rfl | rfl | rfl : u = 0 ∨ u = 1 ∨ u = 2 := by omega
  · rw [dif_pos (by simp)]; congr 2; ext; simp
  · rw [dif_neg (by simp), dif_pos (by simp)]; congr 2
  · rw [dif_neg (by simp), dif_neg (by simp)]; congr 2

theorem emb_0 (t : Fin cfg0.N) (a : Fin 256) (l : Fin 128) : ((cfg0.win 0).blk t).view.emb (ix3 0 a l)
    = ix3 (0 : Fin 3) (⟨256 * (t.val % 32) + a.val, by omega⟩ : Fin 8192) (⟨128 * (t.val / 32) + l.val, by have := lt128 t; omega⟩ : Fin 512) := by
  blk_ext [idx_in t]

theorem emb_1 (t : Fin cfg0.N) (a : Fin 8192) (l : Fin 128) : ((cfg0.win 1).blk t).view.emb (ix3 0 a l)
    = ix3 (1 : Fin 3) a (⟨128 * (t.val / 32) + l.val, by have := lt128 t; omega⟩ : Fin 512) := by
  blk_ext [idx_in t]

theorem emb_2 (t : Fin cfg0.N) (a : Fin 8192) (l : Fin 128) : ((cfg0.win 2).blk t).view.emb (ix3 0 a l)
    = ix3 (2 : Fin 3) a (⟨128 * (t.val / 32) + l.val, by have := lt128 t; omega⟩ : Fin 512) := by
  blk_ext [idx_in t]

theorem emb_3 (t : Fin cfg0.N) (a : Fin 256) (l : Fin 128) : ((cfg0.win 3).blk t).view.emb (ix2 a l)
    = ix2 (⟨256 * (t.val % 32) + a.val, by omega⟩ : Fin 8192) (⟨128 * (t.val / 32) + l.val, by have := lt128 t; omega⟩ : Fin 512) := by
  blk_ext [idx_in t]

theorem emb_4 (t : Fin cfg0.N) (a : Fin 256) (l : Fin 128) : ((cfg0.win 4).blk t).view.emb (ix3 0 a l)
    = ix3 (⟨t.val / 32, by have := lt128 t; omega⟩ : Fin 4) (⟨256 * (t.val % 32) + a.val, by omega⟩ : Fin 8192) l := by
  blk_ext [idx_in t]

/-- The matrices the two arguments hold. -/
abbrev mQ : ℕ → ℕ → ℝ := mat (m ((c : Thread nD τ).loc main_arg0) : FVec Ideal S8192x1536 .f32) 0
abbrev mK : ℕ → ℕ → ℝ := mat (m ((c : Thread nD τ).loc main_arg0) : FVec Ideal S8192x1536 .f32) 512
abbrev mV : ℕ → ℕ → ℝ := mat (m ((c : Thread nD τ).loc main_arg0) : FVec Ideal S8192x1536 .f32) 1024
abbrev mD : ℕ → ℕ → ℝ := mat (m ((c : Thread nD τ).loc main_arg1) : FVec Ideal S8192x512 .f32) 0

theorem V31_at (hx : Fin2 (m ((c : Thread nD τ).loc main_arg0) : FVec Ideal S8192x1536 .f32)) (p : Fin 4) (q : Fin 8192) (l : Fin 128) :
    Gen.V m c main_v31 (ix3 p q l) = ((SM (mQ m c) (mK m c) (2 * p.val + l.val / 64) q q : ℝ) : EReal) := by
  rw [V_v31]
  pointwise
  rw [hostS_at hx]
  simp only [Nat.mul_comm 2]

theorem V32_at (y) : Gen.V m c main_v32 y = (0 : EReal) := by
  rw [V_v32]
  pointwise

theorem V33_at (y) : Gen.V m c main_v33 y = (m ((c : Thread nD τ).loc main_arg1) : FVec Ideal S8192x512 .f32) y := by
  rw [V_v33]
  pointwise

theorem read_0 (t : Fin cfg0.N) (y) : iblk m c 0 t y = Gen.V m c main_v7 (((cfg0.win 0).blk t).view.emb y) := by
  blk_simp [iblk]
theorem read_1 (t : Fin cfg0.N) (y) : iblk m c 1 t y = Gen.V m c main_v7 (((cfg0.win 1).blk t).view.emb y) := by
  blk_simp [iblk]
theorem read_2 (t : Fin cfg0.N) (y) : iblk m c 2 t y = Gen.V m c main_v7 (((cfg0.win 2).blk t).view.emb y) := by
  blk_simp [iblk]
theorem read_3 (t : Fin cfg0.N) (y) : iblk m c 3 t y = Gen.V m c main_v33 (((cfg0.win 3).blk t).view.emb y) := by
  blk_simp [iblk]
theorem read_4 (t : Fin cfg0.N) (y) : iblk m c 4 t y = Gen.V m c main_v31 (((cfg0.win 4).blk t).view.emb y) := by
  blk_simp [iblk]
theorem read_5 (t : Fin cfg0.N) (y) : iblk m c 5 t y = Gen.V m c main_v32 (((cfg0.win 5).blk t).view.emb y) := by
  blk_simp [iblk]

/-- Every grid point reads the blocks of those matrices. -/
theorem ins_all (hx : Fin2 (m ((c : Thread nD τ).loc main_arg0) : FVec Ideal S8192x1536 .f32))
    (hd : Fin2 (m ((c : Thread nD τ).loc main_arg1) : FVec Ideal S8192x512 .f32)) :
    InsAll m c (mQ m c) (mK m c) (mV m c) (mD m c) := fun t => by
  have ht := lt128 t
  have hc := coord1 t
  refine ⟨fun a l => ?_, fun a l => ?_, fun a l => ?_, fun a l => ?_, fun a l => ?_, fun y => ?_⟩
  · rw [read_0, emb_0, V7_at m c 0 _ _ (by simp only [Fin.val_zero]; omega)]
    refine (mat_coe hx _ _ 0 (128 * (t.val / 32) + l.val) (by simp)).trans ?_
    rw [hc]
  · rw [read_1, emb_1, V7_at m c 1 _ _ (by simp only [Fin.val_one]; omega)]
    exact mat_coe hx _ _ 512 (128 * (t.val / 32) + l.val) (by simp)
  · rw [read_2, emb_2, V7_at m c 2 _ _ (by simp only [Fin.val_two]; omega)]
    exact mat_coe hx _ _ 1024 (128 * (t.val / 32) + l.val) (by simp)
  · rw [read_3, emb_3, V33_at]
    refine (mat_coe hd _ _ 0 (128 * (t.val / 32) + l.val) (by simp)).trans ?_
    rw [hc]
  · rw [read_4, emb_4, V31_at m c hx, hc]
  · rw [read_5, V32_at]

end Cert.AttnBwdIdeal.Pay
end
-- ==== Proof.AttnScan.lean ====
/- Running sums along the last of three axes, as a host line computes them by a window over the padded array. -/
module

public import proofs.«01_k».proof.Proof.AttnReal

@[expose] public section

open Idealize.ShloMosaic Idealize.ShloMosaic.TcCoe
open scoped BigOperators

noncomputable section

namespace Cert.AttnReal

open Finset (range)

theorem foldl_sum {n : ℕ} (g : Fin n → EReal) (v : EReal) : (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, ← List.ofFn_eq_map, List.sum_ofFn]

theorem numel_row (N : ℕ) : (⟨3, ![1, 1, N]⟩ : Shape).numel = N := by
  show ∏ a : Fin 3, (![1, 1, N] : Fin 3 → Nat) a = N
  simp [Fin.prod_univ_three]

theorem row_symm {N : ℕ} (n : Fin (⟨3, ![1, 1, N]⟩ : Shape).numel) :
    (⟨3, ![1, 1, N]⟩ : Shape).rowMajor.symm n = ix3 (0 : Fin 1) (0 : Fin 1) (n.cast (numel_row N)) :=
  ((⟨3, ![1, 1, N]⟩ : Shape).rowMajor.symm_apply_eq).2 (Fin.ext (by
    show n.val = (Shape.rowMajorPi ![1, 1, N] (ix3 (0 : Fin 1) (0 : Fin 1) (n.cast (numel_row N)))).val
    rw [Shape.rowMajorPi_succ_val, Shape.rowMajorPi_succ_val, Shape.rowMajorPi_succ_val]
    simp [Shape.rowMajorPi, Shape.rankPi]))

theorem window_sum_ext {A B N lo hi : ℕ} (x : FVec Ideal ⟨3, ![A, B, N]⟩ .f32) {u : Shape} (init : FVec Ideal u .f32)
    (h : (⟨3, ![A, B, N]⟩ : Shape).ReduceWindows ![1, 1, N] ![1, 1, 1] ![0, 0, lo] ![0, 0, hi] ⟨3, ![A, B, N]⟩) (hu : 0 < u.numel)
    (hinit : init (Shape.Idx.first hu) = (0 : EReal)) (a : Fin A) (b : Fin B) (j : Fin N) (f : ℕ → EReal)
    (hx : ∀ k : Fin N, x (ix3 a b k) = f k.val) :
    Host.reduceWindowAdd ![1, 1, N] ![1, 1, 1] ![0, 0, lo] ![0, 0, hi] x init h hu (ix3 a b j)
      = ∑ n ∈ range N, (if lo ≤ j.val + n ∧ j.val + n - lo < N then f (j.val + n - lo) else 0) := by
  show Ideal.hostReduceWindowAdd _ _ _ _ h x (init (Shape.Idx.first hu)) (ix3 a b j) = _
  rw [hinit]
  unfold Ideal.hostReduceWindowAdd Host.reduceWindow
  refine (foldl_sum _ _).trans ?_
  rw [zero_add, Finset.sum_range]
  refine Fintype.sum_equiv (finCongr (numel_row N)) _ _ fun n => ?_
  have hw0 : ((⟨3, ![1, 1, N]⟩ : Shape).rowMajor.symm n 0).val = 0 := by rw [row_symm]; rfl
  have hw1 : ((⟨3, ![1, 1, N]⟩ : Shape).rowMajor.symm n 1).val = 0 := by rw [row_symm]; rfl
  have hw2 : ((⟨3, ![1, 1, N]⟩ : Shape).rowMajor.symm n 2).val = n.val := by rw [row_symm]; rfl
  have hn : n.val < N := (n.cast (numel_row _)).isLt
  show _ = (if lo ≤ j.val + n.val ∧ j.val + n.val - lo < N then f (j.val + n.val - lo) else 0)
  dsimp only
  split
  · next hin =>
    have h2 := hin 2
    change lo ≤ j.val * 1 + ((⟨3, ![1, 1, N]⟩ : Shape).rowMajor.symm n 2).val
      ∧ j.val * 1 + ((⟨3, ![1, 1, N]⟩ : Shape).rowMajor.symm n 2).val - lo < N at h2
    rw [hw2] at h2
    rw [if_pos (by omega)]
    refine (congrArg x (funext fun c => Fin.ext ?_)).trans (hx ⟨j.val + n.val - lo, by omega⟩)
    match c with
    | ⟨0, _⟩ =>
      show a.val * 1 + ((⟨3, ![1, 1, N]⟩ : Shape).rowMajor.symm n 0).val - 0 = a.val
      rw [hw0]; omega
    | ⟨1, _⟩ =>
      show b.val * 1 + ((⟨3, ![1, 1, N]⟩ : Shape).rowMajor.symm n 1).val - 0 = b.val
      rw [hw1]; omega
    | ⟨2, _⟩ =>
      show j.val * 1 + ((⟨3, ![1, 1, N]⟩ : Shape).rowMajor.symm n 2).val - lo = j.val + n.val - lo
      rw [hw2, Nat.mul_one]
  · next hin =>
    rw [if_neg fun hle => hin fun c => by
      match c with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        rw [hw0]; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        rw [hw1]; omega
      | ⟨2, _⟩ =>
        show lo ≤ j.val * 1 + ((⟨3, ![1, 1, N]⟩ : Shape).rowMajor.symm n 2).val
          ∧ j.val * 1 + ((⟨3, ![1, 1, N]⟩ : Shape).rowMajor.symm n 2).val - lo < N
        rw [hw2]; omega]

theorem window_sum {A B N lo hi : ℕ} (x : FVec Ideal ⟨3, ![A, B, N]⟩ .f32) {u : Shape} (init : FVec Ideal u .f32)
    (h : (⟨3, ![A, B, N]⟩ : Shape).ReduceWindows ![1, 1, N] ![1, 1, 1] ![0, 0, lo] ![0, 0, hi] ⟨3, ![A, B, N]⟩) (hu : 0 < u.numel)
    (hinit : init (Shape.Idx.first hu) = (0 : EReal)) (a : Fin A) (b : Fin B) (j : Fin N) (f : ℕ → ℝ)
    (hx : ∀ k : Fin N, x (ix3 a b k) = ((f k.val : ℝ) : EReal)) :
    Host.reduceWindowAdd ![1, 1, N] ![1, 1, 1] ![0, 0, lo] ![0, 0, hi] x init h hu (ix3 a b j)
      = ((∑ n ∈ range N, (if lo ≤ j.val + n ∧ j.val + n - lo < N then f (j.val + n - lo) else 0) : ℝ) : EReal) := by
  rw [window_sum_ext x init h hu hinit a b j (fun n => ((f n : ℝ) : EReal)) hx, Finset.sum_range, ← Cert.AttnMath.coe_sum_fin]
  refine Finset.sum_congr rfl fun n _ => ?_
  split <;> rfl

/-- Padded low by one less than the length: the sum of the entries up to this one. -/
theorem sum_upto (f : ℕ → ℝ) (M j : ℕ) (hj : j < M + 1) :
    (∑ n ∈ range (M + 1), if M ≤ j + n ∧ j + n - M < M + 1 then f (j + n - M) else 0) = ∑ k ∈ range (j + 1), f k := by
  obtain ⟨d, rfl⟩ : ∃ d, M = j + d := ⟨M - j, by omega⟩
  rw [show j + d + 1 = d + (j + 1) by omega, Finset.sum_range_add, Finset.sum_eq_zero, zero_add]
  · refine Finset.sum_congr rfl fun k hk => ?_
    have := Finset.mem_range.1 hk
    rw [if_pos (by omega)]
    congr 1; omega
  · intro n hn
    have := Finset.mem_range.1 hn
    rw [if_neg (by omega)]

/-- Padded high: the sum of the entries from this one on. -/
theorem sum_from {M : Type} [AddCommMonoid M] (f : ℕ → M) (N j : ℕ) (hj : j < N) :
    (∑ n ∈ range N, if 0 ≤ j + n ∧ j + n - 0 < N then f (j + n - 0) else 0) = ∑ n ∈ range (N - j), f (j + n) := by
  obtain ⟨d, rfl⟩ : ∃ d, N = d + j := ⟨N - j, by omega⟩
  rw [Finset.sum_range_add, Nat.add_sub_cancel]
  refine (congrArg₂ (· + ·) (Finset.sum_congr rfl fun k hk => ?_) (Finset.sum_eq_zero fun k hk => ?_)).trans (add_zero _)
  · have := Finset.mem_range.1 hk
    rw [if_pos (by omega)]; rfl
  · rw [if_neg (by omega)]

end Cert.AttnReal

end
-- ==== Proof.AttnRef.lean ====
/- The reference's gradient of the attention, over the reals. -/
module

public import proofs.«01_k».proof.Proof.AttnScan
public import proofs.«01_k».proof.Proof.Gen.AttnBwdRefIdeal.Run

@[expose] public section

set_option maxRecDepth 16384

open Idealize.ShloMosaic Idealize.ShloMosaic.TcCoe Idealize.SL.Sem
open scoped BigOperators

noncomputable section

namespace Cert.AttnBwdRefIdeal.Val

open Cert.AttnBwdRefIdeal Cert.AttnBwdRefIdeal.Gen Cert.AttnBwdRefIdeal.Value Cert.AttnMath Cert.AttnReal
open Finset (range)

theorem pos_inf : Ideal.ofBits .f32 2139095040#32 = (⊤ : EReal) := by
  simp [Ideal.ofBits, Ideal.ieee]

theorem sel_real (x : ℝ) : (if (x : EReal) = Ideal.ofBits .f32 2139095040#32 then (0 : EReal) else (x : EReal)) = (x : EReal) := by
  rw [pos_inf, if_neg (EReal.coe_ne_top x)]

theorem const0 : id (constant (F := Ideal) S_ .f32 0#32) ix0 = (0 : EReal) := Ideal.ofBits_zero_f32

variable (W0 : Valuation τ sig (Elt Ideal))

/-- The matrices the two arguments hold. -/
abbrev aQ : ℕ → ℕ → ℝ := mat (W0 (Proc.devRef .tc main_arg0) : FVec Ideal S8192x1536 .f32) 0
abbrev aK : ℕ → ℕ → ℝ := mat (W0 (Proc.devRef .tc main_arg0) : FVec Ideal S8192x1536 .f32) 512
abbrev aV : ℕ → ℕ → ℝ := mat (W0 (Proc.devRef .tc main_arg0) : FVec Ideal S8192x1536 .f32) 1024
abbrev aD : ℕ → ℕ → ℝ := mat (W0 (Proc.devRef .tc main_arg1) : FVec Ideal S8192x512 .f32) 0

variable {W0} (hx : Fin2 (W0 (Proc.devRef .tc main_arg0) : FVec Ideal S8192x1536 .f32)) (hy : Fin2 (W0 (Proc.devRef .tc main_arg1) : FVec Ideal S8192x512 .f32))
  (h : Fin 8) (q k : Fin 8192) (d : Fin 64)

include hx in
theorem v5_at : res_main_v5 W0 (ix3 h q d) = ((aQ W0 q (64 * h.val + d.val) : ℝ) : EReal) := by
  pointwise [res_main_v5, res_main_v1]
  exact mat_coe hx _ _ 0 _ (by simp only; omega)

include hx in
theorem v6_at : res_main_v6 W0 (ix3 h q d) = ((aK W0 q (64 * h.val + d.val) : ℝ) : EReal) := by
  pointwise [res_main_v6, res_main_v1]
  exact mat_coe hx _ _ 512 _ (by simp only; omega)

include hx in
theorem v7_at : res_main_v7 W0 (ix3 h q d) = ((aV W0 q (64 * h.val + d.val) : ℝ) : EReal) := by
  pointwise [res_main_v7, res_main_v1]
  exact mat_coe hx _ _ 1024 _ (by simp only; omega)

include hy in
theorem v31_at : res_main_v31 W0 (ix3 h q d) = ((aD W0 q (64 * h.val + d.val) : ℝ) : EReal) := by
  pointwise [res_main_v31]
  exact mat_coe hy _ _ 0 _ (by simp only; omega)

include hx in
theorem v10_at : res_main_v10 W0 (ix3 h q k) = ((Z (aQ W0) (aK W0) h q k : ℝ) : EReal) := by
  pointwise [res_main_v10]
  simp only [v5_at hx, v6_at hx, ← EReal.coe_mul, Cert.AttnBwdIdeal.Pay.coe_sum, ofBits_eighth]
  rw [Z, hd, Finset.sum_range]

theorem v17_at : res_main_v17 W0 (ix2 q k) = if k.val < q.val then 1#1 else 0#1 := by
  pointwise [res_main_v17]
  exact slt_iff _ _ k.isLt q.isLt

include hx in
theorem c0_at : res_main_call0_v0 W0 (ix3 h q k) = ((-Z (aQ W0) (aK W0) h q k : ℝ) : EReal) := by
  pointwise [res_main_call0_v0]
  rw [v10_at hx, EReal.coe_neg]

include hx in
theorem c1_at : res_main_call1_v0 W0 (ix3 h q k) = ((Z (aQ W0) (aK W0) h q k : ℝ) : EReal) := by
  pointwise [res_main_call1_v0]
  rw [v10_at hx, neg_neg]

include hx in
theorem s0_at : res_main_call0_v1_0 W0 (ix3 h q k) = ((sp (-Z (aQ W0) (aK W0) h q k) : ℝ) : EReal) := by
  pointwise [res_main_call0_v1_0, res_main_call0_call0_v3, res_main_call0_call0_cst]
  exact sp_select _ _ (c0_at hx h q k)

include hx in
theorem s1_at : res_main_call1_v1_0 W0 (ix3 h q k) = ((sp (Z (aQ W0) (aK W0) h q k) : ℝ) : EReal) := by
  pointwise [res_main_call1_v1_0, res_main_call1_call0_v3, res_main_call1_call0_cst]
  exact sp_select _ _ (c1_at hx h q k)

/-- The masked logarithms. -/
abbrev G (A B : ℕ → ℕ → ℝ) (h q k : ℕ) : ℝ := if k < q then LM A B h q k else 0

include hx in
theorem v21_at : res_main_v21_0 W0 (ix3 h q k) = ((G (aQ W0) (aK W0) h q k : ℝ) : EReal) := by
  pointwise [res_main_v21_0, res_main_v21_1]
  rw [v17_at, s1_at hx]
  by_cases hk : k.val < q.val
  · rw [if_pos hk, G, if_pos hk, LM, EReal.coe_neg]; rfl
  · rw [if_neg hk, G, if_neg hk, const0]; rfl

/-- The masked logarithms of the keys after this one. -/
abbrev after' (A B : ℕ → ℕ → ℝ) (h q k : ℕ) : ℝ := (∑ n ∈ range (8192 - k), G A B h q (k + n)) - G A B h q k

theorem after_eq (A B : ℕ → ℕ → ℝ) (h q k : ℕ) (hk : k < q) (hq : q < 8192) : after' A B h q k = SM A B h q q - SM A B h q (k + 1) := by
  obtain ⟨e, rfl⟩ : ∃ e, q = k + 1 + e := ⟨q - (k + 1), by omega⟩
  obtain ⟨f, hf⟩ : ∃ f, 8192 - k = 1 + e + f := ⟨8192 - k - (1 + e), by omega⟩
  rw [after', hf, SM_add, add_sub_cancel_left, Finset.sum_range_add, Finset.sum_eq_zero (s := range f), add_zero, Finset.sum_range_add,
    Finset.sum_range_one, show k + 0 = k from rfl, add_sub_cancel_left]
  · refine Finset.sum_congr rfl fun n hn => ?_
    have := Finset.mem_range.1 hn
    rw [G, if_pos (by omega)]
    congr 1; omega
  · intro n _
    rw [G, if_neg (by omega)]

include hx in
theorem v25_at : res_main_v25 W0 (ix3 h q k)
    = ((Real.exp (LB (aQ W0) (aK W0) h q k + after' (aQ W0) (aK W0) h q k) : ℝ) : EReal) := by
  pointwise [res_main_v25]
  rw [s0_at hx, v21_at hx, window_sum (A := 8) (B := 8192) (N := 8192) (res_main_v21_0 W0) _ _ h_S_ (by pointwise) h q k
    (fun n => G (aQ W0) (aK W0) h q n) (fun n => v21_at hx h q n), sum_from _ _ _ k.isLt]
  rw [← EReal.coe_neg, ← EReal.coe_sub, ← EReal.coe_add, LB, ← sp_neg]
  rfl

include hx in
theorem v26_at : res_main_v26_0 W0 (ix3 h q k) = ((W (aQ W0) (aK W0) h q k : ℝ) : EReal) := by
  pointwise [res_main_v26_0, res_main_v26_1]
  rw [v17_at, v25_at hx]
  by_cases hk : k.val < q.val
  · rw [if_pos hk, W, if_pos hk, after_eq _ _ _ _ _ hk q.isLt]; rfl
  · rw [if_neg hk, W, if_neg hk, const0]; rfl

include hx hy in
theorem v36_at : res_main_v36 W0 (ix3 h q k) = ((E (aQ W0) (aK W0) (aV W0) (aD W0) h q k : ℝ) : EReal) := by
  pointwise [res_main_v36, res_main_v26_1]
  rw [v17_at, v25_at hx]
  simp only [v31_at hy, v7_at hx, ← EReal.coe_mul, Cert.AttnBwdIdeal.Pay.coe_sum]
  by_cases hk : k.val < q.val
  · rw [if_pos hk, E, W, if_pos hk, after_eq _ _ _ _ _ hk q.isLt, mul_comm, hd, Finset.sum_range]; rfl
  · rw [if_neg hk, E, W, if_neg hk, zero_mul]; rfl

include hx hy in
theorem v46_at : res_main_v46 W0 (ix3 h q k) = ((DZ (aQ W0) (aK W0) (aV W0) (aD W0) h q k * 0.125 : ℝ) : EReal) := by
  pointwise [res_main_v46, res_main_v21_1]
  rw [v17_at, c0_at hx, c1_at hx, s0_at hx, s1_at hx, v36_at hx hy, sel_real, sel_real, sel_real, sel_real,
    window_sum (A := 8) (B := 8192) (N := 8192) (res_main_v36 W0) _ _ h_S_ (by pointwise) h q k
    (fun n => E (aQ W0) (aK W0) (aV W0) (aD W0) h q n) (fun n => v36_at hx hy h q n), sum_upto _ 8191 _ k.isLt, ofBits_eighth]
  have e1 : Real.exp (-Z (aQ W0) (aK W0) h q k - sp (-Z (aQ W0) (aK W0) h q k)) = 1 - Real.exp (LB (aQ W0) (aK W0) h q k) := by
    rw [LB, ← exp_neg_sp, sub_eq_add_neg, sp_neg]; congr 1; ring
  simp only [← EReal.coe_sub, ← EReal.coe_neg, show ∀ x : ℝ, Ideal.exp (x : EReal) = ((Real.exp x : ℝ) : EReal) from fun _ => rfl, ← EReal.coe_add, e1]
  by_cases hk : k.val < q.val
  · rw [if_pos hk, DZ, if_pos hk, PS, show ∀ a b : EReal, Scalar.select 1#1 a b = a from fun _ _ => rfl, Finset.sum_range_succ]
    simp only [← EReal.coe_neg, ← EReal.coe_mul, ← EReal.coe_add]
    rw [LB]
    congr 1
    ring
  · rw [if_neg hk, DZ, if_neg hk, E, W, if_neg hk, show ∀ a b : EReal, Scalar.select 0#1 a b = b from fun _ _ => rfl, ← EReal.coe_zero]
    simp only [← EReal.coe_neg, ← EReal.coe_mul, ← EReal.coe_add]
    congr 1
    ring

include hx hy in
/-- The gradient with respect to the queries. -/
theorem out_q (l : Fin 512) : extractStridedSlice S8192x512 ![0, 0] (res_main_v54 W0) slices_S8192x1536_S8192x512_0_0 (ix2 q l)
    = ((DQ (aQ W0) (aK W0) (aV W0) (aD W0) q l : ℝ) : EReal) := by
  pointwise [res_main_v54]
  rw [dif_pos (by omega)]
  simp only [v46_at hx hy, v6_at hx, ← EReal.coe_mul, Cert.AttnBwdIdeal.Pay.coe_sum]
  rw [DQ, Finset.sum_range, Finset.sum_mul]
  congr 1
  refine Finset.sum_congr rfl fun k _ => ?_
  rw [show (64 * (l.val / 64 % 8) + l.val % 64) = l.val by omega, show l.val / 64 % 8 = l.val / 64 by omega]
  ring

include hx hy in
/-- The gradient with respect to the keys. -/
theorem out_k (l : Fin 512) : extractStridedSlice S8192x512 ![0, 512] (res_main_v54 W0) slices_S8192x1536_S8192x512_0_512 (ix2 k l)
    = ((DK (aQ W0) (aK W0) (aV W0) (aD W0) k l : ℝ) : EReal) := by
  pointwise [res_main_v54]
  rw [dif_neg (by omega), dif_pos (by omega)]
  simp only [v46_at hx hy, v5_at hx, ← EReal.coe_mul, Cert.AttnBwdIdeal.Pay.coe_sum]
  rw [DK, Finset.sum_range]
  congr 1
  refine Finset.sum_congr rfl fun q _ => ?_
  rw [show (64 * ((512 + l.val) / 64 % 8) + (512 + l.val) % 64) = l.val by omega, show (512 + l.val) / 64 % 8 = l.val / 64 by omega]
  ring

include hx hy in
/-- The gradient with respect to the values. -/
theorem out_v (l : Fin 512) : extractStridedSlice S8192x512 ![0, 1024] (res_main_v54 W0) slices_S8192x1536_S8192x512_0_1024 (ix2 k l)
    = ((DV (aQ W0) (aK W0) (aD W0) k l : ℝ) : EReal) := by
  pointwise [res_main_v54]
  rw [dif_neg (by omega), dif_neg (by omega)]
  simp only [v31_at hy, v26_at hx, ← EReal.coe_mul, Cert.AttnBwdIdeal.Pay.coe_sum]
  rw [DV, Finset.sum_range]
  congr 1
  refine Finset.sum_congr rfl fun q _ => ?_
  rw [show (64 * ((1024 + l.val) / 64 % 8) + (1024 + l.val) % 64) = l.val by omega, show (1024 + l.val) / 64 % 8 = l.val / 64 by omega]

include hx hy in
/-- The three results as whole arrays. -/
theorem all_q : truncf (F := Ideal) .bf16 (extractStridedSlice S8192x512 ![0, 0] (res_main_v54 W0) slices_S8192x1536_S8192x512_0_0) bitsLt_bf16_f32
    = (fun y => ((DQ (aQ W0) (aK W0) (aV W0) (aD W0) (y 0).val (y 1).val : ℝ) : EReal) : FVec Ideal S8192x512 .bf16) := by
  funext y; idx_vars y; exact out_q hx hy y0 y1

include hx hy in
theorem all_k : truncf (F := Ideal) .bf16 (extractStridedSlice S8192x512 ![0, 512] (res_main_v54 W0) slices_S8192x1536_S8192x512_0_512) bitsLt_bf16_f32
    = (fun y => ((DK (aQ W0) (aK W0) (aV W0) (aD W0) (y 0).val (y 1).val : ℝ) : EReal) : FVec Ideal S8192x512 .bf16) := by
  funext y; idx_vars y; exact out_k hx hy y0 y1

include hx hy in
theorem all_v : truncf (F := Ideal) .bf16 (extractStridedSlice S8192x512 ![0, 1024] (res_main_v54 W0) slices_S8192x1536_S8192x512_0_1024) bitsLt_bf16_f32
    = (fun y => ((DV (aQ W0) (aK W0) (aD W0) (y 0).val (y 1).val : ℝ) : EReal) : FVec Ideal S8192x512 .bf16) := by
  funext y; idx_vars y; exact out_v hx hy y0 y1

/-- The reference's three arrays are the three gradients. -/
theorem run_arr (m : (ℓ : Loc nD τ sig) → Buf (Elt Ideal) ℓ) (ρ : Dev nD → PrngReg)
    (hf : ∀ c : Dev nD, Fin2 (m ((c.tc : Thread nD τ).loc main_arg0) : FVec Ideal S8192x1536 .f32) ∧ Fin2 (m ((c.tc : Thread nD τ).loc main_arg1) : FVec Ideal S8192x512 .f32)) :
    θ_run defs (onTc (τ := τ) (main (F := Ideal))) ⟨m, fun _ => 0, ρ⟩ (fun r => ∀ c : Dev nD,
      r.2.mem ((c.tc : Thread nD τ).loc main_v56) = (fun y => ((DQ (mat (m ((c.tc : Thread nD τ).loc main_arg0) : FVec Ideal S8192x1536 .f32) 0) (mat (m ((c.tc : Thread nD τ).loc main_arg0) : FVec Ideal S8192x1536 .f32) 512) (mat (m ((c.tc : Thread nD τ).loc main_arg0) : FVec Ideal S8192x1536 .f32) 1024) (mat (m ((c.tc : Thread nD τ).loc main_arg1) : FVec Ideal S8192x512 .f32) 0) (y 0).val (y 1).val : ℝ) : EReal) : FVec Ideal S8192x512 .bf16)
      ∧ r.2.mem ((c.tc : Thread nD τ).loc main_v58) = (fun y => ((DK (mat (m ((c.tc : Thread nD τ).loc main_arg0) : FVec Ideal S8192x1536 .f32) 0) (mat (m ((c.tc : Thread nD τ).loc main_arg0) : FVec Ideal S8192x1536 .f32) 512) (mat (m ((c.tc : Thread nD τ).loc main_arg0) : FVec Ideal S8192x1536 .f32) 1024) (mat (m ((c.tc : Thread nD τ).loc main_arg1) : FVec Ideal S8192x512 .f32) 0) (y 0).val (y 1).val : ℝ) : EReal) : FVec Ideal S8192x512 .bf16)
      ∧ r.2.mem ((c.tc : Thread nD τ).loc main_v60) = (fun y => ((DV (mat (m ((c.tc : Thread nD τ).loc main_arg0) : FVec Ideal S8192x1536 .f32) 0) (mat (m ((c.tc : Thread nD τ).loc main_arg0) : FVec Ideal S8192x1536 .f32) 512) (mat (m ((c.tc : Thread nD τ).loc main_arg1) : FVec Ideal S8192x512 .f32) 0) (y 0).val (y 1).val : ℝ) : EReal) : FVec Ideal S8192x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (all_q (W0 := StableHlo.launchContents m c) (hf c).1 (hf c).2),
    (h c).2.1.trans (all_k (W0 := StableHlo.launchContents m c) (hf c).1 (hf c).2),
    (h c).2.2.1.trans (all_v (W0 := StableHlo.launchContents m c) (hf c).1 (hf c).2), (h c).2.2.2⟩) (Value.run (F := Ideal) m ρ)

end Cert.AttnBwdRefIdeal.Val

end
-- ==== Proof.AttnFinal.lean ====
/- The attention gradient: what the kernel leaves in its three result arrays is what the reference computes, on finite arguments. -/
module

public import proofs.«01_k».proof.Proof.AttnHost
public import proofs.«01_k».proof.Proof.AttnRef
public import proofs.«01_k».proof.Pre_attn_finite
public import Idealize.ShloMosaic.Lib.Claim

@[expose] public section

set_option maxRecDepth 16384

open Idealize.ShloMosaic Idealize.ShloMosaic.TcCoe Idealize.SL.Sem
open scoped BigOperators

noncomputable section

namespace Cert.AttnBwdIdeal.Pay

open Cert.AttnBwdIdeal Cert.AttnBwdIdeal.Gen Cert.AttnBwdIdeal.Tile Cert.AttnMath
open Finset (range)

open Cert.AttnReal

variable (m : (ℓ : Loc nD τ sig) → Buf (Elt Ideal) ℓ) (c : Dev nD)

theorem idx_out : ∀ t : Fin cfg0.N, win0_6.index t = ![t.val % 32, t.val / 32] ∧ win0_7.index t = ![0, t.val / 32] ∧ win0_8.index t = ![0, t.val / 32] :=
  (by decide +kernel : ∀ t : Fin grid0.N, _)

theorem emb_6 (t : Fin cfg0.N) (a : Fin 256) (l : Fin 128) : ((cfg0.win 6).blk t).view.emb (ix2 a l)
    = ix2 (⟨256 * (t.val % 32) + a.val, by omega⟩ : Fin 8192) (⟨128 * (t.val / 32) + l.val, by have := lt128 t; omega⟩ : Fin 512) := by
  blk_ext [idx_out t]
theorem emb_7 (t : Fin cfg0.N) (a : Fin 8192) (l : Fin 128) : ((cfg0.win 7).blk t).view.emb (ix2 a l)
    = ix2 a (⟨128 * (t.val / 32) + l.val, by have := lt128 t; omega⟩ : Fin 512) := by
  blk_ext [idx_out t]
theorem emb_8 (t : Fin cfg0.N) (a : Fin 8192) (l : Fin 128) : ((cfg0.win 8).blk t).view.emb (ix2 a l)
    = ix2 a (⟨128 * (t.val / 32) + l.val, by have := lt128 t; omega⟩ : Fin 512) := by
  blk_ext [idx_out t]

/-- An array holding a matrix. -/
def arr (f : ℕ → ℕ → ℝ) : FVec Ideal S8192x512 .bf16 := fun y => ((f (y 0).val (y 1).val : ℝ) : EReal)

theorem arr_at (f : ℕ → ℕ → ℝ) (q : Fin 8192) (l : Fin 512) : arr f (ix2 q l) = ((f q l : ℝ) : EReal) := rfl

variable {m c} (hx : Fin2 (m ((c : Thread nD τ).loc main_arg0) : FVec Ideal S8192x1536 .f32))
    (hy : Fin2 (m ((c : Thread nD τ).loc main_arg1) : FVec Ideal S8192x512 .f32))

include hx hy

theorem final_6 : (dats m 0 c).arrAt 6 (cfgs 0).N = arr (DQ (mQ m c) (mK m c) (mV m c) (mD m c)) := by
  refine (dats m 0 c).arrAt_eq_of_covers 6 _ (by decide +kernel) fun t hf y => ?_
  blk_simp; rw [after_6]
  idx_vars y
  rw [emb_6, arr_at]
  have h := (done_all (ins_all m c hx hy) t.val t.isLt).dq y0 y1
  rw [coord1] at h
  exact h

theorem final_7 : (dats m 0 c).arrAt 7 (cfgs 0).N = arr (DK (mQ m c) (mK m c) (mV m c) (mD m c)) := by
  refine (dats m 0 c).arrAt_eq_of_covers 7 _ (by decide +kernel) fun t hf y => ?_
  blk_simp; rw [after_7]
  idx_vars y
  rw [emb_7, arr_at]
  exact (out_all (ins_all m c hx hy) t ((flush0_7 t).1 hf) y0 y1).1

theorem final_8 : (dats m 0 c).arrAt 8 (cfgs 0).N = arr (DV (mQ m c) (mK m c) (mD m c)) := by
  refine (dats m 0 c).arrAt_eq_of_covers 8 _ (by decide +kernel) fun t hf y => ?_
  blk_simp; rw [after_8]
  idx_vars y
  rw [emb_8, arr_at]
  exact (out_all (ins_all m c hx hy) t ((flush0_8 t).1 hf) y0 y1).2

omit hx hy

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34_0) = (dats m 0 c).arrAt 6 (cfgs 0).N
      ∧ r.2.mem ((c.tc : Thread nD τ).loc main_v34_1) = (dats m 0 c).arrAt 7 (cfgs 0).N
      ∧ r.2.mem ((c.tc : Thread nD τ).loc main_v34_2) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_post m ρ)

/-- A finite entry is a real number. -/
theorem real_of_lt (x : EReal) (h : BitVec.ofBool (decide (FloatOps.absf (F := Ideal) (φ := .f32) x < Ideal.ofBits .f32 2139095040#32)) = 1#1) :
    ∃ r : ℝ, x = (r : EReal) := by
  rw [show Ideal.ofBits .f32 2139095040#32 = (⊤ : EReal) by simp [Ideal.ofBits, Ideal.ieee]] at h
  have h' : FloatOps.absf (F := Ideal) (φ := .f32) x < (⊤ : EReal) := by
    by_contra hn
    simp [hn] at h
  induction x using EReal.rec with
  | bot => exact absurd h' (by simp [FloatOps.absf])
  | coe r => exact ⟨r, rfl⟩
  | top => exact absurd h' (by simp [FloatOps.absf])

theorem fin_of_pre [Cert.Pre_attn_finite.Facts] (x : FVec Ideal S8192x1536 .f32) (y : FVec Ideal S8192x512 .f32)
    (h : (Cert.Pre_attn_finite.fn x y).1 = (fun _ => 1#1) ∧ (Cert.Pre_attn_finite.fn x y).2 = (fun _ => 1#1)) : Fin2 x ∧ Fin2 y := by
  constructor
  · intro q l
    have e := congrFun h.1 (ix2 q l)
    revert e
    pointwise [Cert.Pre_attn_finite.fn]
    exact real_of_lt _
  · intro q l
    have e := congrFun h.2 (ix2 q l)
    revert e
    pointwise [Cert.Pre_attn_finite.fn]
    exact real_of_lt _

/-- The kernel's three arrays are the three gradients. -/
theorem run_arr (m : (ℓ : Loc nD τ sig) → Buf (Elt Ideal) ℓ) (ρ : Dev nD → PrngReg)
    (hf : ∀ c : Dev nD, Fin2 (m ((c.tc : Thread nD τ).loc main_arg0) : FVec Ideal S8192x1536 .f32) ∧ Fin2 (m ((c.tc : Thread nD τ).loc main_arg1) : FVec Ideal S8192x512 .f32)) :
    θ_run defs (onTc (τ := τ) (main (F := Ideal))) ⟨m, fun _ => 0, ρ⟩ (fun r => ∀ c : Dev nD,
      r.2.mem ((c.tc : Thread nD τ).loc main_v34_0) = arr (DQ (mQ m c) (mK m c) (mV m c) (mD m c))
      ∧ r.2.mem ((c.tc : Thread nD τ).loc main_v34_1) = arr (DK (mQ m c) (mK m c) (mV m c) (mD m c))
      ∧ r.2.mem ((c.tc : Thread nD τ).loc main_v34_2) = arr (DV (mQ m c) (mK m c) (mD m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_6 (hf c).1 (hf c).2), (h c).2.1.trans (final_7 (hf c).1 (hf c).2),
    (h c).2.2.1.trans (final_8 (hf c).1 (hf c).2), (h c).2.2.2⟩) (run_vals m ρ)

end Cert.AttnBwdIdeal.Pay
end
-- ==== Proof.FwdLoop.lean ====
module

public import proofs.«01_k».proof.Proof.Gen.AttnFwdIdeal.Launch
public import proofs.«01_k».proof.Proof.Gen.AttnFwdIdeal.Points
public import proofs.«01_k».proof.Proof.Gen.AttnFwdIdeal.Skeleton
public import Idealize.ShloMosaic.Lib.Pipeline.FrameBody
public import Idealize.ShloMosaic.Lib.Tactic
public import Idealize.ShloMosaic.Lib.Pipeline.Value
public import Idealize.ShloMosaic.Lib.WholeRead

@[expose] public section

set_option maxRecDepth 16384

noncomputable section

namespace Cert.AttnFwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnFwdIdeal.Gen

variable {F : FTy → Type} [FloatOps F] [Named F]

local notation "𝕄" => MT nD τ sig Unit (Elt F) ℕ (UR sig nD τ) ℕ

/-! # The loop over earlier key blocks, which stops early once every row's running sum is small -/

/-- What the loop carries: the key block to come, the rows' running sums, the output so far. -/
abbrev Carried (F : FTy → Type) : Type := BitVec 32 × FVec F S512x1 .f32 × FVec F S512x128 .f32

/-- The word of the key block before block `n`. -/
abbrev prev (n : ℕ) : BitVec 32 := Scalar.subi (BitVec.ofNat 32 n) 1#32

theorem prev_succ : ∀ n : Fin 32, prev (n.val + 1) = BitVec.ofNat 32 n.val := by decide +kernel

theorem checks : ∀ n : Fin 32, k0_chk1 (BitVec.ofNat 32 n.val) := by decide +kernel

theorem at_end : Scalar.cmpi .sge (prev 0) 0#32 = 0#1 := by decide +kernel

theorem not_end : ∀ n : Fin 32, Scalar.cmpi .sge (BitVec.ofNat 32 n.val) 0#32 = 1#1 := by decide +kernel

/-- The condition under which the loop goes on. -/
abbrev goesOn (w : BitVec 32) (s : FVec F S512x1 .f32) : Prop :=
  Scalar.andi (Scalar.cmpi .sge w 0#32) (Scalar.cmpf .oge (k0_pay3 s) (Named.named κ "exit_below" 0xC2D00000#32 : F .f32)) = 1#1

/-- The rows of one block, read off the keys or the values at offsets `off`. -/
def rowsAt (x : Vec F S1x8192x128 .bf16) (off : Fin 3 → ℕ) (inb : ∀ a, off a + S1x256x128.size a ≤ S1x8192x128.size a) :
    Vec F S1x256x128 .bf16 :=
  fun j => x ((Rect.unit (s := S1x8192x128) off S1x256x128.size inb).toLoadRect.idx j)

theorem read_rows {a : Memref sig .tc .vmem S1x8192x128 .bf16} (ha : a.IsWhole) (x : Vec F S1x8192x128 .bf16) (off : Fin 3 → ℕ)
    (inb : ∀ a, off a + S1x256x128.size a ≤ S1x8192x128.size a) :
    View.readAt (Elt F) a.view (Rect.unit (s := S1x8192x128) off S1x256x128.size inb).toLoadRect (ha.unread x) = rowsAt x off inb :=
  funext fun j => ha.readAt_unread x _ j

/-- The rows of key block `n`. -/
abbrev rowsOf (x : Vec F S1x8192x128 .bf16) (n : ℕ) (h : k0_chk1 (BitVec.ofNat 32 n)) : Vec F S1x256x128 .bf16 :=
  rowsAt x (k0_off2 (BitVec.ofNat 32 n)) (k0_off2_inb _ h)

open Classical in
/-- The loop, `n` key blocks still to come. -/
def loop (q : FVec F S512x128 .bf16) (tri : FVec F S512x256 .bf16) (x1 x2 : Vec F S1x8192x128 .bf16) :
    ℕ → FVec F S512x1 .f32 → FVec F S512x128 .f32 → Carried F
  | 0, s, o => (prev 0, s, o)
  | n + 1, s, o =>
    if h : k0_chk1 (BitVec.ofNat 32 n) ∧ goesOn (BitVec.ofNat 32 n) s then
      loop q tri x1 x2 n (k0_pay7 q s (rowsOf x1 n h.1)) (k0_pay8 q tri s o (rowsOf x1 n h.1) (rowsOf x2 n h.1))
    else (BitVec.ofNat 32 n, s, o)

/-- A call of the loop's label is a run of the loop's body, its measure gone down. -/
theorem call_run (c : Dev nD) (bd : Option ℕ) (n : ℕ) (hn : ∀ u ∈ bd, n < u) (E : Set ℕ) (a : Cc0While1 F)
    {α : Type} (k : Carried F → Prog (TpuEff nD τ sig (Elt F) (Λ₀ F) .tc) α) (Q : α → sProp 𝕄) :
    wp frame (wpE (defs₀ (F := F)) Variants.nat (c : Thread nD τ) (some n)) E
        (cc0_while1 a.i a.arg3 a.harg3 a.arg4 a.harg4 a.v34 a.v6 a.arg8 a.arg9 a.arg10)
        (fun x => wp frame (wpE (defs₀ (F := F)) Variants.nat (c : Thread nD τ) bd) E (k x) Q)
      ⊢ wp frame (wpE (defs₀ (F := F)) Variants.nat (c : Thread nD τ) bd) E (.op (.call (1 : (Λ₀ F).Label) a) k) Q := by
  have h := wp_call (defs := defs₀ (F := F)) (Q := Q) (ℓ := (1 : (Λ₀ F).Label)) (a := a) (k := k) (E := E) (c := (c : Thread nD τ)) Variants.nat (bd := bd) (Γ := .empty) n hn
  rw [show defs₀ (F := F) (c : Thread nD τ).2 (1 : (Λ₀ F).Label) a = cc0_while1 a.i a.arg3 a.harg3 a.arg4 a.harg4 a.v34 a.v6 a.arg8 a.arg9 a.arg10 from by
    unfold defs₀; exact congrFun (congrFun (Defs.onTc_tc _) _) _] at h
  exact h

set_option maxHeartbeats 2000000 in
/-- The loop's run: from the keys and values it returns with them as they were and what `loop` says. -/
theorem while_run (c : Dev nD) (i : grid0.Coords)
    (arg3 : Memref sig .tc .vmem S1x8192x128 .bf16) (harg3 : arg3.IsWhole)
    (arg4 : Memref sig .tc .vmem S1x8192x128 .bf16) (harg4 : arg4.IsWhole)
    (q : FVec F S512x128 .bf16) (tri : FVec F S512x256 .bf16) (x1 x2 : Vec F S1x8192x128 .bf16)
    (E : Set ℕ) : ∀ (n : ℕ) (hn : n ≤ 32) (s : FVec F S512x1 .f32) (o : FVec F S512x128 .f32) (K : Carried F → sProp 𝕄),
    iprop((arg3.view.loc (c : Thread nD τ) ↦[arg3.view.set]{fullShare} harg3.unread x1)
        ∗ (arg4.view.loc (c : Thread nD τ) ↦[arg4.view.set]{fullShare} harg4.unread x2)
        ∗ (iprop((arg3.view.loc (c : Thread nD τ) ↦[arg3.view.set]{fullShare} harg3.unread x1)
          ∗ (arg4.view.loc (c : Thread nD τ) ↦[arg4.view.set]{fullShare} harg4.unread x2)) -∗ K (loop q tri x1 x2 n s o)))
      ⊢ wp frame (wpE (defs₀ (F := F)) Variants.nat c (some n)) E
          (cc0_while1 i arg3 harg3 arg4 harg4 q tri (prev n) s o) K := by
  intro n
  induction n with
  | zero =>
    intro _ s o K
    rw [loop]
    simp only [cc0_while1_eq_skeleton]; unfold cc0_while1_skel
    have hc : ¬ goesOn (F := F) (prev 0) s := by
      unfold goesOn; rw [at_end]
      exact (by decide : ∀ b : BitVec 1, ¬ Scalar.andi 0#1 b = 1#1) _
    iintro ⟨H1, H2, Hk⟩
    sl_exec (disch := first | sl_exact hc)
    sl_step
    iapply Hk
    isplitl [H1]; · iexact H1
    iexact H2
  | succ n ih =>
    intro hn s o K
    have hw := prev_succ ⟨n, by omega⟩
    have hk := checks ⟨n, by omega⟩
    simp only at hw hk
    rw [hw]
    simp only [cc0_while1_eq_skeleton]; unfold cc0_while1_skel
    by_cases hc : goesOn (F := F) (BitVec.ofNat 32 n) s
    · rw [loop, dif_pos ⟨hk, hc⟩]
      iintro ⟨H1, H2, Hk⟩
      sl_exec (disch := first | sl_exact hk | sl_exact hc)
      rw [read_rows harg3 x1 (k0_off2 (BitVec.ofNat 32 n)) (k0_off2_inb _ hk), read_rows harg4 x2 (k0_off2 (BitVec.ofNat 32 n)) (k0_off2_inb _ hk)]
      generalize k0_pay8 q tri s o (rowsOf x1 n hk) (rowsOf x2 n hk) = o'
      generalize k0_pay7 q s (rowsOf x1 n hk) = s'
      iapply (call_run c (some (n + 1)) n (fun u hu => by cases hu; exact Nat.lt_succ_self n) E ⟨i, arg3, harg3, arg4, harg4, q, tri, prev n, s', o'⟩ Prog.ret K)
      simp only [wp_ret]
      iapply (ih (by omega) s' o' _)
      isplitl [H1]; · iexact H1
      isplitl [H2]; · iexact H2
      iintro ⟨H1, H2⟩
      imodintro
      iapply Hk
      isplitl [H1]; · iexact H1
      iexact H2
    · rw [loop, dif_neg (fun h => hc h.2)]
      iintro ⟨H1, H2, Hk⟩
      sl_exec (disch := first | sl_exact hc)
      sl_step
      iapply Hk
      isplitl [H1]; · iexact H1
      iexact H2

end Cert.AttnFwdIdeal.Tile

end
-- ==== Proof.FwdTile.lean ====
module

public import proofs.«01_k».proof.Proof.FwdLoop
public import Idealize.ShloMosaic.Lib.VecWindow

@[expose] public section

set_option maxRecDepth 16384

noncomputable section

namespace Cert.AttnFwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnFwdIdeal.Gen

variable {F : FTy → Type} [FloatOps F] [Named F]

local notation "𝕄" => MT nD τ sig Unit (Elt F) ℕ (UR sig nD τ) ℕ

/-! # What a tile leaves, and its run -/

theorem prev_coord (i : grid0.Coords) : (i 1).val ≤ 32 := (i 1).isLt.le

section
variable (i : grid0.Coords) (x0 : Vec F S1x256x128 .bf16) (x1 x2 : Vec F S1x8192x128 .bf16)

/-- The rows' sums over the tile's own key block. -/
def s0 : FVec F S512x1 .f32 :=
  k0_pay19 k0_pay10 (k0_pay12 x0) k0_pay13 (k0_pay15 (rowsAt x1 (k0_off1 i) (k0_off1_inb i)))

/-- The output over the tile's own key block. -/
def o0 : FVec F S512x128 .f32 :=
  k0_pay20 k0_pay9 k0_pay10 (k0_pay12 x0) k0_pay13 k0_pay14 (k0_pay15 (rowsAt x1 (k0_off1 i) (k0_off1_inb i))) (rowsAt x2 (k0_off1 i) (k0_off1_inb i))

/-- What the loop ends with. -/
def ended : Carried F := loop (k0_pay12 x0) k0_pay9 x1 x2 (i 1).val (s0 i x0 x1) (o0 i x0 x1 x2)

/-- The tile's output, its rows' sums, and the first key block it used. -/
def outO : FVec F S256x128 .f32 := k0_pay22 k0_pay11 (ended i x0 x1 x2).2.2
def outB : FVec F S1x256x128 .f32 := k0_pay1 k0_pay11 (k0_pay21 (ended i x0 x1 x2).2.1) (k0_pay23 (ended i x0 x1 x2).2.1)
def outK : FVec F S1x1x8x128 .f32 := k0_pay2 (ended i x0 x1 x2).1
end

theorem read_tile {a : Memref sig .tc .vmem S1x256x128 .bf16} (ha : a.IsWhole) (x : Vec F S1x256x128 .bf16) :
    View.readAt (Elt F) a.view (Rect.unit (s := S1x256x128) ![0, 0, 0] S1x256x128.size inb_S1x256x128_S1x256x128_0_0_0).toLoadRect (ha.unread x) = x :=
  funext fun j => (ha.readAt_unread x _ _).trans (congrArg x (funext fun b => Fin.ext (by fin_cases b <;> simp)))

set_option maxHeartbeats 4000000 in
/-- The tile's run. -/
theorem tile (c : Dev nD) (i : grid0.Coords)
    (arg2 : Memref sig .tc .vmem S1x256x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S256x128 .f32) (harg5 : arg5.IsWhole)
    (arg6 : Memref sig .tc .vmem S1x256x128 .f32) (harg6 : arg6.IsWhole)
    (arg7 : Memref sig .tc .vmem S1x1x8x128 .f32) (harg7 : arg7.IsWhole)
    (x0 : Vec F S1x256x128 .bf16) (x1 x2 : Vec F S1x8192x128 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (outO i x0 x1 x2) ∗ owns (c : Thread nD τ) arg6 fullShare (outB i x0 x1 x2)
          ∗ owns (c : Thread nD τ) arg7 fullShare (outK i x0 x1 x2)) -∗ K ⟨⟩))
      ⊢ wp frame (wpE (defs₀ (F := F)) Variants.nat c none) E
          (cc0_attn_fwd i arg2 harg2 arg3 harg3 arg4 harg4 arg5 harg5 arg6 harg6 arg7 harg7) K := by
  simp only [cc0_attn_fwd_eq_skeleton]; unfold cc0_attn_fwd_skel
  simp only [k0_part1_eq_skeleton, k0_part2_eq_skeleton]
  unfold owns
  iintro ⟨⟨%f0, %h0, H0⟩, ⟨%f1, %h1, H1⟩, ⟨%f2, %h2, H2⟩, ⟨%d3, %f3, -, H3⟩, ⟨%d4, %f4, -, H4⟩, ⟨%d5, %f5, -, H5⟩, Hk⟩
  obtain rfl := harg2.eq_unread h0; obtain rfl := harg3.eq_unread h1; obtain rfl := harg4.eq_unread h2
  sl_exec
  rw [show tile.sl.r c arg2 harg2 x0 = k0_pay12 x0 from congrArg k0_pay12 (read_tile harg2 x0),
    show tile.sl.r_1 c i arg3 harg3 x1 = k0_pay15 (rowsAt x1 (k0_off1 i) (k0_off1_inb i)) from
      congrArg k0_pay15 (read_rows harg3 x1 (k0_off1 i) (k0_off1_inb i)),
    read_rows harg4 x2 (k0_off1 i) (k0_off1_inb i)]
  iapply (call_run c none (i 1).val (fun u hu => nomatch hu) E ⟨i, arg3, harg3, arg4, harg4, k0_pay12 x0, k0_pay9, prev (i 1).val, s0 i x0 x1, o0 i x0 x1 x2⟩ _ _)
  iapply (while_run c i arg3 harg3 arg4 harg4 (k0_pay12 x0) k0_pay9 x1 x2 E (i 1).val (prev_coord i) (s0 i x0 x1) (o0 i x0 x1 x2) _)
  isplitl [H1]; · iexact H1
  isplitl [H2]; · iexact H2
  iintro ⟨H1, H2⟩
  rw [show loop (k0_pay12 x0) k0_pay9 x1 x2 (i 1).val (s0 i x0 x1) (o0 i x0 x1 x2) = ended i x0 x1 x2 from rfl]
  unfold outO outB outK
  obtain ⟨w, s, o⟩ := ended i x0 x1 x2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact View.read_writes_full arg5.view f3 inb_S256x128_S256x128_0_0 _ []
  isplitl [H4]
  · iexists _; isplitr
    swap; · iexact H4
    ipureintro; exact View.read_writes_full arg6.view f4 inb_S1x256x128_S1x256x128_0_0_0 _ []
  iexists _; isplitr
  swap; · iexact H5
  ipureintro; exact View.read_writes_full arg7.view f5 inb_S1x1x8x128_S1x1x8x128_0_0_0_0 _ []

end Cert.AttnFwdIdeal.Tile

end
-- ==== Proof.FwdFrame.lean ====
module

public import proofs.«01_k».proof.Proof.FwdTile
public import Idealize.ShloMosaic.Lib.Claim

@[expose] public section

set_option maxRecDepth 16384

noncomputable section

namespace Cert.AttnFwdIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.AttnFwdIdeal.Gen

variable {F : FTy → Type} [FloatOps F] [Named F]

local notation "𝕄" => MT nD τ sig Unit (Elt F) ℕ (UR sig nD τ) ℕ

/-! # The whole run: the arrays end at the tiles' results, and nothing is left raised -/

variable (m : (ℓ : Loc nD τ sig) → Buf (Elt F) ℓ) (ρ : Dev nD → PrngReg)

/-- The buffers as the call finds them. -/
abbrev V (c : Dev nD) (b : Ref sig .tc) : Buf (Elt F) ((c : Thread nD τ).loc b) :=
  StableHlo.after (List.flatten [hostOps0]) (fun b => m (c, b)) b

theorem host_fresh : (hostOps0 : List (HloOp τ sig (Elt F))).Forall fun op => op.fresh = ∅ := by
  simp only [List.Forall]; repeat' constructor

set_option maxHeartbeats 800000 in
theorem main_steps (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact host_fresh) main_chain

theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes, StableHlo.nary_writes, Finset.mem_singleton]
    repeat' apply And.intro
    all_goals exact StableHlo.devRef_ne_of_ne (by decide)))

/-- Window `w`'s block at point `t`, read off its array as the call finds it. -/
def blockIn (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: the inputs stay as fetched, each output holds what its tile leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => blockIn m c 0 t
    | ⟨1, _⟩ => blockIn m c 1 t
    | ⟨2, _⟩ => blockIn m c 2 t
    | ⟨3, _⟩ => outO (grid0.coords t) (blockIn m c 0 t) (blockIn m c 1 t) (blockIn m c 2 t)
    | ⟨4, _⟩ => outB (grid0.coords t) (blockIn m c 0 t) (blockIn m c 1 t) (blockIn m c 2 t)
    | ⟨5, _⟩ => outK (grid0.coords t) (blockIn m c 0 t) (blockIn m c 1 t) (blockIn m c 2 t)
  Φ _ := Pipeline.ΦA spec0 c
  q w := Pipeline.shareOf spec0 w
  owed _ := 0

theorem entry (c : Dev nD) (w : Fin (cfg0 (F := F)).W) : (dats m 0 c).A w = V m c (Pipeline.arrRef spec0 w) := by dsimp only [dats]

theorem after_0 (c : Dev nD) (t : Fin (cfg0 (F := F)).N) : (dats m 0 c).after 0 t = blockIn m c 0 t := rfl
theorem before_0 (c : Dev nD) (t : Fin (cfg0 (F := F)).N) (d) : (dats m 0 c).before 0 t d = blockIn m c 0 t :=
  ((dats m 0 c).before_in_eq_fetched 0 rfl (fun _ => rfl) (fun _ _ _ => rfl) (fun t => by rw [after_0]; unfold Dat.blockOf blockIn; rw [entry]; try rfl) t d).trans
    (by unfold Dat.fetched Dat.blockOf blockIn; rw [entry]; try rfl)
theorem leaves_0 (c : Dev nD) (t : Fin (cfg0 (F := F)).N) : (dats m 0 c).leavesExact 0 t = owns (c : Thread nD τ) (win0_0.stage (cfg0.slots t 0)) fullShare (blockIn m c 0 t) := by
  unfold Dat.leavesExact; rw [show cfg0.idle 0 (grid0.coords t) = false from rfl, after_0]; rfl

theorem after_1 (c : Dev nD) (t : Fin (cfg0 (F := F)).N) : (dats m 0 c).after 1 t = blockIn m c 1 t := rfl
theorem before_1 (c : Dev nD) (t : Fin (cfg0 (F := F)).N) (d) : (dats m 0 c).before 1 t d = blockIn m c 1 t :=
  ((dats m 0 c).before_in_eq_fetched 1 rfl (fun _ => rfl) (fun _ _ _ => rfl) (fun t => by rw [after_1]; unfold Dat.blockOf blockIn; rw [entry]; try rfl) t d).trans
    (by unfold Dat.fetched Dat.blockOf blockIn; rw [entry]; try rfl)
theorem leaves_1 (c : Dev nD) (t : Fin (cfg0 (F := F)).N) : (dats m 0 c).leavesExact 1 t = owns (c : Thread nD τ) (win0_1.stage (cfg0.slots t 1)) fullShare (blockIn m c 1 t) := by
  unfold Dat.leavesExact; rw [show cfg0.idle 1 (grid0.coords t) = false from rfl, after_1]; rfl

theorem after_2 (c : Dev nD) (t : Fin (cfg0 (F := F)).N) : (dats m 0 c).after 2 t = blockIn m c 2 t := rfl
theorem before_2 (c : Dev nD) (t : Fin (cfg0 (F := F)).N) (d) : (dats m 0 c).before 2 t d = blockIn m c 2 t :=
  ((dats m 0 c).before_in_eq_fetched 2 rfl (fun _ => rfl) (fun _ _ _ => rfl) (fun t => by rw [after_2]; unfold Dat.blockOf blockIn; rw [entry]; try rfl) t d).trans
    (by unfold Dat.fetched Dat.blockOf blockIn; rw [entry]; try rfl)
theorem leaves_2 (c : Dev nD) (t : Fin (cfg0 (F := F)).N) : (dats m 0 c).leavesExact 2 t = owns (c : Thread nD τ) (win0_2.stage (cfg0.slots t 2)) fullShare (blockIn m c 2 t) := by
  unfold Dat.leavesExact; rw [show cfg0.idle 2 (grid0.coords t) = false from rfl, after_2]; rfl

theorem after_3 (c : Dev nD) (t : Fin (cfg0 (F := F)).N) : (dats m 0 c).after 3 t = outO (grid0.coords t) (blockIn m c 0 t) (blockIn m c 1 t) (blockIn m c 2 t) := rfl
theorem leaves_3 (c : Dev nD) (t : Fin (cfg0 (F := F)).N) : (dats m 0 c).leavesExact 3 t = owns (c : Thread nD τ) (win0_3.stage (cfg0.slots t 3)) fullShare (outO (grid0.coords t) (blockIn m c 0 t) (blockIn m c 1 t) (blockIn m c 2 t)) := by
  unfold Dat.leavesExact; rw [show cfg0.idle 3 (grid0.coords t) = false from rfl, after_3]; rfl

theorem after_4 (c : Dev nD) (t : Fin (cfg0 (F := F)).N) : (dats m 0 c).after 4 t = outB (grid0.coords t) (blockIn m c 0 t) (blockIn m c 1 t) (blockIn m c 2 t) := rfl
theorem leaves_4 (c : Dev nD) (t : Fin (cfg0 (F := F)).N) : (dats m 0 c).leavesExact 4 t = owns (c : Thread nD τ) (win0_4.stage (cfg0.slots t 4)) fullShare (outB (grid0.coords t) (blockIn m c 0 t) (blockIn m c 1 t) (blockIn m c 2 t)) := by
  unfold Dat.leavesExact; rw [show cfg0.idle 4 (grid0.coords t) = false from rfl, after_4]; rfl

theorem after_5 (c : Dev nD) (t : Fin (cfg0 (F := F)).N) : (dats m 0 c).after 5 t = outK (grid0.coords t) (blockIn m c 0 t) (blockIn m c 1 t) (blockIn m c 2 t) := rfl
theorem leaves_5 (c : Dev nD) (t : Fin (cfg0 (F := F)).N) : (dats m 0 c).leavesExact 5 t = owns (c : Thread nD τ) (win0_5.stage (cfg0.slots t 5)) fullShare (outK (grid0.coords t) (blockIn m c 0 t) (blockIn m c 1 t) (blockIn m c 2 t)) := by
  unfold Dat.leavesExact; rw [show cfg0.idle 5 (grid0.coords t) = false from rfl, after_5]; rfl

/-- The body's triple at a point. -/
theorem body (c : Dev nD) (t : Fin (cfg0 (F := F)).N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
      ⊢ wp frame (wpE (defs₀ (F := F)) Variants.nat c none) Set.univ (bodyAt0 t) (fun _ =>
        iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)) := by
  unfold bodyAt0
  simp only [before_0, before_1, before_2, leaves_0, leaves_1, leaves_2, leaves_3, leaves_4, leaves_5]
  rw [show (dats m 0 c).owesAt () t.succ = (dats m 0 c).owesAt () t.castSucc from rfl,
    show (dats m 0 c).Φ t.succ = (dats m 0 c).Φ t.castSucc from rfl]
  iintro ⟨Hg, Ho, ⟨%d0, H0⟩, ⟨%d1, H1⟩, ⟨%d2, H2⟩, ⟨%d3, H3⟩, ⟨%d4, H4⟩, ⟨%d5, H5⟩⟩
  iapply (tile c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (blockIn m c 0 t) (blockIn m c 1 t) (blockIn m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  iexact H5

theorem row0 (t : Fin (cfg0 (F := F)).N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.nat () Set.univ := fun t => by
  rw [bigSep_W0, bigSep_W0, row0]
  exact triple_restated (body m c t) rfl .rfl fun _ => .rfl

set_option backward.isDefEq.respectTransparency.types false in
/-- The arrays end at what the proof data says, and no semaphore is left raised. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (obligation m c).loose) (hq := fun _ _ _ => rfl) (howed := fun _ _ => rfl) (V := V m)
    (hmain := main_steps m Variants.nat) (hA := entry m)
    (hin := fun c => .rfl) (hout := fun c => .rfl)

/-- The argument is no window's array and no scoped buffer. -/
theorem arg_rest : main_arg0 ∈ Pipeline.restRefs sig (cfgs (F := F) 0).spec :=
  Pipeline.mem_restRefs_of main_arg0 (by decide) (fun w => by
    change Fin 6 at w
    fin_cases w
    · exact (by decide : main_v7 ≠ main_arg0)
    · exact (by decide : main_v7 ≠ main_arg0)
    · exact (by decide : main_v7 ≠ main_arg0)
    · exact (by decide : main_v8_0 ≠ main_arg0)
    · exact (by decide : main_v8_1 ≠ main_arg0)
    · exact (by decide : main_v8_2 ≠ main_arg0))

/-- The call's results and the argument at the end. -/
theorem run_post : θ_run defs (onTc (τ := τ) (main (F := F))) ⟨m, fun _ => 0, ρ⟩ (fun r => ∀ c : Dev nD,
      r.2.mem ((c.tc : Thread nD τ).loc main_v8_0) = (dats m 0 c).arrAt 3 (cfgs (F := F) 0).N
      ∧ r.2.mem ((c.tc : Thread nD τ).loc main_v8_1) = (dats m 0 c).arrAt 4 (cfgs (F := F) 0).N
      ∧ r.2.mem ((c.tc : Thread nD τ).loc main_arg0) = m ((c.tc : Thread nD τ).loc main_arg0)) :=
  (θ_run defs _ _).mono (fun _ h c => ⟨(h.1 c).1 3, (h.1 c).1 4,
      ((h.1 c).2 main_arg0 (arg_rest (F := F))).trans (V_arg m c)⟩) (run_all m ρ)

/-- The frame: the argument ends as it was and no semaphore is left raised, for any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (arg_rest (F := F))).trans (V_arg m c), h.2⟩) (run_all m ρ)

end Cert.AttnFwdIdeal.Tile

end
-- ==== Proof.FwdMath.lean ====
/- The attention's forward formulas over the extended reals, and the sums the kernel and the reference split differently. -/
module

public import proofs.«01_k».proof.Proof.AttnPay

@[expose] public section

set_option maxRecDepth 16384

open Idealize.ShloMosaic Idealize.ShloMosaic.TcCoe Idealize.SL.Sem
open scoped BigOperators

noncomputable section

namespace Cert.FwdMath

open Finset (range Ico)

/-- log(1 + e^x), infinite arguments included. -/
def SP (x : EReal) : EReal := max x 0 + Ideal.log (1 + Ideal.exp (0 - FloatOps.absf (F := Ideal) (φ := .f32) x))

theorem SP_real (x : ℝ) : SP x = ((Cert.AttnMath.sp x : ℝ) : EReal) := Cert.AttnBwdIdeal.Pay.ideal_sp x

theorem log_one : Ideal.log (1 + (0 : EReal)) = 0 := by
  rw [add_zero, show (1 : EReal) = ((1 : ℝ) : EReal) from rfl]
  refine (if_neg (by norm_num : ¬ (1 : ℝ) ≤ 0)).trans ?_
  rw [Real.log_one]; rfl

theorem SP_top : SP ⊤ = ⊤ := by
  rw [SP, show (0 : EReal) - FloatOps.absf (F := Ideal) (φ := .f32) (⊤ : EReal) = ⊥ by rw [Ideal.absf_def]; simp,
    show Ideal.exp (⊥ : EReal) = 0 from rfl, log_one]
  simp

theorem SP_bot : SP ⊥ = 0 := by
  rw [SP, show (0 : EReal) - FloatOps.absf (F := Ideal) (φ := .f32) (⊥ : EReal) = ⊥ by rw [Ideal.absf_def]; simp,
    show Ideal.exp (⊥ : EReal) = 0 from rfl, log_one]
  simp

theorem SP_log1p (x : EReal) : max x 0 + Ideal.log1p (Ideal.exp (-FloatOps.absf (F := Ideal) (φ := .f32) x)) = SP x := by
  rw [SP, zero_sub]; rfl

/-- A logarithm of a chance not taken is not above every number, so its own difference adds nothing to it. -/
theorem rest (z : EReal) : -SP z + (-SP z - -SP z) = -SP z := by
  induction z using EReal.rec with
  | bot => rw [SP_bot]; simp
  | coe r => rw [SP_real, ← EReal.coe_neg, ← EReal.coe_sub, sub_self, EReal.coe_zero, add_zero]
  | top => rw [SP_top]; simp

theorem add_sub_real (a : ℝ) (T : EReal) : ((a : EReal) + T) - (a : EReal) = T := by
  induction T using EReal.rec with
  | bot => simp
  | coe r => rw [← EReal.coe_add, ← EReal.coe_sub, add_sub_cancel_left]
  | top => simp

/-- The kernel's and the reference's exponents agree, at infinite logits too. -/
theorem exponent (z T : EReal) : (z - SP z) + T = -SP (-z) + ((-SP z + T) - -SP z) := by
  induction z using EReal.rec with
  | bot => rw [EReal.neg_bot, SP_top]; simp
  | coe r =>
    rw [← EReal.coe_neg, SP_real, SP_real, ← EReal.coe_neg, ← EReal.coe_neg, add_sub_real, ← EReal.coe_sub, Cert.AttnMath.sp_neg]
  | top => rw [EReal.neg_top, SP_top, SP_bot]; simp

section head

variable (Q K V : ℕ → ℕ → EReal)

/-- An eighth. -/
abbrev c8 : EReal := ((0.125 : ℝ) : EReal)

/-- The scaled logits. -/
def Z (h q k : ℕ) : EReal := (∑ d ∈ range 64, Q q (64 * h + d) * K k (64 * h + d)) * c8
def LM (h q k : ℕ) : EReal := -SP (Z Q K h q k)
/-- The sum of the logarithms over keys `a` to `b`. -/
def SG (h q a b : ℕ) : EReal := ∑ k ∈ Ico a b, LM Q K h q k
/-- The weights. -/
def W (h q k : ℕ) : EReal := if k < q then Ideal.exp (Z Q K h q k - SP (Z Q K h q k) + SG Q K h q (k + 1) q) else 0
/-- The output over keys `a` to `b`. -/
def OG (h q a b l : ℕ) : EReal := ∑ k ∈ Ico a b, W Q K h q k * V k l

theorem SG_add (h q a b c : ℕ) (hab : a ≤ b) (hbc : b ≤ c) : SG Q K h q a b + SG Q K h q b c = SG Q K h q a c := Finset.sum_Ico_consecutive _ hab hbc
theorem OG_add (h q a b c l : ℕ) (hab : a ≤ b) (hbc : b ≤ c) : OG Q K V h q a b l + OG Q K V h q b c l = OG Q K V h q a c l := Finset.sum_Ico_consecutive _ hab hbc

/-- A sum over a block of keys. -/
theorem sum_block (f : ℕ → EReal) (m : ℕ) : ∑ j : Fin 256, f (m + j.val) = ∑ k ∈ Ico m (m + 256), f k := by
  rw [Finset.sum_Ico_eq_sum_range, Nat.add_sub_cancel_left, Finset.sum_range]

theorem sum_shift (f : ℕ → EReal) (m a b : ℕ) : ∑ t ∈ Ico a b, f (m + t) = ∑ k ∈ Ico (m + a) (m + b), f k := by
  rw [Finset.sum_Ico_add, add_comm m a, add_comm m b]

/-- Keys at or after the query weigh nothing. -/
theorem OG_all (h q n N l : ℕ) (hq : q ≤ n) (hn : n ≤ N) : OG Q K V h q 0 n l = OG Q K V h q 0 N l := by
  rw [← OG_add Q K V h q 0 n N l (by omega) hn, OG, OG, Finset.sum_eq_zero (s := Ico n N), add_zero]
  intro k hk
  have := Finset.mem_Ico.1 hk
  rw [W, if_neg (by omega), zero_mul]

end head

/-- One where the row comes after the column. -/
def after (r j : ℕ) : EReal := if j < r % 256 then 1 else 0

theorem sum_after (f : ℕ → EReal) (j o : ℕ) (ho : o % 256 = 0) : ∑ x : Fin 256, f x.val * after (o + x.val) j = ∑ t ∈ Ico (j + 1) 256, f t := by
  rw [show (∑ x : Fin 256, f x.val * after (o + x.val) j) = ∑ x : Fin 256, (if j < x.val then f x.val else 0) from
    Finset.sum_congr rfl fun x _ => by
      rw [after, show (o + x.val) % 256 = x.val by omega]
      by_cases h : j < x.val
      · rw [if_pos h, if_pos h, mul_one]
      · rw [if_neg h, if_neg h, mul_zero],
    ← Finset.sum_range (fun t => if j < t then f t else 0), ← Finset.sum_filter]
  exact Finset.sum_congr (by ext a; simp only [Finset.mem_filter, Finset.mem_range, Finset.mem_Ico]; omega) fun _ _ => rfl

/-- The two halves of the split logarithms add up to the sum over the later keys. -/
theorem sum_halves (f : ℕ → EReal) (hf : ∀ t, f t + (f t - f t) = f t) (j : ℕ) :
    ∑ x : Fin 256, f x.val * after x.val j + ∑ x : Fin 256, (f x.val - f x.val) * after (256 + x.val) j = ∑ t ∈ Ico (j + 1) 256, f t := by
  have h0 := sum_after f j 0 rfl
  simp only [Nat.zero_add] at h0
  rw [h0, sum_after (fun t => f t - f t) j 256 rfl, ← Finset.sum_add_distrib]
  exact Finset.sum_congr rfl fun t _ => hf t

theorem sum_masked (f : ℕ → EReal) (a r n : ℕ) (hr : r ≤ n) : ∑ t ∈ Ico a n, (if t < r then f t else 0) = ∑ t ∈ Ico a r, f t := by
  rw [← Finset.sum_filter]
  exact Finset.sum_congr (by ext t; simp only [Finset.mem_filter, Finset.mem_Ico]; omega) fun _ _ => rfl

theorem sum_scale (f : ℕ → EReal) (n : ℕ) : ∑ d ∈ range n, f d * c8 = (∑ d ∈ range n, f d) * c8 := by
  induction n with
  | zero => simp
  | succ n ih =>
    rw [Finset.sum_range_succ, Finset.sum_range_succ, ih, EReal.right_distrib_of_nonneg_of_ne_top (EReal.coe_nonneg.2 (by norm_num)) (EReal.coe_ne_top _)]

/-- A sum over the block's 128 lanes of which only one head's 64 count. -/
theorem sum_lanes (A B : ℕ → ℕ → EReal) (p hh q k : ℕ) (hhh : hh < 2) :
    ∑ l ∈ range 128, (if l / 64 = hh then A q (128 * p + l) * c8 else 0) * B k (128 * p + l) = Z A B (2 * p + hh) q k := by
  rw [Z, ← sum_scale, show (128 : ℕ) = 64 + 64 from rfl, Finset.sum_range_add]
  have h0 : ∀ x ∈ range 64, x / 64 = 0 := fun x hx => Nat.div_eq_of_lt (Finset.mem_range.1 hx)
  have h1 : ∀ x ∈ range 64, (64 + x) / 64 = 1 := fun x hx => by have := Finset.mem_range.1 hx; omega
  obtain rfl | rfl : hh = 0 ∨ hh = 1 := by omega
  · rw [Finset.sum_congr rfl (fun x hx => by rw [if_pos (h0 x hx)]),
      Finset.sum_eq_zero (s := range 64) (f := fun x => (if (64 + x) / 64 = 0 then _ else _) * _) (fun x hx => by rw [if_neg (by rw [h1 x hx]; simp), zero_mul]), add_zero]
    refine Finset.sum_congr rfl fun x _ => ?_
    rw [show 64 * (2 * p + 0) + x = (64 + 64) * p + x by ring, mul_right_comm]
  · rw [Finset.sum_eq_zero (s := range 64) (f := fun x => (if x / 64 = 1 then _ else _) * _) (fun x hx => by rw [if_neg (by rw [h0 x hx]; simp), zero_mul]), zero_add]
    refine Finset.sum_congr rfl fun x hx => ?_
    rw [if_pos (h1 x hx), show 64 * (2 * p + 1) + x = (64 + 64) * p + (64 + x) by ring, mul_right_comm]

/-! # Blocks over the extended reals -/

section shape
variable {φ : FTy} {a b : ℕ}
/-- A matrix, and a block with a leading axis of one, given by a function of the row and the column. -/
def IsE (v : FVec Ideal ⟨2, ![a, b]⟩ φ) (f : ℕ → ℕ → EReal) : Prop := ∀ (r : Fin a) (j : Fin b), v (ix2 r j) = f r.val j.val
def IsF (v : FVec Ideal ⟨3, ![1, a, b]⟩ φ) (f : ℕ → ℕ → EReal) : Prop := ∀ (r : Fin a) (j : Fin b), v (ix3 0 r j) = f r.val j.val
end shape

/-- The two heads' scaled queries of a block, one head above the other. -/
def stackE (Q : ℕ → ℕ → EReal) (p i r l : ℕ) : EReal := if l / 64 = r / 256 then Q (256 * i + r % 256) (128 * p + l) * c8 else 0

/-- An array's columns from `o` on, as a function of numbers. -/
def ent {a b : ℕ} {φ : FTy} (x : FVec Ideal ⟨2, ![a, b]⟩ φ) (o q l : ℕ) : EReal := if h : q < a ∧ o + l < b then x (ix2 ⟨q, h.1⟩ ⟨o + l, h.2⟩) else 0

theorem ent_at {a b : ℕ} {φ : FTy} (x : FVec Ideal ⟨2, ![a, b]⟩ φ) (q : Fin a) (j : Fin b) (o l : ℕ) (e : j.val = o + l) : x (ix2 q j) = ent x o q l := by
  obtain ⟨j, hj⟩ := j
  subst e
  rw [ent, dif_pos (show q.val < a ∧ o + l < b from ⟨q.isLt, hj⟩)]

theorem sel_zero (P : Prop) [Decidable P] (x : EReal) : Scalar.select (if P then 1#1 else 0#1) x (0 : EReal) = if P then x else 0 := by
  by_cases h : P <;> simp [h, Scalar.select]

end Cert.FwdMath

end
-- ==== Proof.FwdPay.lean ====
/- What each carried or stored vector of the stick-breaking attention's kernel is over the extended reals: the key blocks go by from the
   query's own down to the first, so the rows' sums and the output are sums over the keys from a block's first on. -/
module

public import proofs.«01_k».proof.Proof.FwdMath
public import proofs.«01_k».proof.Proof.FwdTile

@[expose] public section

open Idealize.ShloMosaic Idealize.ShloMosaic.TcCoe Idealize.SL.Sem
open scoped BigOperators

noncomputable section

namespace Cert.AttnFwdIdeal.Pay

open Cert.AttnFwdIdeal Cert.AttnFwdIdeal.Gen Cert.FwdMath
open Cert.AttnBwdIdeal.Pay (cmp_slt small_int lane_lo lane_hi bit_real eighth)
open Finset (range Ico)

variable (Q K V : ℕ → ℕ → EReal) (p i kj : ℕ)

variable {q : FVec Ideal S512x128 .bf16} {k v : FVec Ideal S1x256x128 .bf16} {tri : FVec Ideal S512x256 .bf16}
  {s : FVec Ideal S512x1 .f32} {o : FVec Ideal S512x128 .f32}

section free

variable (hq : IsE q (stackE Q p i)) (hk : IsF k fun j l => K (256 * kj + j) (128 * p + l))

include hq hk

theorem pay4 : IsE (k0_pay4 q k) fun r j => Z Q K (2 * p + r / 256) (256 * i + r % 256) (256 * kj + j) := by
  intro r j
  pointwise [k0_pay4]
  simp only [hq r _, hk j _]
  rw [← sum_lanes Q K p (r.val / 256) (256 * i + r.val % 256) (256 * kj + j.val) (by omega), Finset.sum_range]
  rfl

theorem pay5 : IsE (k0_pay5 q k) fun r j => SP (Z Q K (2 * p + r / 256) (256 * i + r % 256) (256 * kj + j)) := by
  intro r j
  pointwise [k0_pay5]
  rw [pay4 Q K p i kj hq hk, SP]

theorem pay6 : IsE (k0_pay6 q k) fun r j => LM Q K (2 * p + r / 256) (256 * i + r % 256) (256 * kj + j) := by
  intro r j
  pointwise [k0_pay6]
  rw [pay5 Q K p i kj hq hk, LM, zero_sub]

variable (hs : IsE s fun r _ => SG Q K (2 * p + r / 256) (256 * i + r % 256) (256 * (kj + 1)) (256 * i + r % 256)) (h : kj < i)

include hs h

theorem pay7 : IsE (k0_pay7 q s k) fun r _ => SG Q K (2 * p + r / 256) (256 * i + r % 256) (256 * kj) (256 * i + r % 256) := by
  intro r j
  pointwise [k0_pay7]
  have h1 := hs r j
  simp only [pay6 Q K p i kj hq hk r _, h1]
  rw [sum_block (LM Q K (2 * p + r.val / 256) (256 * i + r.val % 256)) (256 * kj), ← SG_add Q K _ _ (256 * kj) (256 * (kj + 1)) _ (by omega) (by omega), add_comm]
  rfl

theorem pay8 (ht : IsE tri after) (hv : IsF v fun j l => V (256 * kj + j) (128 * p + l))
    (ho : IsE o fun r l => OG Q K V (2 * p + r / 256) (256 * i + r % 256) (256 * (kj + 1)) (256 * (i + 1)) (128 * p + l)) :
    IsE (k0_pay8 q tri s o k v) fun r l => OG Q K V (2 * p + r / 256) (256 * i + r % 256) (256 * kj) (256 * (i + 1)) (128 * p + l) := by
  intro r l
  pointwise [k0_pay8]
  have hw : ∀ j : Fin 256, Ideal.exp (Z Q K (2 * p + r.val / 256) (256 * i + r.val % 256) (256 * kj + j.val) - SP (Z Q K (2 * p + r.val / 256) (256 * i + r.val % 256) (256 * kj + j.val))
      + (∑ t : Fin 256, LM Q K (2 * p + r.val / 256) (256 * i + r.val % 256) (256 * kj + t.val) * after t.val j.val
        + ∑ t : Fin 256, (LM Q K (2 * p + r.val / 256) (256 * i + r.val % 256) (256 * kj + t.val) - LM Q K (2 * p + r.val / 256) (256 * i + r.val % 256) (256 * kj + t.val)) * after (256 + t.val) j.val
        + SG Q K (2 * p + r.val / 256) (256 * i + r.val % 256) (256 * (kj + 1)) (256 * i + r.val % 256)))
      = W Q K (2 * p + r.val / 256) (256 * i + r.val % 256) (256 * kj + j.val) := fun j => by
    rw [sum_halves (fun t => LM Q K (2 * p + r.val / 256) (256 * i + r.val % 256) (256 * kj + t)) (fun t => rest _), sum_shift, W, if_pos (by omega),
      ← SG_add Q K _ _ (256 * kj + j.val + 1) (256 * (kj + 1)) _ (by omega) (by omega)]
    rfl
  simp only [pay4 Q K p i kj hq hk r _, pay5 Q K p i kj hq hk r _, pay6 Q K p i kj hq hk r _, hs r _, ht _ _, hv _ l, ho r l, hw]
  rw [sum_block (fun k => W Q K (2 * p + r.val / 256) (256 * i + r.val % 256) k * V k (128 * p + l.val)) (256 * kj),
    ← OG_add Q K V _ _ (256 * kj) (256 * (kj + 1)) _ _ (by omega) (by omega), add_comm]
  rfl

end free

section masked

variable {m : IVec S512x256 1} {kb : FVec Ideal S256x128 .bf16} {z1 : FVec Ideal S512x1 .f32} {z2 : FVec Ideal S512x128 .f32}
  (hm : ∀ (r : Fin 512) (j : Fin 256), m (ix2 r j) = if j.val < r.val % 256 then 1#1 else 0#1)
  (hq : IsE q (stackE Q p i)) (hk : IsE kb fun j l => K (256 * i + j) (128 * p + l))

include hq hk

theorem pay16 : IsE (k0_pay16 q kb) fun r j => Z Q K (2 * p + r / 256) (256 * i + r % 256) (256 * i + j) := by
  intro r j
  pointwise [k0_pay16]
  simp only [hq r _, hk j _]
  rw [← sum_lanes Q K p (r.val / 256) (256 * i + r.val % 256) (256 * i + j.val) (by omega), Finset.sum_range]
  rfl

theorem pay17 : IsE (k0_pay17 q kb) fun r j => SP (Z Q K (2 * p + r / 256) (256 * i + r % 256) (256 * i + j)) := by
  intro r j
  pointwise [k0_pay17]
  rw [pay16 Q K p i hq hk, SP]

include hm

theorem pay18 : IsE (k0_pay18 m q kb) fun r j => if j < r % 256 then LM Q K (2 * p + r / 256) (256 * i + r % 256) (256 * i + j) else 0 := by
  intro r j
  pointwise [k0_pay18]
  rw [pay17 Q K p i hq hk, hm, zero_sub, sel_zero]
  rfl

theorem pay19 (hz : IsE z1 fun _ _ => 0) :
    IsE (k0_pay19 m q z1 kb) fun r _ => SG Q K (2 * p + r / 256) (256 * i + r % 256) (256 * i) (256 * i + r % 256) := by
  intro r j
  pointwise [k0_pay19]
  have h1 := hz r j
  simp only [pay18 Q K p i hm hq hk r _, h1, add_zero, zero_add]
  rw [← Finset.sum_range (fun t => if t < r.val % 256 then LM Q K (2 * p + r.val / 256) (256 * i + r.val % 256) (256 * i + t) else 0), Finset.range_eq_Ico,
    sum_masked _ _ _ _ (by omega), sum_shift]
  rfl

theorem pay20 (ht : IsE tri after) (hz : IsE z1 fun _ _ => 0) (hz2 : IsE z2 fun _ _ => 0) (hv : IsF v fun j l => V (256 * i + j) (128 * p + l)) :
    IsE (k0_pay20 tri m q z1 z2 kb v) fun r l => OG Q K V (2 * p + r / 256) (256 * i + r % 256) (256 * i) (256 * (i + 1)) (128 * p + l) := by
  intro r l
  pointwise [k0_pay20]
  have hw : ∀ j : Fin 256, (if j.val < r.val % 256 then Ideal.exp (Z Q K (2 * p + r.val / 256) (256 * i + r.val % 256) (256 * i + j.val) - SP (Z Q K (2 * p + r.val / 256) (256 * i + r.val % 256) (256 * i + j.val))
      + (∑ t : Fin 256, (if t.val < r.val % 256 then LM Q K (2 * p + r.val / 256) (256 * i + r.val % 256) (256 * i + t.val) else 0) * after t.val j.val
        + ∑ t : Fin 256, ((if t.val < r.val % 256 then LM Q K (2 * p + r.val / 256) (256 * i + r.val % 256) (256 * i + t.val) else 0)
          - (if t.val < r.val % 256 then LM Q K (2 * p + r.val / 256) (256 * i + r.val % 256) (256 * i + t.val) else 0)) * after (256 + t.val) j.val)) else 0)
      = W Q K (2 * p + r.val / 256) (256 * i + r.val % 256) (256 * i + j.val) := fun j => by
    by_cases hj : j.val < r.val % 256
    · rw [if_pos hj, sum_halves (fun t => if t < r.val % 256 then LM Q K (2 * p + r.val / 256) (256 * i + r.val % 256) (256 * i + t) else 0)
        (fun t => by by_cases h : t < r.val % 256 <;> simp only [h, if_true, if_false, sub_zero, add_zero]; exact rest _),
        sum_masked _ _ _ _ (by omega), sum_shift, W, if_pos (by omega)]
      rfl
    · rw [if_neg hj, W, if_neg (by omega)]
  have hwv : ∀ (j : Fin 256) (y : EReal), (if j.val < r.val % 256 then Ideal.exp (Z Q K (2 * p + r.val / 256) (256 * i + r.val % 256) (256 * i + j.val) - SP (Z Q K (2 * p + r.val / 256) (256 * i + r.val % 256) (256 * i + j.val))
      + (∑ t : Fin 256, (if t.val < r.val % 256 then LM Q K (2 * p + r.val / 256) (256 * i + r.val % 256) (256 * i + t.val) else 0) * after t.val j.val
        + ∑ t : Fin 256, ((if t.val < r.val % 256 then LM Q K (2 * p + r.val / 256) (256 * i + r.val % 256) (256 * i + t.val) else 0)
          - (if t.val < r.val % 256 then LM Q K (2 * p + r.val / 256) (256 * i + r.val % 256) (256 * i + t.val) else 0)) * after (256 + t.val) j.val)) * y else 0)
      = W Q K (2 * p + r.val / 256) (256 * i + r.val % 256) (256 * i + j.val) * y := fun j y => by rw [← hw, ite_mul, zero_mul]
  simp only [pay16 Q K p i hq hk r _, pay17 Q K p i hq hk r _, pay18 Q K p i hm hq hk r _, hz r _, hz2 r _, ht _ _, hv _ l, hm r _, add_zero, zero_add, sel_zero, hwv]
  rw [sum_block (fun k => W Q K (2 * p + r.val / 256) (256 * i + r.val % 256) k * V k (128 * p + l.val)) (256 * i)]
  rfl

end masked

theorem cmp_sgt (a b : Fin 256) : IntOp.cmpi .sgt (BitVec.ofNat 32 a.val) (BitVec.ofNat 32 b.val) = if b.val < a.val then 1#1 else 0#1 := by
  simp only [IntOp.cmpi, BitVec.slt, small_int, Int.ofNat_lt]
  by_cases h : b.val < a.val <;> simp [h]

/-- The masks and the stacked queries. -/
theorem pay9_is : IsE (k0_pay9 (F := Ideal)) after := by
  intro r j
  pointwise [k0_pay9]
  split
  · rename_i h
    rw [cmp_sgt ⟨r, h⟩ j, bit_real, after, Nat.mod_eq_of_lt h]
    split <;> rfl
  · rename_i h
    rw [cmp_sgt ⟨r - 256, by omega⟩ j, bit_real, after, show r.val % 256 = r.val - 256 by omega]
    split <;> rfl

theorem pay10_is (r : Fin 512) (j : Fin 256) : k0_pay10 (ix2 r j) = if j.val < r.val % 256 then 1#1 else 0#1 := by
  pointwise [k0_pay10]
  split
  · rename_i h
    rw [cmp_slt j ⟨r, h⟩, Nat.mod_eq_of_lt h]
  · rename_i h
    rw [cmp_slt j ⟨r - 256, by omega⟩, show r.val % 256 = r.val - 256 by omega]

theorem pay11_is (j : Fin 128) : k0_pay11 (ix2 0 j) = if j.val / 64 = 1 then 1#1 else 0#1 := by
  pointwise [k0_pay11]
  exact lane_hi j

theorem pay12_is {x : FVec Ideal S1x256x128 .bf16} (h : IsF x fun t l => Q (256 * i + t) (128 * p + l)) :
    IsE (k0_pay12 x) (stackE Q p i) := by
  intro r j
  pointwise [k0_pay12, k0_pay11]
  split
  · rename_i hr
    have h1 := h ⟨r, hr⟩ j
    rw [lane_lo, h1, show Ideal.ofBits .f32 1040187392#32 = _ from eighth, sel_zero, stackE, Nat.div_eq_of_lt hr, Nat.mod_eq_of_lt hr]
  · rename_i hr
    have h1 := h ⟨r - 256, by omega⟩ j
    rw [lane_hi, h1, show Ideal.ofBits .f32 1040187392#32 = _ from eighth, sel_zero, stackE, show r.val / 256 = 1 by omega, show r.val % 256 = r.val - 256 by omega]

theorem pay13_is : IsE (k0_pay13 (F := Ideal)) fun _ _ => 0 := by
  intro r j
  pointwise [k0_pay13]

theorem pay14_is : IsE (k0_pay14 (F := Ideal)) fun _ _ => 0 := by
  intro r j
  pointwise [k0_pay14]

theorem pay15_is {x : FVec Ideal S1x256x128 .bf16} {f : ℕ → ℕ → EReal} (h : IsF x f) : IsE (k0_pay15 x) f := by
  intro r j
  pointwise [k0_pay15]
  exact h r j

/-- The two heads' rows put back side by side. -/
theorem pay22_is {f : ℕ → ℕ → ℕ → EReal} (ho : IsE o fun r l => f (r / 256) (r % 256) l) :
    IsE (k0_pay22 k0_pay11 o) fun r l => f (l / 64) r l := by
  intro r l
  pointwise [k0_pay22, k0_pay11]
  have h0 := ho ⟨r.val, by omega⟩ l
  have h1 := ho ⟨256 + r.val, by omega⟩ l
  simp only [show r.val / 256 = 0 by omega, show r.val % 256 = r.val by omega] at h0
  simp only [show (256 + r.val) / 256 = 1 by omega, show (256 + r.val) % 256 = r.val by omega] at h1
  rw [lane_hi, h0, h1]
  by_cases hl : l.val / 64 = 1
  · rw [if_pos hl, hl]; rfl
  · rw [if_neg hl, show l.val / 64 = 0 by omega]; rfl

theorem payB_is {f : ℕ → ℕ → EReal} (hs : IsE s fun r _ => f (r / 256) (r % 256)) :
    IsF (k0_pay1 k0_pay11 (k0_pay21 s) (k0_pay23 s)) fun r l => f (l / 64) r := by
  intro r l
  pointwise [k0_pay1, k0_pay21, k0_pay23, k0_pay11]
  have h0 := hs ⟨r.val, by omega⟩ 0
  have h1 := hs ⟨256 + r.val, by omega⟩ 0
  simp only [show r.val / 256 = 0 by omega, show r.val % 256 = r.val by omega] at h0
  simp only [show (256 + r.val) / 256 = 1 by omega, show (256 + r.val) % 256 = r.val by omega] at h1
  rw [lane_hi, h0, h1]
  by_cases hl : l.val / 64 = 1
  · rw [if_pos hl, hl]; rfl
  · rw [if_neg hl, show l.val / 64 = 0 by omega]; rfl

end Cert.AttnFwdIdeal.Pay

end
-- ==== Proof.FwdRef.lean ====
/- The reference's attention, over the extended reals: its output and the rows' sums of the logarithms. -/
module

public import proofs.«01_k».proof.Proof.AttnRef
public import proofs.«01_k».proof.Proof.FwdMath
public import proofs.«01_k».proof.Proof.Gen.AttnFwdRefIdeal.Run

@[expose] public section

set_option maxRecDepth 16384

open Idealize.ShloMosaic Idealize.ShloMosaic.TcCoe Idealize.SL.Sem
open scoped BigOperators

noncomputable section

namespace Cert.AttnFwdRefIdeal.Val

open Cert.AttnFwdRefIdeal Cert.AttnFwdRefIdeal.Gen Cert.AttnFwdRefIdeal.Value Cert.FwdMath
open Cert.AttnReal (window_sum_ext sum_from slt_iff ofBits_eighth)
open Finset (range Ico)

/-- The projections, cut into their three parts and their heads. -/
def cut (x : FVec Ideal S8192x1536 .f32) : FVec Ideal S3x8x8192x64 .f32 :=
  transpose S3x8x8192x64 [1, 2, 0, 3] (shapeCast _ x shapeCasts_S8192x1536_S8192x3x8x64) transposes_S8192x3x8x64_S3x8x8192x64_1_2_0_3
def heads0 (x : FVec Ideal S8192x1536 .f32) : FVec Ideal S8x8192x64 .f32 :=
  shapeCast _ (extractStridedSlice S1x8x8192x64 ![0, 0, 0, 0] (cut x) slices_S3x8x8192x64_S1x8x8192x64_0_0_0_0) shapeCasts_S1x8x8192x64_S8x8192x64
def heads1 (x : FVec Ideal S8192x1536 .f32) : FVec Ideal S8x8192x64 .f32 :=
  shapeCast _ (extractStridedSlice S1x8x8192x64 ![1, 0, 0, 0] (cut x) slices_S3x8x8192x64_S1x8x8192x64_1_0_0_0) shapeCasts_S1x8x8192x64_S8x8192x64
def heads2 (x : FVec Ideal S8192x1536 .f32) : FVec Ideal S8x8192x64 .f32 :=
  shapeCast _ (extractStridedSlice S1x8x8192x64 ![2, 0, 0, 0] (cut x) slices_S3x8x8192x64_S1x8x8192x64_2_0_0_0) shapeCasts_S1x8x8192x64_S8x8192x64

/-- The scaled logits. -/
def logits (x : FVec Ideal S8192x1536 .f32) : FVec Ideal S8x8192x8192 .f32 :=
  mulf (Host.dotGeneral dot_S8x8192x64_S8x8192x64_S8x8192x8192_2_2_1_1_0_0 none (heads0 x) (heads1 x))
    (broadcastInDim S8x8192x8192 ![] bcast_S_S8x8192x8192 (constant S_ .f32 0x3E000000#32))

def zeros : FVec Ideal S8x8192x8192 .f32 := broadcastInDim S8x8192x8192 ![] bcast_S_S8x8192x8192 (constant S_ .f32 0x00000000#32)

/-- log(1 + e^y), as the reference's lines spell it. -/
def soft (y : FVec Ideal S8x8192x8192 .f32) : FVec Ideal S8x8192x8192 .f32 :=
  select (cmpf .une (subf y zeros) (subf y zeros)) (addf y zeros)
    (addf (maximumf y zeros) (Host.log1p (Host.exp (Host.negf (Host.absf (subf y zeros))))))

/-- The keys before a query. -/
def before : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

def masked (y : FVec Ideal S8x8192x8192 .f32) : FVec Ideal S8x8192x8192 .f32 :=
  select (broadcastInDim S8x8192x8192 ![1, 2] bcast_S8192x8192_S8x8192x8192_1_2 before) y
    (broadcastInDim S8x8192x8192 ![] bcast_S_S8x8192x8192 (id (constant S_ .f32 0x00000000#32)))

/-- The logarithms of the chances not taken, at the keys before the query. -/
def passed (x : FVec Ideal S8192x1536 .f32) : FVec Ideal S8x8192x8192 .f32 :=
  masked (Host.negf (soft (Host.negf (Host.negf (logits x)))))

/-- The attention's weights. -/
def weights (x : FVec Ideal S8192x1536 .f32) : FVec Ideal S8x8192x8192 .f32 :=
  masked (Host.exp (addf (Host.negf (soft (Host.negf (logits x))))
    (subf (Host.reduceWindowAdd ![1, 1, 8192] ![1, 1, 1] ![0, 0, 0] ![0, 0, 8191] (passed x)
      (broadcastInDim S_ ![] bcast_S_S_ (constant S_ .f32 0x00000000#32)) reduceWindows_S8x8192x8192_S8x8192x8192_w1s1p0_0_w1s1p0_0_w8192s1p0_8191 h_S_) (passed x))))

def outTerm (x : FVec Ideal S8192x1536 .f32) : FVec Ideal S8192x512 .f32 :=
  shapeCast _ (transpose S8192x8x64 [1, 0, 2] (Host.dotGeneral dot_S8x8192x8192_S8x8192x64_S8x8192x64_2_1_1_2_0_0 none (weights x) (heads2 x))
    transposes_S8x8192x64_S8192x8x64_1_0_2) shapeCasts_S8192x8x64_S8192x512

def sumTerm (x : FVec Ideal S8192x1536 .f32) : FVec Ideal S4x8192x128 .f32 :=
  shapeCast _ (broadcastInDim S4x8192x2x64 ![0, 1, 2] bcast_S4x8192x2_S4x8192x2x64_0_1_2 (transpose S4x8192x2 [0, 2, 1]
    (shapeCast _ (Host.reduceAdd (passed x) (constant S_ .f32 0x00000000#32) reducesTo_S8x8192x8192_S8x8192_d2 h_S_) shapeCasts_S8x8192_S4x2x8192)
    transposes_S4x2x8192_S4x8192x2_0_2_1)) shapeCasts_S4x8192x2x64_S4x8192x128

variable (m : (ℓ : Loc nD τ sig) → Buf (Elt Ideal) ℓ) (c : Dev nD)

theorem res34 : res_main_v34 m c = outTerm (m ((c.tc : Thread nD τ).loc main_arg0)) := rfl
theorem res32 : res_main_v32 m c = sumTerm (m ((c.tc : Thread nD τ).loc main_arg0)) := rfl

/-- The logarithms at the keys before the query. -/
def G (A B : ℕ → ℕ → EReal) (h q k : ℕ) : EReal := if k < q then LM A B h q k else 0

/-- The sum over the keys from one before the query on. -/
theorem sum_G (A B : ℕ → ℕ → EReal) (h q k : ℕ) (hk : k < q) (hq : q < 8192) :
    ∑ n ∈ range (8192 - k), G A B h q (k + n) = LM A B h q k + SG A B h q (k + 1) q := by
  rw [Finset.range_eq_Ico, sum_shift, show k + (8192 - k) = 8192 by omega, Nat.add_zero]
  refine (sum_masked (LM A B h q) k q 8192 (by omega)).trans ?_
  rw [SG, Finset.sum_eq_sum_Ico_succ_bot hk]

variable (x : FVec Ideal S8192x1536 .f32) (h : Fin 8) (q k : Fin 8192) (d : Fin 64)

theorem heads0_at : heads0 x (ix3 h q d) = ent x 0 q (64 * h.val + d.val) := by
  pointwise [heads0, cut]
  exact ent_at x _ _ 0 _ (by simp only; omega)
theorem heads1_at : heads1 x (ix3 h q d) = ent x 512 q (64 * h.val + d.val) := by
  pointwise [heads1, cut]
  exact ent_at x _ _ 512 _ (by simp only; omega)
theorem heads2_at : heads2 x (ix3 h q d) = ent x 1024 q (64 * h.val + d.val) := by
  pointwise [heads2, cut]
  exact ent_at x _ _ 1024 _ (by simp only; omega)

theorem logits_at : logits x (ix3 h q k) = Z (ent x 0) (ent x 512) h q k := by
  pointwise [logits]
  simp only [heads0_at, heads1_at, ofBits_eighth]
  rw [Z, Finset.sum_range]

theorem soft_at (y : FVec Ideal S8x8192x8192 .f32) : soft y (ix3 h q k) = SP (y (ix3 h q k)) := by
  pointwise [soft, zeros]
  rw [← SP_log1p]
  simp [Ideal.scalar_cmpf_def, Ideal.cmp, Scalar.select]

theorem before_at : before (ix2 q k) = if k.val < q.val then 1#1 else 0#1 := by
  pointwise [before]
  exact slt_iff _ _ k.isLt q.isLt

theorem zero_at : id (constant (F := Ideal) S_ .f32 0#32) ix0 = (0 : EReal) := Ideal.ofBits_zero_f32

theorem masked_at (y : FVec Ideal S8x8192x8192 .f32) : masked y (ix3 h q k) = if k.val < q.val then y (ix3 h q k) else 0 := by
  pointwise [masked]
  rw [before_at]
  by_cases hk : k.val < q.val
  · rw [if_pos hk, if_pos hk]; rfl
  · rw [if_neg hk, if_neg hk, zero_at]; rfl

theorem passed_at : passed x (ix3 h q k) = G (ent x 0) (ent x 512) h q k := by
  rw [passed, masked_at, G, LM]
  congr 1
  pointwise
  rw [soft_at]
  pointwise
  rw [neg_neg, logits_at]

theorem weights_at : weights x (ix3 h q k) = W (ent x 0) (ent x 512) h q k := by
  rw [weights, masked_at, W]
  by_cases hk : k.val < q.val
  · rw [if_pos hk, if_pos hk]
    pointwise
    rw [soft_at, passed_at,
      window_sum_ext (A := 8) (B := 8192) (N := 8192) (passed x) _ _ h_S_ (by pointwise) h q k
      (fun n => G (ent x 0) (ent x 512) h q n) (fun n => passed_at x h q n), sum_from _ _ _ k.isLt, sum_G _ _ _ _ _ hk q.isLt, G, if_pos hk]
    pointwise
    rw [logits_at, LM, ← exponent]
  · rw [if_neg hk, if_neg hk]

theorem out_at (l : Fin 512) : outTerm x (ix2 q l) = OG (ent x 0) (ent x 512) (ent x 1024) (l.val / 64) q 0 8192 l := by
  pointwise [outTerm]
  simp only [weights_at, heads2_at]
  rw [OG, ← Finset.range_eq_Ico, Finset.sum_range]
  refine Finset.sum_congr rfl fun k _ => ?_
  rw [show 64 * (l.val / 64) + l.val % 64 = l.val by omega]

theorem sum_at (p : Fin 4) (l : Fin 128) : sumTerm x (ix3 p q l) = SG (ent x 0) (ent x 512) (2 * p.val + l.val / 64) q 0 q := by
  pointwise [sumTerm]
  simp only [passed_at]
  rw [SG, ← sum_masked (LM (ent x 0) (ent x 512) (2 * p.val + l.val / 64) q) 0 q.val 8192 (by omega), ← Finset.range_eq_Ico, Finset.sum_range]
  refine Finset.sum_congr rfl fun k _ => ?_
  rw [G]
  simp only [Nat.mul_comm 2]

/-- The reference's two arrays. -/
theorem run_arr (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34) = (fun y => OG (ent (φ := .f32) (m ((c.tc : Thread nD τ).loc main_arg0) : FVec Ideal S8192x1536 .f32) 0) (ent (φ := .f32) (m ((c.tc : Thread nD τ).loc main_arg0) : FVec Ideal S8192x1536 .f32) 512) (ent (φ := .f32) (m ((c.tc : Thread nD τ).loc main_arg0) : FVec Ideal S8192x1536 .f32) 1024) ((y 1).val / 64) (y 0).val 0 8192 (y 1).val : FVec Ideal S8192x512 .f32)
      ∧ r.2.mem ((c.tc : Thread nD τ).loc main_v32) = (fun y => SG (ent (φ := .f32) (m ((c.tc : Thread nD τ).loc main_arg0) : FVec Ideal S8192x1536 .f32) 0) (ent (φ := .f32) (m ((c.tc : Thread nD τ).loc main_arg0) : FVec Ideal S8192x1536 .f32) 512) (2 * (y 0).val + (y 2).val / 64) (y 1).val 0 (y 1).val : FVec Ideal S4x8192x128 .f32)
      ∧ r.2.mem ((c.tc : Thread nD τ).loc main_arg0) = m ((c.tc : Thread nD τ).loc main_arg0)) :=
  (θ_run defs _ _).mono (fun _ h c => ⟨(h c).1.trans ((res34 m c).trans (by funext y; idx_vars y; exact out_at _ y0 y1)),
    (h c).2.1.trans ((res32 m c).trans (by funext y; idx_vars y; exact sum_at _ y1 y0 y2)), (h c).2.2⟩) (Value.run (F := Ideal) m ρ)

end Cert.AttnFwdRefIdeal.Val

end
-- ==== Proof.FwdFinal.lean ====
/- The attention's forward call: what the kernel leaves in its two result arrays is what the reference computes, infinite arguments included. -/
module

public import proofs.«01_k».proof.Proof.FwdFrame
public import proofs.«01_k».proof.Proof.FwdPay
public import proofs.«01_k».proof.Proof.FwdRef
public import Idealize.ShloMosaic.Lib.Claim

@[expose] public section

set_option maxRecDepth 16384

open Idealize.ShloMosaic Idealize.ShloMosaic.TcCoe Idealize.SL.Sem
open scoped BigOperators

noncomputable section

namespace Cert.AttnFwdIdeal.Pay

open Cert.AttnFwdIdeal Cert.AttnFwdIdeal.Gen Cert.AttnFwdIdeal.Tile Cert.FwdMath
open Finset (range Ico)

/-! # The loop over the key blocks -/

section trip
variable {Q K V : ℕ → ℕ → EReal} {p i : ℕ}

/-- Rows read at a block of keys are that block's rows. -/
theorem rows_is {x : FVec Ideal S1x8192x128 .bf16} {f : ℕ → ℕ → EReal} (hx : IsF x f) (off : Fin 3 → ℕ)
    (inb : ∀ a, off a + S1x256x128.size a ≤ S1x8192x128.size a) (n : ℕ) (hn : n < 32) (ho : off = ![0, 256 * n, 0]) :
    IsF (φ := .bf16) (a := 256) (b := 128) (rowsAt (F := Ideal) x off inb) fun j l => f (256 * n + j) l := by
  subst ho
  intro j l
  refine Eq.trans (congrArg x (funext fun b => Fin.ext ?_)) (hx ⟨256 * n + j.val, by omega⟩ l)
  fin_cases b <;> simp

theorem off2_at : ∀ n : Fin 32, k0_off2 (BitVec.ofNat 32 n.val) = ![0, 256 * n.val, 0] := by decide +kernel
theorem off1_at : ∀ t : Fin (cfg0 (F := Ideal)).N, k0_off1 (grid0.coords t) = ![0, 256 * (t.val % 32), 0] :=
  (by decide +kernel : ∀ t : Fin grid0.N, _)

/-- The early exit never fires: its threshold is −∞. -/
theorem goes (n : Fin 32) (s : FVec Ideal S512x1 .f32) : goesOn (F := Ideal) (BitVec.ofNat 32 n.val) s := by
  have e : Scalar.cmpf .oge (k0_pay3 s) (Named.named κ "exit_below" 0xC2D00000#32 : Ideal .f32) = 1#1 := by
    rw [show (Named.named κ "exit_below" 0xC2D00000#32 : Ideal .f32) = (⊥ : EReal) from IdealRules.named_const.ideal_named_scalar _ _ _ _ rfl]
    rw [Ideal.scalar_cmpf_def]
    simp [Ideal.cmp]
  rw [goesOn, not_end, e]; rfl

variable {q : FVec Ideal S512x128 .bf16} {tri : FVec Ideal S512x256 .bf16} {x1 x2 : FVec Ideal S1x8192x128 .bf16}
  (hq : IsE q (stackE Q p i)) (ht : IsE tri after) (h1 : IsF x1 fun j l => K j (128 * p + l)) (h2 : IsF x2 fun j l => V j (128 * p + l)) (hi : i < 32)

include hq ht h1 h2 hi

theorem loop_is : ∀ (n : ℕ), n ≤ i → ∀ (s : FVec Ideal S512x1 .f32) (o : FVec Ideal S512x128 .f32),
    (IsE s fun r _ => SG Q K (2 * p + r / 256) (256 * i + r % 256) (256 * n) (256 * i + r % 256)) →
    (IsE o fun r l => OG Q K V (2 * p + r / 256) (256 * i + r % 256) (256 * n) (256 * (i + 1)) (128 * p + l)) →
    (IsE (loop q tri x1 x2 n s o).2.1 fun r _ => SG Q K (2 * p + r / 256) (256 * i + r % 256) 0 (256 * i + r % 256))
    ∧ IsE (loop q tri x1 x2 n s o).2.2 fun r l => OG Q K V (2 * p + r / 256) (256 * i + r % 256) 0 (256 * (i + 1)) (128 * p + l)
  | 0, _, s, o, hs, ho => by
    exact ⟨fun r j => hs r j, fun r l => ho r l⟩
  | n + 1, hn, s, o, hs, ho => by
    have hc := checks ⟨n, by omega⟩
    have hg := goes ⟨n, by omega⟩ s
    rw [loop, dif_pos ⟨hc, hg⟩]
    have k1 := rows_is h1 _ (k0_off2_inb _ hc) n (by omega) (off2_at ⟨n, by omega⟩)
    have k2 := rows_is h2 _ (k0_off2_inb _ hc) n (by omega) (off2_at ⟨n, by omega⟩)
    exact loop_is n (by omega) _ _ (pay7 Q K p i n hq k1 hs (by omega)) (pay8 Q K V p i n hq k1 hs (by omega) ht k2 ho)
end trip

/-! # A grid point -/

variable (m : (ℓ : Loc nD τ sig) → Buf (Elt Ideal) ℓ) (c : Dev nD)

theorem lt128 (t : Fin (cfg0 (F := Ideal)).N) : t.val < 128 := t.isLt

theorem coord1 (t : Fin (cfg0 (F := Ideal)).N) : (grid0.coords t 1).val = t.val % 32 := by
  have e : (grid0.coords t 1).val = t.val / 1 % 32 := Pipeline.Grid.coords_val t 1 (by decide) rfl
  rw [e, Nat.div_one]

section point
variable {Q K V : ℕ → ℕ → EReal} (t : Fin (cfg0 (F := Ideal)).N)
  {x0 : FVec Ideal S1x256x128 .bf16} {x1 x2 : FVec Ideal S1x8192x128 .bf16}
  (h0 : IsF x0 fun a l => Q (256 * (t.val % 32) + a) (128 * (t.val / 32) + l))
  (h1 : IsF x1 fun j l => K j (128 * (t.val / 32) + l)) (h2 : IsF x2 fun j l => V j (128 * (t.val / 32) + l))

include h0 h1 h2

theorem ended_is : (IsE (ended (grid0.coords t) x0 x1 x2).2.1 fun r _ => SG Q K (2 * (t.val / 32) + r / 256) (256 * (t.val % 32) + r % 256) 0 (256 * (t.val % 32) + r % 256))
    ∧ IsE (ended (grid0.coords t) x0 x1 x2).2.2 fun r l => OG Q K V (2 * (t.val / 32) + r / 256) (256 * (t.val % 32) + r % 256) 0 (256 * (t.val % 32 + 1)) (128 * (t.val / 32) + l) := by
  have hq := pay12_is Q (t.val / 32) (t.val % 32) h0
  have hk := pay15_is (rows_is h1 _ (k0_off1_inb (grid0.coords t)) (t.val % 32) (by omega) (off1_at t))
  have hv := rows_is h2 _ (k0_off1_inb (grid0.coords t)) (t.val % 32) (by omega) (off1_at t)
  unfold ended
  rw [coord1]
  exact loop_is hq pay9_is h1 h2 (by omega) _ le_rfl _ _ (pay19 Q K _ _ pay10_is hq hk pay13_is)
    (pay20 Q K V _ _ pay10_is hq hk pay9_is pay13_is pay14_is hv)

theorem outO_is : IsE (outO (grid0.coords t) x0 x1 x2) fun a l => OG Q K V ((128 * (t.val / 32) + l) / 64) (256 * (t.val % 32) + a) 0 8192 (128 * (t.val / 32) + l) := by
  intro a l
  have ht := lt128 t
  have h := pay22_is (f := fun hh a l => OG Q K V (2 * (t.val / 32) + hh) (256 * (t.val % 32) + a) 0 (256 * (t.val % 32 + 1)) (128 * (t.val / 32) + l)) (ended_is t h0 h1 h2).2 a l
  refine h.trans ?_
  simp only
  rw [OG_all _ _ _ _ _ _ 8192 _ (by omega) (by omega), show (128 * (t.val / 32) + l.val) / 64 = 2 * (t.val / 32) + l.val / 64 by omega]

theorem outB_is : IsF (outB (grid0.coords t) x0 x1 x2) fun a l => SG Q K (2 * (t.val / 32) + l / 64) (256 * (t.val % 32) + a) 0 (256 * (t.val % 32) + a) :=
  payB_is (f := fun hh a => SG Q K (2 * (t.val / 32) + hh) (256 * (t.val % 32) + a) 0 (256 * (t.val % 32) + a)) (ended_is t h0 h1 h2).1
end point

/-! # The blocks the region reads and writes -/

theorem V7 : Tile.V m c main_v7 = (truncf .bf16 (concatenate S3x8192x512 0
    [⟨S1x8192x512, broadcastInDim S1x8192x512 ![1, 2] bcast_S8192x512_S1x8192x512_1_2 (extractStridedSlice S8192x512 ![0, 0] (m ((c : Thread nD τ).loc main_arg0)) slices_S8192x1536_S8192x512_0_0)⟩,
     ⟨S1x8192x512, broadcastInDim S1x8192x512 ![1, 2] bcast_S8192x512_S1x8192x512_1_2 (extractStridedSlice S8192x512 ![0, 512] (m ((c : Thread nD τ).loc main_arg0)) slices_S8192x1536_S8192x512_0_512)⟩,
     ⟨S1x8192x512, broadcastInDim S1x8192x512 ![1, 2] bcast_S8192x512_S1x8192x512_1_2 (extractStridedSlice S8192x512 ![0, 1024] (m ((c : Thread nD τ).loc main_arg0)) slices_S8192x1536_S8192x512_0_1024)⟩]
     (concatenates_S1x8192x512_S1x8192x512_S1x8192x512_S3x8192x512_d0)) bitsLt_bf16_f32 : FVec Ideal S3x8192x512 .bf16) := by
  rfl

theorem V7_at (u : Fin 3) (q : Fin 8192) (l : Fin 512) (h : 512 * u.val + l.val < 1536) :
    Tile.V m c main_v7 (ix3 u q l) = (m ((c : Thread nD τ).loc main_arg0) : FVec Ideal S8192x1536 .f32) (ix2 q ⟨512 * u.val + l.val, h⟩) := by
  rw [V7]
  pointwise
  obtain ⟨u, hu⟩ := u
  obtain rfl | rfl | rfl : u = 0 ∨ u = 1 ∨ u = 2 := by omega
  · rw [dif_pos (by simp)]; congr 2; ext; simp
  · rw [dif_neg (by simp), dif_pos (by simp)]; congr 2
  · rw [dif_neg (by simp), dif_neg (by simp)]; congr 2

theorem idx_all : ∀ t : Fin (cfg0 (F := Ideal)).N, win0_0.index t = ![0, t.val % 32, t.val / 32] ∧ win0_1.index t = ![1, 0, t.val / 32]
    ∧ win0_2.index t = ![2, 0, t.val / 32] ∧ win0_3.index t = ![t.val % 32, t.val / 32] ∧ win0_4.index t = ![t.val / 32, t.val % 32, 0] :=
  (by decide +kernel : ∀ t : Fin grid0.N, _)

theorem emb_0 (t : Fin (cfg0 (F := Ideal)).N) (a : Fin 256) (l : Fin 128) : (((cfg0 (F := Ideal)).win 0).blk t).view.emb (ix3 0 a l)
    = ix3 (0 : Fin 3) (⟨256 * (t.val % 32) + a.val, by omega⟩ : Fin 8192) (⟨128 * (t.val / 32) + l.val, by have := lt128 t; omega⟩ : Fin 512) := by
  blk_ext [idx_all t]
theorem emb_1 (t : Fin (cfg0 (F := Ideal)).N) (a : Fin 8192) (l : Fin 128) : (((cfg0 (F := Ideal)).win 1).blk t).view.emb (ix3 0 a l)
    = ix3 (1 : Fin 3) a (⟨128 * (t.val / 32) + l.val, by have := lt128 t; omega⟩ : Fin 512) := by
  blk_ext [idx_all t]
theorem emb_2 (t : Fin (cfg0 (F := Ideal)).N) (a : Fin 8192) (l : Fin 128) : (((cfg0 (F := Ideal)).win 2).blk t).view.emb (ix3 0 a l)
    = ix3 (2 : Fin 3) a (⟨128 * (t.val / 32) + l.val, by have := lt128 t; omega⟩ : Fin 512) := by
  blk_ext [idx_all t]
theorem emb_3 (t : Fin (cfg0 (F := Ideal)).N) (a : Fin 256) (l : Fin 128) : (((cfg0 (F := Ideal)).win 3).blk t).view.emb (ix2 a l)
    = ix2 (⟨256 * (t.val % 32) + a.val, by omega⟩ : Fin 8192) (⟨128 * (t.val / 32) + l.val, by have := lt128 t; omega⟩ : Fin 512) := by
  blk_ext [idx_all t]
theorem emb_4 (t : Fin (cfg0 (F := Ideal)).N) (a : Fin 256) (l : Fin 128) : (((cfg0 (F := Ideal)).win 4).blk t).view.emb (ix3 0 a l)
    = ix3 (⟨t.val / 32, by have := lt128 t; omega⟩ : Fin 4) (⟨256 * (t.val % 32) + a.val, by omega⟩ : Fin 8192) l := by
  blk_ext [idx_all t]

theorem read_0 (t : Fin (cfg0 (F := Ideal)).N) (y) : blockIn m c 0 t y = Tile.V m c main_v7 ((((cfg0 (F := Ideal)).win 0).blk t).view.emb y) := by
  blk_simp [blockIn]
theorem read_1 (t : Fin (cfg0 (F := Ideal)).N) (y) : blockIn m c 1 t y = Tile.V m c main_v7 ((((cfg0 (F := Ideal)).win 1).blk t).view.emb y) := by
  blk_simp [blockIn]
theorem read_2 (t : Fin (cfg0 (F := Ideal)).N) (y) : blockIn m c 2 t y = Tile.V m c main_v7 ((((cfg0 (F := Ideal)).win 2).blk t).view.emb y) := by
  blk_simp [blockIn]

/-- The matrices the argument holds. -/
abbrev mQ : ℕ → ℕ → EReal := ent (φ := .f32) (m ((c : Thread nD τ).loc main_arg0) : FVec Ideal S8192x1536 .f32) 0
abbrev mK : ℕ → ℕ → EReal := ent (φ := .f32) (m ((c : Thread nD τ).loc main_arg0) : FVec Ideal S8192x1536 .f32) 512
abbrev mV : ℕ → ℕ → EReal := ent (φ := .f32) (m ((c : Thread nD τ).loc main_arg0) : FVec Ideal S8192x1536 .f32) 1024

variable {m c}

theorem in_0 (t : Fin (cfg0 (F := Ideal)).N) : IsF (φ := .bf16) (a := 256) (b := 128) (blockIn m c 0 t) fun a l => mQ m c (256 * (t.val % 32) + a) (128 * (t.val / 32) + l) := fun a l => by
  have ht := lt128 t
  rw [read_0, emb_0, V7_at m c 0 _ _ (by simp only [Fin.val_zero]; omega)]
  exact ent_at _ _ _ 0 (128 * (t.val / 32) + l.val) (by simp)
theorem in_1 (t : Fin (cfg0 (F := Ideal)).N) : IsF (φ := .bf16) (a := 8192) (b := 128) (blockIn m c 1 t) fun a l => mK m c a (128 * (t.val / 32) + l) := fun a l => by
  have ht := lt128 t
  rw [read_1, emb_1, V7_at m c 1 _ _ (by simp only [Fin.val_one]; omega)]
  exact ent_at _ _ _ 512 (128 * (t.val / 32) + l.val) (by simp)
theorem in_2 (t : Fin (cfg0 (F := Ideal)).N) : IsF (φ := .bf16) (a := 8192) (b := 128) (blockIn m c 2 t) fun a l => mV m c a (128 * (t.val / 32) + l) := fun a l => by
  have ht := lt128 t
  rw [read_2, emb_2, V7_at m c 2 _ _ (by simp only [Fin.val_two]; omega)]
  exact ent_at _ _ _ 1024 (128 * (t.val / 32) + l.val) (by simp)

/-- The output's array and the sums' array. -/
def arrO (f : ℕ → ℕ → EReal) : FVec Ideal S8192x512 .f32 := fun y => f (y 0).val (y 1).val
def arrB (f : ℕ → ℕ → ℕ → EReal) : FVec Ideal S4x8192x128 .f32 := fun y => f (y 0).val (y 1).val (y 2).val
theorem arrO_at (f : ℕ → ℕ → EReal) (q : Fin 8192) (l : Fin 512) : arrO f (ix2 q l) = f q l := rfl
theorem arrB_at (f : ℕ → ℕ → ℕ → EReal) (p : Fin 4) (q : Fin 8192) (l : Fin 128) : arrB f (ix3 p q l) = f p q l := rfl

theorem final_3 : (dats m 0 c).arrAt 3 (cfgs (F := Ideal) 0).N = arrO fun q l => OG (mQ m c) (mK m c) (mV m c) (l / 64) q 0 8192 l := by
  refine (dats m 0 c).arrAt_eq_of_covers 3 _ (by decide +kernel) fun t hf y => ?_
  blk_simp; rw [after_3]
  idx_vars y
  rw [emb_3, arrO_at]
  exact outO_is t (in_0 t) (in_1 t) (in_2 t) y0 y1

theorem final_4 : (dats m 0 c).arrAt 4 (cfgs (F := Ideal) 0).N = arrB fun p q l => SG (mQ m c) (mK m c) (2 * p + l / 64) q 0 q := by
  refine (dats m 0 c).arrAt_eq_of_covers 4 _ (by decide +kernel) fun t hf y => ?_
  blk_simp; rw [after_4]
  idx_vars y
  obtain rfl : y0 = 0 := Subsingleton.elim _ _
  rw [emb_4, arrB_at]
  exact outB_is t (in_0 t) (in_1 t) (in_2 t) y1 y2

/-- The kernel's two arrays are the attention's output and the rows' sums. -/
theorem run_arr (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8_0) = (arrO fun q l => OG (mQ m c) (mK m c) (mV m c) (l / 64) q 0 8192 l)
      ∧ r.2.mem ((c.tc : Thread nD τ).loc main_v8_1) = (arrB fun p q l => SG (mQ m c) (mK m c) (2 * p + l / 64) q 0 q)
      ∧ r.2.mem ((c.tc : Thread nD τ).loc main_arg0) = m ((c.tc : Thread nD τ).loc main_arg0)) :=
  (θ_run defs _ _).mono (fun _ h c => ⟨(h c).1.trans final_3, (h c).2.1.trans final_4, (h c).2.2⟩) (run_post m ρ)

end Cert.AttnFwdIdeal.Pay
end
-- ==== Proof.Consts.lean ====
/- The real numbers that the programs' float constants denote. -/
module

public import Idealize.ShloMosaic.Lib.Pointwise

@[expose] public section

noncomputable section

open Idealize.ShloMosaic

namespace Cert.Consts

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

end Cert.Consts

end
-- ==== Proof.NormMath.lean ====
/- The gradient of a root-mean-square norm over the extended reals, in the two forms it is written. -/
module

public import Idealize.ShloMosaic.Lib.Pointwise
public import proofs.«01_k».proof.Proof.Consts

@[expose] public section

noncomputable section

open Idealize.ShloMosaic
open scoped BigOperators

namespace Cert.Norm

/-- A nonnegative real factor goes out of a sum. -/
theorem sum_mul_coe {n : ℕ} (f : Fin n → EReal) (r : ℝ) (hr : 0 ≤ r) : ∑ e, f e * (r : EReal) = (∑ e, f e) * (r : EReal) := by
  induction (Finset.univ : Finset (Fin n)) using Finset.induction_on with
  | empty => simp
  | insert a s ha ih =>
    rw [Finset.sum_insert ha, Finset.sum_insert ha, ih, EReal.right_distrib_of_nonneg_of_ne_top (by exact_mod_cast hr) (EReal.coe_ne_top r)]

theorem sq_nonneg (x : EReal) : 0 ≤ x * x := by
  rcases le_total 0 x with h | h
  · exact mul_nonneg h h
  · simpa using mul_nonneg (EReal.neg_nonneg.mpr h) (EReal.neg_nonneg.mpr h)

/-- The mean square with its small addend is positive. -/
theorem ms_pos {n : ℕ} (x : Fin n → EReal) (k ε : ℝ) (hk : 0 < k) (hε : 0 < ε) : 0 < Ideal.div (∑ e, x e * x e) (k : EReal) + (ε : EReal) := by
  rw [Ideal.div_coe hk.ne']
  refine lt_of_lt_of_le (by exact_mod_cast hε : (0 : EReal) < (ε : EReal)) ?_
  have hk' : (0 : ℝ) ≤ 1 / k := by positivity
  exact le_add_of_nonneg_left (mul_nonneg (Finset.sum_nonneg fun e _ => sq_nonneg _) (by exact_mod_cast hk'))

theorem twice (z : EReal) (h : ℝ) (hh : 0 ≤ h) : z * ((-h : ℝ) : EReal) + z * ((-h : ℝ) : EReal) = -(z * ((2 * h : ℝ) : EReal)) := by
  rw [EReal.coe_neg, mul_neg, ← neg_mul, ← EReal.left_distrib_of_nonneg (by exact_mod_cast hh) (by exact_mod_cast hh), ← EReal.coe_add, neg_mul, two_mul]

/-- The kernel's form is the differentiated form: `a` the cotangent times the weight, `s` the mean square plus its addend. -/
theorem bwd {n : ℕ} (x a : Fin n → EReal) (y : EReal) (k ε : ℝ) (hk : 0 < k) (hε : 0 < ε) (d : Fin n) (s : EReal)
    (hs : s = Ideal.div (∑ e, x e * x e) (k : EReal) + (ε : EReal)) :
    y + Ideal.rsqrt s * (a d - x d * Ideal.rsqrt s * Ideal.div (∑ e, a e * (x e * Ideal.rsqrt s)) (k : EReal))
      = y + a d * Ideal.rsqrt s + x d * Ideal.div ((∑ e, x e * a e) * (((-(1 / 2) : ℝ) : EReal) * Ideal.div (Ideal.rsqrt s) s)) (k : EReal)
        + Ideal.div ((∑ e, x e * a e) * (((-(1 / 2) : ℝ) : EReal) * Ideal.div (Ideal.rsqrt s) s)) (k : EReal) * x d := by
  have hp : 0 < s := hs ▸ ms_pos x k ε hk hε
  clear hs
  simp only [Ideal.div_coe hk.ne']
  induction s using EReal.rec with
  | bot => simp at hp
  | top =>
    have h0 : Ideal.div 0 (⊤ : EReal) = 0 := by simp [Ideal.div]
    simp [h0]
  | coe p =>
    have hp' : 0 < p := by exact_mod_cast hp
    have hr : Ideal.rsqrt (p : EReal) = (((Real.sqrt p)⁻¹ : ℝ) : EReal) := by
      rw [Ideal.rsqrt_coe, if_neg (by linarith), if_neg hp'.ne']
    rw [hr]
    have hq : 0 < (Real.sqrt p)⁻¹ := by positivity
    have hpp : 1 / p = (Real.sqrt p)⁻¹ * (Real.sqrt p)⁻¹ := by rw [← mul_inv, Real.mul_self_sqrt hp'.le, one_div]
    rw [Ideal.div_coe hp'.ne', hpp]
    generalize (Real.sqrt p)⁻¹ = ρ at hq
    have e1 : ∑ e, a e * (x e * (ρ : EReal)) = (∑ e, x e * a e) * (ρ : EReal) := by
      rw [← sum_mul_coe _ _ hq.le]
      exact Finset.sum_congr rfl fun e _ => by rw [← mul_assoc, mul_comm (a e)]
    rw [e1]
    generalize (∑ e, x e * a e) = S
    have hh : 0 ≤ ρ * (ρ * ρ) * (1 / 2) * (1 / k) := by positivity
    have hK : S * (((-(1 / 2) : ℝ) : EReal) * ((ρ : EReal) * ((ρ * ρ : ℝ) : EReal))) * ((1 / k : ℝ) : EReal) = S * ((-(ρ * (ρ * ρ) * (1 / 2) * (1 / k)) : ℝ) : EReal) := by
      rw [← EReal.coe_mul, ← EReal.coe_mul, mul_assoc, ← EReal.coe_mul]
      congr 2; ring
    rw [hK, sub_eq_add_neg, EReal.left_distrib_of_nonneg_of_ne_top (by exact_mod_cast hq.le) (EReal.coe_ne_top ρ), mul_comm (ρ : EReal) (a d),
      mul_comm (S * _) (x d), ← mul_assoc (x d), add_assoc (y + a d * ρ), twice _ _ hh, ← add_assoc]
    congr 1
    rw [mul_neg]
    congr 1
    rw [show (2 * (ρ * (ρ * ρ) * (1 / 2) * (1 / k)) : ℝ) = ρ * (ρ * (ρ * (1 / k))) by ring, EReal.coe_mul, EReal.coe_mul, EReal.coe_mul]
    ac_rfl

end Cert.Norm
-- ==== Proof.InHost.lean ====
/- The value of the input projection's gradient over the ideal floats: the gradient of the layer's input and of its norm's weight. -/
module

public import proofs.«01_k».proof.Proof.Gen.InBwdIdeal.Value
public import proofs.«01_k».proof.Proof.Gen.InBwdRefIdeal.Run
public import Idealize.ShloMosaic.Lib.Pipeline.ValueKit
public import Idealize.ShloMosaic.Lib.Pointwise
public import proofs.«01_k».proof.Proof.Consts

@[expose] public section

set_option maxRecDepth 16384

noncomputable section

open Idealize.ShloMosaic Idealize.ShloMosaic.TcCoe Idealize.SL.Sem
open Idealize.ShloMosaic.Pipeline (Dat)
open scoped BigOperators

namespace Cert.InBwdIdeal.InV

open Cert.InBwdIdeal Cert.InBwdIdeal.Gen

variable (m : (ℓ : Loc nD τ sig) → Buf (Elt Ideal) ℓ) (c : Dev nD)

theorem idx_in : ∀ t : Fin cfg0.N, win0_0.index t = ![t.val, 0] ∧ win0_1.index t = ![0, 0] ∧ win0_2.index t = ![0, 0, 0] ∧ win0_3.index t = ![0, t.val, 0]
    ∧ win0_4.index t = ![0, t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] :=
  (by decide +kernel : ∀ t : Fin grid0.N, _)

theorem lt16 (t : Fin cfg0.N) : t.val < 16 := lt_of_lt_of_eq t.isLt N_0

/-- One unit's columns of the projection's cotangent. -/
abbrev col (o : ℕ) (x : FVec Ideal S8192x7680 .f32) (h : S8192x7680.Slices ![0, o] S8192x512) : FVec Ideal S8192x512 .bf16 :=
  truncf .bf16 (extractStridedSlice S8192x512 ![0, o] x h) bitsLt_bf16_f32

/-- The three pre-activation units, stacked. -/
def hostPre (x : FVec Ideal S8192x7680 .f32) : FVec Ideal S3x8192x512 .bf16 :=
  concatenate S3x8192x512 0 [⟨S1x8192x512, broadcastInDim S1x8192x512 ![1, 2] bcast_S8192x512_S1x8192x512_1_2 (col 0 x slices_S8192x7680_S8192x512_0_0)⟩, ⟨S1x8192x512, broadcastInDim S1x8192x512 ![1, 2] bcast_S8192x512_S1x8192x512_1_2 (col 1024 x slices_S8192x7680_S8192x512_0_1024)⟩, ⟨S1x8192x512, broadcastInDim S1x8192x512 ![1, 2] bcast_S8192x512_S1x8192x512_1_2 (col 1536 x slices_S8192x7680_S8192x512_0_1536)⟩] concatenates_S1x8192x512_S1x8192x512_S1x8192x512_S3x8192x512_d0

/-- The nine gate units, stacked. -/
def hostGates (x : FVec Ideal S8192x7680 .f32) : FVec Ideal S9x8192x512 .bf16 :=
  concatenate S9x8192x512 0 [⟨S1x8192x512, broadcastInDim S1x8192x512 ![1, 2] bcast_S8192x512_S1x8192x512_1_2 (col 512 x slices_S8192x7680_S8192x512_0_512)⟩,
    ⟨S1x8192x512, broadcastInDim S1x8192x512 ![1, 2] bcast_S8192x512_S1x8192x512_1_2 (col 2048 x slices_S8192x7680_S8192x512_0_2048)⟩,
    ⟨S1x8192x512, broadcastInDim S1x8192x512 ![1, 2] bcast_S8192x512_S1x8192x512_1_2 (col 4096 x slices_S8192x7680_S8192x512_0_4096)⟩,
    ⟨S1x8192x512, broadcastInDim S1x8192x512 ![1, 2] bcast_S8192x512_S1x8192x512_1_2 (col 4608 x slices_S8192x7680_S8192x512_0_4608)⟩,
    ⟨S1x8192x512, broadcastInDim S1x8192x512 ![1, 2] bcast_S8192x512_S1x8192x512_1_2 (col 5120 x slices_S8192x7680_S8192x512_0_5120)⟩,
    ⟨S1x8192x512, broadcastInDim S1x8192x512 ![1, 2] bcast_S8192x512_S1x8192x512_1_2 (col 5632 x slices_S8192x7680_S8192x512_0_5632)⟩,
    ⟨S1x8192x512, broadcastInDim S1x8192x512 ![1, 2] bcast_S8192x512_S1x8192x512_1_2 (col 6144 x slices_S8192x7680_S8192x512_0_6144)⟩,
    ⟨S1x8192x512, broadcastInDim S1x8192x512 ![1, 2] bcast_S8192x512_S1x8192x512_1_2 (col 6656 x slices_S8192x7680_S8192x512_0_6656)⟩,
    ⟨S1x8192x512, broadcastInDim S1x8192x512 ![1, 2] bcast_S8192x512_S1x8192x512_1_2 (col 7168 x slices_S8192x7680_S8192x512_0_7168)⟩]
    concatenates_S1x8192x512_S1x8192x512_S1x8192x512_S1x8192x512_S1x8192x512_S1x8192x512_S1x8192x512_S1x8192x512_S1x8192x512_S9x8192x512_d0

section Stretch
variable (W : Valuation τ sig (Elt Ideal))

theorem s_v9 : StableHlo.after hostOps0 W (Proc.devRef .tc main_v9) = (hostPre (W (Proc.devRef .tc main_arg3)) : FVec Ideal S3x8192x512 .bf16) := by
  unfold_abbrev_sides
  after_results
  try rfl

theorem s_v37 : StableHlo.after hostOps0 W (Proc.devRef .tc main_v37) = (hostGates (W (Proc.devRef .tc main_arg3)) : FVec Ideal S9x8192x512 .bf16) := by
  unfold_abbrev_sides
  after_results
  try rfl

theorem s_v38 : StableHlo.after hostOps0 W (Proc.devRef .tc main_v38) = (broadcastInDim S1x1024 ![1] bcast_S1024_S1x1024_1 (W (Proc.devRef .tc main_arg1)) : FVec Ideal S1x1024 .f32) := by
  unfold_abbrev_sides
  after_results
  try rfl

theorem s_v40 : StableHlo.after hostOps0 W (Proc.devRef .tc main_v40) = (broadcastInDim S1x1024x7680 ![1, 2] bcast_S1024x7680_S1x1024x7680_1_2 (truncf .bf16 (W (Proc.devRef .tc main_arg2) : FVec Ideal S1024x7680 .f32) bitsLt_bf16_f32 : FVec Ideal S1024x7680 .bf16) : FVec Ideal S1x1024x7680 .bf16) := by
  unfold_abbrev_sides
  after_results
  try rfl

theorem s_v42 : StableHlo.after hostOps0 W (Proc.devRef .tc main_v42) = (col 2560 (W (Proc.devRef .tc main_arg3)) slices_S8192x7680_S8192x512_0_2560 : FVec Ideal S8192x512 .bf16) := by
  unfold_abbrev_sides
  after_results
  try rfl

theorem s_v44 : StableHlo.after hostOps0 W (Proc.devRef .tc main_v44) = (col 3072 (W (Proc.devRef .tc main_arg3)) slices_S8192x7680_S8192x512_0_3072 : FVec Ideal S8192x512 .bf16) := by
  unfold_abbrev_sides
  after_results
  try rfl

theorem s_v46 : StableHlo.after hostOps0 W (Proc.devRef .tc main_v46) = (col 3584 (W (Proc.devRef .tc main_arg3)) slices_S8192x7680_S8192x512_0_3584 : FVec Ideal S8192x512 .bf16) := by
  unfold_abbrev_sides
  after_results
  try rfl

end Stretch

theorem V9 : Gen.V m c main_v9 = hostPre (m ((c : Thread nD τ).loc main_arg3)) := s_v9 (StableHlo.launchContents m c)
theorem V37 : Gen.V m c main_v37 = hostGates (m ((c : Thread nD τ).loc main_arg3)) := s_v37 (StableHlo.launchContents m c)
theorem V38 : Gen.V m c main_v38 = (broadcastInDim S1x1024 ![1] bcast_S1024_S1x1024_1 (m ((c : Thread nD τ).loc main_arg1)) : FVec Ideal S1x1024 .f32) := s_v38 (StableHlo.launchContents m c)
theorem V40 : Gen.V m c main_v40 = (broadcastInDim S1x1024x7680 ![1, 2] bcast_S1024x7680_S1x1024x7680_1_2 (truncf .bf16 (m ((c : Thread nD τ).loc main_arg2) : FVec Ideal S1024x7680 .f32) bitsLt_bf16_f32 : FVec Ideal S1024x7680 .bf16) : FVec Ideal S1x1024x7680 .bf16) := s_v40 (StableHlo.launchContents m c)
theorem V42 : Gen.V m c main_v42 = col 2560 (m ((c : Thread nD τ).loc main_arg3)) slices_S8192x7680_S8192x512_0_2560 := s_v42 (StableHlo.launchContents m c)
theorem V44 : Gen.V m c main_v44 = col 3072 (m ((c : Thread nD τ).loc main_arg3)) slices_S8192x7680_S8192x512_0_3072 := s_v44 (StableHlo.launchContents m c)
theorem V46 : Gen.V m c main_v46 = col 3584 (m ((c : Thread nD τ).loc main_arg3)) slices_S8192x7680_S8192x512_0_3584 := s_v46 (StableHlo.launchContents m c)

/-- The cotangent's entries and the weight's. -/
abbrev dp (i e : ℕ) (hi : i < 8192) (he : e < 7680) : EReal := (m ((c : Thread nD τ).loc main_arg3) : FVec Ideal S8192x7680 .f32) (ix2 (⟨i, hi⟩ : Fin 8192) (⟨e, he⟩ : Fin 7680))
abbrev ww (d : Fin 1024) (e : ℕ) (he : e < 7680) : EReal := (m ((c : Thread nD τ).loc main_arg2) : FVec Ideal S1024x7680 .f32) (ix2 d (⟨e, he⟩ : Fin 7680))

variable (t : Fin cfg0.N) (i j : Fin 512) (d : Fin 1024)

theorem ldA_0 : View.ld (iblk m c 3 t) (Rect.unit ![0, 0, 0] ![1, 512, 512] inb_S3x512x512_S1x512x512_0_0_0) (ix3 0 i j)
    = dp m c (512 * t.val + i) (0 + j) (by have := lt16 t; omega) (by omega) := by
  have e : ((cfg0.win 3).blk t).view.emb (ix3 (0 : Fin 3) i j) = ix3 (0 : Fin 3) (⟨512 * t.val + i, by have := lt16 t; omega⟩ : Fin 8192) j := by
    blk_ext [idx_in t]
  have h : iblk m c 3 t (ix3 (0 : Fin 3) i j) = Gen.V m c main_v9 (((cfg0.win 3).blk t).view.emb (ix3 (0 : Fin 3) i j)) := rfl
  rw [e, V9] at h
  refine Eq.trans ?_ (h.trans ?_)
  · pointwise
  · pointwise [hostPre]

theorem ldA_2 : View.ld (iblk m c 3 t) (Rect.unit ![1, 0, 0] ![1, 512, 512] inb_S3x512x512_S1x512x512_1_0_0) (ix3 0 i j)
    = dp m c (512 * t.val + i) (1024 + j) (by have := lt16 t; omega) (by omega) := by
  have e : ((cfg0.win 3).blk t).view.emb (ix3 (1 : Fin 3) i j) = ix3 (1 : Fin 3) (⟨512 * t.val + i, by have := lt16 t; omega⟩ : Fin 8192) j := by
    blk_ext [idx_in t]
  have h : iblk m c 3 t (ix3 (1 : Fin 3) i j) = Gen.V m c main_v9 (((cfg0.win 3).blk t).view.emb (ix3 (1 : Fin 3) i j)) := rfl
  rw [e, V9] at h
  refine Eq.trans ?_ (h.trans ?_)
  · pointwise
  · pointwise [hostPre]

theorem ldA_3 : View.ld (iblk m c 3 t) (Rect.unit ![2, 0, 0] ![1, 512, 512] inb_S3x512x512_S1x512x512_2_0_0) (ix3 0 i j)
    = dp m c (512 * t.val + i) (1536 + j) (by have := lt16 t; omega) (by omega) := by
  have e : ((cfg0.win 3).blk t).view.emb (ix3 (2 : Fin 3) i j) = ix3 (2 : Fin 3) (⟨512 * t.val + i, by have := lt16 t; omega⟩ : Fin 8192) j := by
    blk_ext [idx_in t]
  have h : iblk m c 3 t (ix3 (2 : Fin 3) i j) = Gen.V m c main_v9 (((cfg0.win 3).blk t).view.emb (ix3 (2 : Fin 3) i j)) := rfl
  rw [e, V9] at h
  refine Eq.trans ?_ (h.trans ?_)
  · pointwise
  · pointwise [hostPre]

theorem ldA_1 : View.ld (iblk m c 4 t) (Rect.unit ![0, 0, 0] ![1, 512, 512] inb_S9x512x512_S1x512x512_0_0_0) (ix3 0 i j)
    = dp m c (512 * t.val + i) (512 + j) (by have := lt16 t; omega) (by omega) := by
  have e : ((cfg0.win 4).blk t).view.emb (ix3 (0 : Fin 9) i j) = ix3 (0 : Fin 9) (⟨512 * t.val + i, by have := lt16 t; omega⟩ : Fin 8192) j := by
    blk_ext [idx_in t]
  have h : iblk m c 4 t (ix3 (0 : Fin 9) i j) = Gen.V m c main_v37 (((cfg0.win 4).blk t).view.emb (ix3 (0 : Fin 9) i j)) := rfl
  rw [e, V37] at h
  refine Eq.trans ?_ (h.trans ?_)
  · pointwise
  · pointwise [hostGates]

theorem ldA_4 : View.ld (iblk m c 4 t) (Rect.unit ![1, 0, 0] ![1, 512, 512] inb_S9x512x512_S1x512x512_1_0_0) (ix3 0 i j)
    = dp m c (512 * t.val + i) (2048 + j) (by have := lt16 t; omega) (by omega) := by
  have e : ((cfg0.win 4).blk t).view.emb (ix3 (1 : Fin 9) i j) = ix3 (1 : Fin 9) (⟨512 * t.val + i, by have := lt16 t; omega⟩ : Fin 8192) j := by
    blk_ext [idx_in t]
  have h : iblk m c 4 t (ix3 (1 : Fin 9) i j) = Gen.V m c main_v37 (((cfg0.win 4).blk t).view.emb (ix3 (1 : Fin 9) i j)) := rfl
  rw [e, V37] at h
  refine Eq.trans ?_ (h.trans ?_)
  · pointwise
  · pointwise [hostGates]

theorem ldA_8 : View.ld (iblk m c 4 t) (Rect.unit ![2, 0, 0] ![1, 512, 512] inb_S9x512x512_S1x512x512_2_0_0) (ix3 0 i j)
    = dp m c (512 * t.val + i) (4096 + j) (by have := lt16 t; omega) (by omega) := by
  have e : ((cfg0.win 4).blk t).view.emb (ix3 (2 : Fin 9) i j) = ix3 (2 : Fin 9) (⟨512 * t.val + i, by have := lt16 t; omega⟩ : Fin 8192) j := by
    blk_ext [idx_in t]
  have h : iblk m c 4 t (ix3 (2 : Fin 9) i j) = Gen.V m c main_v37 (((cfg0.win 4).blk t).view.emb (ix3 (2 : Fin 9) i j)) := rfl
  rw [e, V37] at h
  refine Eq.trans ?_ (h.trans ?_)
  · pointwise
  · pointwise [hostGates]

theorem ldA_9 : View.ld (iblk m c 4 t) (Rect.unit ![3, 0, 0] ![1, 512, 512] inb_S9x512x512_S1x512x512_3_0_0) (ix3 0 i j)
    = dp m c (512 * t.val + i) (4608 + j) (by have := lt16 t; omega) (by omega) := by
  have e : ((cfg0.win 4).blk t).view.emb (ix3 (3 : Fin 9) i j) = ix3 (3 : Fin 9) (⟨512 * t.val + i, by have := lt16 t; omega⟩ : Fin 8192) j := by
    blk_ext [idx_in t]
  have h : iblk m c 4 t (ix3 (3 : Fin 9) i j) = Gen.V m c main_v37 (((cfg0.win 4).blk t).view.emb (ix3 (3 : Fin 9) i j)) := rfl
  rw [e, V37] at h
  refine Eq.trans ?_ (h.trans ?_)
  · pointwise
  · pointwise [hostGates]

theorem ldA_10 : View.ld (iblk m c 4 t) (Rect.unit ![4, 0, 0] ![1, 512, 512] inb_S9x512x512_S1x512x512_4_0_0) (ix3 0 i j)
    = dp m c (512 * t.val + i) (5120 + j) (by have := lt16 t; omega) (by omega) := by
  have e : ((cfg0.win 4).blk t).view.emb (ix3 (4 : Fin 9) i j) = ix3 (4 : Fin 9) (⟨512 * t.val + i, by have := lt16 t; omega⟩ : Fin 8192) j := by
    blk_ext [idx_in t]
  have h : iblk m c 4 t (ix3 (4 : Fin 9) i j) = Gen.V m c main_v37 (((cfg0.win 4).blk t).view.emb (ix3 (4 : Fin 9) i j)) := rfl
  rw [e, V37] at h
  refine Eq.trans ?_ (h.trans ?_)
  · pointwise
  · pointwise [hostGates]

theorem ldA_11 : View.ld (iblk m c 4 t) (Rect.unit ![5, 0, 0] ![1, 512, 512] inb_S9x512x512_S1x512x512_5_0_0) (ix3 0 i j)
    = dp m c (512 * t.val + i) (5632 + j) (by have := lt16 t; omega) (by omega) := by
  have e : ((cfg0.win 4).blk t).view.emb (ix3 (5 : Fin 9) i j) = ix3 (5 : Fin 9) (⟨512 * t.val + i, by have := lt16 t; omega⟩ : Fin 8192) j := by
    blk_ext [idx_in t]
  have h : iblk m c 4 t (ix3 (5 : Fin 9) i j) = Gen.V m c main_v37 (((cfg0.win 4).blk t).view.emb (ix3 (5 : Fin 9) i j)) := rfl
  rw [e, V37] at h
  refine Eq.trans ?_ (h.trans ?_)
  · pointwise
  · pointwise [hostGates]

theorem ldA_12 : View.ld (iblk m c 4 t) (Rect.unit ![6, 0, 0] ![1, 512, 512] inb_S9x512x512_S1x512x512_6_0_0) (ix3 0 i j)
    = dp m c (512 * t.val + i) (6144 + j) (by have := lt16 t; omega) (by omega) := by
  have e : ((cfg0.win 4).blk t).view.emb (ix3 (6 : Fin 9) i j) = ix3 (6 : Fin 9) (⟨512 * t.val + i, by have := lt16 t; omega⟩ : Fin 8192) j := by
    blk_ext [idx_in t]
  have h : iblk m c 4 t (ix3 (6 : Fin 9) i j) = Gen.V m c main_v37 (((cfg0.win 4).blk t).view.emb (ix3 (6 : Fin 9) i j)) := rfl
  rw [e, V37] at h
  refine Eq.trans ?_ (h.trans ?_)
  · pointwise
  · pointwise [hostGates]

theorem ldA_13 : View.ld (iblk m c 4 t) (Rect.unit ![7, 0, 0] ![1, 512, 512] inb_S9x512x512_S1x512x512_7_0_0) (ix3 0 i j)
    = dp m c (512 * t.val + i) (6656 + j) (by have := lt16 t; omega) (by omega) := by
  have e : ((cfg0.win 4).blk t).view.emb (ix3 (7 : Fin 9) i j) = ix3 (7 : Fin 9) (⟨512 * t.val + i, by have := lt16 t; omega⟩ : Fin 8192) j := by
    blk_ext [idx_in t]
  have h : iblk m c 4 t (ix3 (7 : Fin 9) i j) = Gen.V m c main_v37 (((cfg0.win 4).blk t).view.emb (ix3 (7 : Fin 9) i j)) := rfl
  rw [e, V37] at h
  refine Eq.trans ?_ (h.trans ?_)
  · pointwise
  · pointwise [hostGates]

theorem ldA_14 : View.ld (iblk m c 4 t) (Rect.unit ![8, 0, 0] ![1, 512, 512] inb_S9x512x512_S1x512x512_8_0_0) (ix3 0 i j)
    = dp m c (512 * t.val + i) (7168 + j) (by have := lt16 t; omega) (by omega) := by
  have e : ((cfg0.win 4).blk t).view.emb (ix3 (8 : Fin 9) i j) = ix3 (8 : Fin 9) (⟨512 * t.val + i, by have := lt16 t; omega⟩ : Fin 8192) j := by
    blk_ext [idx_in t]
  have h : iblk m c 4 t (ix3 (8 : Fin 9) i j) = Gen.V m c main_v37 (((cfg0.win 4).blk t).view.emb (ix3 (8 : Fin 9) i j)) := rfl
  rw [e, V37] at h
  refine Eq.trans ?_ (h.trans ?_)
  · pointwise
  · pointwise [hostGates]

theorem ldA_5 : iblk m c 5 t (ix2 i j) = dp m c (512 * t.val + i) (2560 + j) (by have := lt16 t; omega) (by omega) := by
  have e : ((cfg0.win 5).blk t).view.emb (ix2 i j) = ix2 (⟨512 * t.val + i, by have := lt16 t; omega⟩ : Fin 8192) j := by
    blk_ext [idx_in t]
  have h : iblk m c 5 t (ix2 i j) = Gen.V m c main_v42 (((cfg0.win 5).blk t).view.emb (ix2 i j)) := rfl
  rw [e, V42] at h
  refine h.trans ?_
  pointwise

theorem ldA_6 : iblk m c 6 t (ix2 i j) = dp m c (512 * t.val + i) (3072 + j) (by have := lt16 t; omega) (by omega) := by
  have e : ((cfg0.win 6).blk t).view.emb (ix2 i j) = ix2 (⟨512 * t.val + i, by have := lt16 t; omega⟩ : Fin 8192) j := by
    blk_ext [idx_in t]
  have h : iblk m c 6 t (ix2 i j) = Gen.V m c main_v44 (((cfg0.win 6).blk t).view.emb (ix2 i j)) := rfl
  rw [e, V44] at h
  refine h.trans ?_
  pointwise

theorem ldA_7 : iblk m c 7 t (ix2 i j) = dp m c (512 * t.val + i) (3584 + j) (by have := lt16 t; omega) (by omega) := by
  have e : ((cfg0.win 7).blk t).view.emb (ix2 i j) = ix2 (⟨512 * t.val + i, by have := lt16 t; omega⟩ : Fin 8192) j := by
    blk_ext [idx_in t]
  have h : iblk m c 7 t (ix2 i j) = Gen.V m c main_v46 (((cfg0.win 7).blk t).view.emb (ix2 i j)) := rfl
  rw [e, V46] at h
  refine h.trans ?_
  pointwise

theorem ldB_0 : View.ld (iblk m c 2 t) (Rect.unit ![0, 0, 0] ![1, 1024, 512] inb_S1x1024x7680_S1x1024x512_0_0_0) (ix3 0 d j)
    = ww m c d (0 + j) (by omega) := by
  have e : ((cfg0.win 2).blk t).view.emb (ix3 (0 : Fin 1) d (⟨0 + j, by omega⟩ : Fin 7680)) = ix3 (0 : Fin 1) d (⟨0 + j, by omega⟩ : Fin 7680) := by
    blk_ext [idx_in t]
  have h : iblk m c 2 t (ix3 (0 : Fin 1) d (⟨0 + j, by omega⟩ : Fin 7680)) = Gen.V m c main_v40 (((cfg0.win 2).blk t).view.emb (ix3 (0 : Fin 1) d (⟨0 + j, by omega⟩ : Fin 7680))) := rfl
  rw [e, V40] at h
  refine Eq.trans ?_ (h.trans ?_)
  · pointwise
  · pointwise

theorem ldB_1 : View.ld (iblk m c 2 t) (Rect.unit ![0, 0, 512] ![1, 1024, 512] inb_S1x1024x7680_S1x1024x512_0_0_512) (ix3 0 d j)
    = ww m c d (512 + j) (by omega) := by
  have e : ((cfg0.win 2).blk t).view.emb (ix3 (0 : Fin 1) d (⟨512 + j, by omega⟩ : Fin 7680)) = ix3 (0 : Fin 1) d (⟨512 + j, by omega⟩ : Fin 7680) := by
    blk_ext [idx_in t]
  have h : iblk m c 2 t (ix3 (0 : Fin 1) d (⟨512 + j, by omega⟩ : Fin 7680)) = Gen.V m c main_v40 (((cfg0.win 2).blk t).view.emb (ix3 (0 : Fin 1) d (⟨512 + j, by omega⟩ : Fin 7680))) := rfl
  rw [e, V40] at h
  refine Eq.trans ?_ (h.trans ?_)
  · pointwise
  · pointwise

theorem ldB_2 : View.ld (iblk m c 2 t) (Rect.unit ![0, 0, 1024] ![1, 1024, 512] inb_S1x1024x7680_S1x1024x512_0_0_1024) (ix3 0 d j)
    = ww m c d (1024 + j) (by omega) := by
  have e : ((cfg0.win 2).blk t).view.emb (ix3 (0 : Fin 1) d (⟨1024 + j, by omega⟩ : Fin 7680)) = ix3 (0 : Fin 1) d (⟨1024 + j, by omega⟩ : Fin 7680) := by
    blk_ext [idx_in t]
  have h : iblk m c 2 t (ix3 (0 : Fin 1) d (⟨1024 + j, by omega⟩ : Fin 7680)) = Gen.V m c main_v40 (((cfg0.win 2).blk t).view.emb (ix3 (0 : Fin 1) d (⟨1024 + j, by omega⟩ : Fin 7680))) := rfl
  rw [e, V40] at h
  refine Eq.trans ?_ (h.trans ?_)
  · pointwise
  · pointwise

theorem ldB_3 : View.ld (iblk m c 2 t) (Rect.unit ![0, 0, 1536] ![1, 1024, 512] inb_S1x1024x7680_S1x1024x512_0_0_1536) (ix3 0 d j)
    = ww m c d (1536 + j) (by omega) := by
  have e : ((cfg0.win 2).blk t).view.emb (ix3 (0 : Fin 1) d (⟨1536 + j, by omega⟩ : Fin 7680)) = ix3 (0 : Fin 1) d (⟨1536 + j, by omega⟩ : Fin 7680) := by
    blk_ext [idx_in t]
  have h : iblk m c 2 t (ix3 (0 : Fin 1) d (⟨1536 + j, by omega⟩ : Fin 7680)) = Gen.V m c main_v40 (((cfg0.win 2).blk t).view.emb (ix3 (0 : Fin 1) d (⟨1536 + j, by omega⟩ : Fin 7680))) := rfl
  rw [e, V40] at h
  refine Eq.trans ?_ (h.trans ?_)
  · pointwise
  · pointwise

theorem ldB_4 : View.ld (iblk m c 2 t) (Rect.unit ![0, 0, 2048] ![1, 1024, 512] inb_S1x1024x7680_S1x1024x512_0_0_2048) (ix3 0 d j)
    = ww m c d (2048 + j) (by omega) := by
  have e : ((cfg0.win 2).blk t).view.emb (ix3 (0 : Fin 1) d (⟨2048 + j, by omega⟩ : Fin 7680)) = ix3 (0 : Fin 1) d (⟨2048 + j, by omega⟩ : Fin 7680) := by
    blk_ext [idx_in t]
  have h : iblk m c 2 t (ix3 (0 : Fin 1) d (⟨2048 + j, by omega⟩ : Fin 7680)) = Gen.V m c main_v40 (((cfg0.win 2).blk t).view.emb (ix3 (0 : Fin 1) d (⟨2048 + j, by omega⟩ : Fin 7680))) := rfl
  rw [e, V40] at h
  refine Eq.trans ?_ (h.trans ?_)
  · pointwise
  · pointwise

theorem ldB_5 : View.ld (iblk m c 2 t) (Rect.unit ![0, 0, 2560] ![1, 1024, 512] inb_S1x1024x7680_S1x1024x512_0_0_2560) (ix3 0 d j)
    = ww m c d (2560 + j) (by omega) := by
  have e : ((cfg0.win 2).blk t).view.emb (ix3 (0 : Fin 1) d (⟨2560 + j, by omega⟩ : Fin 7680)) = ix3 (0 : Fin 1) d (⟨2560 + j, by omega⟩ : Fin 7680) := by
    blk_ext [idx_in t]
  have h : iblk m c 2 t (ix3 (0 : Fin 1) d (⟨2560 + j, by omega⟩ : Fin 7680)) = Gen.V m c main_v40 (((cfg0.win 2).blk t).view.emb (ix3 (0 : Fin 1) d (⟨2560 + j, by omega⟩ : Fin 7680))) := rfl
  rw [e, V40] at h
  refine Eq.trans ?_ (h.trans ?_)
  · pointwise
  · pointwise

theorem ldB_6 : View.ld (iblk m c 2 t) (Rect.unit ![0, 0, 3072] ![1, 1024, 512] inb_S1x1024x7680_S1x1024x512_0_0_3072) (ix3 0 d j)
    = ww m c d (3072 + j) (by omega) := by
  have e : ((cfg0.win 2).blk t).view.emb (ix3 (0 : Fin 1) d (⟨3072 + j, by omega⟩ : Fin 7680)) = ix3 (0 : Fin 1) d (⟨3072 + j, by omega⟩ : Fin 7680) := by
    blk_ext [idx_in t]
  have h : iblk m c 2 t (ix3 (0 : Fin 1) d (⟨3072 + j, by omega⟩ : Fin 7680)) = Gen.V m c main_v40 (((cfg0.win 2).blk t).view.emb (ix3 (0 : Fin 1) d (⟨3072 + j, by omega⟩ : Fin 7680))) := rfl
  rw [e, V40] at h
  refine Eq.trans ?_ (h.trans ?_)
  · pointwise
  · pointwise

theorem ldB_7 : View.ld (iblk m c 2 t) (Rect.unit ![0, 0, 3584] ![1, 1024, 512] inb_S1x1024x7680_S1x1024x512_0_0_3584) (ix3 0 d j)
    = ww m c d (3584 + j) (by omega) := by
  have e : ((cfg0.win 2).blk t).view.emb (ix3 (0 : Fin 1) d (⟨3584 + j, by omega⟩ : Fin 7680)) = ix3 (0 : Fin 1) d (⟨3584 + j, by omega⟩ : Fin 7680) := by
    blk_ext [idx_in t]
  have h : iblk m c 2 t (ix3 (0 : Fin 1) d (⟨3584 + j, by omega⟩ : Fin 7680)) = Gen.V m c main_v40 (((cfg0.win 2).blk t).view.emb (ix3 (0 : Fin 1) d (⟨3584 + j, by omega⟩ : Fin 7680))) := rfl
  rw [e, V40] at h
  refine Eq.trans ?_ (h.trans ?_)
  · pointwise
  · pointwise

theorem ldB_8 : View.ld (iblk m c 2 t) (Rect.unit ![0, 0, 4096] ![1, 1024, 512] inb_S1x1024x7680_S1x1024x512_0_0_4096) (ix3 0 d j)
    = ww m c d (4096 + j) (by omega) := by
  have e : ((cfg0.win 2).blk t).view.emb (ix3 (0 : Fin 1) d (⟨4096 + j, by omega⟩ : Fin 7680)) = ix3 (0 : Fin 1) d (⟨4096 + j, by omega⟩ : Fin 7680) := by
    blk_ext [idx_in t]
  have h : iblk m c 2 t (ix3 (0 : Fin 1) d (⟨4096 + j, by omega⟩ : Fin 7680)) = Gen.V m c main_v40 (((cfg0.win 2).blk t).view.emb (ix3 (0 : Fin 1) d (⟨4096 + j, by omega⟩ : Fin 7680))) := rfl
  rw [e, V40] at h
  refine Eq.trans ?_ (h.trans ?_)
  · pointwise
  · pointwise

theorem ldB_9 : View.ld (iblk m c 2 t) (Rect.unit ![0, 0, 4608] ![1, 1024, 512] inb_S1x1024x7680_S1x1024x512_0_0_4608) (ix3 0 d j)
    = ww m c d (4608 + j) (by omega) := by
  have e : ((cfg0.win 2).blk t).view.emb (ix3 (0 : Fin 1) d (⟨4608 + j, by omega⟩ : Fin 7680)) = ix3 (0 : Fin 1) d (⟨4608 + j, by omega⟩ : Fin 7680) := by
    blk_ext [idx_in t]
  have h : iblk m c 2 t (ix3 (0 : Fin 1) d (⟨4608 + j, by omega⟩ : Fin 7680)) = Gen.V m c main_v40 (((cfg0.win 2).blk t).view.emb (ix3 (0 : Fin 1) d (⟨4608 + j, by omega⟩ : Fin 7680))) := rfl
  rw [e, V40] at h
  refine Eq.trans ?_ (h.trans ?_)
  · pointwise
  · pointwise

theorem ldB_10 : View.ld (iblk m c 2 t) (Rect.unit ![0, 0, 5120] ![1, 1024, 512] inb_S1x1024x7680_S1x1024x512_0_0_5120) (ix3 0 d j)
    = ww m c d (5120 + j) (by omega) := by
  have e : ((cfg0.win 2).blk t).view.emb (ix3 (0 : Fin 1) d (⟨5120 + j, by omega⟩ : Fin 7680)) = ix3 (0 : Fin 1) d (⟨5120 + j, by omega⟩ : Fin 7680) := by
    blk_ext [idx_in t]
  have h : iblk m c 2 t (ix3 (0 : Fin 1) d (⟨5120 + j, by omega⟩ : Fin 7680)) = Gen.V m c main_v40 (((cfg0.win 2).blk t).view.emb (ix3 (0 : Fin 1) d (⟨5120 + j, by omega⟩ : Fin 7680))) := rfl
  rw [e, V40] at h
  refine Eq.trans ?_ (h.trans ?_)
  · pointwise
  · pointwise

theorem ldB_11 : View.ld (iblk m c 2 t) (Rect.unit ![0, 0, 5632] ![1, 1024, 512] inb_S1x1024x7680_S1x1024x512_0_0_5632) (ix3 0 d j)
    = ww m c d (5632 + j) (by omega) := by
  have e : ((cfg0.win 2).blk t).view.emb (ix3 (0 : Fin 1) d (⟨5632 + j, by omega⟩ : Fin 7680)) = ix3 (0 : Fin 1) d (⟨5632 + j, by omega⟩ : Fin 7680) := by
    blk_ext [idx_in t]
  have h : iblk m c 2 t (ix3 (0 : Fin 1) d (⟨5632 + j, by omega⟩ : Fin 7680)) = Gen.V m c main_v40 (((cfg0.win 2).blk t).view.emb (ix3 (0 : Fin 1) d (⟨5632 + j, by omega⟩ : Fin 7680))) := rfl
  rw [e, V40] at h
  refine Eq.trans ?_ (h.trans ?_)
  · pointwise
  · pointwise

theorem ldB_12 : View.ld (iblk m c 2 t) (Rect.unit ![0, 0, 6144] ![1, 1024, 512] inb_S1x1024x7680_S1x1024x512_0_0_6144) (ix3 0 d j)
    = ww m c d (6144 + j) (by omega) := by
  have e : ((cfg0.win 2).blk t).view.emb (ix3 (0 : Fin 1) d (⟨6144 + j, by omega⟩ : Fin 7680)) = ix3 (0 : Fin 1) d (⟨6144 + j, by omega⟩ : Fin 7680) := by
    blk_ext [idx_in t]
  have h : iblk m c 2 t (ix3 (0 : Fin 1) d (⟨6144 + j, by omega⟩ : Fin 7680)) = Gen.V m c main_v40 (((cfg0.win 2).blk t).view.emb (ix3 (0 : Fin 1) d (⟨6144 + j, by omega⟩ : Fin 7680))) := rfl
  rw [e, V40] at h
  refine Eq.trans ?_ (h.trans ?_)
  · pointwise
  · pointwise

theorem ldB_13 : View.ld (iblk m c 2 t) (Rect.unit ![0, 0, 6656] ![1, 1024, 512] inb_S1x1024x7680_S1x1024x512_0_0_6656) (ix3 0 d j)
    = ww m c d (6656 + j) (by omega) := by
  have e : ((cfg0.win 2).blk t).view.emb (ix3 (0 : Fin 1) d (⟨6656 + j, by omega⟩ : Fin 7680)) = ix3 (0 : Fin 1) d (⟨6656 + j, by omega⟩ : Fin 7680) := by
    blk_ext [idx_in t]
  have h : iblk m c 2 t (ix3 (0 : Fin 1) d (⟨6656 + j, by omega⟩ : Fin 7680)) = Gen.V m c main_v40 (((cfg0.win 2).blk t).view.emb (ix3 (0 : Fin 1) d (⟨6656 + j, by omega⟩ : Fin 7680))) := rfl
  rw [e, V40] at h
  refine Eq.trans ?_ (h.trans ?_)
  · pointwise
  · pointwise

theorem ldB_14 : View.ld (iblk m c 2 t) (Rect.unit ![0, 0, 7168] ![1, 1024, 512] inb_S1x1024x7680_S1x1024x512_0_0_7168) (ix3 0 d j)
    = ww m c d (7168 + j) (by omega) := by
  have e : ((cfg0.win 2).blk t).view.emb (ix3 (0 : Fin 1) d (⟨7168 + j, by omega⟩ : Fin 7680)) = ix3 (0 : Fin 1) d (⟨7168 + j, by omega⟩ : Fin 7680) := by
    blk_ext [idx_in t]
  have h : iblk m c 2 t (ix3 (0 : Fin 1) d (⟨7168 + j, by omega⟩ : Fin 7680)) = Gen.V m c main_v40 (((cfg0.win 2).blk t).view.emb (ix3 (0 : Fin 1) d (⟨7168 + j, by omega⟩ : Fin 7680))) := rfl
  rw [e, V40] at h
  refine Eq.trans ?_ (h.trans ?_)
  · pointwise
  · pointwise

theorem ld_x : iblk m c 0 t (ix2 i d) = (m ((c : Thread nD τ).loc main_arg0) : FVec Ideal S8192x1024 .f32) (ix2 (⟨512 * t.val + i, by have := lt16 t; omega⟩ : Fin 8192) d) := by
  blk_point [iblk, Gen.V, idx_in t]

theorem ld_n : iblk m c 8 t (ix2 i d) = (m ((c : Thread nD τ).loc main_arg4) : FVec Ideal S8192x1024 .f32) (ix2 (⟨512 * t.val + i, by have := lt16 t; omega⟩ : Fin 8192) d) := by
  blk_point [iblk, Gen.V, idx_in t]

theorem ld_g : iblk m c 1 t (ix2 0 d) = (m ((c : Thread nD τ).loc main_arg1) : FVec Ideal S1024 .f32) (ix1 d) := by
  have e : ((cfg0.win 1).blk t).view.emb (ix2 (0 : Fin 1) d) = ix2 (0 : Fin 1) d := by
    blk_ext [idx_in t]
  have h : iblk m c 1 t (ix2 0 d) = Gen.V m c main_v38 (((cfg0.win 1).blk t).view.emb (ix2 (0 : Fin 1) d)) := rfl
  rw [e, V38] at h
  refine h.trans ?_
  pointwise

end Cert.InBwdIdeal.InV
-- ==== Proof.InPay.lean ====
/- The value of the input projection's gradient over the ideal floats: the gradient of the layer's input and of its norm's weight. -/
module

public import proofs.«01_k».proof.Proof.Gen.InBwdIdeal.Value
public import proofs.«01_k».proof.Proof.Gen.InBwdRefIdeal.Run
public import Idealize.ShloMosaic.Lib.Pipeline.ValueKit
public import Idealize.ShloMosaic.Lib.Pointwise
public import proofs.«01_k».proof.Proof.Consts
public import proofs.«01_k».proof.Proof.InHost

@[expose] public section

set_option maxRecDepth 16384

noncomputable section

open Idealize.ShloMosaic Idealize.ShloMosaic.TcCoe Idealize.SL.Sem
open Idealize.ShloMosaic.Pipeline (Dat)
open scoped BigOperators

namespace Cert.InBwdIdeal.InV

open Cert.InBwdIdeal Cert.InBwdIdeal.Gen

variable (m : (ℓ : Loc nD τ sig) → Buf (Elt Ideal) ℓ) (c : Dev nD)

/-- One unit's product, its cotangent block three-dimensional or two-dimensional. -/
abbrev p3 (A : Vec Ideal S1x512x512 .bf16) (B : Vec Ideal S1x1024x512 .bf16) (i : Fin 512) (d : Fin 1024) : EReal := ∑ j : Fin 512, A (ix3 0 i j) * B (ix3 0 d j)
abbrev p2 (A : Vec Ideal S512x512 .bf16) (B : Vec Ideal S1x1024x512 .bf16) (i : Fin 512) (d : Fin 1024) : EReal := ∑ j : Fin 512, A (ix2 i j) * B (ix3 0 d j)

theorem pay3_at (A0 B0 A1 B1 A2 B2) (i : Fin 512) (d : Fin 1024) :
    k0_pay3 A0 B0 A1 B1 A2 B2 (ix2 i d) = p3 A0 B0 i d + p3 A1 B1 i d + p3 A2 B2 i d := by
  pointwise [k0_pay3]
theorem pay4_at (A B) (i : Fin 512) (d : Fin 1024) : k0_pay4 A B (ix2 i d) = p3 A B i d := by
  pointwise [k0_pay4]
theorem pay5_at (a b A4 B4 A5 B5 A6 B6 A7 B7) (i : Fin 512) (d : Fin 1024) :
    k0_pay5 a b A4 B4 A5 B5 A6 B6 A7 B7 (ix2 i d) = a (ix2 i d) + b (ix2 i d) + p3 A4 B4 i d + p2 A5 B5 i d + p2 A6 B6 i d + p2 A7 B7 i d := by
  pointwise [k0_pay5]
theorem pay8_at (a A8 B8 A9 B9 A10 B10 A11 B11 A12 B12) (i : Fin 512) (d : Fin 1024) :
    k0_pay8 a (k0_pay6 A8) (k0_pay7 B8) A9 B9 A10 B10 A11 B11 A12 B12 (ix2 i d) = a (ix2 i d) + p3 A8 B8 i d + p3 A9 B9 i d + p3 A10 B10 i d + p3 A11 B11 i d + p3 A12 B12 i d := by
  pointwise [k0_pay8, k0_pay7, k0_pay6]
theorem pay10_at (a A13 B13 A14 B14) (i : Fin 512) (d : Fin 1024) :
    k0_pay10 a (k0_pay9 A13) B13 A14 B14 (ix2 i d) = a (ix2 i d) + p3 A13 B13 i d + p3 A14 B14 i d := by
  pointwise [k0_pay10, k0_pay9]

/-- The norm's reciprocal root at a row. -/
def rr (x : Fin 1024 → EReal) : EReal := Ideal.rsqrt (Ideal.div (∑ e, x e * x e) ((1024 : ℝ) : EReal) + Ideal.ofBits .f32 0x358637BD#32)

theorem pay11_at (x : Vec Ideal S512x1024 .f32) (i : Fin 512) : k0_pay11 x (ix2 i 0) = rr (fun e => x (ix2 i e)) := by
  pointwise [k0_pay11, rr, Consts.c1024]

theorem pay12_at (x : Vec Ideal S512x1024 .f32) (i : Fin 512) (d : Fin 1024) : k0_pay12 x (ix2 i d) = x (ix2 i d) * rr (fun e => x (ix2 i e)) := by
  pointwise [k0_pay12, pay11_at]

theorem pay2_at (d : Fin 1024) : k0_pay2 (F := Ideal) (ix2 0 d) = 0 := by
  pointwise [k0_pay2]

theorem pay13_at (v81 v83 v84 v88 v90) (x : Vec Ideal S512x1024 .f32) (o : Vec Ideal S1x1024 .f32) (d : Fin 1024) :
    k0_pay13 v81 v83 v84 v88 v90 x o (ix2 0 d) = o (ix2 0 d) + ∑ i : Fin 512, k0_pay10 (F := Ideal) v81 v83 v84 v88 v90 (ix2 i d) * (x (ix2 i d) * rr (fun e => x (ix2 i e))) := by
  pointwise [k0_pay13, pay12_at]

theorem pay1_at (r : FVec Ideal S512x1 .f32) (xh dxh n pr : FVec Ideal S512x1024 .f32) (i : Fin 512) (d : Fin 1024) :
    k0_pay1 r xh dxh n pr (ix2 i d) = n (ix2 i d) + r (ix2 i 0) * (dxh (ix2 i d) - xh (ix2 i d) * Ideal.div (∑ e : Fin 1024, pr (ix2 i e)) ((1024 : ℝ) : EReal)) := by
  pointwise [k0_pay1, Consts.c1024]

theorem pay14_at (v81 v83 v84 v88 v90) (g : Vec Ideal S1x1024 .f32) (i : Fin 512) (d : Fin 1024) :
    k0_pay14 v81 v83 v84 v88 v90 g (ix2 i d) = k0_pay10 (F := Ideal) v81 v83 v84 v88 v90 (ix2 i d) * g (ix2 0 d) := by
  pointwise [k0_pay14]

theorem pay15_at (v81 v83 v84 v88 v90) (x : Vec Ideal S512x1024 .f32) (g : Vec Ideal S1x1024 .f32) (i : Fin 512) (d : Fin 1024) :
    k0_pay15 v81 v83 v84 v88 v90 x g (ix2 i d) = k0_pay10 (F := Ideal) v81 v83 v84 v88 v90 (ix2 i d) * g (ix2 0 d) * (x (ix2 i d) * rr (fun e => x (ix2 i e))) := by
  pointwise [k0_pay15, pay14_at, pay12_at]

/-- Fifteen sums of 512 products, one after the other, are one sum of 7680. -/
theorem sum_units (D W : Fin 7680 → EReal) :
    ∑ e : Fin 7680, D e * W e = ∑ j : Fin 512, D ⟨0 + j.val, by omega⟩ * W ⟨0 + j.val, by omega⟩ + ∑ j : Fin 512, D ⟨512 + j.val, by omega⟩ * W ⟨512 + j.val, by omega⟩ + ∑ j : Fin 512, D ⟨1024 + j.val, by omega⟩ * W ⟨1024 + j.val, by omega⟩ + ∑ j : Fin 512, D ⟨1536 + j.val, by omega⟩ * W ⟨1536 + j.val, by omega⟩ + ∑ j : Fin 512, D ⟨2048 + j.val, by omega⟩ * W ⟨2048 + j.val, by omega⟩ + ∑ j : Fin 512, D ⟨2560 + j.val, by omega⟩ * W ⟨2560 + j.val, by omega⟩ + ∑ j : Fin 512, D ⟨3072 + j.val, by omega⟩ * W ⟨3072 + j.val, by omega⟩ + ∑ j : Fin 512, D ⟨3584 + j.val, by omega⟩ * W ⟨3584 + j.val, by omega⟩ + ∑ j : Fin 512, D ⟨4096 + j.val, by omega⟩ * W ⟨4096 + j.val, by omega⟩ + ∑ j : Fin 512, D ⟨4608 + j.val, by omega⟩ * W ⟨4608 + j.val, by omega⟩ + ∑ j : Fin 512, D ⟨5120 + j.val, by omega⟩ * W ⟨5120 + j.val, by omega⟩ + ∑ j : Fin 512, D ⟨5632 + j.val, by omega⟩ * W ⟨5632 + j.val, by omega⟩ + ∑ j : Fin 512, D ⟨6144 + j.val, by omega⟩ * W ⟨6144 + j.val, by omega⟩ + ∑ j : Fin 512, D ⟨6656 + j.val, by omega⟩ * W ⟨6656 + j.val, by omega⟩ + ∑ j : Fin 512, D ⟨7168 + j.val, by omega⟩ * W ⟨7168 + j.val, by omega⟩ := by
  have hs : (∑ s : Fin 15, ∑ j : Fin 512, D ⟨s.val * 512 + j.val, by omega⟩ * W ⟨s.val * 512 + j.val, by omega⟩) = ∑ e : Fin 7680, D e * W e :=
    Fin.sum_mul_add_congr (M := EReal) (S := 15) (n := 512) (L := 7680) fun s k hl => rfl
  rw [← hs]
  simp only [Fin.sum_univ_castSucc (n := 14), Fin.sum_univ_castSucc (n := 13), Fin.sum_univ_castSucc (n := 12), Fin.sum_univ_castSucc (n := 11), Fin.sum_univ_castSucc (n := 10), Fin.sum_univ_castSucc (n := 9), Fin.sum_univ_castSucc (n := 8), Fin.sum_univ_castSucc (n := 7), Fin.sum_univ_castSucc (n := 6), Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero, zero_add]
  rfl

end Cert.InBwdIdeal.InV
-- ==== Proof.InValue.lean ====
/- The value of the input projection's gradient over the ideal floats: the gradient of the layer's input and of its norm's weight. -/
module

public import proofs.«01_k».proof.Proof.Gen.InBwdIdeal.Value
public import proofs.«01_k».proof.Proof.Gen.InBwdRefIdeal.Run
public import Idealize.ShloMosaic.Lib.Pipeline.ValueKit
public import Idealize.ShloMosaic.Lib.Pointwise
public import proofs.«01_k».proof.Proof.NormMath
public import proofs.«01_k».proof.Proof.InPay

@[expose] public section

set_option maxRecDepth 16384

noncomputable section

open Idealize.ShloMosaic Idealize.ShloMosaic.TcCoe Idealize.SL.Sem
open Idealize.ShloMosaic.Pipeline (Dat)
open scoped BigOperators

namespace Cert.InBwdIdeal.InV

open Cert.InBwdIdeal Cert.InBwdIdeal.Gen

variable (m : (ℓ : Loc nD τ sig) → Buf (Elt Ideal) ℓ) (c : Dev nD)

/-- The gradient of the layer's input from the five arrays, row by row. -/
def outX (X : FVec Ideal S8192x1024 .f32) (G : FVec Ideal S1024 .f32) (W : FVec Ideal S1024x7680 .f32) (P : FVec Ideal S8192x7680 .f32) (N : FVec Ideal S8192x1024 .f32) :
    FVec Ideal S8192x1024 .f32 := fun y =>
  N (ix2 (y 0) (y 1)) + rr (fun d => X (ix2 (y 0) d)) * ((∑ e : Fin 7680, P (ix2 (y 0) e) * W (ix2 (y 1) e)) * G (ix1 (y 1))
    - X (ix2 (y 0) (y 1)) * rr (fun d => X (ix2 (y 0) d)) * Ideal.div (∑ d : Fin 1024, (∑ e : Fin 7680, P (ix2 (y 0) e) * W (ix2 d e)) * G (ix1 d) * (X (ix2 (y 0) d) * rr (fun d => X (ix2 (y 0) d)))) ((1024 : ℝ) : EReal))

/-- The gradient of the norm's weight. -/
def outG (X : FVec Ideal S8192x1024 .f32) (W : FVec Ideal S1024x7680 .f32) (P : FVec Ideal S8192x7680 .f32) : FVec Ideal S1x1024 .f32 :=
  fun y => ∑ i : Fin 8192, (∑ e : Fin 7680, P (ix2 i e) * W (ix2 (y 1) e)) * (X (ix2 i (y 1)) * rr (fun d => X (ix2 i d)))

/-- The kernel's arguments, read as matrices. -/
abbrev aX : FVec Ideal S8192x1024 .f32 := m ((c.tc : Thread nD τ).loc main_arg0)
abbrev aG : FVec Ideal S1024 .f32 := m ((c.tc : Thread nD τ).loc main_arg1)
abbrev aW : FVec Ideal S1024x7680 .f32 := m ((c.tc : Thread nD τ).loc main_arg2)
abbrev aP : FVec Ideal S8192x7680 .f32 := m ((c.tc : Thread nD τ).loc main_arg3)
abbrev aN : FVec Ideal S8192x1024 .f32 := m ((c.tc : Thread nD τ).loc main_arg4)
abbrev gx (i : Fin 8192) (d : Fin 1024) : EReal := aX m c (ix2 i d)
abbrev gn (i : Fin 8192) (d : Fin 1024) : EReal := aN m c (ix2 i d)
abbrev gg (d : Fin 1024) : EReal := aG m c (ix1 d)
abbrev gdh (i : Fin 8192) (d : Fin 1024) : EReal :=
  ∑ e : Fin 7680, aP m c (ix2 i e) * aW m c (ix2 d e)

/-- A row of the block at point `t`. -/
abbrev row (t : Fin cfg0.N) (i : Fin 512) : Fin 8192 := ⟨512 * t.val + i, by have := lt16 t; omega⟩

/-- The gradient of the normed input at a point. -/
abbrev kdh (t : Fin cfg0.N) : FVec Ideal S512x1024 .f32 := k0_pay10 (k0_pay8 (k0_pay5 (k0_pay3 (View.ld (iblk m c 3 t) (Rect.unit ![0, 0, 0] ![1, 512, 512] inb_S3x512x512_S1x512x512_0_0_0)) (View.ld (iblk m c 2 t) (Rect.unit ![0, 0, 0] ![1, 1024, 512] inb_S1x1024x7680_S1x1024x512_0_0_0)) (View.ld (iblk m c 4 t) (Rect.unit ![0, 0, 0] ![1, 512, 512] inb_S9x512x512_S1x512x512_0_0_0)) (View.ld (iblk m c 2 t) (Rect.unit ![0, 0, 512] ![1, 1024, 512] inb_S1x1024x7680_S1x1024x512_0_0_512)) (View.ld (iblk m c 3 t) (Rect.unit ![1, 0, 0] ![1, 512, 512] inb_S3x512x512_S1x512x512_1_0_0)) (View.ld (iblk m c 2 t) (Rect.unit ![0, 0, 1024] ![1, 1024, 512] inb_S1x1024x7680_S1x1024x512_0_0_1024))) (k0_pay4 (View.ld (iblk m c 3 t) (Rect.unit ![2, 0, 0] ![1, 512, 512] inb_S3x512x512_S1x512x512_2_0_0)) (View.ld (iblk m c 2 t) (Rect.unit ![0, 0, 1536] ![1, 1024, 512] inb_S1x1024x7680_S1x1024x512_0_0_1536))) (View.ld (iblk m c 4 t) (Rect.unit ![1, 0, 0] ![1, 512, 512] inb_S9x512x512_S1x512x512_1_0_0)) (View.ld (iblk m c 2 t) (Rect.unit ![0, 0, 2048] ![1, 1024, 512] inb_S1x1024x7680_S1x1024x512_0_0_2048)) (iblk m c 5 t) (View.ld (iblk m c 2 t) (Rect.unit ![0, 0, 2560] ![1, 1024, 512] inb_S1x1024x7680_S1x1024x512_0_0_2560)) (iblk m c 6 t) (View.ld (iblk m c 2 t) (Rect.unit ![0, 0, 3072] ![1, 1024, 512] inb_S1x1024x7680_S1x1024x512_0_0_3072)) (iblk m c 7 t) (View.ld (iblk m c 2 t) (Rect.unit ![0, 0, 3584] ![1, 1024, 512] inb_S1x1024x7680_S1x1024x512_0_0_3584))) (k0_pay6 (View.ld (iblk m c 4 t) (Rect.unit ![2, 0, 0] ![1, 512, 512] inb_S9x512x512_S1x512x512_2_0_0))) (k0_pay7 (View.ld (iblk m c 2 t) (Rect.unit ![0, 0, 4096] ![1, 1024, 512] inb_S1x1024x7680_S1x1024x512_0_0_4096))) (View.ld (iblk m c 4 t) (Rect.unit ![3, 0, 0] ![1, 512, 512] inb_S9x512x512_S1x512x512_3_0_0)) (View.ld (iblk m c 2 t) (Rect.unit ![0, 0, 4608] ![1, 1024, 512] inb_S1x1024x7680_S1x1024x512_0_0_4608)) (View.ld (iblk m c 4 t) (Rect.unit ![4, 0, 0] ![1, 512, 512] inb_S9x512x512_S1x512x512_4_0_0)) (View.ld (iblk m c 2 t) (Rect.unit ![0, 0, 5120] ![1, 1024, 512] inb_S1x1024x7680_S1x1024x512_0_0_5120)) (View.ld (iblk m c 4 t) (Rect.unit ![5, 0, 0] ![1, 512, 512] inb_S9x512x512_S1x512x512_5_0_0)) (View.ld (iblk m c 2 t) (Rect.unit ![0, 0, 5632] ![1, 1024, 512] inb_S1x1024x7680_S1x1024x512_0_0_5632)) (View.ld (iblk m c 4 t) (Rect.unit ![6, 0, 0] ![1, 512, 512] inb_S9x512x512_S1x512x512_6_0_0)) (View.ld (iblk m c 2 t) (Rect.unit ![0, 0, 6144] ![1, 1024, 512] inb_S1x1024x7680_S1x1024x512_0_0_6144))) (k0_pay9 (View.ld (iblk m c 4 t) (Rect.unit ![7, 0, 0] ![1, 512, 512] inb_S9x512x512_S1x512x512_7_0_0))) (View.ld (iblk m c 2 t) (Rect.unit ![0, 0, 6656] ![1, 1024, 512] inb_S1x1024x7680_S1x1024x512_0_0_6656)) (View.ld (iblk m c 4 t) (Rect.unit ![8, 0, 0] ![1, 512, 512] inb_S9x512x512_S1x512x512_8_0_0)) (View.ld (iblk m c 2 t) (Rect.unit ![0, 0, 7168] ![1, 1024, 512] inb_S1x1024x7680_S1x1024x512_0_0_7168))

theorem kdh_at (t : Fin cfg0.N) (i : Fin 512) (d : Fin 1024) : kdh m c t (ix2 i d) = gdh m c (row t i) d := by
  unfold kdh
  rw [pay10_at, pay8_at, pay5_at, pay4_at, pay3_at]
  refine Eq.trans ?_ (sum_units (fun e => aP m c (ix2 (row t i) e))
    (fun e => aW m c (ix2 d e))).symm
  simp only [p3, p2, ldA_0, ldB_0, ldA_1, ldB_1, ldA_2, ldB_2, ldA_3, ldB_3, ldA_4, ldB_4, ldA_5, ldB_5, ldA_6, ldB_6, ldA_7, ldB_7, ldA_8, ldB_8, ldA_9, ldB_9, ldA_10, ldB_10, ldA_11, ldB_11, ldA_12, ldB_12, ldA_13, ldB_13, ldA_14, ldB_14]

/-- The gradient of the layer's input. -/
abbrev gradX : FVec Ideal S8192x1024 .f32 := outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The gradient of the norm's weight. -/
abbrev gradG : FVec Ideal S1x1024 .f32 := outG (m ((c.tc : Thread nD τ).loc main_arg0)) (m ((c.tc : Thread nD τ).loc main_arg2)) (m ((c.tc : Thread nD τ).loc main_arg3))

theorem emb_9 (t : Fin cfg0.N) (i : Fin 512) (d : Fin 1024) : ((cfg0.win 9).blk t).view.emb (ix2 i d) = ix2 (row t i) d := by
  blk_ext [idx_in t]

theorem point_9 (t : Fin cfg0.N) (y : S512x1024.Idx) :
    k0_pay1 (k0_pay11 (iblk m c 0 t)) (k0_pay12 (iblk m c 0 t)) (k0_pay14 (k0_pay8 (k0_pay5 (k0_pay3 (View.ld (iblk m c 3 t) (Rect.unit ![0, 0, 0] ![1, 512, 512] inb_S3x512x512_S1x512x512_0_0_0)) (View.ld (iblk m c 2 t) (Rect.unit ![0, 0, 0] ![1, 1024, 512] inb_S1x1024x7680_S1x1024x512_0_0_0)) (View.ld (iblk m c 4 t) (Rect.unit ![0, 0, 0] ![1, 512, 512] inb_S9x512x512_S1x512x512_0_0_0)) (View.ld (iblk m c 2 t) (Rect.unit ![0, 0, 512] ![1, 1024, 512] inb_S1x1024x7680_S1x1024x512_0_0_512)) (View.ld (iblk m c 3 t) (Rect.unit ![1, 0, 0] ![1, 512, 512] inb_S3x512x512_S1x512x512_1_0_0)) (View.ld (iblk m c 2 t) (Rect.unit ![0, 0, 1024] ![1, 1024, 512] inb_S1x1024x7680_S1x1024x512_0_0_1024))) (k0_pay4 (View.ld (iblk m c 3 t) (Rect.unit ![2, 0, 0] ![1, 512, 512] inb_S3x512x512_S1x512x512_2_0_0)) (View.ld (iblk m c 2 t) (Rect.unit ![0, 0, 1536] ![1, 1024, 512] inb_S1x1024x7680_S1x1024x512_0_0_1536))) (View.ld (iblk m c 4 t) (Rect.unit ![1, 0, 0] ![1, 512, 512] inb_S9x512x512_S1x512x512_1_0_0)) (View.ld (iblk m c 2 t) (Rect.unit ![0, 0, 2048] ![1, 1024, 512] inb_S1x1024x7680_S1x1024x512_0_0_2048)) (iblk m c 5 t) (View.ld (iblk m c 2 t) (Rect.unit ![0, 0, 2560] ![1, 1024, 512] inb_S1x1024x7680_S1x1024x512_0_0_2560)) (iblk m c 6 t) (View.ld (iblk m c 2 t) (Rect.unit ![0, 0, 3072] ![1, 1024, 512] inb_S1x1024x7680_S1x1024x512_0_0_3072)) (iblk m c 7 t) (View.ld (iblk m c 2 t) (Rect.unit ![0, 0, 3584] ![1, 1024, 512] inb_S1x1024x7680_S1x1024x512_0_0_3584))) (k0_pay6 (View.ld (iblk m c 4 t) (Rect.unit ![2, 0, 0] ![1, 512, 512] inb_S9x512x512_S1x512x512_2_0_0))) (k0_pay7 (View.ld (iblk m c 2 t) (Rect.unit ![0, 0, 4096] ![1, 1024, 512] inb_S1x1024x7680_S1x1024x512_0_0_4096))) (View.ld (iblk m c 4 t) (Rect.unit ![3, 0, 0] ![1, 512, 512] inb_S9x512x512_S1x512x512_3_0_0)) (View.ld (iblk m c 2 t) (Rect.unit ![0, 0, 4608] ![1, 1024, 512] inb_S1x1024x7680_S1x1024x512_0_0_4608)) (View.ld (iblk m c 4 t) (Rect.unit ![4, 0, 0] ![1, 512, 512] inb_S9x512x512_S1x512x512_4_0_0)) (View.ld (iblk m c 2 t) (Rect.unit ![0, 0, 5120] ![1, 1024, 512] inb_S1x1024x7680_S1x1024x512_0_0_5120)) (View.ld (iblk m c 4 t) (Rect.unit ![5, 0, 0] ![1, 512, 512] inb_S9x512x512_S1x512x512_5_0_0)) (View.ld (iblk m c 2 t) (Rect.unit ![0, 0, 5632] ![1, 1024, 512] inb_S1x1024x7680_S1x1024x512_0_0_5632)) (View.ld (iblk m c 4 t) (Rect.unit ![6, 0, 0] ![1, 512, 512] inb_S9x512x512_S1x512x512_6_0_0)) (View.ld (iblk m c 2 t) (Rect.unit ![0, 0, 6144] ![1, 1024, 512] inb_S1x1024x7680_S1x1024x512_0_0_6144))) (k0_pay9 (View.ld (iblk m c 4 t) (Rect.unit ![7, 0, 0] ![1, 512, 512] inb_S9x512x512_S1x512x512_7_0_0))) (View.ld (iblk m c 2 t) (Rect.unit ![0, 0, 6656] ![1, 1024, 512] inb_S1x1024x7680_S1x1024x512_0_0_6656)) (View.ld (iblk m c 4 t) (Rect.unit ![8, 0, 0] ![1, 512, 512] inb_S9x512x512_S1x512x512_8_0_0)) (View.ld (iblk m c 2 t) (Rect.unit ![0, 0, 7168] ![1, 1024, 512] inb_S1x1024x7680_S1x1024x512_0_0_7168)) (iblk m c 1 t)) (iblk m c 8 t) (k0_pay15 (k0_pay8 (k0_pay5 (k0_pay3 (View.ld (iblk m c 3 t) (Rect.unit ![0, 0, 0] ![1, 512, 512] inb_S3x512x512_S1x512x512_0_0_0)) (View.ld (iblk m c 2 t) (Rect.unit ![0, 0, 0] ![1, 1024, 512] inb_S1x1024x7680_S1x1024x512_0_0_0)) (View.ld (iblk m c 4 t) (Rect.unit ![0, 0, 0] ![1, 512, 512] inb_S9x512x512_S1x512x512_0_0_0)) (View.ld (iblk m c 2 t) (Rect.unit ![0, 0, 512] ![1, 1024, 512] inb_S1x1024x7680_S1x1024x512_0_0_512)) (View.ld (iblk m c 3 t) (Rect.unit ![1, 0, 0] ![1, 512, 512] inb_S3x512x512_S1x512x512_1_0_0)) (View.ld (iblk m c 2 t) (Rect.unit ![0, 0, 1024] ![1, 1024, 512] inb_S1x1024x7680_S1x1024x512_0_0_1024))) (k0_pay4 (View.ld (iblk m c 3 t) (Rect.unit ![2, 0, 0] ![1, 512, 512] inb_S3x512x512_S1x512x512_2_0_0)) (View.ld (iblk m c 2 t) (Rect.unit ![0, 0, 1536] ![1, 1024, 512] inb_S1x1024x7680_S1x1024x512_0_0_1536))) (View.ld (iblk m c 4 t) (Rect.unit ![1, 0, 0] ![1, 512, 512] inb_S9x512x512_S1x512x512_1_0_0)) (View.ld (iblk m c 2 t) (Rect.unit ![0, 0, 2048] ![1, 1024, 512] inb_S1x1024x7680_S1x1024x512_0_0_2048)) (iblk m c 5 t) (View.ld (iblk m c 2 t) (Rect.unit ![0, 0, 2560] ![1, 1024, 512] inb_S1x1024x7680_S1x1024x512_0_0_2560)) (iblk m c 6 t) (View.ld (iblk m c 2 t) (Rect.unit ![0, 0, 3072] ![1, 1024, 512] inb_S1x1024x7680_S1x1024x512_0_0_3072)) (iblk m c 7 t) (View.ld (iblk m c 2 t) (Rect.unit ![0, 0, 3584] ![1, 1024, 512] inb_S1x1024x7680_S1x1024x512_0_0_3584))) (k0_pay6 (View.ld (iblk m c 4 t) (Rect.unit ![2, 0, 0] ![1, 512, 512] inb_S9x512x512_S1x512x512_2_0_0))) (k0_pay7 (View.ld (iblk m c 2 t) (Rect.unit ![0, 0, 4096] ![1, 1024, 512] inb_S1x1024x7680_S1x1024x512_0_0_4096))) (View.ld (iblk m c 4 t) (Rect.unit ![3, 0, 0] ![1, 512, 512] inb_S9x512x512_S1x512x512_3_0_0)) (View.ld (iblk m c 2 t) (Rect.unit ![0, 0, 4608] ![1, 1024, 512] inb_S1x1024x7680_S1x1024x512_0_0_4608)) (View.ld (iblk m c 4 t) (Rect.unit ![4, 0, 0] ![1, 512, 512] inb_S9x512x512_S1x512x512_4_0_0)) (View.ld (iblk m c 2 t) (Rect.unit ![0, 0, 5120] ![1, 1024, 512] inb_S1x1024x7680_S1x1024x512_0_0_5120)) (View.ld (iblk m c 4 t) (Rect.unit ![5, 0, 0] ![1, 512, 512] inb_S9x512x512_S1x512x512_5_0_0)) (View.ld (iblk m c 2 t) (Rect.unit ![0, 0, 5632] ![1, 1024, 512] inb_S1x1024x7680_S1x1024x512_0_0_5632)) (View.ld (iblk m c 4 t) (Rect.unit ![6, 0, 0] ![1, 512, 512] inb_S9x512x512_S1x512x512_6_0_0)) (View.ld (iblk m c 2 t) (Rect.unit ![0, 0, 6144] ![1, 1024, 512] inb_S1x1024x7680_S1x1024x512_0_0_6144))) (k0_pay9 (View.ld (iblk m c 4 t) (Rect.unit ![7, 0, 0] ![1, 512, 512] inb_S9x512x512_S1x512x512_7_0_0))) (View.ld (iblk m c 2 t) (Rect.unit ![0, 0, 6656] ![1, 1024, 512] inb_S1x1024x7680_S1x1024x512_0_0_6656)) (View.ld (iblk m c 4 t) (Rect.unit ![8, 0, 0] ![1, 512, 512] inb_S9x512x512_S1x512x512_8_0_0)) (View.ld (iblk m c 2 t) (Rect.unit ![0, 0, 7168] ![1, 1024, 512] inb_S1x1024x7680_S1x1024x512_0_0_7168)) (iblk m c 0 t) (iblk m c 1 t)) y
      = gradX m c (((cfg0.win 9).blk t).view.emb y) := by
  idx_vars y
  rw [emb_9, pay1_at, pay11_at, pay12_at, pay14_at]
  simp only [pay15_at, kdh_at m c t, ld_x, ld_n, ld_g]
  rfl

theorem final_9 : (dats m 0 c).arrAt 9 (cfgs 0).N = gradX m c := by
  refine (dats m 0 c).arrAt_eq_of_covers 9 _ (by decide +kernel) fun t hf y => ?_
  blk_simp; rw [after0_9]
  by_cases h : t.val % 16 = 0
  · rw [outsAt0_A m c t h]; frame_out; exact point_9 m c t y
  · rw [outsAt0_B m c t h]; frame_out; exact point_9 m c t y

/-- What a point adds to the gradient of the norm's weight. -/
def part (t : Fin cfg0.N) (y : S1x1024.Idx) : EReal := ∑ i : Fin 512, gdh m c (row t i) (y 1) * (gx m c (row t i) (y 1) * rr (gx m c (row t i)))

theorem pay13_y (t : Fin cfg0.N) (o : Vec Ideal S1x1024 .f32) (y : S1x1024.Idx) :
    k0_pay13 (k0_pay8 (k0_pay5 (k0_pay3 (View.ld (iblk m c 3 t) (Rect.unit ![0, 0, 0] ![1, 512, 512] inb_S3x512x512_S1x512x512_0_0_0)) (View.ld (iblk m c 2 t) (Rect.unit ![0, 0, 0] ![1, 1024, 512] inb_S1x1024x7680_S1x1024x512_0_0_0)) (View.ld (iblk m c 4 t) (Rect.unit ![0, 0, 0] ![1, 512, 512] inb_S9x512x512_S1x512x512_0_0_0)) (View.ld (iblk m c 2 t) (Rect.unit ![0, 0, 512] ![1, 1024, 512] inb_S1x1024x7680_S1x1024x512_0_0_512)) (View.ld (iblk m c 3 t) (Rect.unit ![1, 0, 0] ![1, 512, 512] inb_S3x512x512_S1x512x512_1_0_0)) (View.ld (iblk m c 2 t) (Rect.unit ![0, 0, 1024] ![1, 1024, 512] inb_S1x1024x7680_S1x1024x512_0_0_1024))) (k0_pay4 (View.ld (iblk m c 3 t) (Rect.unit ![2, 0, 0] ![1, 512, 512] inb_S3x512x512_S1x512x512_2_0_0)) (View.ld (iblk m c 2 t) (Rect.unit ![0, 0, 1536] ![1, 1024, 512] inb_S1x1024x7680_S1x1024x512_0_0_1536))) (View.ld (iblk m c 4 t) (Rect.unit ![1, 0, 0] ![1, 512, 512] inb_S9x512x512_S1x512x512_1_0_0)) (View.ld (iblk m c 2 t) (Rect.unit ![0, 0, 2048] ![1, 1024, 512] inb_S1x1024x7680_S1x1024x512_0_0_2048)) (iblk m c 5 t) (View.ld (iblk m c 2 t) (Rect.unit ![0, 0, 2560] ![1, 1024, 512] inb_S1x1024x7680_S1x1024x512_0_0_2560)) (iblk m c 6 t) (View.ld (iblk m c 2 t) (Rect.unit ![0, 0, 3072] ![1, 1024, 512] inb_S1x1024x7680_S1x1024x512_0_0_3072)) (iblk m c 7 t) (View.ld (iblk m c 2 t) (Rect.unit ![0, 0, 3584] ![1, 1024, 512] inb_S1x1024x7680_S1x1024x512_0_0_3584))) (k0_pay6 (View.ld (iblk m c 4 t) (Rect.unit ![2, 0, 0] ![1, 512, 512] inb_S9x512x512_S1x512x512_2_0_0))) (k0_pay7 (View.ld (iblk m c 2 t) (Rect.unit ![0, 0, 4096] ![1, 1024, 512] inb_S1x1024x7680_S1x1024x512_0_0_4096))) (View.ld (iblk m c 4 t) (Rect.unit ![3, 0, 0] ![1, 512, 512] inb_S9x512x512_S1x512x512_3_0_0)) (View.ld (iblk m c 2 t) (Rect.unit ![0, 0, 4608] ![1, 1024, 512] inb_S1x1024x7680_S1x1024x512_0_0_4608)) (View.ld (iblk m c 4 t) (Rect.unit ![4, 0, 0] ![1, 512, 512] inb_S9x512x512_S1x512x512_4_0_0)) (View.ld (iblk m c 2 t) (Rect.unit ![0, 0, 5120] ![1, 1024, 512] inb_S1x1024x7680_S1x1024x512_0_0_5120)) (View.ld (iblk m c 4 t) (Rect.unit ![5, 0, 0] ![1, 512, 512] inb_S9x512x512_S1x512x512_5_0_0)) (View.ld (iblk m c 2 t) (Rect.unit ![0, 0, 5632] ![1, 1024, 512] inb_S1x1024x7680_S1x1024x512_0_0_5632)) (View.ld (iblk m c 4 t) (Rect.unit ![6, 0, 0] ![1, 512, 512] inb_S9x512x512_S1x512x512_6_0_0)) (View.ld (iblk m c 2 t) (Rect.unit ![0, 0, 6144] ![1, 1024, 512] inb_S1x1024x7680_S1x1024x512_0_0_6144))) (k0_pay9 (View.ld (iblk m c 4 t) (Rect.unit ![7, 0, 0] ![1, 512, 512] inb_S9x512x512_S1x512x512_7_0_0))) (View.ld (iblk m c 2 t) (Rect.unit ![0, 0, 6656] ![1, 1024, 512] inb_S1x1024x7680_S1x1024x512_0_0_6656)) (View.ld (iblk m c 4 t) (Rect.unit ![8, 0, 0] ![1, 512, 512] inb_S9x512x512_S1x512x512_8_0_0)) (View.ld (iblk m c 2 t) (Rect.unit ![0, 0, 7168] ![1, 1024, 512] inb_S1x1024x7680_S1x1024x512_0_0_7168)) (iblk m c 0 t) o y = o y + part m c t y := by
  idx_vars y
  obtain rfl : y0 = 0 := Subsingleton.elim _ _
  rw [pay13_at]
  simp only [kdh_at m c t, ld_x]
  rfl

theorem pay2_y (y : S1x1024.Idx) : k0_pay2 (F := Ideal) y = 0 := by
  pointwise! [k0_pay2]

theorem final_10 : (dats m 0 c).arrAt 10 (cfgs 0).N = gradG m c := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0) (fun t j => part m c t j)
    (fun t h j => by rw [outsAt0_A m c t h]; frame_out; exact (pay13_y m c t _ j).trans (by rw [pay2_y]))
    (fun t h j => by rw [outsAt0_B m c t h]; frame_out; exact pay13_y m c t _ j)
    (le_of_eq N_0) t0_15 rfl j, zero_add]
  unfold gradG outG part
  refine Fin.sum_mul_add_congr (M := EReal) (S := 16) (n := 512) (L := 8192) fun s k hl => ?_
  have e : row s k = (⟨s.val * 512 + k.val, hl⟩ : Fin 8192) := by ext; simp [Nat.mul_comm]
  rw [e]

/-- The kernel's two arrays. -/
theorem run_arr (ρ : Dev nD → PrngReg) :
    θ_run defs (onTc (τ := τ) (main (F := Ideal))) ⟨m, fun _ => 0, ρ⟩ (fun r => ∀ c : Dev nD,
      r.2.mem ((c.tc : Thread nD τ).loc main_v47_0) = gradX m c ∧ r.2.mem ((c.tc : Thread nD τ).loc main_v47_1) = gradG m c) :=
  (θ_run defs _ _).mono (fun r h c => ⟨((h c).1 9).trans (final_9 m c), ((h c).1 10).trans (final_10 m c)⟩) (run_main m ρ)

end Cert.InBwdIdeal.InV
-- ==== Proof.InRef.lean ====
/- The reference's gradient of the input projection and its norm, read entry by entry. -/
module

public import proofs.«01_k».proof.Proof.NormMath
public import proofs.«01_k».proof.Proof.InValue
public import proofs.«01_k».proof.Proof.Gen.InBwdRefIdeal.Run

@[expose] public section

set_option maxRecDepth 16384

open Idealize.ShloMosaic Idealize.ShloMosaic.TcCoe Idealize.SL.Sem
open scoped BigOperators

noncomputable section

namespace Cert.InBwdRefIdeal.InV

open Cert.InBwdRefIdeal Cert.InBwdRefIdeal.Gen Cert.InBwdRefIdeal.Value

variable (m : (ℓ : Loc nD τ sig) → Buf (Elt Ideal) ℓ) (c : Dev nD)

/-- An argument array. -/
abbrev b0 : FVec Ideal S8192x1024 .f32 := m ((c.tc : Thread nD τ).loc main_arg0)
/-- An argument array. -/
abbrev b1 : FVec Ideal S1024 .f32 := m ((c.tc : Thread nD τ).loc main_arg1)
/-- An argument array. -/
abbrev b2 : FVec Ideal S1024x7680 .f32 := m ((c.tc : Thread nD τ).loc main_arg2)
/-- An argument array. -/
abbrev b3 : FVec Ideal S8192x7680 .f32 := m ((c.tc : Thread nD τ).loc main_arg3)
/-- An argument array. -/
abbrev b4 : FVec Ideal S8192x1024 .f32 := m ((c.tc : Thread nD τ).loc main_arg4)

/-- The norm's small addend is positive. -/
theorem eps : ∃ ε : ℝ, 0 < ε ∧ Ideal.ofBits .f32 0x358637BD#32 = (ε : EReal) := by
  refine ⟨8796093 * 2 ^ (-43 : ℤ), by positivity, ?_⟩
  simp [Ideal.ofBits, Ideal.ieee, -EReal.coe_mul]

theorem mhalf : Ideal.ofBits .f32 0xBF000000#32 = ((-(1 / 2) : ℝ) : EReal) := by
  simp [Ideal.ofBits, Ideal.ieee, -EReal.coe_mul]; norm_num

theorem read_x : (res_main_v38 m c : FVec Ideal S8192x1024 .f32) = Cert.InBwdIdeal.InV.outX (b0 m c) (b1 m c) (b2 m c) (b3 m c) (b4 m c) := by
  funext y
  idx_vars y
  obtain ⟨ε, hε, he⟩ := eps
  pointwise [res_main_v38, Consts.c1024, mhalf]
  simp only [he, Finset.univ_unique, Finset.sum_const, Finset.card_singleton, one_smul]
  have e := Norm.bwd (fun d : Fin 1024 => (b0 m c) (ix2 y0 d)) (fun d => (∑ e : Fin 7680, (b3 m c) (ix2 y0 e) * (b2 m c) (ix2 d e)) * (b1 m c) (ix1 d)) ((b4 m c) (ix2 y0 y1)) 1024 ε (by norm_num) hε y1 _ rfl
  unfold Cert.InBwdIdeal.InV.outX Cert.InBwdIdeal.InV.rr
  rw [he]
  exact e.symm

theorem read_g : (broadcastInDim S1x1024 ![1] bcast_S1024_S1x1024_1 (Host.reduceAdd (shapeCast _ (Host.reduceAdd (mulf (mulf (b0 m c) (broadcastInDim S8192x1024 ![0, 1] bcast_S8192x1_S8192x1024_0_1 (Host.rsqrt (addf (Host.divf (broadcastInDim S8192x1 ![0] bcast_S8192_S8192x1_0 (Host.reduceAdd (mulf (b0 m c) (b0 m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x7680_S1024x7680_S8192x1024_1_1_0_0_n_n none (b3 m c) (b2 m c))) (constant S_ .f32 0x00000000#32) reducesTo_S8192x1024_S1024_d0 h_S_) shapeCasts_S1024_S1x1024) (constant S_ .f32 0x00000000#32) reducesTo_S1x1024_S1024_d0 h_S_) : FVec Ideal S1x1024 .f32)
    = Cert.InBwdIdeal.InV.outG (b0 m c) (b2 m c) (b3 m c) := by
  funext y
  idx_vars y
  obtain ⟨ε, hε, he⟩ := eps
  pointwise [Consts.c1024]
  simp only [Finset.univ_unique, Finset.sum_const, Finset.card_singleton, one_smul]
  exact Finset.sum_congr rfl fun i _ => mul_comm _ _

/-- The reference's two arrays. -/
theorem run_arr (ρ : Dev nD → PrngReg) :
    θ_run defs (onTc (τ := τ) (main (F := Ideal))) ⟨m, fun _ => 0, ρ⟩ (fun r => ∀ c : Dev nD,
      r.2.mem ((c.tc : Thread nD τ).loc main_v38) = Cert.InBwdIdeal.InV.outX (b0 m c) (b1 m c) (b2 m c) (b3 m c) (b4 m c)
      ∧ r.2.mem ((c.tc : Thread nD τ).loc main_v39) = Cert.InBwdIdeal.InV.outG (b0 m c) (b2 m c) (b3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (read_x m c), (h c).2.1.trans (read_g m c), (h c).2.2⟩) (run (F := Ideal) m ρ)

end Cert.InBwdRefIdeal.InV
-- ==== Proof.InWHost.lean ====
/- What the weight gradient's call reads: the host lines in front of it and the blocks of its windows. -/
module

public import proofs.«01_k».proof.Proof.Gen.InWIdeal.Frame
public import proofs.«01_k».proof.Proof.Gen.InWRefIdeal.Run
public import Idealize.ShloMosaic.Lib.Pipeline.ValueKit
public import Idealize.ShloMosaic.Lib.Pointwise
public import proofs.«01_k».proof.Proof.Consts

@[expose] public section

set_option maxRecDepth 16384

noncomputable section

open Idealize.ShloMosaic Idealize.ShloMosaic.TcCoe Idealize.SL.Sem
open Idealize.ShloMosaic.Pipeline (Dat)
open scoped BigOperators

namespace Cert.InWIdeal.InWV

open Cert.InWIdeal Cert.InWIdeal.Gen

variable (m : (ℓ : Loc nD τ sig) → Buf (Elt Ideal) ℓ) (c : Dev nD)

theorem idx_in : ∀ t : Fin cfg0.N, win0_0.index t = ![t.val, 0] ∧ win0_1.index t = ![0, 0] ∧ win0_2.index t = ![0, t.val, 0]
    ∧ win0_3.index t = ![0, t.val, 0] ∧ win0_4.index t = ![t.val, 0] ∧ win0_5.index t = ![t.val, 0] ∧ win0_6.index t = ![t.val, 0] :=
  (by decide +kernel : ∀ t : Fin grid0.N, _)

theorem lt16 (t : Fin cfg0.N) : t.val < 16 := lt_of_lt_of_eq t.isLt N_0

/-- One unit's columns of the projection's cotangent. -/
abbrev col (o : ℕ) (x : FVec Ideal S8192x7680 .f32) (h : S8192x7680.Slices ![0, o] S8192x512) : FVec Ideal S8192x512 .bf16 :=
  truncf .bf16 (extractStridedSlice S8192x512 ![0, o] x h) bitsLt_bf16_f32

/-- The three pre-activation units, stacked. -/
def hostPre (x : FVec Ideal S8192x7680 .f32) : FVec Ideal S3x8192x512 .bf16 :=
  concatenate S3x8192x512 0 [⟨S1x8192x512, broadcastInDim S1x8192x512 ![1, 2] bcast_S8192x512_S1x8192x512_1_2 (col 0 x slices_S8192x7680_S8192x512_0_0)⟩, ⟨S1x8192x512, broadcastInDim S1x8192x512 ![1, 2] bcast_S8192x512_S1x8192x512_1_2 (col 1024 x slices_S8192x7680_S8192x512_0_1024)⟩, ⟨S1x8192x512, broadcastInDim S1x8192x512 ![1, 2] bcast_S8192x512_S1x8192x512_1_2 (col 1536 x slices_S8192x7680_S8192x512_0_1536)⟩] concatenates_S1x8192x512_S1x8192x512_S1x8192x512_S3x8192x512_d0

/-- The nine gate units, stacked. -/
def hostGates (x : FVec Ideal S8192x7680 .f32) : FVec Ideal S9x8192x512 .bf16 :=
  concatenate S9x8192x512 0 [⟨S1x8192x512, broadcastInDim S1x8192x512 ![1, 2] bcast_S8192x512_S1x8192x512_1_2 (col 512 x slices_S8192x7680_S8192x512_0_512)⟩,
    ⟨S1x8192x512, broadcastInDim S1x8192x512 ![1, 2] bcast_S8192x512_S1x8192x512_1_2 (col 2048 x slices_S8192x7680_S8192x512_0_2048)⟩,
    ⟨S1x8192x512, broadcastInDim S1x8192x512 ![1, 2] bcast_S8192x512_S1x8192x512_1_2 (col 4096 x slices_S8192x7680_S8192x512_0_4096)⟩,
    ⟨S1x8192x512, broadcastInDim S1x8192x512 ![1, 2] bcast_S8192x512_S1x8192x512_1_2 (col 4608 x slices_S8192x7680_S8192x512_0_4608)⟩,
    ⟨S1x8192x512, broadcastInDim S1x8192x512 ![1, 2] bcast_S8192x512_S1x8192x512_1_2 (col 5120 x slices_S8192x7680_S8192x512_0_5120)⟩,
    ⟨S1x8192x512, broadcastInDim S1x8192x512 ![1, 2] bcast_S8192x512_S1x8192x512_1_2 (col 5632 x slices_S8192x7680_S8192x512_0_5632)⟩,
    ⟨S1x8192x512, broadcastInDim S1x8192x512 ![1, 2] bcast_S8192x512_S1x8192x512_1_2 (col 6144 x slices_S8192x7680_S8192x512_0_6144)⟩,
    ⟨S1x8192x512, broadcastInDim S1x8192x512 ![1, 2] bcast_S8192x512_S1x8192x512_1_2 (col 6656 x slices_S8192x7680_S8192x512_0_6656)⟩,
    ⟨S1x8192x512, broadcastInDim S1x8192x512 ![1, 2] bcast_S8192x512_S1x8192x512_1_2 (col 7168 x slices_S8192x7680_S8192x512_0_7168)⟩]
    concatenates_S1x8192x512_S1x8192x512_S1x8192x512_S1x8192x512_S1x8192x512_S1x8192x512_S1x8192x512_S1x8192x512_S1x8192x512_S9x8192x512_d0

section Stretch
variable (W : Valuation τ sig (Elt Ideal))

theorem s_v9 : StableHlo.after hostOps0 W (Proc.devRef .tc main_v9) = (hostPre (W (Proc.devRef .tc main_arg3)) : FVec Ideal S3x8192x512 .bf16) := by
  unfold_abbrev_sides
  after_results
  try rfl

theorem s_v37 : StableHlo.after hostOps0 W (Proc.devRef .tc main_v37) = (hostGates (W (Proc.devRef .tc main_arg3)) : FVec Ideal S9x8192x512 .bf16) := by
  unfold_abbrev_sides
  after_results
  try rfl

theorem s_v38 : StableHlo.after hostOps0 W (Proc.devRef .tc main_v38) = (broadcastInDim S1x1024 ![1] bcast_S1024_S1x1024_1 (W (Proc.devRef .tc main_arg1)) : FVec Ideal S1x1024 .f32) := by
  unfold_abbrev_sides
  after_results
  try rfl

theorem s_v40 : StableHlo.after hostOps0 W (Proc.devRef .tc main_v40) = (col 2560 (W (Proc.devRef .tc main_arg3)) slices_S8192x7680_S8192x512_0_2560 : FVec Ideal S8192x512 .bf16) := by
  unfold_abbrev_sides
  after_results
  try rfl

theorem s_v42 : StableHlo.after hostOps0 W (Proc.devRef .tc main_v42) = (col 3072 (W (Proc.devRef .tc main_arg3)) slices_S8192x7680_S8192x512_0_3072 : FVec Ideal S8192x512 .bf16) := by
  unfold_abbrev_sides
  after_results
  try rfl

theorem s_v44 : StableHlo.after hostOps0 W (Proc.devRef .tc main_v44) = (col 3584 (W (Proc.devRef .tc main_arg3)) slices_S8192x7680_S8192x512_0_3584 : FVec Ideal S8192x512 .bf16) := by
  unfold_abbrev_sides
  after_results
  try rfl

end Stretch

theorem V9 : Gen.V m c main_v9 = hostPre (m ((c : Thread nD τ).loc main_arg3)) := s_v9 (StableHlo.launchContents m c)
theorem V37 : Gen.V m c main_v37 = hostGates (m ((c : Thread nD τ).loc main_arg3)) := s_v37 (StableHlo.launchContents m c)
theorem V38 : Gen.V m c main_v38 = (broadcastInDim S1x1024 ![1] bcast_S1024_S1x1024_1 (m ((c : Thread nD τ).loc main_arg1)) : FVec Ideal S1x1024 .f32) := s_v38 (StableHlo.launchContents m c)
theorem V40 : Gen.V m c main_v40 = col 2560 (m ((c : Thread nD τ).loc main_arg3)) slices_S8192x7680_S8192x512_0_2560 := s_v40 (StableHlo.launchContents m c)
theorem V42 : Gen.V m c main_v42 = col 3072 (m ((c : Thread nD τ).loc main_arg3)) slices_S8192x7680_S8192x512_0_3072 := s_v42 (StableHlo.launchContents m c)
theorem V44 : Gen.V m c main_v44 = col 3584 (m ((c : Thread nD τ).loc main_arg3)) slices_S8192x7680_S8192x512_0_3584 := s_v44 (StableHlo.launchContents m c)

/-- The first columns of the stacked units. -/
def preCol : Fin 3 → ℕ := ![0, 1024, 1536]
def gateCol : Fin 9 → ℕ := ![512, 2048, 4096, 4608, 5120, 5632, 6144, 6656, 7168]

theorem preCol_le : ∀ u, preCol u ≤ 7168 := by decide
theorem gateCol_le : ∀ u, gateCol u ≤ 7168 := by decide

theorem hostPre_at (x : FVec Ideal S8192x7680 .f32) (u : Fin 3) (r : Fin 8192) (j : Fin 512) :
    hostPre x (ix3 u r j) = x (ix2 r (⟨preCol u + j.val, by have := preCol_le u; omega⟩ : Fin 7680)) := by
  fin_cases u <;> pointwise [hostPre] <;> first | rfl | simp [preCol]

theorem hostGates_at (x : FVec Ideal S8192x7680 .f32) (u : Fin 9) (r : Fin 8192) (j : Fin 512) :
    hostGates x (ix3 u r j) = x (ix2 r (⟨gateCol u + j.val, by have := gateCol_le u; omega⟩ : Fin 7680)) := by
  fin_cases u <;> pointwise [hostGates] <;> rfl

/-- The cotangent's entries. -/
abbrev dp (i e : ℕ) (hi : i < 8192) (he : e < 7680) : EReal := (m ((c : Thread nD τ).loc main_arg3) : FVec Ideal S8192x7680 .f32) (ix2 (⟨i, hi⟩ : Fin 8192) (⟨e, he⟩ : Fin 7680))

variable (t : Fin cfg0.N) (i j : Fin 512) (d : Fin 1024)

theorem pre_at (u : Fin 3) : iblk m c 2 t (ix3 u i j)
    = dp m c (512 * t.val + i) (preCol u + j) (by have := lt16 t; omega) (by have := preCol_le u; omega) := by
  have e : ((cfg0.win 2).blk t).view.emb (ix3 u i j) = ix3 u (⟨512 * t.val + i, by have := lt16 t; omega⟩ : Fin 8192) j := by
    blk_ext [idx_in t]
  have h : iblk m c 2 t (ix3 u i j) = Gen.V m c main_v9 (((cfg0.win 2).blk t).view.emb (ix3 u i j)) := rfl
  rw [e, V9] at h
  exact h.trans (hostPre_at _ _ _ _)

theorem gates_at (u : Fin 9) : iblk m c 3 t (ix3 u i j)
    = dp m c (512 * t.val + i) (gateCol u + j) (by have := lt16 t; omega) (by have := gateCol_le u; omega) := by
  have e : ((cfg0.win 3).blk t).view.emb (ix3 u i j) = ix3 u (⟨512 * t.val + i, by have := lt16 t; omega⟩ : Fin 8192) j := by
    blk_ext [idx_in t]
  have h : iblk m c 3 t (ix3 u i j) = Gen.V m c main_v37 (((cfg0.win 3).blk t).view.emb (ix3 u i j)) := rfl
  rw [e, V37] at h
  exact h.trans (hostGates_at _ _ _ _)

theorem col_4 : iblk m c 4 t (ix2 i j) = dp m c (512 * t.val + i) (2560 + j) (by have := lt16 t; omega) (by omega) := by
  have e : ((cfg0.win 4).blk t).view.emb (ix2 i j) = ix2 (⟨512 * t.val + i, by have := lt16 t; omega⟩ : Fin 8192) j := by
    blk_ext [idx_in t]
  have h : iblk m c 4 t (ix2 i j) = Gen.V m c main_v40 (((cfg0.win 4).blk t).view.emb (ix2 i j)) := rfl
  rw [e, V40] at h
  refine h.trans ?_
  pointwise

theorem col_5 : iblk m c 5 t (ix2 i j) = dp m c (512 * t.val + i) (3072 + j) (by have := lt16 t; omega) (by omega) := by
  have e : ((cfg0.win 5).blk t).view.emb (ix2 i j) = ix2 (⟨512 * t.val + i, by have := lt16 t; omega⟩ : Fin 8192) j := by
    blk_ext [idx_in t]
  have h : iblk m c 5 t (ix2 i j) = Gen.V m c main_v42 (((cfg0.win 5).blk t).view.emb (ix2 i j)) := rfl
  rw [e, V42] at h
  refine h.trans ?_
  pointwise

theorem col_6 : iblk m c 6 t (ix2 i j) = dp m c (512 * t.val + i) (3584 + j) (by have := lt16 t; omega) (by omega) := by
  have e : ((cfg0.win 6).blk t).view.emb (ix2 i j) = ix2 (⟨512 * t.val + i, by have := lt16 t; omega⟩ : Fin 8192) j := by
    blk_ext [idx_in t]
  have h : iblk m c 6 t (ix2 i j) = Gen.V m c main_v44 (((cfg0.win 6).blk t).view.emb (ix2 i j)) := rfl
  rw [e, V44] at h
  refine h.trans ?_
  pointwise

theorem ld_x : iblk m c 0 t (ix2 i d) = (m ((c : Thread nD τ).loc main_arg0) : FVec Ideal S8192x1024 .f32) (ix2 (⟨512 * t.val + i, by have := lt16 t; omega⟩ : Fin 8192) d) := by
  blk_point [iblk, Gen.V, idx_in t]

theorem ld_g : iblk m c 1 t (ix2 0 d) = (m ((c : Thread nD τ).loc main_arg1) : FVec Ideal S1024 .f32) (ix1 d) := by
  have e : ((cfg0.win 1).blk t).view.emb (ix2 (0 : Fin 1) d) = ix2 (0 : Fin 1) d := by
    blk_ext [idx_in t]
  have h : iblk m c 1 t (ix2 0 d) = Gen.V m c main_v38 (((cfg0.win 1).blk t).view.emb (ix2 (0 : Fin 1) d)) := rfl
  rw [e, V38] at h
  refine h.trans ?_
  pointwise

end Cert.InWIdeal.InWV

end
-- ==== Proof.InWValue.lean ====
/- The value of the input projection's weight gradient over the ideal floats. -/
module

public import proofs.«01_k».proof.Proof.InWHost
public import proofs.«01_k».proof.Proof.Gen.InWRefIdeal.Run
public import proofs.«01_k».proof.Proof.Consts
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InWIdeal.InWV

open Cert.InWIdeal Cert.InWIdeal.Gen

variable (m : (ℓ : Loc nD τ sig) → Buf (Elt Ideal) ℓ) (c : Dev nD)

section Tiles
variable (x : Vec Ideal S512x1024 .f32) (g : Vec Ideal S1x1024 .f32) (p : Vec Ideal S3x512x512 .bf16) (q : Vec Ideal S9x512x512 .bf16) (b4 b5 b6 : Vec Ideal S512x512 .bf16) (s : Vec Ideal S1024x7680 .f32)

/-- The fifteen units a grid point stores over the sums `s`. -/
abbrev tiles : List (View.Piece (Elt Ideal) S1024x7680 .f32) :=
  [⟨Rect.unit ![0, 7168] ![1024, 512] inb_S1024x7680_S1024x512_0_7168, k0_pay3 (k0_pay4 x g) (View.ld s (Rect.unit ![0, 7168] ![1024, 512] inb_S1024x7680_S1024x512_0_7168)) (View.ld q (Rect.unit ![8, 0, 0] ![1, 512, 512] inb_S9x512x512_S1x512x512_8_0_0))⟩,
    ⟨Rect.unit ![0, 6656] ![1024, 512] inb_S1024x7680_S1024x512_0_6656, k0_pay2 (k0_pay4 x g) (View.ld s (Rect.unit ![0, 6656] ![1024, 512] inb_S1024x7680_S1024x512_0_6656)) (View.ld q (Rect.unit ![7, 0, 0] ![1, 512, 512] inb_S9x512x512_S1x512x512_7_0_0))⟩,
    ⟨Rect.unit ![0, 6144] ![1024, 512] inb_S1024x7680_S1024x512_0_6144, k0_pay1 (k0_pay4 x g) (View.ld s (Rect.unit ![0, 6144] ![1024, 512] inb_S1024x7680_S1024x512_0_6144)) (k0_pay19 (View.ld q (Rect.unit ![6, 0, 0] ![1, 512, 512] inb_S9x512x512_S1x512x512_6_0_0)))⟩,
    ⟨Rect.unit ![0, 5632] ![1024, 512] inb_S1024x7680_S1024x512_0_5632, k0_pay18 (k0_pay4 x g) (View.ld s (Rect.unit ![0, 5632] ![1024, 512] inb_S1024x7680_S1024x512_0_5632)) (View.ld q (Rect.unit ![5, 0, 0] ![1, 512, 512] inb_S9x512x512_S1x512x512_5_0_0))⟩,
    ⟨Rect.unit ![0, 5120] ![1024, 512] inb_S1024x7680_S1024x512_0_5120, k0_pay17 (k0_pay4 x g) (View.ld s (Rect.unit ![0, 5120] ![1024, 512] inb_S1024x7680_S1024x512_0_5120)) (View.ld q (Rect.unit ![4, 0, 0] ![1, 512, 512] inb_S9x512x512_S1x512x512_4_0_0))⟩,
    ⟨Rect.unit ![0, 4608] ![1024, 512] inb_S1024x7680_S1024x512_0_4608, k0_pay16 (k0_pay4 x g) (View.ld s (Rect.unit ![0, 4608] ![1024, 512] inb_S1024x7680_S1024x512_0_4608)) (View.ld q (Rect.unit ![3, 0, 0] ![1, 512, 512] inb_S9x512x512_S1x512x512_3_0_0))⟩,
    ⟨Rect.unit ![0, 4096] ![1024, 512] inb_S1024x7680_S1024x512_0_4096, k0_pay15 (k0_pay4 x g) (View.ld s (Rect.unit ![0, 4096] ![1024, 512] inb_S1024x7680_S1024x512_0_4096)) (View.ld q (Rect.unit ![2, 0, 0] ![1, 512, 512] inb_S9x512x512_S1x512x512_2_0_0))⟩,
    ⟨Rect.unit ![0, 3584] ![1024, 512] inb_S1024x7680_S1024x512_0_3584, k0_pay14 (k0_pay4 x g) (View.ld s (Rect.unit ![0, 3584] ![1024, 512] inb_S1024x7680_S1024x512_0_3584)) b6⟩,
    ⟨Rect.unit ![0, 3072] ![1024, 512] inb_S1024x7680_S1024x512_0_3072, k0_pay13 (k0_pay4 x g) (View.ld s (Rect.unit ![0, 3072] ![1024, 512] inb_S1024x7680_S1024x512_0_3072)) b5⟩,
    ⟨Rect.unit ![0, 2560] ![1024, 512] inb_S1024x7680_S1024x512_0_2560, k0_pay12 (k0_pay4 x g) (View.ld s (Rect.unit ![0, 2560] ![1024, 512] inb_S1024x7680_S1024x512_0_2560)) b4⟩,
    ⟨Rect.unit ![0, 2048] ![1024, 512] inb_S1024x7680_S1024x512_0_2048, k0_pay11 (k0_pay4 x g) (View.ld s (Rect.unit ![0, 2048] ![1024, 512] inb_S1024x7680_S1024x512_0_2048)) (View.ld q (Rect.unit ![1, 0, 0] ![1, 512, 512] inb_S9x512x512_S1x512x512_1_0_0))⟩,
    ⟨Rect.unit ![0, 1536] ![1024, 512] inb_S1024x7680_S1024x512_0_1536, k0_pay10 (k0_pay4 x g) (View.ld s (Rect.unit ![0, 1536] ![1024, 512] inb_S1024x7680_S1024x512_0_1536)) (View.ld p (Rect.unit ![2, 0, 0] ![1, 512, 512] inb_S3x512x512_S1x512x512_2_0_0))⟩,
    ⟨Rect.unit ![0, 1024] ![1024, 512] inb_S1024x7680_S1024x512_0_1024, k0_pay9 (k0_pay4 x g) (View.ld s (Rect.unit ![0, 1024] ![1024, 512] inb_S1024x7680_S1024x512_0_1024)) (View.ld p (Rect.unit ![1, 0, 0] ![1, 512, 512] inb_S3x512x512_S1x512x512_1_0_0))⟩,
    ⟨Rect.unit ![0, 512] ![1024, 512] inb_S1024x7680_S1024x512_0_512, k0_pay8 (k0_pay7 x g (View.ld s (Rect.unit ![0, 512] ![1024, 512] inb_S1024x7680_S1024x512_0_512)) (View.ld q (Rect.unit ![0, 0, 0] ![1, 512, 512] inb_S9x512x512_S1x512x512_0_0_0)))⟩,
    ⟨Rect.unit ![0, 0] ![1024, 512] inb_S1024x7680_S1024x512_0_0, k0_pay6 x g (View.ld s (Rect.unit ![0, 0] ![1024, 512] inb_S1024x7680_S1024x512_0_0)) (View.ld p (Rect.unit ![0, 0, 0] ![1, 512, 512] inb_S3x512x512_S1x512x512_0_0_0))⟩]

/-- An entry of the normalised rows. -/
def nx (i : Fin 512) (d : Fin 1024) : EReal :=
  x (ix2 i d) * Ideal.rsqrt (Ideal.div (∑ e : Fin 1024, x (ix2 i e) * x (ix2 i e)) ((1024 : ℝ) : EReal) + Ideal.ofBits .f32 0x358637BD#32) * g (ix2 0 d)

/-- One point's share of an entry, over the cotangent rows `w`. -/
def share (w : Fin 512 → ℕ → EReal) (d : Fin 1024) (e : ℕ) : EReal := ∑ i : Fin 512, nx x g i d * w i e

theorem pay4_at (d : Fin 1024) (i : Fin 512) : k0_pay4 x g (ix2 d i) = nx x g i d := by
  pointwise [k0_pay4, nx, Consts.c1024]

theorem idx_eq (y : S1024x7680.Idx) (a : Fin 1024) (b : Fin 7680) (h0 : (y 0).val = a.val) (h1 : (y 1).val = b.val) : ix2 a b = y := by
  funext k
  fin_cases k
  · exact Fin.ext h0.symm
  · exact Fin.ext h1.symm

theorem close (w : Fin 512 → ℕ → EReal) (b : Fin 512 → EReal) (d : Fin 1024) (e : Fin 7680) (y : S1024x7680.Idx) (h0 : (y 0).val = d.val) (h1 : (y 1).val = e.val)
    (hb : ∀ i, b i = w i e.val) : s (ix2 d e) + ∑ i : Fin 512, nx x g i d * b i = s y + share x g w (y 0) (y 1).val := by
  obtain rfl := idx_eq y d e h0 h1
  simp only [hb]
  rfl

/-- The blocks are the cotangent's columns. -/
structure Cols (w : Fin 512 → ℕ → EReal) : Prop where
  pre : ∀ (u : Fin 3) (i j : Fin 512), p (ix3 u i j) = w i (preCol u + j)
  gate : ∀ (u : Fin 9) (i j : Fin 512), q (ix3 u i j) = w i (gateCol u + j)
  c4 : ∀ i j : Fin 512, b4 (ix2 i j) = w i (2560 + j)
  c5 : ∀ i j : Fin 512, b5 (ix2 i j) = w i (3072 + j)
  c6 : ∀ i j : Fin 512, b6 (ix2 i j) = w i (3584 + j)

theorem tiles_cover (y : S1024x7680.Idx) : ∃ pc ∈ tiles x g p q b4 b5 b6 s, y ∈ pc.1.set :=
  View.cover_of_tiledL (tiles x g p q b4 b5 b6 s) S1024x512.size (by sl_kernel_rfl) y

/-- Stores that cover an index hide the stores before them. -/
theorem canon_append {S : Shape} {e : EltTy} (y : S.Idx) : ∀ L L' : List (View.Piece (Elt Ideal) S e), (∃ pc ∈ L, y ∈ pc.1.set) → View.canon (L ++ L') y = View.canon L y
  | [], _, h => by obtain ⟨_, hm, _⟩ := h; exact absurd hm List.not_mem_nil
  | pc :: L, L', h => by
    by_cases hy : y ∈ pc.1.set
    · obtain ⟨r, v⟩ := pc
      obtain ⟨z, rfl⟩ : ∃ z, r.emb z = y := r.exists_idx_of_mem hy
      rw [List.cons_append, View.canon_cons_emb, View.canon_cons_emb]
    · rw [List.cons_append, View.canon_cons_of_not_mem _ _ hy, View.canon_cons_of_not_mem _ _ hy]
      obtain ⟨q, hq, hyq⟩ := h
      rcases List.mem_cons.mp hq with rfl | hq
      · exact absurd hyq hy
      · exact canon_append y L L' ⟨q, hq, hyq⟩

theorem tiles_at (w : Fin 512 → ℕ → EReal) (hw : Cols p q b4 b5 b6 w) (y : S1024x7680.Idx) :
    View.canon (tiles x g p q b4 b5 b6 s) y = s y + share x g w (y 0) (y 1).val := by
  have hp := hw.pre
  have hq := hw.gate
  have h4 := hw.c4
  have h5 := hw.c5
  have h6 := hw.c6
  canon_tiles z h
  case piece0 =>
    refine Eq.trans ?_ (close x g s w (fun i => q (ix3 8 i (z 1))) (z 0) (⟨7168 + (z 1).val, by omega⟩ : Fin 7680) y h0 h1 fun i => hq 8 i (z 1))
    open_payloads
    pointwise [nx, Consts.c1024]
  case piece1 =>
    refine Eq.trans ?_ (close x g s w (fun i => q (ix3 7 i (z 1))) (z 0) (⟨6656 + (z 1).val, by omega⟩ : Fin 7680) y h0 h1 fun i => hq 7 i (z 1))
    open_payloads
    pointwise [nx, Consts.c1024]
  case piece2 =>
    refine Eq.trans ?_ (close x g s w (fun i => q (ix3 6 i (z 1))) (z 0) (⟨6144 + (z 1).val, by omega⟩ : Fin 7680) y h0 h1 fun i => hq 6 i (z 1))
    open_payloads
    pointwise [nx, Consts.c1024]
  case piece3 =>
    refine Eq.trans ?_ (close x g s w (fun i => q (ix3 5 i (z 1))) (z 0) (⟨5632 + (z 1).val, by omega⟩ : Fin 7680) y h0 h1 fun i => hq 5 i (z 1))
    open_payloads
    pointwise [nx, Consts.c1024]
  case piece4 =>
    refine Eq.trans ?_ (close x g s w (fun i => q (ix3 4 i (z 1))) (z 0) (⟨5120 + (z 1).val, by omega⟩ : Fin 7680) y h0 h1 fun i => hq 4 i (z 1))
    open_payloads
    pointwise [nx, Consts.c1024]
  case piece5 =>
    refine Eq.trans ?_ (close x g s w (fun i => q (ix3 3 i (z 1))) (z 0) (⟨4608 + (z 1).val, by omega⟩ : Fin 7680) y h0 h1 fun i => hq 3 i (z 1))
    open_payloads
    pointwise [nx, Consts.c1024]
  case piece6 =>
    refine Eq.trans ?_ (close x g s w (fun i => q (ix3 2 i (z 1))) (z 0) (⟨4096 + (z 1).val, by omega⟩ : Fin 7680) y h0 h1 fun i => hq 2 i (z 1))
    open_payloads
    pointwise [nx, Consts.c1024]
  case piece7 =>
    refine Eq.trans ?_ (close x g s w (fun i => b6 (ix2 i (z 1))) (z 0) (⟨3584 + (z 1).val, by omega⟩ : Fin 7680) y h0 h1 fun i => h6 i (z 1))
    open_payloads
    pointwise [nx, Consts.c1024]
  case piece8 =>
    refine Eq.trans ?_ (close x g s w (fun i => b5 (ix2 i (z 1))) (z 0) (⟨3072 + (z 1).val, by omega⟩ : Fin 7680) y h0 h1 fun i => h5 i (z 1))
    open_payloads
    pointwise [nx, Consts.c1024]
  case piece9 =>
    refine Eq.trans ?_ (close x g s w (fun i => b4 (ix2 i (z 1))) (z 0) (⟨2560 + (z 1).val, by omega⟩ : Fin 7680) y h0 h1 fun i => h4 i (z 1))
    open_payloads
    pointwise [nx, Consts.c1024]
  case piece10 =>
    refine Eq.trans ?_ (close x g s w (fun i => q (ix3 1 i (z 1))) (z 0) (⟨2048 + (z 1).val, by omega⟩ : Fin 7680) y h0 h1 fun i => hq 1 i (z 1))
    open_payloads
    pointwise [nx, Consts.c1024]
  case piece11 =>
    refine Eq.trans ?_ (close x g s w (fun i => p (ix3 2 i (z 1))) (z 0) (⟨1536 + (z 1).val, by omega⟩ : Fin 7680) y h0 h1 fun i => hp 2 i (z 1))
    open_payloads
    pointwise [nx, Consts.c1024]
  case piece12 =>
    refine Eq.trans ?_ (close x g s w (fun i => p (ix3 1 i (z 1))) (z 0) (⟨1024 + (z 1).val, by omega⟩ : Fin 7680) y h0 h1 fun i => hp 1 i (z 1))
    open_payloads
    pointwise [nx, Consts.c1024]
  case piece13 =>
    refine Eq.trans ?_ (close x g s w (fun i => q (ix3 0 i (z 1))) (z 0) (⟨512 + (z 1).val, by omega⟩ : Fin 7680) y h0 h1 fun i => hq 0 i (z 1))
    open_payloads
    pointwise [nx, Consts.c1024]
  case piece14 =>
    refine Eq.trans ?_ (close x g s w (fun i => p (ix3 0 i (z 1))) (z 0) (⟨(z 1).val, by omega⟩ : Fin 7680) y h0 h1 fun i => (hp 0 i (z 1)).trans (congrArg (w i) (Nat.zero_add _)))
    open_payloads
    pointwise [nx, Consts.c1024]

/-- The fifteen units over a fill of the whole scratch with zeros. -/
theorem tiles0_at (w : Fin 512 → ℕ → EReal) (hw : Cols p q b4 b5 b6 w) (y : S1024x7680.Idx) :
    View.canon (tiles x g p q b4 b5 b6 (k0_pay5 (F := Ideal)) ++ [⟨Rect.unit ![0, 0] ![1024, 7680] inb_S1024x7680_S1024x7680_0_0, k0_pay5 (F := Ideal)⟩]) y = 0 + share x g w (y 0) (y 1).val := by
  rw [canon_append y _ _ (tiles_cover x g p q b4 b5 b6 (k0_pay5 (F := Ideal)) y), tiles_at x g p q b4 b5 b6 _ w hw y]
  congr 1
  pointwise! [k0_pay5]

end Tiles

theorem row_lt (t : Fin cfg0.N) (i : Fin 512) : 512 * t.val + i.val < 8192 := by have := lt16 t; omega

/-- The cotangent's rows that a point's blocks hold. -/
def cot (t : Fin cfg0.N) (i : Fin 512) (e : ℕ) : EReal := if h : e < 7680 then dp m c (512 * t.val + i.val) e (row_lt t i) h else 0

theorem cols (t : Fin cfg0.N) : Cols (iblk m c 2 t) (iblk m c 3 t) (iblk m c 4 t) (iblk m c 5 t) (iblk m c 6 t) (cot m c t) where
  pre u i j := (pre_at m c t i j u).trans (dif_pos (by have := preCol_le u; omega)).symm
  gate u i j := (gates_at m c t i j u).trans (dif_pos (by have := gateCol_le u; omega)).symm
  c4 i j := (col_4 m c t i j).trans (dif_pos (by omega)).symm
  c5 i j := (col_5 m c t i j).trans (dif_pos (by omega)).symm
  c6 i j := (col_6 m c t i j).trans (dif_pos (by omega)).symm

/-- What a point adds to an entry. -/
def part (t : Fin cfg0.N) (y : S1024x7680.Idx) : EReal := share (iblk m c 0 t) (iblk m c 1 t) (cot m c t) (y 0) (y 1).val

set_option maxHeartbeats 2000000 in
theorem stepA (t : Fin cfg0.N) (h0 : t.val % 16 = 0) (h1 : ¬t.val % 16 = 15) (y : S1024x7680.Idx) : (outsAt0 m c t.val t.isLt).1 y = 0 + part m c t y := by
  have h := tiles0_at (iblk m c 0 t) (iblk m c 1 t) (iblk m c 2 t) (iblk m c 3 t) (iblk m c 4 t) (iblk m c 5 t) (iblk m c 6 t) _ (cols m c t) y
  simp only [tiles, List.cons_append, List.nil_append] at h
  rw [outsAt0_A m c t h0 h1]
  frame_open
  simp (disch := decide) only [↓ View.readCov_skip, ↓ View.readCov_cons_toLoadRect, ↓ View.readCov_fill]
  frame_out
  exact h

theorem stepB (t : Fin cfg0.N) (h0 : ¬t.val % 16 = 0) (h1 : ¬t.val % 16 = 15) : (outsAt0 m c t.val t.isLt).1 = View.canon (tiles (iblk m c 0 t) (iblk m c 1 t) (iblk m c 2 t) (iblk m c 3 t) (iblk m c 4 t) (iblk m c 5 t) (iblk m c 6 t) (outsAt0 m c (t.val - 1) (by omega)).1) := by
  rw [outsAt0_B m c t h0 h1]
  frame_out
  simp only [read_unread_whole]

theorem stepC (t : Fin cfg0.N) (h0 : ¬t.val % 16 = 0) (h1 : t.val % 16 = 15) : (outsAt0 m c t.val t.isLt).2 = View.canon (tiles (iblk m c 0 t) (iblk m c 1 t) (iblk m c 2 t) (iblk m c 3 t) (iblk m c 4 t) (iblk m c 5 t) (iblk m c 6 t) (outsAt0 m c (t.val - 1) (by omega)).1) := by
  rw [outsAt0_C m c t h0 h1]
  unfold hbw0_C_0
  frame_out
  simp only [read_unread_whole]
  refine (View.write_whole_univ _ _ _).trans ?_
  exact View.read_writes_eq_canon _ _ _ (tiles_cover _ _ _ _ _ _ _ _)

theorem stepC1 (t : Fin cfg0.N) (h0 : ¬t.val % 16 = 0) (h1 : t.val % 16 = 15) : (outsAt0 m c t.val t.isLt).1 = View.canon (tiles (iblk m c 0 t) (iblk m c 1 t) (iblk m c 2 t) (iblk m c 3 t) (iblk m c 4 t) (iblk m c 5 t) (iblk m c 6 t) (outsAt0 m c (t.val - 1) (by omega)).1) := by
  rw [outsAt0_C m c t h0 h1]
  frame_out
  simp only [read_unread_whole]

theorem step (t : Fin cfg0.N) (h0 : ¬t.val % 16 = 0) (y : S1024x7680.Idx) : (outsAt0 m c t.val t.isLt).1 y = (outsAt0 m c (t.val - 1) (by omega)).1 y + part m c t y := by
  have e : (outsAt0 m c t.val t.isLt).1 = View.canon (tiles (iblk m c 0 t) (iblk m c 1 t) (iblk m c 2 t) (iblk m c 3 t) (iblk m c 4 t) (iblk m c 5 t) (iblk m c 6 t) (outsAt0 m c (t.val - 1) (by omega)).1) := by
    by_cases h1 : t.val % 16 = 15
    · exact stepC1 m c t h0 h1
    · exact stepB m c t h0 h1
  rw [e]
  exact tiles_at _ _ _ _ _ _ _ _ _ (cols m c t) y

/-- A row's term in an entry of the weight gradient. -/
def term (a0 : FVec Ideal S8192x1024 .f32) (a1 : FVec Ideal S1024 .f32) (a3 : FVec Ideal S8192x7680 .f32) (d : Fin 1024) (e : Fin 7680) (i : Fin 8192) : EReal :=
  a0 (ix2 i d) * Ideal.rsqrt (Ideal.div (∑ f : Fin 1024, a0 (ix2 i f) * a0 (ix2 i f)) ((1024 : ℝ) : EReal) + Ideal.ofBits .f32 0x358637BD#32) * a1 (ix1 d) * a3 (ix2 i e)

/-- The reference's result over its arguments. -/
def refW (a0 : FVec Ideal S8192x1024 .f32) (a1 : FVec Ideal S1024 .f32) (a3 : FVec Ideal S8192x7680 .f32) : FVec Ideal S1024x7680 .f32 :=
  transpose InWRefIdeal.S1024x7680 [1, 0] (Host.dotGeneral InWRefIdeal.dot_S8192x7680_S8192x1024_S7680x1024_0_0_1_1_n_n none a3 (mulf (mulf a0 (broadcastInDim InWRefIdeal.S8192x1024 ![0, 1] InWRefIdeal.Gen.bcast_S8192x1_S8192x1024_0_1 (Host.rsqrt (addf (Host.divf (broadcastInDim InWRefIdeal.S8192x1 ![0] InWRefIdeal.Gen.bcast_S8192_S8192x1_0 (Host.reduceAdd (mulf a0 a0) (constant InWRefIdeal.S_ .f32 0x00000000#32) InWRefIdeal.Gen.reducesTo_S8192x1024_S8192_d1 InWRefIdeal.Gen.h_S_)) (broadcastInDim InWRefIdeal.S8192x1 ![] InWRefIdeal.Gen.bcast_S_S8192x1 (constant InWRefIdeal.S_ .f32 0x44800000#32))) (broadcastInDim InWRefIdeal.S8192x1 ![] InWRefIdeal.Gen.bcast_S_S8192x1 (constant InWRefIdeal.S_ .f32 0x358637BD#32)))))) (broadcastInDim InWRefIdeal.S8192x1024 ![0, 1] InWRefIdeal.Gen.bcast_S1x1024_S8192x1024_0_1 (broadcastInDim InWRefIdeal.S1x1024 ![1] InWRefIdeal.Gen.bcast_S1024_S1x1024_1 a1)))) InWRefIdeal.Gen.transposes_S7680x1024_S1024x7680_1_0

theorem refW_at (a0 a1 a3) (d : Fin 1024) (e : Fin 7680) : refW a0 a1 a3 (ix2 d e) = ∑ i : Fin 8192, term a0 a1 a3 d e i := by
  pointwise [refW, term, Consts.c1024]
  exact Finset.sum_congr rfl fun i _ => mul_comm _ _

abbrev gradW : FVec Ideal S1024x7680 .f32 := refW (m ((c : Thread nD τ).loc main_arg0)) (m ((c : Thread nD τ).loc main_arg1)) (m ((c : Thread nD τ).loc main_arg3))

theorem part_at (t : Fin cfg0.N) (d : Fin 1024) (e : Fin 7680) : part m c t (ix2 d e)
    = ∑ k : Fin 512, term (m ((c : Thread nD τ).loc main_arg0)) (m ((c : Thread nD τ).loc main_arg1)) (m ((c : Thread nD τ).loc main_arg3)) d e ⟨512 * t.val + k.val, row_lt t k⟩ := by
  show ∑ k : Fin 512, nx (iblk m c 0 t) (iblk m c 1 t) k d * cot m c t k e.val = _
  refine Finset.sum_congr rfl fun k _ => ?_
  unfold nx term
  simp only [ld_x, ld_g]
  exact congrArg₂ (· * ·) rfl (dif_pos e.isLt)

theorem sum_rows (T : Fin 8192 → EReal) : ∑ t : Fin cfg0.N, ∑ k : Fin 512, T ⟨512 * t.val + k.val, row_lt t k⟩ = ∑ i : Fin 8192, T i := by
  refine Fin.sum_mul_add_congr (M := EReal) (S := 16) (n := 512) (L := 8192) fun s k hl => ?_
  exact congrArg T (Fin.ext (by simp [Nat.mul_comm]))

theorem sum_parts (y : S1024x7680.Idx) : ∑ t : Fin cfg0.N, part m c t y = gradW m c y := by
  idx_vars y
  refine ((Finset.sum_congr rfl fun t _ => part_at m c t y0 y1).trans (sum_rows _)).trans (refW_at _ _ _ y0 y1).symm

theorem outs_last (y : S1024x7680.Idx) (n : ℕ) (h : n < cfg0.N) (hn : n = 15) : (outsAt0 m c n h).2 y = gradW m c y := by
  have hC := stepC m c ⟨n, h⟩ (by simp only; omega) (by simp only; omega)
  have h1 := stepC1 m c ⟨n, h⟩ (by simp only; omega) (by simp only; omega)
  rw [hC, ← h1]
  rw [Pipeline.eq_sum_fin_of_reset_step_apply_last (fun n h => (outsAt0 m c n h).1) 16 (fun _ => 0) (fun t j => part m c t j)
    (fun t h j => stepA m c t h (by omega) j) (fun t h j => step m c t h j) (le_of_eq N_0) ⟨n, h⟩ (by have e : cfg0.N = 16 := N_0; simp only; omega) y, zero_add]
  exact sum_parts m c y

/-- The kernel's array. -/
theorem run_arr (ρ : Dev nD → PrngReg) :
    θ_run defs (onTc (τ := τ) (main (F := Ideal))) ⟨m, fun _ => 0, ρ⟩ (fun r => ∀ c : Dev nD, r.2.mem ((c.tc : Thread nD τ).loc main_v45) = gradW m c) :=
  (θ_run defs _ _).mono (fun r h c => (h.2 c main_v45 (by decide)).trans ((hbG0_0 m c).trans (funext fun y => outs_last m c y _ _ (by have e : cfg0.N = 16 := N_0; rw [Fin.val_last]; omega)))) (run_main m ρ)

end Cert.InWIdeal.InWV

end
-- ==== Proof.InFwdValue.lean ====
/- The value of the norm and input projection over the ideal floats: the units of the projection and the units that are rounded. -/
module

public import proofs.«01_k».proof.Proof.Gen.InFwdIdeal.Value
public import proofs.«01_k».proof.Proof.Gen.InFwdRefIdeal.Run
public import Idealize.ShloMosaic.Lib.Pipeline.ValueKit
public import Idealize.ShloMosaic.Lib.Pointwise
public import proofs.«01_k».proof.Proof.Consts

@[expose] public section

set_option maxRecDepth 16384

noncomputable section

open Idealize.ShloMosaic Idealize.ShloMosaic.TcCoe Idealize.SL.Sem
open Idealize.ShloMosaic.Pipeline (Dat)
open scoped BigOperators

namespace Cert.InFwdIdeal.InV

open Cert.InFwdIdeal Cert.InFwdIdeal.Gen

variable (m : (ℓ : Loc nD τ sig) → Buf (Elt Ideal) ℓ) (c : Dev nD)

/-- The reference's projected units over its three arguments. -/
def refU (a0 : FVec Ideal S8192x1024 .f32) (a1 : FVec Ideal S2x1024 .f32) (a2 : FVec Ideal S2x1024x7680 .f32) : FVec Ideal S15x8192x512 .f32 :=
  transpose InFwdRefIdeal.S15x8192x512 [1, 0, 2] (shapeCast _ (Host.dotGeneral InFwdRefIdeal.dot_S8192x1024_S1024x7680_S8192x7680_1_0_0_1_n_n none (mulf (mulf a0 (broadcastInDim InFwdRefIdeal.S8192x1024 ![0, 1] InFwdRefIdeal.Gen.bcast_S8192x1_S8192x1024_0_1 (Host.rsqrt (addf (Host.divf (broadcastInDim InFwdRefIdeal.S8192x1 ![0] InFwdRefIdeal.Gen.bcast_S8192_S8192x1_0 (Host.reduceAdd (mulf a0 a0) (constant (F := Ideal) InFwdRefIdeal.S_ .f32 0x00000000#32) InFwdRefIdeal.Gen.reducesTo_S8192x1024_S8192_d1 InFwdRefIdeal.Gen.h_S_)) (broadcastInDim InFwdRefIdeal.S8192x1 ![] InFwdRefIdeal.Gen.bcast_S_S8192x1 (constant (F := Ideal) InFwdRefIdeal.S_ .f32 0x44800000#32))) (broadcastInDim InFwdRefIdeal.S8192x1 ![] InFwdRefIdeal.Gen.bcast_S_S8192x1 (constant (F := Ideal) InFwdRefIdeal.S_ .f32 0x358637BD#32)))))) (broadcastInDim InFwdRefIdeal.S8192x1024 ![0, 1] InFwdRefIdeal.Gen.bcast_S1x1024_S8192x1024_0_1 (broadcastInDim InFwdRefIdeal.S1x1024 ![1] InFwdRefIdeal.Gen.bcast_S1024_S1x1024_1 (shapeCast _ (extractStridedSlice InFwdRefIdeal.S1x1024 ![1, 0] a1 InFwdRefIdeal.Gen.slices_S2x1024_S1x1024_1_0) InFwdRefIdeal.Gen.shapeCasts_S1x1024_S1024)))) (shapeCast _ (extractStridedSlice InFwdRefIdeal.S1x1024x7680 ![1, 0, 0] a2 InFwdRefIdeal.Gen.slices_S2x1024x7680_S1x1024x7680_1_0_0) InFwdRefIdeal.Gen.shapeCasts_S1x1024x7680_S1024x7680)) InFwdRefIdeal.Gen.shapeCasts_S8192x7680_S8192x15x512) InFwdRefIdeal.Gen.transposes_S8192x15x512_S15x8192x512_1_0_2

/-- The reference's rounded units. -/
def refQ (a0 : FVec Ideal S8192x1024 .f32) (a1 : FVec Ideal S2x1024 .f32) (a2 : FVec Ideal S2x1024x7680 .f32) : FVec Ideal S3x8192x512 .bf16 :=
  truncf .bf16 (extractStridedSlice InFwdRefIdeal.S3x8192x512 ![5, 0, 0] (refU a0 a1 a2) InFwdRefIdeal.Gen.slices_S15x8192x512_S3x8192x512_5_0_0) InFwdRefIdeal.Gen.bitsLt_bf16_f32

/-- The norm's reciprocal root at a row. -/
def rr (x : Fin 1024 → EReal) : EReal := Ideal.rsqrt (Ideal.div (∑ e, x e * x e) ((1024 : ℝ) : EReal) + Ideal.ofBits .f32 0x358637BD#32)

/-- A row of the normalised input against a column of the weight. -/
def row (x g w : Fin 1024 → EReal) : EReal := ∑ e, x e * rr x * g e * w e

theorem refU_at (a0 a1 a2) (u : Fin 15) (q : Fin 8192) (l : Fin 512) :
    refU a0 a1 a2 (ix3 u q l) = row (fun e => a0 (ix2 q e)) (fun e => a1 (ix2 1 e)) fun e => a2 (ix3 1 e (⟨u.val * 512 + l.val, by omega⟩ : Fin 7680)) := by
  pointwise [refU, row, rr, Consts.c1024]

theorem refQ_at (a0 a1 a2) (u : Fin 3) (q : Fin 8192) (l : Fin 512) :
    refQ a0 a1 a2 (ix3 u q l) = refU a0 a1 a2 (ix3 (⟨5 + u.val, by omega⟩ : Fin 15) q l) := by
  pointwise [refQ]

theorem pay3_at (x : Vec Ideal S512x1024 .f32) (g : Vec Ideal S1x1024 .f32) (i : Fin 512) (e : Fin 1024) :
    k0_pay3 x g (ix2 i e) = x (ix2 i e) * rr (fun e => x (ix2 i e)) * g (ix2 0 e) := by
  pointwise [k0_pay3, rr, Consts.c1024]

/-- What one block's units hold: the normalised rows against the weight's columns. -/
def unit (x : Vec Ideal S512x1024 .f32) (g : Vec Ideal S1x1024 .f32) (w : Vec Ideal S1x1024x7680 .bf16) (u : ℕ) (i : Fin 512) (l : Fin 512) (hu : u < 15) : EReal :=
  ∑ e : Fin 1024, k0_pay3 x g (ix2 i e) * w (ix3 0 e (⟨u * 512 + l.val, by omega⟩ : Fin 7680))

theorem idx_val : ∀ t : Fin cfg0.N, win0_0.index t = ![t.val, 0] ∧ win0_1.index t = ![0, 0]
    ∧ win0_2.index t = ![1, 0, 0] ∧ win0_3.index t = ![0, t.val, 0] ∧ win0_4.index t = ![0, t.val, 0] :=
  (by decide +kernel : ∀ t : Fin grid0.N, _)

theorem lt16 (t : Fin cfg0.N) : t.val < 16 := lt_of_lt_of_eq t.isLt N_0

theorem unit_at (t : Fin cfg0.N) (u : ℕ) (hu : u < 15) (i : Fin 512) (l : Fin 512) :
    unit (iblk m c 0 t) (iblk m c 1 t) (iblk m c 2 t) u i l hu
      = refU (m ((c : Thread nD τ).loc main_arg0)) (m ((c : Thread nD τ).loc main_arg1)) (m ((c : Thread nD τ).loc main_arg2)) (ix3 (⟨u, hu⟩ : Fin 15) (⟨t.val * 512 + i.val, by have := lt16 t; omega⟩ : Fin 8192) l) := by
  have h0 : ∀ e : Fin 1024, iblk m c 0 t (ix2 i e) = m ((c : Thread nD τ).loc main_arg0) (ix2 (⟨t.val * 512 + i.val, by have := lt16 t; omega⟩ : Fin 8192) e) := fun e => by
    blk_point [iblk, V, idx_val t]
  have h1 : ∀ e : Fin 1024, iblk m c 1 t (ix2 0 e) = m ((c : Thread nD τ).loc main_arg1) (ix2 1 e) := fun e => by
    blk_point [iblk, V, idx_val t]
  have h2 : ∀ (e : Fin 1024) (j : Fin 7680), iblk m c 2 t (ix3 0 e j) = m ((c : Thread nD τ).loc main_arg2) (ix3 1 e j) := fun e j => by
    blk_point [iblk, V, idx_val t]
  rw [refU_at]
  simp only [unit, row, pay3_at, h0, h1, h2]

theorem point_3 (a : Vec Ideal S512x1024 .f32) (g : Vec Ideal S1x1024 .f32) (w : Vec Ideal S1x1024x7680 .bf16) (y : S15x512x512.Idx) :
    out0_3 a g w y = unit a g w (y 0).val (y 1) (y 2) (y 0).isLt := by
  canon_tiles x h
  all_goals
    open_payloads
    pointwise [unit, k0_pay3]
    rw [show y 1 = x 1 from Fin.ext h1]
    refine Finset.sum_congr rfl fun e _ => congrArg₂ (· * ·) rfl (congrArg w (congrArg (ix3 (0 : Fin 1) e) (Fin.ext ?_)))
    simp only
    omega

theorem point_4 (a : Vec Ideal S512x1024 .f32) (g : Vec Ideal S1x1024 .f32) (w : Vec Ideal S1x1024x7680 .bf16) (y : S3x512x512.Idx) :
    out0_4 a g w y = unit a g w (5 + (y 0).val) (y 1) (y 2) (by have := (y 0).isLt; simp at this; omega) := by
  canon_tiles x h
  all_goals
    open_payloads
    pointwise [unit, k0_pay3]
    rw [show y 1 = x 1 from Fin.ext h1]
    refine Finset.sum_congr rfl fun e _ => congrArg₂ (· * ·) rfl (congrArg w (congrArg (ix3 (0 : Fin 1) e) (Fin.ext ?_)))
    simp only
    omega

theorem final_3 : (dats m 0 c).arrAt 3 (cfgs 0).N = refU (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (point_3 _ _ _ y).trans ((unit_at m c t _ _ _ _).trans (congrArg _ ?_))
  idx_vars y
  blk_ext [idx_val t]

theorem final_4 : (dats m 0 c).arrAt 4 (cfgs 0).N = refQ (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (point_4 _ _ _ y).trans ((unit_at m c t _ _ _ _).trans ?_)
  idx_vars y
  have e : ((cfg0.win 4).blk t).view.emb (ix3 y0 y1 y2) = ix3 y0 (⟨t.val * 512 + y1.val, by have := lt16 t; omega⟩ : Fin 8192) y2 := by
    blk_ext [idx_val t]
  rw [e, refQ_at]

end Cert.InFwdIdeal.InV

end
-- ==== Proof.AdamValue.lean ====
/- The value of the optimiser's step on one device's part of the input projection's weight, over the ideal floats. -/
module

public import proofs.«01_k».proof.Proof.Gen.AdamIdeal.Value
public import proofs.«01_k».proof.Proof.Gen.AdamRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamIdeal.AdamV

open Cert.AdamIdeal Cert.AdamIdeal.Gen

variable (m : (ℓ : Loc nD τ sig) → Buf (Elt Ideal) ℓ) (c : Dev nD)

/-- The first moment after the step, at one place. -/
def mom (g m : EReal) : EReal := Ideal.ofBits .f32 0x3F666666#32 * m + Ideal.ofBits .f32 0x3DCCCCCD#32 * g

/-- The second moment after the step, at one place. -/
def vel (g v : EReal) : EReal := Ideal.ofBits .f32 0x3F7FBE77#32 * v + Ideal.ofBits .f32 0x3A83126F#32 * (g * g)

/-- The change of the weight, at one place. -/
def delta (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

/-- The change of the weight over whole arrays. -/
def allDelta (g w m v : FVec Ideal S2048x1920 .f32) : FVec Ideal S2048x1920 .f32 := fun y => delta (g y) (w y) (m y) (v y)

/-- The first moment over whole arrays. -/
def allMom (g m : FVec Ideal S2048x1920 .f32) : FVec Ideal S2048x1920 .f32 := fun y => mom (g y) (m y)

/-- The second moment over whole arrays. -/
def allVel (g v : FVec Ideal S2048x1920 .f32) : FVec Ideal S2048x1920 .f32 := fun y => vel (g y) (v y)

/-- The reference's change of the weight. -/
def refDelta (g w p q : FVec Ideal S2048x1920 .f32) : FVec Ideal S2048x1920 .f32 :=
  mulf (broadcastInDim AdamRefIdeal.S2048x1920 ![] AdamRefIdeal.Gen.bcast_S_S2048x1920 (constant (F := Ideal) AdamRefIdeal.S_ .f32 0xBA83126F#32)) (addf (Host.divf (Host.divf (addf (mulf (broadcastInDim AdamRefIdeal.S2048x1920 ![] AdamRefIdeal.Gen.bcast_S_S2048x1920 (constant (F := Ideal) AdamRefIdeal.S_ .f32 0x3F666666#32)) p) (mulf (broadcastInDim AdamRefIdeal.S2048x1920 ![] AdamRefIdeal.Gen.bcast_S_S2048x1920 (constant (F := Ideal) AdamRefIdeal.S_ .f32 0x3DCCCCCD#32)) g)) (broadcastInDim AdamRefIdeal.S2048x1920 ![] AdamRefIdeal.Gen.bcast_S_S2048x1920 (constant (F := Ideal) AdamRefIdeal.S_ .f32 0x3F26BD02#32))) (addf (Host.sqrt (Host.divf (addf (mulf (broadcastInDim AdamRefIdeal.S2048x1920 ![] AdamRefIdeal.Gen.bcast_S_S2048x1920 (constant (F := Ideal) AdamRefIdeal.S_ .f32 0x3F7FBE77#32)) q) (mulf (broadcastInDim AdamRefIdeal.S2048x1920 ![] AdamRefIdeal.Gen.bcast_S_S2048x1920 (constant (F := Ideal) AdamRefIdeal.S_ .f32 0x3A83126F#32)) (mulf g g))) (broadcastInDim AdamRefIdeal.S2048x1920 ![] AdamRefIdeal.Gen.bcast_S_S2048x1920 (constant (F := Ideal) AdamRefIdeal.S_ .f32 0x3C231ACC#32)))) (broadcastInDim AdamRefIdeal.S2048x1920 ![] AdamRefIdeal.Gen.bcast_S_S2048x1920 (constant (F := Ideal) AdamRefIdeal.S_ .f32 0x322BCC77#32)))) (mulf (broadcastInDim AdamRefIdeal.S2048x1920 ![] AdamRefIdeal.Gen.bcast_S_S2048x1920 (constant (F := Ideal) AdamRefIdeal.S_ .f32 0x3C23D70A#32)) w))

/-- The reference's first moment. -/
def refMom (g p : FVec Ideal S2048x1920 .f32) : FVec Ideal S2048x1920 .f32 :=
  addf (mulf (broadcastInDim AdamRefIdeal.S2048x1920 ![] AdamRefIdeal.Gen.bcast_S_S2048x1920 (constant (F := Ideal) AdamRefIdeal.S_ .f32 0x3F666666#32)) p) (mulf (broadcastInDim AdamRefIdeal.S2048x1920 ![] AdamRefIdeal.Gen.bcast_S_S2048x1920 (constant (F := Ideal) AdamRefIdeal.S_ .f32 0x3DCCCCCD#32)) g)

/-- The reference's second moment. -/
def refVel (g q : FVec Ideal S2048x1920 .f32) : FVec Ideal S2048x1920 .f32 :=
  addf (mulf (broadcastInDim AdamRefIdeal.S2048x1920 ![] AdamRefIdeal.Gen.bcast_S_S2048x1920 (constant (F := Ideal) AdamRefIdeal.S_ .f32 0x3F7FBE77#32)) q) (mulf (broadcastInDim AdamRefIdeal.S2048x1920 ![] AdamRefIdeal.Gen.bcast_S_S2048x1920 (constant (F := Ideal) AdamRefIdeal.S_ .f32 0x3A83126F#32)) (mulf g g))

theorem refDelta_eq (g w p q : FVec Ideal S2048x1920 .f32) : refDelta g w p q = allDelta g w p q := by
  funext y
  idx_vars y
  pointwise [refDelta, allDelta, delta, mom, vel]

theorem refMom_eq (g p : FVec Ideal S2048x1920 .f32) : refMom g p = allMom g p := by
  funext y
  idx_vars y
  pointwise [refMom, allMom, mom]

theorem refVel_eq (g q : FVec Ideal S2048x1920 .f32) : refVel g q = allVel g q := by
  funext y
  idx_vars y
  pointwise [refVel, allVel, vel]

theorem idx_val : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem lt16 (t : Fin cfg0.N) : t.val < 16 := lt_of_lt_of_eq t.isLt N_0

/-- The place in the array of row `i` of block `t`. -/
def at_ (t : Fin cfg0.N) (i : Fin 128) (j : Fin 1920) : S2048x1920.Idx := ix2 (⟨t.val * 128 + i.val, by have := lt16 t; omega⟩ : Fin 2048) j

theorem blk_0 (t : Fin cfg0.N) (i : Fin 128) (j : Fin 1920) :
    iblk m c 0 t (ix3 0 i j) = m ((c : Thread nD τ).loc main_arg0) (at_ t i j) := by
  blk_point [iblk, V, idx_val t, at_]

theorem blk_1 (t : Fin cfg0.N) (i : Fin 128) (j : Fin 1920) :
    iblk m c 1 t (ix2 i j) = m ((c : Thread nD τ).loc main_arg1) (at_ t i j) := by
  blk_point [iblk, V, idx_val t, at_]

theorem blk_2 (t : Fin cfg0.N) (i : Fin 128) (j : Fin 1920) :
    iblk m c 2 t (ix2 i j) = m ((c : Thread nD τ).loc main_arg2) (at_ t i j) := by
  blk_point [iblk, V, idx_val t, at_]

theorem blk_3 (t : Fin cfg0.N) (i : Fin 128) (j : Fin 1920) :
    iblk m c 3 t (ix2 i j) = m ((c : Thread nD τ).loc main_arg3) (at_ t i j) := by
  blk_point [iblk, V, idx_val t, at_]

theorem point_4 (g : Vec Ideal S1x128x1920 .f32) (w p q : Vec Ideal S128x1920 .f32) (i : Fin 128) (j : Fin 1920) :
    out0_4 g w p q (ix2 i j) = g (ix3 0 i j) := by
  frame_out
  pointwise [k0_pay1]

theorem point_5 (g : Vec Ideal S1x128x1920 .f32) (w p q : Vec Ideal S128x1920 .f32) (i : Fin 128) (j : Fin 1920) :
    out0_5 g w p q (ix2 i j) = delta (g (ix3 0 i j)) (w (ix2 i j)) (p (ix2 i j)) (q (ix2 i j)) := by
  frame_out
  pointwise [k0_pay1, k0_pay2, k0_pay3, k0_pay4, delta, mom, vel]

theorem point_6 (g : Vec Ideal S1x128x1920 .f32) (w p q : Vec Ideal S128x1920 .f32) (i : Fin 128) (j : Fin 1920) :
    out0_6 g w p q (ix2 i j) = mom (g (ix3 0 i j)) (p (ix2 i j)) := by
  frame_out
  pointwise [k0_pay1, k0_pay2, mom]

theorem point_7 (g : Vec Ideal S1x128x1920 .f32) (w p q : Vec Ideal S128x1920 .f32) (i : Fin 128) (j : Fin 1920) :
    out0_7 g w p q (ix2 i j) = vel (g (ix3 0 i j)) (q (ix2 i j)) := by
  frame_out
  pointwise [k0_pay1, k0_pay3, vel]

theorem final_4 : (dats m 0 c).arrAt 4 (cfgs 0).N = m ((c : Thread nD τ).loc main_arg0) := by
  refine (dats m 0 c).arrAt_eq_of_covers 4 _ (by decide +kernel) fun t hf y => ?_
  blk_simp
  rw [after0_4]
  idx_vars y
  refine (point_4 _ _ _ _ y0 y1).trans ((blk_0 m c t _ _).trans (congrArg _ ?_))
  blk_ext [idx_val t, at_]

theorem final_5 : (dats m 0 c).arrAt 5 (cfgs 0).N = refDelta (m ((c : Thread nD τ).loc main_arg0)) (m ((c : Thread nD τ).loc main_arg1)) (m ((c : Thread nD τ).loc main_arg2)) (m ((c : Thread nD τ).loc main_arg3)) := by
  rw [refDelta_eq]
  refine (dats m 0 c).arrAt_eq_of_covers 5 _ (by decide +kernel) fun t hf y => ?_
  blk_simp
  rw [after0_5]
  idx_vars y
  rw [point_5, blk_0, blk_1, blk_2, blk_3]
  refine congrArg (allDelta _ _ _ _) ?_
  blk_ext [idx_val t, at_]

theorem final_6 : (dats m 0 c).arrAt 6 (cfgs 0).N = refMom (m ((c : Thread nD τ).loc main_arg0)) (m ((c : Thread nD τ).loc main_arg2)) := by
  rw [refMom_eq]
  refine (dats m 0 c).arrAt_eq_of_covers 6 _ (by decide +kernel) fun t hf y => ?_
  blk_simp
  rw [after0_6]
  idx_vars y
  rw [point_6, blk_0, blk_2]
  refine congrArg (allMom _ _) ?_
  blk_ext [idx_val t, at_]

theorem final_7 : (dats m 0 c).arrAt 7 (cfgs 0).N = refVel (m ((c : Thread nD τ).loc main_arg0)) (m ((c : Thread nD τ).loc main_arg3)) := by
  rw [refVel_eq]
  refine (dats m 0 c).arrAt_eq_of_covers 7 _ (by decide +kernel) fun t hf y => ?_
  blk_simp
  rw [after0_7]
  idx_vars y
  rw [point_7, blk_0, blk_3]
  refine congrArg (allVel _ _) ?_
  blk_ext [idx_val t, at_]

end Cert.AdamIdeal.AdamV

end
-- ==== Proof.SmallValue.lean ====
/- The value of the optimiser's step on the packed small weights, after the sum of the devices' parts, over the ideal floats. -/
module

public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamSmallIdeal.SmallV

open Cert.AdamSmallIdeal Cert.AdamSmallIdeal.Gen

variable (m : (ℓ : Loc nD τ sig) → Buf (Elt Ideal) ℓ) (c : Dev nD)

/-- The first moment after the step, at one place. -/
def mom (g m : EReal) : EReal := Ideal.ofBits .f32 0x3F666666#32 * m + Ideal.ofBits .f32 0x3DCCCCCD#32 * g

/-- The second moment after the step, at one place. -/
def vel (g v : EReal) : EReal := Ideal.ofBits .f32 0x3F7FBE77#32 * v + Ideal.ofBits .f32 0x3A83126F#32 * (g * g)

/-- The change of the weight, at one place. -/
def delta (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

/-- The sum of the devices' parts at one place. -/
def total (f : Fin 8 → EReal) : EReal := ∑ k, f k

/-- The reference's sum of the parts. -/
def refSum (g : FVec Ideal S8x1104x128 .f32) : FVec Ideal S1104x128 .f32 :=
  Host.reduceAdd g (constant (F := Ideal) AdamSmallRefIdeal.S_ .f32 0x00000000#32) AdamSmallRefIdeal.Gen.reducesTo_S8x1104x128_S1104x128_d0 AdamSmallRefIdeal.Gen.h_S_

theorem refSum_at (g : FVec Ideal S8x1104x128 .f32) (i : Fin 1104) (j : Fin 128) : refSum g (ix2 i j) = total fun k => g (ix3 k i j) := by
  pointwise [refSum, total]

/-- The reference's change of the weight. -/
def refDelta (g : FVec Ideal S8x1104x128 .f32) (w p q : FVec Ideal S1104x128 .f32) : FVec Ideal S1104x128 .f32 :=
  mulf (broadcastInDim AdamSmallRefIdeal.S1104x128 ![] AdamSmallRefIdeal.Gen.bcast_S_S1104x128 (constant (F := Ideal) AdamSmallRefIdeal.S_ .f32 0xBA83126F#32)) (addf (Host.divf (Host.divf (addf (mulf (broadcastInDim AdamSmallRefIdeal.S1104x128 ![] AdamSmallRefIdeal.Gen.bcast_S_S1104x128 (constant (F := Ideal) AdamSmallRefIdeal.S_ .f32 0x3F666666#32)) p) (mulf (broadcastInDim AdamSmallRefIdeal.S1104x128 ![] AdamSmallRefIdeal.Gen.bcast_S_S1104x128 (constant (F := Ideal) AdamSmallRefIdeal.S_ .f32 0x3DCCCCCD#32)) (refSum g))) (broadcastInDim AdamSmallRefIdeal.S1104x128 ![] AdamSmallRefIdeal.Gen.bcast_S_S1104x128 (constant (F := Ideal) AdamSmallRefIdeal.S_ .f32 0x3F26BD02#32))) (addf (Host.sqrt (Host.divf (addf (mulf (broadcastInDim AdamSmallRefIdeal.S1104x128 ![] AdamSmallRefIdeal.Gen.bcast_S_S1104x128 (constant (F := Ideal) AdamSmallRefIdeal.S_ .f32 0x3F7FBE77#32)) q) (mulf (broadcastInDim AdamSmallRefIdeal.S1104x128 ![] AdamSmallRefIdeal.Gen.bcast_S_S1104x128 (constant (F := Ideal) AdamSmallRefIdeal.S_ .f32 0x3A83126F#32)) (mulf (refSum g) (refSum g)))) (broadcastInDim AdamSmallRefIdeal.S1104x128 ![] AdamSmallRefIdeal.Gen.bcast_S_S1104x128 (constant (F := Ideal) AdamSmallRefIdeal.S_ .f32 0x3C231ACC#32)))) (broadcastInDim AdamSmallRefIdeal.S1104x128 ![] AdamSmallRefIdeal.Gen.bcast_S_S1104x128 (constant (F := Ideal) AdamSmallRefIdeal.S_ .f32 0x322BCC77#32)))) (mulf (broadcastInDim AdamSmallRefIdeal.S1104x128 ![] AdamSmallRefIdeal.Gen.bcast_S_S1104x128 (constant (F := Ideal) AdamSmallRefIdeal.S_ .f32 0x3C23D70A#32)) w))

theorem refDelta_at (g : FVec Ideal S8x1104x128 .f32) (w p q : FVec Ideal S1104x128 .f32) (i : Fin 1104) (j : Fin 128) : refDelta g w p q (ix2 i j) = delta (total fun k => g (ix3 k i j)) (w (ix2 i j)) (p (ix2 i j)) (q (ix2 i j)) := by
  rw [← refSum_at]
  pointwise [refDelta, delta, mom, vel]

/-- The reference's first moment. -/
def refMom (g : FVec Ideal S8x1104x128 .f32) (p : FVec Ideal S1104x128 .f32) : FVec Ideal S1104x128 .f32 :=
  addf (mulf (broadcastInDim AdamSmallRefIdeal.S1104x128 ![] AdamSmallRefIdeal.Gen.bcast_S_S1104x128 (constant (F := Ideal) AdamSmallRefIdeal.S_ .f32 0x3F666666#32)) p) (mulf (broadcastInDim AdamSmallRefIdeal.S1104x128 ![] AdamSmallRefIdeal.Gen.bcast_S_S1104x128 (constant (F := Ideal) AdamSmallRefIdeal.S_ .f32 0x3DCCCCCD#32)) (refSum g))

theorem refMom_at (g : FVec Ideal S8x1104x128 .f32) (p : FVec Ideal S1104x128 .f32) (i : Fin 1104) (j : Fin 128) : refMom g p (ix2 i j) = mom (total fun k => g (ix3 k i j)) (p (ix2 i j)) := by
  rw [← refSum_at]
  pointwise [refMom, delta, mom, vel]

/-- The reference's second moment. -/
def refVel (g : FVec Ideal S8x1104x128 .f32) (q : FVec Ideal S1104x128 .f32) : FVec Ideal S1104x128 .f32 :=
  addf (mulf (broadcastInDim AdamSmallRefIdeal.S1104x128 ![] AdamSmallRefIdeal.Gen.bcast_S_S1104x128 (constant (F := Ideal) AdamSmallRefIdeal.S_ .f32 0x3F7FBE77#32)) q) (mulf (broadcastInDim AdamSmallRefIdeal.S1104x128 ![] AdamSmallRefIdeal.Gen.bcast_S_S1104x128 (constant (F := Ideal) AdamSmallRefIdeal.S_ .f32 0x3A83126F#32)) (mulf (refSum g) (refSum g)))

theorem refVel_at (g : FVec Ideal S8x1104x128 .f32) (q : FVec Ideal S1104x128 .f32) (i : Fin 1104) (j : Fin 128) : refVel g q (ix2 i j) = vel (total fun k => g (ix3 k i j)) (q (ix2 i j)) := by
  rw [← refSum_at]
  pointwise [refVel, delta, mom, vel]

theorem idx_val : ∀ t : Fin cfg0.N, win0_0.index t = ![0, 0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

theorem blk_0 (t : Fin cfg0.N) (k : Fin 8) (i : Fin 1104) (j : Fin 128) :
    iblk m c 0 t (ix3 k i j) = m ((c : Thread nD τ).loc main_arg0) (ix3 k i j) := by
  blk_point [iblk, V, idx_val t]

theorem blk_1 (t : Fin cfg0.N) (i : Fin 1104) (j : Fin 128) :
    iblk m c 1 t (ix2 i j) = m ((c : Thread nD τ).loc main_arg1) (ix2 i j) := by
  blk_point [iblk, V, idx_val t]

theorem blk_2 (t : Fin cfg0.N) (i : Fin 1104) (j : Fin 128) :
    iblk m c 2 t (ix2 i j) = m ((c : Thread nD τ).loc main_arg2) (ix2 i j) := by
  blk_point [iblk, V, idx_val t]

theorem blk_3 (t : Fin cfg0.N) (i : Fin 1104) (j : Fin 128) :
    iblk m c 3 t (ix2 i j) = m ((c : Thread nD τ).loc main_arg3) (ix2 i j) := by
  blk_point [iblk, V, idx_val t]

theorem total_blk (t : Fin cfg0.N) (i : Fin 1104) (j : Fin 128) :
    (total fun k => iblk m c 0 t (ix3 k i j)) = total fun k => m ((c : Thread nD τ).loc main_arg0) (ix3 k i j) :=
  congrArg total (funext fun k => blk_0 m c t k i j)

theorem pay5_at (g : Vec Ideal S8x1104x128 .f32) (w p q : Vec Ideal S1104x128 .f32) (i : Fin 1104) (j : Fin 128) :
    k0_pay5 g w p q (ix2 i j) = total fun k => g (ix3 k i j) := by
  rw [total, Fin.sum_univ_eight]
  pointwise [k0_pay5, k0_pay3]

theorem point_4 (g : Vec Ideal S8x1104x128 .f32) (w p q : Vec Ideal S1104x128 .f32) (i : Fin 1104) (j : Fin 128) :
    out0_4 g w p q (ix2 i j) = total fun k => g (ix3 k i j) := by
  rw [← pay5_at g w p q]
  frame_out

theorem point_5 (g : Vec Ideal S8x1104x128 .f32) (w p q : Vec Ideal S1104x128 .f32) (i : Fin 1104) (j : Fin 128) :
    out0_5 g w p q (ix2 i j) = delta (total fun k => g (ix3 k i j)) (w (ix2 i j)) (p (ix2 i j)) (q (ix2 i j)) := by
  rw [← pay5_at g w p q]
  frame_out
  pointwise [k0_pay6, k0_pay4, k0_pay5, k0_pay2, k0_pay1, delta, mom, vel]

theorem point_6 (g : Vec Ideal S8x1104x128 .f32) (w p q : Vec Ideal S1104x128 .f32) (i : Fin 1104) (j : Fin 128) :
    out0_6 g w p q (ix2 i j) = mom (total fun k => g (ix3 k i j)) (p (ix2 i j)) := by
  rw [← pay5_at g w p q]
  frame_out
  pointwise [k0_pay6, k0_pay4, k0_pay5, mom]

theorem point_7 (g : Vec Ideal S8x1104x128 .f32) (w p q : Vec Ideal S1104x128 .f32) (i : Fin 1104) (j : Fin 128) :
    out0_7 g w p q (ix2 i j) = vel (total fun k => g (ix3 k i j)) (q (ix2 i j)) := by
  rw [← pay5_at g w p q]
  frame_out
  pointwise [k0_pay1, vel]

theorem final_4 : (dats m 0 c).arrAt 4 (cfgs 0).N = refSum (m ((c : Thread nD τ).loc main_arg0)) := by
  refine (dats m 0 c).arrAt_eq_of_covers 4 _ (by decide +kernel) fun t hf y => ?_
  blk_simp
  rw [after0_4]
  idx_vars y
  have e : ((cfg0.win 4).blk t).view.emb (ix2 y0 y1) = ix2 y0 y1 := by
    blk_ext [idx_val t]
  rw [e, refSum_at, point_4, total_blk]

theorem final_5 : (dats m 0 c).arrAt 5 (cfgs 0).N = refDelta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have e : ((cfg0.win 5).blk t).view.emb (ix2 y0 y1) = ix2 y0 y1 := by
    blk_ext [idx_val t]
  rw [e, refDelta_at, point_5, total_blk, blk_1, blk_2, blk_3]

theorem final_6 : (dats m 0 c).arrAt 6 (cfgs 0).N = refMom (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have e : ((cfg0.win 6).blk t).view.emb (ix2 y0 y1) = ix2 y0 y1 := by
    blk_ext [idx_val t]
  rw [e, refMom_at, point_6, total_blk, blk_2]

theorem final_7 : (dats m 0 c).arrAt 7 (cfgs 0).N = refVel (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have e : ((cfg0.win 7).blk t).view.emb (ix2 y0 y1) = ix2 y0 y1 := by
    blk_ext [idx_val t]
  rw [e, refVel_at, point_7, total_blk, blk_3]

end Cert.AdamSmallIdeal.SmallV

end
-- ==== Proof.SumValue.lean ====
/- The value of the sum of the four chips' parts of the input projection's weight gradient, over the ideal floats. -/
module

public import proofs.«01_k».proof.Proof.Gen.SumChipsIdeal.Value
public import proofs.«01_k».proof.Proof.Gen.SumChipsRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SumChipsIdeal.SumV

open Cert.SumChipsIdeal Cert.SumChipsIdeal.Gen

variable (m : (ℓ : Loc nD τ sig) → Buf (Elt Ideal) ℓ) (c : Dev nD)

/-- The sum of the chips' parts at one place. -/
def total (f : Fin 4 → EReal) : EReal := ∑ k, f k

/-- The reference's sum. -/
def refSum (p : FVec Ideal S4x1024x1920 .bf16) : FVec Ideal S1024x1920 .f32 :=
  Host.reduceAdd (extf .f32 p SumChipsRefIdeal.Gen.bitsLt_bf16_f32) (constant (F := Ideal) SumChipsRefIdeal.S_ .f32 0x00000000#32) SumChipsRefIdeal.Gen.reducesTo_S4x1024x1920_S1024x1920_d0 SumChipsRefIdeal.Gen.h_S_

theorem refSum_at (p : FVec Ideal S4x1024x1920 .bf16) (i : Fin 1024) (j : Fin 1920) :
    refSum p (ix2 i j) = total fun k => p (ix3 k i j) := by
  pointwise [refSum, total]

theorem idx_val : ∀ t : Fin cfg0.N, win0_0.index t = ![0, t.val, 0] ∧ win0_1.index t = ![t.val, 0] :=
  (by decide +kernel : ∀ t : Fin grid0.N, _)

theorem lt4 (t : Fin cfg0.N) : t.val < 4 := lt_of_lt_of_eq t.isLt N_0

theorem blk_0 (t : Fin cfg0.N) (k : Fin 4) (i : Fin 256) (j : Fin 1920) :
    iblk m c 0 t (ix3 k i j) = m ((c : Thread nD τ).loc main_arg0) (ix3 k (⟨t.val * 256 + i.val, by have := lt4 t; omega⟩ : Fin 1024) j) := by
  blk_point [iblk, V, idx_val t]

theorem point_1 (p : Vec Ideal S4x256x1920 .bf16) (i : Fin 256) (j : Fin 1920) :
    out0_1 p (ix2 i j) = total fun k => p (ix3 k i j) := by
  rw [total, Fin.sum_univ_four]
  frame_out
  pointwise [k0_pay1]

theorem sum_blk (t : Fin cfg0.N) (i : Fin 256) (j : Fin 1920) :
    (total fun k => iblk m c 0 t (ix3 k i j)) = refSum (m ((c : Thread nD τ).loc main_arg0)) (ix2 (⟨t.val * 256 + i.val, by have := lt4 t; omega⟩ : Fin 1024) j) := by
  rw [refSum_at]
  exact congrArg total (funext fun k => blk_0 m c t k i j)

theorem final_1 : (dats m 0 c).arrAt 1 (cfgs 0).N = refSum (m ((c : Thread nD τ).loc main_arg0)) := by
  refine (dats m 0 c).arrAt_eq_of_covers 1 _ (by decide +kernel) fun t hf y => ?_
  blk_simp
  rw [after0_1]
  idx_vars y
  have e : ((cfg0.win 1).blk t).view.emb (ix2 y0 y1) = ix2 (⟨t.val * 256 + y0.val, by have := lt4 t; omega⟩ : Fin 1024) y1 := by
    blk_ext [idx_val t]
  rw [e]
  exact (point_1 _ y0 y1).trans (sum_blk m c t y0 y1)

end Cert.SumChipsIdeal.SumV

end
-- ==== Proof.OwnValue.lean ====
/- The value of one core's sum of its own layer's half of the input projection's weight gradient and the other core's, over the ideal floats. -/
module

public import proofs.«01_k».proof.Proof.Gen.SumCores.Frame
public import proofs.«01_k».proof.Proof.Gen.SumCoresIdeal.Frame
public import proofs.«01_k».proof.Proof.Gen.SumCoresRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SumCores.OwnV

open Cert.SumCores Cert.SumCores.Gen

/-- Whatever the word is, the blocks it picks lie inside their arrays. -/
theorem ok {F : FTy → Type} [FloatOps F] (m : (ℓ : Loc nD τ sig) → Buf (Elt F) ℓ) : Ok m := by
  have key : ∀ (b : BitVec 1) (i : grid0.Coords) (a : Fin 2),
      ((![(Scalar.select b (BitVec.ofNat 32 (i 0).val) 0#32).toNat, (0#32 : BitVec 32).toNat] : Fin 2 → Nat) a + 1) * S64x7680.size a ≤ S1024x7680.size a := by
    intro b i a
    have hi : (i 0).val < 16 := (i 0).isLt
    match a with
    | ⟨0, _⟩ =>
      show ((if b = 1#1 then BitVec.ofNat 32 (i 0).val else 0#32).toNat + 1) * 64 ≤ 1024
      split
      · rw [BitVec.toNat_ofNat, Nat.mod_eq_of_lt (by omega)]; omega
      · show (0 + 1) * 64 ≤ 1024; omega
    | ⟨1, _⟩ => show (0 + 1) * 7680 ≤ 7680; omega
  exact ⟨fun i => ⟨fun a => key _ i a, Or.inl rfl⟩, fun i => ⟨fun a => key _ i a, Or.inl rfl⟩⟩

end Cert.SumCores.OwnV

namespace Cert.SumCoresIdeal.OwnV

open Cert.SumCoresIdeal Cert.SumCoresIdeal.Gen

/-- Whatever the word is, the blocks it picks lie inside their arrays. -/
theorem ok {F : FTy → Type} [FloatOps F] (m : (ℓ : Loc nD τ sig) → Buf (Elt F) ℓ) : Ok m := by
  have key : ∀ (b : BitVec 1) (i : grid0.Coords) (a : Fin 2),
      ((![(Scalar.select b (BitVec.ofNat 32 (i 0).val) 0#32).toNat, (0#32 : BitVec 32).toNat] : Fin 2 → Nat) a + 1) * S64x7680.size a ≤ S1024x7680.size a := by
    intro b i a
    have hi : (i 0).val < 16 := (i 0).isLt
    match a with
    | ⟨0, _⟩ =>
      show ((if b = 1#1 then BitVec.ofNat 32 (i 0).val else 0#32).toNat + 1) * 64 ≤ 1024
      split
      · rw [BitVec.toNat_ofNat, Nat.mod_eq_of_lt (by omega)]; omega
      · show (0 + 1) * 64 ≤ 1024; omega
    | ⟨1, _⟩ => show (0 + 1) * 7680 ≤ 7680; omega
  exact ⟨fun i => ⟨fun a => key _ i a, Or.inl rfl⟩, fun i => ⟨fun a => key _ i a, Or.inl rfl⟩⟩

variable (m : (ℓ : Loc nD τ sig) → Buf (Elt Ideal) ℓ) (c : Dev nD)

/-- The layer this core adds. -/
def layer : BitVec 32 := m ((c : Thread nD τ).loc main_arg0) (ix1 0)

/-- The reference's sum. -/
def refSum (l : IVec S1 32) (p q r : FVec Ideal S1024x7680 .f32) : FVec Ideal S1x1024x7680 .bf16 :=
  broadcastInDim SumCoresRefIdeal.S1x1024x7680 ![1, 2] SumCoresRefIdeal.Gen.bcast_S1024x7680_S1x1024x7680_1_2 (truncf .bf16 (addf (select (broadcastInDim SumCoresRefIdeal.S1024x7680 ![] SumCoresRefIdeal.Gen.bcast_S_S1024x7680 (cmpi .eq (shapeCast _ l SumCoresRefIdeal.Gen.shapeCasts_S1_S_) (constantI SumCoresRefIdeal.S_ 32 0#32))) p q) r) SumCoresRefIdeal.Gen.bitsLt_bf16_f32)

/-- The precondition's word: the layer is one of the two. -/
theorem layer_of {w : BitVec 32} (h : IntOp.ori (IntOp.cmpi .eq w 0#32) (IntOp.cmpi .eq w 1#32) = 1#1) : w = 0#32 ∨ w = 1#32 := by
  by_contra n
  rw [not_or] at n
  have e0 : IntOp.cmpi .eq w 0#32 = 0#1 := by
    show BitVec.ofBool (w == 0#32) = 0#1
    rw [beq_false_of_ne n.1]; rfl
  have e1 : IntOp.cmpi .eq w 1#32 = 0#1 := by
    show BitVec.ofBool (w == 1#32) = 0#1
    rw [beq_false_of_ne n.2]; rfl
  rw [e0, e1] at h
  exact absurd h (by decide)

theorem choose {α : Type} (l : BitVec 32) (a b : α) : Scalar.select (IntOp.cmpi .eq l 0#32) a b = if l = 0#32 then a else b := by
  by_cases h : l = 0#32
  · subst h
    rw [if_pos rfl]
    rfl
  · rw [if_neg h]
    show (if (BitVec.ofBool (l == 0#32)) = 1#1 then a else b) = b
    rw [beq_false_of_ne h]
    rfl

theorem refSum_at (l : IVec S1 32) (p q r : FVec Ideal S1024x7680 .f32) (i : Fin 1024) (j : Fin 7680) :
    refSum l p q r (ix3 0 i j) = (if l (ix1 0) = 0#32 then p (ix2 i j) else q (ix2 i j)) + r (ix2 i j) := by
  pointwise [refSum]
  rw [choose]

theorem coord : ∀ t : Fin grid0.N, (grid0.coords t 0).val = t.val := by decide +kernel

theorem lt16 (t : Fin (cfgM m (ok m)).N) : t.val < 16 := lt_of_lt_of_eq t.isLt (by decide : grid0.N = 16)

theorem word : (tbl m).at 0 (Rect.unit (s := S1) ![0] S1.size inb_S1_S1_0) numel1_S1 = layer m c := by
  obtain rfl : c = 0 := Subsingleton.elim _ _
  show m _ _ = m _ _
  refine congrArg _ (funext fun a => ?_)
  match a with
  | ⟨0, _⟩ => exact Subsingleton.elim (α := Fin 1) _ _

theorem idx_0 (t : Fin (cfgM m (ok m)).N) (h : layer m c = 0#32) : ((cfgM m (ok m)).win 0).index t = ![t.val, 0] := by
  show cc0_transform_0 inb_S1_S1_0 numel1_S1 (tbl m) (grid0.coords t) = _
  unfold cc0_transform_0
  rw [word m c, h]
  show ![(BitVec.ofNat 32 (grid0.coords t 0).val).toNat, 0] = _
  rw [coord t, BitVec.toNat_ofNat, Nat.mod_eq_of_lt (by have := lt16 m t; omega)]

theorem idx_1 (t : Fin (cfgM m (ok m)).N) (h : layer m c = 1#32) : ((cfgM m (ok m)).win 1).index t = ![t.val, 0] := by
  show cc0_transform_1 inb_S1_S1_0 numel1_S1 (tbl m) (grid0.coords t) = _
  unfold cc0_transform_1
  rw [word m c, h]
  show ![(BitVec.ofNat 32 (grid0.coords t 0).val).toNat, 0] = _
  rw [coord t, BitVec.toNat_ofNat, Nat.mod_eq_of_lt (by have := lt16 m t; omega)]

theorem idx_2 (t : Fin (cfgM m (ok m)).N) : ((cfgM m (ok m)).win 2).index t = ![t.val, 0] :=
  (by decide +kernel : ∀ t : Fin grid0.N, cc0_transform_2 (grid0.coords t) = ![t.val, 0]) t

theorem idx_3 (t : Fin (cfgM m (ok m)).N) : ((cfgM m (ok m)).win 3).index t = ![0, t.val, 0] :=
  (by decide +kernel : ∀ t : Fin grid0.N, cc0_transform_3 (grid0.coords t) = ![0, t.val, 0]) t

theorem blk_0 (t : Fin (cfgM m (ok m)).N) (h : layer m c = 0#32) (i : Fin 64) (j : Fin 7680) :
    iblk m (ok m) c 0 t (ix2 i j) = m ((c : Thread nD τ).loc main_arg1) (ix2 (⟨t.val * 64 + i.val, by have := lt16 m t; omega⟩ : Fin 1024) j) := by
  blk_point [iblk, V, idx_0 m c t h]

theorem blk_1 (t : Fin (cfgM m (ok m)).N) (h : layer m c = 1#32) (i : Fin 64) (j : Fin 7680) :
    iblk m (ok m) c 1 t (ix2 i j) = m ((c : Thread nD τ).loc main_arg2) (ix2 (⟨t.val * 64 + i.val, by have := lt16 m t; omega⟩ : Fin 1024) j) := by
  blk_point [iblk, V, idx_1 m c t h]

theorem blk_2 (t : Fin (cfgM m (ok m)).N) (i : Fin 64) (j : Fin 7680) :
    iblk m (ok m) c 2 t (ix2 i j) = m ((c : Thread nD τ).loc main_arg3) (ix2 (⟨t.val * 64 + i.val, by have := lt16 m t; omega⟩ : Fin 1024) j) := by
  blk_point [iblk, V, idx_2 m t]

theorem pay (l : BitVec 32) (p q r : Vec Ideal S64x7680 .f32) (i : Fin 64) (j : Fin 7680) :
    k0_pay1 (F := Ideal) l p q r (ix3 0 i j) = (if l = 0#32 then p (ix2 i j) else q (ix2 i j)) + r (ix2 i j) := by
  have e : Scalar.select (Scalar.cmpi .eq l 0#32) p q = if l = 0#32 then p else q := choose l p q
  by_cases h : l = 0#32
  · subst h
    rw [if_pos rfl]
    pointwise [k0_pay1]
  · rw [if_neg h]
    rw [if_neg h] at e
    unfold k0_pay1
    rw [e]
    pointwise

theorem outs (t : Fin (cfgM m (ok m)).N) : outsAt0 m (ok m) c t = k0_pay1 (F := Ideal) (layer m c) (iblk m (ok m) c 0 t) (iblk m (ok m) c 1 t) (iblk m (ok m) c 2 t) := by
  rw [← word m c]
  unfold outsAt0 out0_A_3 kernelRun0_A
  frame_out
  exact congr (congr (congr (congrArg (k0_pay1 (F := Ideal)) rfl) ((hs0_0 m (ok m) t).read_unread _)) ((hs0_1 m (ok m) t).read_unread _)) ((hs0_2 m (ok m) t).read_unread _)

/-- Each point's block is the reference's, the layer being one of the two. -/
theorem own_blk (hl : layer m c = 0#32 ∨ layer m c = 1#32) (t : Fin (cfgM m (ok m)).N) (i : Fin 64) (j : Fin 7680) :
    outsAt0 m (ok m) c t (ix3 0 i j) = refSum (m ((c : Thread nD τ).loc main_arg0)) (m ((c : Thread nD τ).loc main_arg1)) (m ((c : Thread nD τ).loc main_arg2)) (m ((c : Thread nD τ).loc main_arg3)) (ix3 0 (⟨t.val * 64 + i.val, by have := lt16 m t; omega⟩ : Fin 1024) j) := by
  rw [outs, refSum_at]
  refine (pay _ _ _ _ i j).trans ?_
  refine congrArg₂ (fun a b : EReal => a + b) ?_ (blk_2 m c t i j)
  rcases hl with h | h
  · exact (if_pos h).trans ((blk_0 m c t h i j).trans (if_pos h).symm)
  · have n : ¬layer m c = 0#32 := by rw [h]; decide
    exact (if_neg n).trans ((blk_1 m c t h i j).trans (if_neg n).symm)

/-- The blocks written back are the whole array. -/
theorem covers : ((cfgM m (ok m)).win 3).Covers := by
  refine ⟨fun a => ?_, fun β => ?_⟩
  · exact (by decide : ∀ a : Fin 3, 0 < S1x64x7680.size a) a
  · have h0 : (β (0 : Fin 3)).val < 1 := lt_of_lt_of_eq (β (0 : Fin 3)).isLt (by decide : (1 + 1 - 1) / 1 = 1)
    have h1 : (β (1 : Fin 3)).val < 16 := lt_of_lt_of_eq (β (1 : Fin 3)).isLt (by decide : (1024 + 64 - 1) / 64 = 16)
    have h2 : (β (2 : Fin 3)).val < 1 := lt_of_lt_of_eq (β (2 : Fin 3)).isLt (by decide : (7680 + 7680 - 1) / 7680 = 1)
    have hN : (cfgM m (ok m)).N = 16 := (by decide : grid0.N = 16)
    refine ⟨⟨(β (1 : Fin 3)).val, lt_of_lt_of_eq h1 hN.symm⟩, flush0_3 (adm m (ok m)) _, fun a => ⟨?_, Or.inl rfl⟩⟩
    rw [idx_3]
    exact match a with
      | ⟨0, _⟩ => (show 0 = (β (0 : Fin 3)).val by omega)
      | ⟨1, _⟩ => rfl
      | ⟨2, _⟩ => (show 0 = (β (2 : Fin 3)).val by omega)

theorem final_3 (hl : layer m c = 0#32 ∨ layer m c = 1#32) : (dats m (ok m) 0 c).arrAt 3 (cfgM m (ok m)).N = refSum (m ((c : Thread nD τ).loc main_arg0)) (m ((c : Thread nD τ).loc main_arg1)) (m ((c : Thread nD τ).loc main_arg2)) (m ((c : Thread nD τ).loc main_arg3)) := by
  refine (dats m (ok m) 0 c).arrAt_eq_of_covers 3 _ (covers m) fun t hf (y : S1x64x7680.Idx) => ?_
  blk_simp
  rw [after0_3]
  idx_vars y
  obtain rfl : y0 = 0 := Subsingleton.elim _ _
  have e : (((cfgM m (ok m)).win 3).blk t).view.emb (ix3 0 y1 y2) = ix3 0 (⟨t.val * 64 + y1.val, by have := lt16 m t; omega⟩ : Fin 1024) y2 := by
    blk_ext [idx_3 m t]
  rw [e]
  exact own_blk m c hl t y1 y2

variable (ρ : Dev nD → PrngReg)

/-- Every run ends with the reference's sum and its arguments as they were. -/
theorem run_arr (hl : ∀ c : Dev nD, layer m c = 0#32 ∨ layer m c = 1#32) :
    θ_run defs (onTc (τ := τ) (main (F := Ideal))) ⟨m, fun _ => 0, ρ⟩ (fun r => ∀ c : Dev nD,
      r.2.mem ((c.tc : Thread nD τ).loc main_v0) = refSum (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 3).trans (final_3 m c (hl c)), h.1 c⟩)
    (θ_run_and (unchanged m ρ (ok m)) (run_main m ρ (ok m)))

end Cert.SumCoresIdeal.OwnV

end
-- ==== Proof.LossValue.lean ====
/- The value of the loss head over the ideal floats: the loss tile and the loss gradient. -/
module

public import proofs.«01_k».proof.Proof.Gen.LossIdeal.Value
public import proofs.«01_k».proof.Proof.Gen.LossRefIdeal.Run
public import Idealize.ShloMosaic.Lib.Pipeline.ValueKit
public import Idealize.ShloMosaic.Lib.Pointwise
public import proofs.«01_k».proof.Proof.Consts

@[expose] public section

set_option maxRecDepth 16384

noncomputable section

open Idealize.ShloMosaic Idealize.ShloMosaic.TcCoe Idealize.SL.Sem
open Idealize.ShloMosaic.Pipeline (Dat)
open scoped BigOperators

namespace Cert.LossIdeal.LossV

open Cert.LossIdeal Cert.LossIdeal.Gen

variable (m : (ℓ : Loc nD τ sig) → Buf (Elt Ideal) ℓ)

/-- The reference's gradient array over its two arguments. -/
def refDy (a0 a1 : FVec Ideal S8192x1024 .f32) : FVec Ideal S8192x1024 .f32 :=
  mulf (broadcastInDim LossRefIdeal.S8192x1024 ![0] LossRefIdeal.Gen.bcast_S8192_S8192x1024_0 (Host.divf (broadcastInDim LossRefIdeal.S8192 ![] LossRefIdeal.Gen.bcast_S_S8192 (mulf (constant (F := Ideal) LossRefIdeal.S_ .f32 0x3F000000#32) (constant (F := Ideal) LossRefIdeal.S_ .f32 0x3F800000#32))) (broadcastInDim LossRefIdeal.S8192 ![] LossRefIdeal.Gen.bcast_S_S8192 (constant (F := Ideal) LossRefIdeal.S_ .f32 0x44800000#32)))) (mulf (broadcastInDim LossRefIdeal.S8192x1024 ![] LossRefIdeal.Gen.bcast_S_S8192x1024 (constant (F := Ideal) LossRefIdeal.S_ .f32 0x40000000#32)) (subf a0 a1))

/-- The reference's loss tile over its two arguments. -/
def refLoss (a0 a1 : FVec Ideal S8192x1024 .f32) : FVec Ideal S8x128 .f32 :=
  select (cmpi .eq (addi (broadcastInDim LossRefIdeal.S8x128 ![0, 1] LossRefIdeal.Gen.bcast_S8x1_S8x128_0_1 (broadcastInDim LossRefIdeal.S8x1 ![0] LossRefIdeal.Gen.bcast_S8_S8x1_0 (iotaInDim LossRefIdeal.S8 32 0))) (broadcastInDim LossRefIdeal.S8x128 ![0, 1] LossRefIdeal.Gen.bcast_S1x128_S8x128_0_1 (broadcastInDim LossRefIdeal.S1x128 ![1] LossRefIdeal.Gen.bcast_S128_S1x128_1 (iotaInDim LossRefIdeal.S128 32 0)))) (broadcastInDim LossRefIdeal.S8x128 ![] LossRefIdeal.Gen.bcast_S_S8x128 (constantI LossRefIdeal.S_ 32 0#32))) (broadcastInDim LossRefIdeal.S8x128 ![] LossRefIdeal.Gen.bcast_S_S8x128 (mulf (constant (F := Ideal) LossRefIdeal.S_ .f32 0x3F000000#32) (Host.reduceAdd (Host.divf (Host.reduceAdd (mulf (subf a0 a1) (subf a0 a1)) (constant (F := Ideal) LossRefIdeal.S_ .f32 0x00000000#32) LossRefIdeal.Gen.reducesTo_S8192x1024_S8192_d1 LossRefIdeal.Gen.h_S_) (broadcastInDim LossRefIdeal.S8192 ![] LossRefIdeal.Gen.bcast_S_S8192 (constant (F := Ideal) LossRefIdeal.S_ .f32 0x44800000#32))) (constant (F := Ideal) LossRefIdeal.S_ .f32 0x00000000#32) LossRefIdeal.Gen.reducesTo_S8192_S_d0 LossRefIdeal.Gen.h_S_))) (broadcastInDim LossRefIdeal.S8x128 ![] LossRefIdeal.Gen.bcast_S_S8x128 (id (constant (F := Ideal) LossRefIdeal.S_ .f32 0x00000000#32)))

theorem idx_val : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The kernel's gradient block at an entry. -/
theorem pay3 (v3 v4 : Vec Ideal S512x1024 .f32) (i : Fin 512) (k : Fin 1024) :
    k0_pay3 v3 v4 (ix2 i k) = (v3 (ix2 i k) - v4 (ix2 i k)) * ((1 / 1024 : ℝ) : EReal) := by
  pointwise [k0_pay3, k0_pay2, Consts.inv1024]

theorem refDy_at (a0 a1) (i : Fin 8192) (k : Fin 1024) :
    refDy a0 a1 (ix2 i k) = (a0 (ix2 i k) - a1 (ix2 i k)) * ((1 / 1024 : ℝ) : EReal) := by
  pointwise [refDy, Consts.half, Consts.two, Consts.c1024]
  rw [Ideal.div_coe (by norm_num : (1024 : ℝ) ≠ 0), ← mul_assoc, mul_comm, ← EReal.coe_mul, ← EReal.coe_mul]
  norm_num

/-- Half the sum over rows of the mean square error, for any number of rows. -/
def part {n : ℕ} (d : Fin n → Fin 1024 → EReal) : EReal :=
  ∑ i, ((1 / 2 : ℝ) : EReal) * Ideal.div (∑ k, d i k * d i k) ((1024 : ℝ) : EReal)

theorem mean_nonneg (d : Fin 1024 → EReal) : 0 ≤ Ideal.div (∑ k, d k * d k) ((1024 : ℝ) : EReal) := by
  rw [Ideal.div_coe (by norm_num : (1024 : ℝ) ≠ 0)]
  exact mul_nonneg (Finset.sum_nonneg fun k _ => by
    rcases le_total 0 (d k) with h | h
    · exact mul_nonneg h h
    · simpa using mul_nonneg (EReal.neg_nonneg.mpr h) (EReal.neg_nonneg.mpr h)) (by norm_num)

/-- Half of a sum of mean squares is the sum of the halves. -/
theorem half_sum {n : ℕ} (d : Fin n → Fin 1024 → EReal) :
    ((1 / 2 : ℝ) : EReal) * ∑ i, Ideal.div (∑ k, d i k * d i k) ((1024 : ℝ) : EReal) = part d := by
  unfold part
  induction (Finset.univ : Finset (Fin n)) using Finset.induction_on with
  | empty => simp
  | insert a s ha ih =>
    rw [Finset.sum_insert ha, Finset.sum_insert ha, ← ih, EReal.left_distrib_of_nonneg (mean_nonneg _)
      (Finset.sum_nonneg fun i _ => mean_nonneg _)]

theorem pay4 (v3 v4 : Vec Ideal S512x1024 .f32) (v20 : Vec Ideal S8x128 .f32) (r : Fin 8) (l : Fin 128) :
    k0_pay4 v3 v4 v20 (ix2 r l) = v20 (ix2 r l) + Scalar.select
        (IntOp.andi (IntOp.cmpi CmpIPredicate.eq (BitVec.ofNat 32 ↑r) 0#32)
          (IntOp.cmpi CmpIPredicate.eq (BitVec.ofNat 32 ↑l) 0#32))
        (part fun i k => v3 (ix2 i k) - v4 (ix2 i k)) 0 := by
  rw [← half_sum]
  pointwise [k0_pay4, k0_pay2, Consts.half, Consts.c1024]

/-- The tile's entry (0, 0), the one that carries the loss. -/
abbrev first (r : Fin 8) (l : Fin 128) : BitVec 1 :=
  IntOp.andi (IntOp.cmpi CmpIPredicate.eq (BitVec.ofNat 32 r.val) 0#32) (IntOp.cmpi CmpIPredicate.eq (BitVec.ofNat 32 l.val) 0#32)

theorem first_eq : ∀ (r : Fin 8) (l : Fin 128),
    IntOp.cmpi CmpIPredicate.eq (IntOp.addi (BitVec.ofNat 32 r.val) (BitVec.ofNat 32 l.val)) 0#32 = first r l := by
  decide +kernel

theorem refLoss_at (a0 a1) (r : Fin 8) (l : Fin 128) :
    refLoss a0 a1 (ix2 r l) = Scalar.select (first r l) (part fun (i : Fin 8192) k => a0 (ix2 i k) - a1 (ix2 i k)) 0 := by
  rw [← half_sum, ← first_eq]
  pointwise [refLoss, Consts.half, Consts.c1024]
  exact congrArg _ (Ideal.ofBits_zero_f32)

theorem lt16 (t : Fin cfg0.N) : t.val < 16 := lt_of_lt_of_eq t.isLt N_0

theorem point_3 (c : Dev nD) (t : Fin cfg0.N) (y : S512x1024.Idx) :
    k0_pay3 (iblk m c 0 t) (iblk m c 1 t) y = refDy (m ((c : Thread nD τ).loc main_arg0)) (m ((c : Thread nD τ).loc main_arg1)) (((cfg0.win 3).blk t).view.emb y) := by
  idx_vars y
  rw [pay3]
  have e : ((cfg0.win 3).blk t).view.emb (ix2 y0 y1) = ix2 (⟨t.val * 512 + y0.val, by have := lt16 t; omega⟩ : Fin 8192) y1 := by
    blk_ext [idx_val t]
  rw [e, refDy_at]
  blk_point [iblk, V, idx_val t]

theorem final_3 (c : Dev nD) : (dats m 0 c).arrAt 3 (cfgs 0).N = refDy (m ((c : Thread nD τ).loc main_arg0)) (m ((c : Thread nD τ).loc main_arg1)) := by
  refine (dats m 0 c).arrAt_eq_of_covers 3 _ (by decide +kernel) fun t hf y => ?_
  blk_simp; rw [after0_3]
  by_cases h : t.val % 16 = 0
  · rw [outsAt0_A m c t h]; frame_out; exact point_3 m c t y
  · rw [outsAt0_B m c t h]; frame_out; exact point_3 m c t y

theorem blk_0 (c : Dev nD) (t : Fin cfg0.N) (i : Fin 512) (k : Fin 1024) (h : t.val * 512 + i.val < 8192) :
    iblk m c 0 t (ix2 i k) = m ((c : Thread nD τ).loc main_arg0) (ix2 (⟨t.val * 512 + i.val, h⟩ : Fin 8192) k) := by
  blk_point [iblk, V, idx_val t]

theorem blk_1 (c : Dev nD) (t : Fin cfg0.N) (i : Fin 512) (k : Fin 1024) (h : t.val * 512 + i.val < 8192) :
    iblk m c 1 t (ix2 i k) = m ((c : Thread nD τ).loc main_arg1) (ix2 (⟨t.val * 512 + i.val, h⟩ : Fin 8192) k) := by
  blk_point [iblk, V, idx_val t]

theorem hzero (j : S8x128.Idx) : k0_pay1 (F := Ideal) j = 0 := by
  pointwise! [k0_pay1]

theorem hpay (v3 v4 : Vec Ideal S512x1024 .f32) (v20 : Vec Ideal S8x128 .f32) (j : S8x128.Idx) :
    k0_pay4 v3 v4 v20 j = v20 j + k0_pay4 v3 v4 (fun _ => 0) j := by
  idx_vars j
  rw [pay4, pay4, zero_add]

theorem final_2 (c : Dev nD) : (dats m 0 c).arrAt 2 (cfgs 0).N = refLoss (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [hpay, hzero])
    (fun t h j => by rw [outsAt0_B m c t h]; frame_out; rw [hpay])
    (le_of_eq N_0) t0_15 rfl j, zero_add]
  idx_vars j
  simp only [pay4, refLoss_at, zero_add]
  have hs : ∀ (b : BitVec 1) (f : Fin cfg0.N → EReal), ∑ x, Scalar.select b (f x) 0 = Scalar.select b (∑ x, f x) 0 := by
    intro b f
    rcases (by decide : ∀ b : BitVec 1, b = 0 ∨ b = 1) b with h | h <;> subst h <;> simp [Scalar.select]
  rw [hs]
  refine congrArg (fun z : EReal => Scalar.select (first j0 j1) z (0 : EReal)) ?_
  unfold part
  refine Fin.sum_mul_add_congr (M := EReal) (S := 16) (n := 512) (L := 8192) fun s k hl => ?_
  refine congrArg (fun z => ((1 / 2 : ℝ) : EReal) * Ideal.div z ((1024 : ℝ) : EReal)) (Finset.sum_congr rfl fun q _ => ?_)
  simp only [blk_0 m c s k q hl, blk_1 m c s k q hl]

end Cert.LossIdeal.LossV

end
-- ==== Proof.lean ====
/- The claims of every pair, from the runs and the values of the modules under Proof/. -/
module

public import proofs.«01_k».proof.Defs
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdRefIdeal
public import proofs.«01_k».proof.Proof.Gen.AttnBwdRefIdeal.Run
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdRefIdeal
public import proofs.«01_k».proof.Proof.Gen.AttnFwdRefIdeal.Run
public import proofs.«01_k».proof.Proof.Gen.HaloBwd
public import proofs.«01_k».proof.Proof.Gen.HaloBwd.Skeleton
public import proofs.«01_k».proof.Proof.Gen.HaloBwd.Launch
public import proofs.«01_k».proof.Proof.Gen.HaloBwd.Points
public import proofs.«01_k».proof.Proof.Gen.HaloBwd.Frame
public import proofs.«01_k».proof.Proof.Gen.HaloBwdIdeal
public import proofs.«01_k».proof.Proof.Gen.HaloBwdIdeal.Skeleton
public import proofs.«01_k».proof.Proof.Gen.HaloBwdIdeal.Launch
public import proofs.«01_k».proof.Proof.Gen.HaloBwdIdeal.Points
public import proofs.«01_k».proof.Proof.Gen.HaloBwdIdeal.Frame
public import proofs.«01_k».proof.Proof.Gen.HaloBwdRefIdeal
public import proofs.«01_k».proof.Proof.Gen.HaloBwdRefIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWRefIdeal
public import proofs.«01_k».proof.Proof.Gen.InWRefIdeal.Run
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.SumChips
public import proofs.«01_k».proof.Proof.Gen.SumChips.Skeleton
public import proofs.«01_k».proof.Proof.Gen.SumChips.Launch
public import proofs.«01_k».proof.Proof.Gen.SumChips.Points
public import proofs.«01_k».proof.Proof.Gen.SumChips.Frame
public import proofs.«01_k».proof.Proof.Gen.SumChipsIdeal
public import proofs.«01_k».proof.Proof.Gen.SumChipsIdeal.Skeleton
public import proofs.«01_k».proof.Proof.Gen.SumChipsIdeal.Launch
public import proofs.«01_k».proof.Proof.Gen.SumChipsIdeal.Points
public import proofs.«01_k».proof.Proof.Gen.SumChipsIdeal.Frame
public import proofs.«01_k».proof.Proof.Gen.SumChipsIdeal.Value
public import proofs.«01_k».proof.Proof.Gen.SumChipsRefIdeal
public import proofs.«01_k».proof.Proof.Gen.SumChipsRefIdeal.Run
public import proofs.«01_k».proof.Proof.Gen.SumCores
public import proofs.«01_k».proof.Proof.Gen.SumCores.Skeleton
public import proofs.«01_k».proof.Proof.Gen.SumCores.Launch
public import proofs.«01_k».proof.Proof.Gen.SumCores.Points
public import proofs.«01_k».proof.Proof.Gen.SumCores.Frame
public import proofs.«01_k».proof.Proof.Gen.SumCoresIdeal
public import proofs.«01_k».proof.Proof.Gen.SumCoresIdeal.Skeleton
public import proofs.«01_k».proof.Proof.Gen.SumCoresIdeal.Launch
public import proofs.«01_k».proof.Proof.Gen.SumCoresIdeal.Points
public import proofs.«01_k».proof.Proof.Gen.SumCoresIdeal.Frame
public import proofs.«01_k».proof.Proof.Gen.SumCoresRefIdeal
public import proofs.«01_k».proof.Proof.Gen.SumCoresRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.AttnFrame
public import proofs.«01_k».proof.Proof.AttnFinal
public import proofs.«01_k».proof.Proof.FwdFrame
public import proofs.«01_k».proof.Proof.FwdBitsFrame
public import proofs.«01_k».proof.Proof.FwdFinal
public import proofs.«01_k».proof.Proof.InRef
public import proofs.«01_k».proof.Proof.InWValue
public import proofs.«01_k».proof.Proof.InFwdValue
public import proofs.«01_k».proof.Proof.AdamValue
public import proofs.«01_k».proof.Proof.SmallValue
public import proofs.«01_k».proof.Proof.SumValue
public import proofs.«01_k».proof.Proof.OwnValue
public import proofs.«01_k».proof.Proof.LossValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The attention's frame over the machine's floats, stated of the ideal program's text. -/
def attnFrameBits : Prop :=
  ∀ (m : (ℓ : Loc Cert.AttnBwdIdeal.nD Cert.AttnBwdIdeal.τ Cert.AttnBwdIdeal.sig) → Buf (Elt Bits) ℓ) (g : Dev Cert.AttnBwdIdeal.nD → PrngReg), True →
    θ_run (Cert.AttnBwdIdeal.defs (F := Bits)) (onTc (τ := Cert.AttnBwdIdeal.τ) (Cert.AttnBwdIdeal.main (F := Bits))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

/-- The two texts are one. -/
theorem attnFrameBits_eq : Cert.quiescent_AttnBwd = attnFrameBits := by
  sl_kernel_rfl

theorem quiescent_AttnBwd : Cert.quiescent_AttnBwd :=
  attnFrameBits_eq ▸ (fun m ρ _ => Cert.AttnBwdIdeal.Tile.frame_any (F := Bits) m ρ : attnFrameBits)

theorem quiescent_AttnBwdIdeal : Cert.quiescent_AttnBwdIdeal :=
  fun m ρ _ => Cert.AttnBwdIdeal.Tile.frame_any m ρ

theorem quiescent_AttnBwdRefIdeal : Cert.quiescent_AttnBwdRefIdeal := by
  intro m ρ _
  exact (θ_run Cert.AttnBwdRefIdeal.defs _ _).mono (fun r h => ⟨fun c => (h c).2.2.2, sem_eq_zero_of_no_sems (by decide) r.2⟩)
    (Cert.AttnBwdRefIdeal.Value.run (F := Ideal) m ρ)

theorem preserves_AttnBwd_AttnBwdIdeal : Cert.preserves_AttnBwd_AttnBwdIdeal := trivial

instance preFacts_attn_finite : Cert.Pre_attn_finite.Facts where
  bcast_S_S8192x1536 := by decide
  bcast_S_S8192x512 := by decide

theorem quiescent_AttnBwdIdeal_pre_attn_finite : Cert.quiescent_AttnBwdIdeal_pre_attn_finite := fun m g _ => quiescent_AttnBwdIdeal m g trivial

theorem quiescent_AttnBwdRefIdeal_pre_attn_finite : Cert.quiescent_AttnBwdRefIdeal_pre_attn_finite := fun m g _ => quiescent_AttnBwdRefIdeal m g trivial

theorem algebraic_AttnBwdIdeal_AttnBwdRefIdeal_pre_attn_finite : Cert.algebraic_AttnBwdIdeal_AttnBwdRefIdeal_pre_attn_finite := by
  intro m g m' g' hpre hagree
  have hf := fun c => Cert.AttnBwdIdeal.Pay.fin_of_pre _ _ (hpre c)
  refine ⟨_, _, _, Cert.AttnBwdIdeal.Pay.run_arr m g hf, ?_⟩
  refine (θ_run Cert.AttnBwdRefIdeal.defs _ _).mono (fun r h c => ?_)
    (Cert.AttnBwdRefIdeal.Val.run_arr m' g' fun c => by rw [(hagree c).1, (hagree c).2]; exact hf c)
  have h' := h c
  rw [(hagree c).1, (hagree c).2] at h' ⊢
  exact h'

theorem quiescent_AttnFwd : Cert.quiescent_AttnFwd :=
  fun m ρ _ => Cert.AttnFwd.Tile.frame_any m ρ

theorem quiescent_AttnFwdIdeal : Cert.quiescent_AttnFwdIdeal :=
  fun m ρ _ => Cert.AttnFwdIdeal.Tile.frame_any m ρ

theorem quiescent_AttnFwdRefIdeal : Cert.quiescent_AttnFwdRefIdeal := by
  intro m ρ _
  exact (θ_run Cert.AttnFwdRefIdeal.defs _ _).mono (fun r h => ⟨fun c => (h c).2.2, sem_eq_zero_of_no_sems (by decide) r.2⟩)
    (Cert.AttnFwdRefIdeal.Value.run (F := Ideal) m ρ)

theorem preserves_AttnFwd_AttnFwdIdeal : Cert.preserves_AttnFwd_AttnFwdIdeal :=
  IdealRules.named_const.statement Cert.AttnFwdIdeal.κ "exit_below" .f32 0xC2D00000#32 ⊥ rfl

theorem algebraic_AttnFwdIdeal_AttnFwdRefIdeal : Cert.algebraic_AttnFwdIdeal_AttnFwdRefIdeal := by
  intro m g m' g' _ hagree
  refine ⟨_, _, Cert.AttnFwdIdeal.Pay.run_arr m g, ?_⟩
  refine (θ_run Cert.AttnFwdRefIdeal.defs _ _).mono (fun r h c => ?_) (Cert.AttnFwdRefIdeal.Val.run_arr m' g')
  have h' := h c
  rw [hagree c] at h' ⊢
  exact h'

theorem quiescent_HaloBwd : Cert.quiescent_HaloBwd :=
  fun m ρ _ => Cert.HaloBwd.Gen.frame m ρ

theorem quiescent_HaloBwdIdeal : Cert.quiescent_HaloBwdIdeal :=
  fun m ρ _ => Cert.HaloBwdIdeal.Gen.frame m ρ

theorem quiescent_HaloBwdRefIdeal : Cert.quiescent_HaloBwdRefIdeal := by
  intro m ρ _
  exact (θ_run Cert.HaloBwdRefIdeal.defs _ _).mono (fun r h => ⟨fun c => (h c).2.2, sem_eq_zero_of_no_sems (by decide) r.2⟩)
    (Cert.HaloBwdRefIdeal.Value.run (F := Ideal) m ρ)

theorem preserves_HaloBwd_HaloBwdIdeal : Cert.preserves_HaloBwd_HaloBwdIdeal := trivial

theorem quiescent_InBwd : Cert.quiescent_InBwd :=
  fun m ρ _ => Cert.InBwd.Gen.frame m ρ

theorem quiescent_InBwdIdeal : Cert.quiescent_InBwdIdeal :=
  fun m ρ _ => Cert.InBwdIdeal.Gen.frame m ρ

theorem quiescent_InBwdRefIdeal : Cert.quiescent_InBwdRefIdeal := by
  intro m ρ _
  exact (θ_run Cert.InBwdRefIdeal.defs _ _).mono (fun r h => ⟨fun c => (h c).2.2, sem_eq_zero_of_no_sems (by decide) r.2⟩)
    (Cert.InBwdRefIdeal.Value.run (F := Ideal) m ρ)

theorem preserves_InBwd_InBwdIdeal : Cert.preserves_InBwd_InBwdIdeal := trivial

theorem algebraic_InBwdIdeal_InBwdRefIdeal : Cert.algebraic_InBwdIdeal_InBwdRefIdeal := by
  intro m g m' g' _ hagree
  refine ⟨Cert.InBwdIdeal.InV.gradX m, Cert.InBwdIdeal.InV.gradG m, ?_, ?_⟩
  · run_from (Cert.InBwdIdeal.InV.run_arr m g) & (Cert.InBwdIdeal.Gen.unchanged m g)
  refine (θ_run Cert.InBwdRefIdeal.defs _ _).mono (fun r h c => ?_) (Cert.InBwdRefIdeal.InV.run_arr m' g')
  have h' := h c
  simp only [Cert.InBwdRefIdeal.InV.b0, Cert.InBwdRefIdeal.InV.b1, Cert.InBwdRefIdeal.InV.b2, Cert.InBwdRefIdeal.InV.b3, Cert.InBwdRefIdeal.InV.b4] at h'
  rw [(hagree c).1, (hagree c).2.1, (hagree c).2.2.1, (hagree c).2.2.2.1, (hagree c).2.2.2.2] at h' ⊢
  exact h'

theorem quiescent_InW : Cert.quiescent_InW :=
  fun m ρ _ => Cert.InW.Gen.frame m ρ

theorem quiescent_InWIdeal : Cert.quiescent_InWIdeal :=
  fun m ρ _ => Cert.InWIdeal.Gen.frame m ρ

theorem quiescent_InWRefIdeal : Cert.quiescent_InWRefIdeal := by
  intro m ρ _
  exact (θ_run Cert.InWRefIdeal.defs _ _).mono (fun r h => ⟨fun c => (h c).2, sem_eq_zero_of_no_sems (by decide) r.2⟩)
    (Cert.InWRefIdeal.Value.run (F := Ideal) m ρ)

theorem preserves_InW_InWIdeal : Cert.preserves_InW_InWIdeal := trivial

theorem algebraic_InWIdeal_InWRefIdeal : Cert.algebraic_InWIdeal_InWRefIdeal := by
  intro m g m' g' _ hagree
  refine ⟨Cert.InWIdeal.InWV.gradW m, ?_, ?_⟩
  · run_from (Cert.InWIdeal.InWV.run_arr m g) & (Cert.InWIdeal.Gen.unchanged m g)
  refine (θ_run Cert.InWRefIdeal.defs _ _).mono (fun r h c => ?_) (Cert.InWRefIdeal.Value.run m' g')
  have h' := h c
  rw [(hagree c).1, (hagree c).2.1, (hagree c).2.2.1, (hagree c).2.2.2] at h' ⊢
  exact h'

theorem quiescent_InFwd : Cert.quiescent_InFwd :=
  fun m ρ _ => Cert.InFwd.Gen.frame m ρ

theorem quiescent_InFwdIdeal : Cert.quiescent_InFwdIdeal :=
  fun m ρ _ => Cert.InFwdIdeal.Gen.frame m ρ

theorem quiescent_InFwdRefIdeal : Cert.quiescent_InFwdRefIdeal := by
  intro m ρ _
  exact (θ_run Cert.InFwdRefIdeal.defs _ _).mono (fun r h => ⟨fun c => (h c).2.2, sem_eq_zero_of_no_sems (by decide) r.2⟩)
    (Cert.InFwdRefIdeal.Value.run (F := Ideal) m ρ)

theorem preserves_InFwd_InFwdIdeal : Cert.preserves_InFwd_InFwdIdeal := trivial

theorem algebraic_InFwdIdeal_InFwdRefIdeal : Cert.algebraic_InFwdIdeal_InFwdRefIdeal := by
  pair_intro
  · run_from Cert.InFwdIdeal.Gen.run_main m g
  · run_from Cert.InFwdRefIdeal.Value.run m' g'
    · exact (Cert.InFwdIdeal.InV.final_3 m c).symm
    · exact (Cert.InFwdIdeal.InV.final_4 m c).symm

theorem quiescent_Adam : Cert.quiescent_Adam :=
  fun m ρ _ => Cert.Adam.Gen.frame m ρ

theorem quiescent_AdamIdeal : Cert.quiescent_AdamIdeal :=
  fun m ρ _ => Cert.AdamIdeal.Gen.frame m ρ

theorem quiescent_AdamRefIdeal : Cert.quiescent_AdamRefIdeal := by
  intro m ρ _
  exact (θ_run Cert.AdamRefIdeal.defs _ _).mono (fun r h => ⟨fun c => (h c).2.2.2.2, sem_eq_zero_of_no_sems (by decide) r.2⟩)
    (Cert.AdamRefIdeal.Value.run (F := Ideal) m ρ)

theorem preserves_Adam_AdamIdeal : Cert.preserves_Adam_AdamIdeal := trivial

theorem algebraic_AdamIdeal_AdamRefIdeal : Cert.algebraic_AdamIdeal_AdamRefIdeal := by
  pair_intro
  · run_from Cert.AdamIdeal.Gen.run_main m g
  · run_from Cert.AdamRefIdeal.Value.run m' g'
    · exact (Cert.AdamIdeal.AdamV.final_4 m c).symm
    · exact (Cert.AdamIdeal.AdamV.final_5 m c).symm
    · exact (Cert.AdamIdeal.AdamV.final_6 m c).symm
    · exact (Cert.AdamIdeal.AdamV.final_7 m c).symm

theorem quiescent_AdamSmall : Cert.quiescent_AdamSmall :=
  fun m ρ _ => Cert.AdamSmall.Gen.frame m ρ

theorem quiescent_AdamSmallIdeal : Cert.quiescent_AdamSmallIdeal :=
  fun m ρ _ => Cert.AdamSmallIdeal.Gen.frame m ρ

theorem quiescent_AdamSmallRefIdeal : Cert.quiescent_AdamSmallRefIdeal := by
  intro m ρ _
  exact (θ_run Cert.AdamSmallRefIdeal.defs _ _).mono (fun r h => ⟨fun c => (h c).2.2.2.2, sem_eq_zero_of_no_sems (by decide) r.2⟩)
    (Cert.AdamSmallRefIdeal.Value.run (F := Ideal) m ρ)

theorem preserves_AdamSmall_AdamSmallIdeal : Cert.preserves_AdamSmall_AdamSmallIdeal := trivial

theorem algebraic_AdamSmallIdeal_AdamSmallRefIdeal : Cert.algebraic_AdamSmallIdeal_AdamSmallRefIdeal := by
  intro m g m' g' _ hagree
  refine ⟨fun c => Cert.AdamSmallIdeal.SmallV.refSum (m (((c.tc) : Thread Cert.AdamSmallIdeal.nD Cert.AdamSmallIdeal.τ).loc Cert.AdamSmallIdeal.main_arg0)), fun c => Cert.AdamSmallIdeal.SmallV.refDelta (m (((c.tc) : Thread Cert.AdamSmallIdeal.nD Cert.AdamSmallIdeal.τ).loc Cert.AdamSmallIdeal.main_arg0)) (m (((c.tc) : Thread Cert.AdamSmallIdeal.nD Cert.AdamSmallIdeal.τ).loc Cert.AdamSmallIdeal.main_arg1)) (m (((c.tc) : Thread Cert.AdamSmallIdeal.nD Cert.AdamSmallIdeal.τ).loc Cert.AdamSmallIdeal.main_arg2)) (m (((c.tc) : Thread Cert.AdamSmallIdeal.nD Cert.AdamSmallIdeal.τ).loc Cert.AdamSmallIdeal.main_arg3)), fun c => Cert.AdamSmallIdeal.SmallV.refMom (m (((c.tc) : Thread Cert.AdamSmallIdeal.nD Cert.AdamSmallIdeal.τ).loc Cert.AdamSmallIdeal.main_arg0)) (m (((c.tc) : Thread Cert.AdamSmallIdeal.nD Cert.AdamSmallIdeal.τ).loc Cert.AdamSmallIdeal.main_arg2)), fun c => Cert.AdamSmallIdeal.SmallV.refVel (m (((c.tc) : Thread Cert.AdamSmallIdeal.nD Cert.AdamSmallIdeal.τ).loc Cert.AdamSmallIdeal.main_arg0)) (m (((c.tc) : Thread Cert.AdamSmallIdeal.nD Cert.AdamSmallIdeal.τ).loc Cert.AdamSmallIdeal.main_arg3)), ?_, ?_⟩
  · run_from Cert.AdamSmallIdeal.Gen.run_main m g
    · exact Cert.AdamSmallIdeal.SmallV.final_4 m c
    · exact Cert.AdamSmallIdeal.SmallV.final_5 m c
    · exact Cert.AdamSmallIdeal.SmallV.final_6 m c
    · exact Cert.AdamSmallIdeal.SmallV.final_7 m c
  refine (θ_run Cert.AdamSmallRefIdeal.defs _ _).mono (fun r h c => ?_) (Cert.AdamSmallRefIdeal.Value.run m' g')
  have h' := h c
  rw [(hagree c).1, (hagree c).2.1, (hagree c).2.2.1, (hagree c).2.2.2] at h' ⊢
  exact h'

theorem quiescent_SumChips : Cert.quiescent_SumChips :=
  fun m ρ _ => Cert.SumChips.Gen.frame m ρ

theorem quiescent_SumChipsIdeal : Cert.quiescent_SumChipsIdeal :=
  fun m ρ _ => Cert.SumChipsIdeal.Gen.frame m ρ

theorem quiescent_SumChipsRefIdeal : Cert.quiescent_SumChipsRefIdeal := by
  intro m ρ _
  exact (θ_run Cert.SumChipsRefIdeal.defs _ _).mono (fun r h => ⟨fun c => (h c).2, sem_eq_zero_of_no_sems (by decide) r.2⟩)
    (Cert.SumChipsRefIdeal.Value.run (F := Ideal) m ρ)

theorem preserves_SumChips_SumChipsIdeal : Cert.preserves_SumChips_SumChipsIdeal := trivial

theorem algebraic_SumChipsIdeal_SumChipsRefIdeal : Cert.algebraic_SumChipsIdeal_SumChipsRefIdeal := by
  intro m g m' g' _ hagree
  refine ⟨fun c => Cert.SumChipsIdeal.SumV.refSum (m (((c.tc) : Thread Cert.SumChipsIdeal.nD Cert.SumChipsIdeal.τ).loc Cert.SumChipsIdeal.main_arg0)), ?_, ?_⟩
  · run_from Cert.SumChipsIdeal.Gen.run_main m g
    · exact Cert.SumChipsIdeal.SumV.final_1 m c
  refine (θ_run Cert.SumChipsRefIdeal.defs _ _).mono (fun r h c => ?_) (Cert.SumChipsRefIdeal.Value.run m' g')
  have h' := h c
  rw [hagree c] at h' ⊢
  exact h'

theorem quiescent_SumCores : Cert.quiescent_SumCores :=
  fun m ρ _ => Cert.SumCores.Gen.frame m ρ (Cert.SumCores.OwnV.ok m)

theorem quiescent_SumCoresIdeal : Cert.quiescent_SumCoresIdeal :=
  fun m ρ _ => Cert.SumCoresIdeal.Gen.frame m ρ (Cert.SumCoresIdeal.OwnV.ok m)

theorem quiescent_SumCoresRefIdeal : Cert.quiescent_SumCoresRefIdeal := by
  intro m ρ _
  exact (θ_run Cert.SumCoresRefIdeal.defs _ _).mono (fun r h => ⟨fun c => (h c).2, sem_eq_zero_of_no_sems (by decide) r.2⟩)
    (Cert.SumCoresRefIdeal.Value.run (F := Ideal) m ρ)

theorem preserves_SumCores_SumCoresIdeal : Cert.preserves_SumCores_SumCoresIdeal := trivial

instance preFacts_known_layer : Cert.Pre_known_layer.Facts where
  bcast_S_S1 := by decide

theorem quiescent_SumCoresIdeal_pre_known_layer : Cert.quiescent_SumCoresIdeal_pre_known_layer := fun m g _ => quiescent_SumCoresIdeal m g trivial

theorem quiescent_SumCoresRefIdeal_pre_known_layer : Cert.quiescent_SumCoresRefIdeal_pre_known_layer := fun m g _ => quiescent_SumCoresRefIdeal m g trivial

theorem algebraic_SumCoresIdeal_SumCoresRefIdeal_pre_known_layer : Cert.algebraic_SumCoresIdeal_SumCoresRefIdeal_pre_known_layer := by
  intro m g m' g' hpre hagree
  have hl : ∀ c, Cert.SumCoresIdeal.OwnV.layer m c = 0#32 ∨ Cert.SumCoresIdeal.OwnV.layer m c = 1#32 := fun c =>
    Cert.SumCoresIdeal.OwnV.layer_of (congrFun (hpre c) (ix1 0))
  refine ⟨_, Cert.SumCoresIdeal.OwnV.run_arr m g hl, ?_⟩
  refine (θ_run Cert.SumCoresRefIdeal.defs _ _).mono (fun r h c => ?_) (Cert.SumCoresRefIdeal.Value.run m' g')
  have h' := h c
  rw [(hagree c).1, (hagree c).2.1, (hagree c).2.2.1, (hagree c).2.2.2] at h' ⊢
  exact h'

theorem quiescent_Loss : Cert.quiescent_Loss :=
  fun m ρ _ => Cert.Loss.Gen.frame m ρ

theorem quiescent_LossIdeal : Cert.quiescent_LossIdeal :=
  fun m ρ _ => Cert.LossIdeal.Gen.frame m ρ

theorem quiescent_LossRefIdeal : Cert.quiescent_LossRefIdeal := by
  intro m ρ _
  exact (θ_run Cert.LossRefIdeal.defs _ _).mono (fun r h => ⟨fun c => (h c).2.2, sem_eq_zero_of_no_sems (by decide) r.2⟩)
    (Cert.LossRefIdeal.Value.run (F := Ideal) m ρ)

theorem preserves_Loss_LossIdeal : Cert.preserves_Loss_LossIdeal := trivial

theorem algebraic_LossIdeal_LossRefIdeal : Cert.algebraic_LossIdeal_LossRefIdeal := by
  pair_intro
  · run_from Cert.LossIdeal.Gen.run_main m g
  · run_from Cert.LossRefIdeal.Value.run m' g'
    · exact (Cert.LossIdeal.LossV.final_2 m c).symm
    · exact (Cert.LossIdeal.LossV.final_3 m c).symm

theorem claim : Cert.Claim :=
  ⟨Cert.AttnBwd.Gen.facts,
   Cert.AttnBwdIdeal.Gen.facts,
   Cert.AttnBwdRefIdeal.Gen.facts,
   Cert.AttnFwd.Gen.facts,
   Cert.AttnFwdIdeal.Gen.facts,
   Cert.AttnFwdRefIdeal.Gen.facts,
   Cert.HaloBwd.Gen.facts,
   Cert.HaloBwdIdeal.Gen.facts,
   Cert.HaloBwdRefIdeal.Gen.facts,
   Cert.InBwd.Gen.facts,
   Cert.InBwdIdeal.Gen.facts,
   Cert.InBwdRefIdeal.Gen.facts,
   Cert.InW.Gen.facts,
   Cert.InWIdeal.Gen.facts,
   Cert.InWRefIdeal.Gen.facts,
   Cert.InFwd.Gen.facts,
   Cert.InFwdIdeal.Gen.facts,
   Cert.InFwdRefIdeal.Gen.facts,
   Cert.Adam.Gen.facts,
   Cert.AdamIdeal.Gen.facts,
   Cert.AdamRefIdeal.Gen.facts,
   Cert.AdamSmall.Gen.facts,
   Cert.AdamSmallIdeal.Gen.facts,
   Cert.AdamSmallRefIdeal.Gen.facts,
   Cert.SumChips.Gen.facts,
   Cert.SumChipsIdeal.Gen.facts,
   Cert.SumChipsRefIdeal.Gen.facts,
   Cert.SumCores.Gen.facts,
   Cert.SumCoresIdeal.Gen.facts,
   Cert.SumCoresRefIdeal.Gen.facts,
   Cert.Loss.Gen.facts,
   Cert.LossIdeal.Gen.facts,
   Cert.LossRefIdeal.Gen.facts,
   preFacts_attn_finite,
   preFacts_known_layer,
   quiescent_AttnBwd,
   quiescent_AttnBwdIdeal,
   quiescent_AttnBwdIdeal_pre_attn_finite,
   quiescent_AttnBwdRefIdeal,
   quiescent_AttnBwdRefIdeal_pre_attn_finite,
   quiescent_AttnFwd,
   quiescent_AttnFwdIdeal,
   quiescent_AttnFwdRefIdeal,
   quiescent_HaloBwd,
   quiescent_HaloBwdIdeal,
   quiescent_HaloBwdRefIdeal,
   quiescent_InBwd,
   quiescent_InBwdIdeal,
   quiescent_InBwdRefIdeal,
   quiescent_InW,
   quiescent_InWIdeal,
   quiescent_InWRefIdeal,
   quiescent_InFwd,
   quiescent_InFwdIdeal,
   quiescent_InFwdRefIdeal,
   quiescent_Adam,
   quiescent_AdamIdeal,
   quiescent_AdamRefIdeal,
   quiescent_AdamSmall,
   quiescent_AdamSmallIdeal,
   quiescent_AdamSmallRefIdeal,
   quiescent_SumChips,
   quiescent_SumChipsIdeal,
   quiescent_SumChipsRefIdeal,
   quiescent_SumCores,
   quiescent_SumCoresIdeal,
   quiescent_SumCoresIdeal_pre_known_layer,
   quiescent_SumCoresRefIdeal,
   quiescent_SumCoresRefIdeal_pre_known_layer,
   quiescent_Loss,
   quiescent_LossIdeal,
   quiescent_LossRefIdeal,
   preserves_AttnBwd_AttnBwdIdeal,
   algebraic_AttnBwdIdeal_AttnBwdRefIdeal_pre_attn_finite,
   preserves_AttnFwd_AttnFwdIdeal,
   algebraic_AttnFwdIdeal_AttnFwdRefIdeal,
   preserves_HaloBwd_HaloBwdIdeal,
   preserves_InBwd_InBwdIdeal,
   algebraic_InBwdIdeal_InBwdRefIdeal,
   preserves_InW_InWIdeal,
   algebraic_InWIdeal_InWRefIdeal,
   preserves_InFwd_InFwdIdeal,
   algebraic_InFwdIdeal_InFwdRefIdeal,
   preserves_Adam_AdamIdeal,
   algebraic_AdamIdeal_AdamRefIdeal,
   preserves_AdamSmall_AdamSmallIdeal,
   algebraic_AdamSmallIdeal_AdamSmallRefIdeal,
   preserves_SumChips_SumChipsIdeal,
   algebraic_SumChipsIdeal_SumChipsRefIdeal,
   preserves_SumCores_SumCoresIdeal,
   algebraic_SumCoresIdeal_SumCoresRefIdeal_pre_known_layer,
   preserves_Loss_LossIdeal,
   algebraic_LossIdeal_LossRefIdeal⟩

end Cert.Proof

end
